-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).2 = (fun _ => 1#1)

def Pre_PostOdd (m : (ℓ : Loc Cert.PostOdd.nD Cert.PostOdd.τ Cert.PostOdd.sig) → Buf (Elt Bits) ℓ) : Prop :=
  True

def Pre_PostOddIdeal (m : (ℓ : Loc Cert.PostOddIdeal.nD Cert.PostOddIdeal.τ Cert.PostOddIdeal.sig) → Buf (Elt Ideal) ℓ) : Prop :=
  True

def Pre_PostOddRefIdeal (m : (ℓ : Loc Cert.PostOddRefIdeal.nD Cert.PostOddRefIdeal.τ Cert.PostOddRefIdeal.sig) → Buf (Elt Ideal) ℓ) : Prop :=
  True

def Pre_PostEven (m : (ℓ : Loc Cert.PostEven.nD Cert.PostEven.τ Cert.PostEven.sig) → Buf (Elt Bits) ℓ) : Prop :=
  True

def Pre_PostEvenIdeal (m : (ℓ : Loc Cert.PostEvenIdeal.nD Cert.PostEvenIdeal.τ Cert.PostEvenIdeal.sig) → Buf (Elt Ideal) ℓ) : Prop :=
  True

def Pre_PostEvenRefIdeal (m : (ℓ : Loc Cert.PostEvenRefIdeal.nD Cert.PostEvenRefIdeal.τ Cert.PostEvenRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvIdeal_finite_qkv [hPre_finite_qkv : Cert.Pre_finite_qkv.Facts] (m : (ℓ : Loc Cert.QkvIdeal.nD Cert.QkvIdeal.τ Cert.QkvIdeal.sig) → Buf (Elt Ideal) ℓ) : Prop :=
  ∀ c : Dev Cert.QkvIdeal.nD,
    (Cert.Pre_finite_qkv.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4))).1 = (fun _ => 1#1)
    ∧ (Cert.Pre_finite_qkv.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4))).2 = (fun _ => 1#1)

def Pre_QkvRefIdeal (m : (ℓ : Loc Cert.QkvRefIdeal.nD Cert.QkvRefIdeal.τ Cert.QkvRefIdeal.sig) → Buf (Elt Ideal) ℓ) : Prop :=
  True

def Pre_QkvRefIdeal_finite_qkv [hPre_finite_qkv : Cert.Pre_finite_qkv.Facts] (m : (ℓ : Loc Cert.QkvRefIdeal.nD Cert.QkvRefIdeal.τ Cert.QkvRefIdeal.sig) → Buf (Elt Ideal) ℓ) : Prop :=
  ∀ c : Dev Cert.QkvRefIdeal.nD,
    (Cert.Pre_finite_qkv.fn (F := Ideal) (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (m ((c.tc : Thread Cert.QkvRefIdeal.nD Cert.QkvRefIdeal.τ).loc Cert.QkvRefIdeal.main_arg2)) (m ((c.tc : Thread Cert.QkvRefIdeal.nD Cert.QkvRefIdeal.τ).loc Cert.QkvRefIdeal.main_arg3)) (m ((c.tc : Thread Cert.QkvRefIdeal.nD Cert.QkvRefIdeal.τ).loc Cert.QkvRefIdeal.main_arg4))).1 = (fun _ => 1#1)
    ∧ (Cert.Pre_finite_qkv.fn (F := Ideal) (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (m ((c.tc : Thread Cert.QkvRefIdeal.nD Cert.QkvRefIdeal.τ).loc Cert.QkvRefIdeal.main_arg2)) (m ((c.tc : Thread Cert.QkvRefIdeal.nD Cert.QkvRefIdeal.τ).loc Cert.QkvRefIdeal.main_arg3)) (m ((c.tc : Thread Cert.QkvRefIdeal.nD Cert.QkvRefIdeal.τ).loc Cert.QkvRefIdeal.main_arg4))).2 = (fun _ => 1#1)

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_EvenFirst (m : (ℓ : Loc Cert.EvenFirst.nD Cert.EvenFirst.τ Cert.EvenFirst.sig) → Buf (Elt Bits) ℓ) : Prop :=
  True

def Pre_EvenFirstIdeal (m : (ℓ : Loc Cert.EvenFirstIdeal.nD Cert.EvenFirstIdeal.τ Cert.EvenFirstIdeal.sig) → Buf (Elt Ideal) ℓ) : Prop :=
  True

def Pre_EvenFirstRefIdeal (m : (ℓ : Loc Cert.EvenFirstRefIdeal.nD Cert.EvenFirstRefIdeal.τ Cert.EvenFirstRefIdeal.sig) → Buf (Elt Ideal) ℓ) : Prop :=
  True

def Pre_Gdn (m : (ℓ : Loc Cert.Gdn.nD Cert.Gdn.τ Cert.Gdn.sig) → Buf (Elt Bits) ℓ) : Prop :=
  True

def Pre_GdnIdeal (m : (ℓ : Loc Cert.GdnIdeal.nD Cert.GdnIdeal.τ Cert.GdnIdeal.sig) → Buf (Elt Ideal) ℓ) : Prop :=
  True

def Pre_Rwkv (m : (ℓ : Loc Cert.Rwkv.nD Cert.Rwkv.τ Cert.Rwkv.sig) → Buf (Elt Bits) ℓ) : Prop :=
  True

def Pre_RwkvIdeal (m : (ℓ : Loc Cert.RwkvIdeal.nD Cert.RwkvIdeal.τ Cert.RwkvIdeal.sig) → Buf (Elt Ideal) ℓ) : Prop :=
  True

def Pre_RwkvFirst (m : (ℓ : Loc Cert.RwkvFirst.nD Cert.RwkvFirst.τ Cert.RwkvFirst.sig) → Buf (Elt Bits) ℓ) : Prop :=
  True

def Pre_RwkvFirstIdeal (m : (ℓ : Loc Cert.RwkvFirstIdeal.nD Cert.RwkvFirstIdeal.τ Cert.RwkvFirstIdeal.sig) → Buf (Elt Ideal) ℓ) : Prop :=
  True

def Pre_RwkvValues (m : (ℓ : Loc Cert.RwkvValues.nD Cert.RwkvValues.τ Cert.RwkvValues.sig) → Buf (Elt Bits) ℓ) : Prop :=
  True

def Pre_RwkvValuesIdeal (m : (ℓ : Loc Cert.RwkvValuesIdeal.nD Cert.RwkvValuesIdeal.τ Cert.RwkvValuesIdeal.sig) → Buf (Elt Ideal) ℓ) : Prop :=
  True

def Pre_RwkvValuesRefIdeal (m : (ℓ : Loc Cert.RwkvValuesRefIdeal.nD Cert.RwkvValuesRefIdeal.τ Cert.RwkvValuesRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_PostOdd [hPostOdd : Cert.PostOdd.Facts] : Prop :=
  ∀ (m : (ℓ : Loc Cert.PostOdd.nD Cert.PostOdd.τ Cert.PostOdd.sig) → Buf (Elt Bits) ℓ) (g : Dev Cert.PostOdd.nD → PrngReg), Pre_PostOdd m →
    θ_run (Cert.PostOdd.defs (F := Bits)) (onTc (τ := Cert.PostOdd.τ) (Cert.PostOdd.main (F := Bits))) ⟨m, fun _ => 0, g⟩ (fun r => (∀ c : Dev Cert.PostOdd.nD,
      r.2.mem ((c.tc : Thread Cert.PostOdd.nD Cert.PostOdd.τ).loc Cert.PostOdd.main_arg0) = m ((c.tc : Thread Cert.PostOdd.nD Cert.PostOdd.τ).loc Cert.PostOdd.main_arg0)
      ∧ r.2.mem ((c.tc : Thread Cert.PostOdd.nD Cert.PostOdd.τ).loc Cert.PostOdd.main_arg1) = m ((c.tc : Thread Cert.PostOdd.nD Cert.PostOdd.τ).loc Cert.PostOdd.main_arg1)
      ∧ r.2.mem ((c.tc : Thread Cert.PostOdd.nD Cert.PostOdd.τ).loc Cert.PostOdd.main_arg2) = m ((c.tc : Thread Cert.PostOdd.nD Cert.PostOdd.τ).loc Cert.PostOdd.main_arg2)
      ∧ r.2.mem ((c.tc : Thread Cert.PostOdd.nD Cert.PostOdd.τ).loc Cert.PostOdd.main_arg3) = m ((c.tc : Thread Cert.PostOdd.nD Cert.PostOdd.τ).loc Cert.PostOdd.main_arg3)
      ∧ r.2.mem ((c.tc : Thread Cert.PostOdd.nD Cert.PostOdd.τ).loc Cert.PostOdd.main_arg4) = m ((c.tc : Thread Cert.PostOdd.nD Cert.PostOdd.τ).loc Cert.PostOdd.main_arg4)
      ∧ r.2.mem ((c.tc : Thread Cert.PostOdd.nD Cert.PostOdd.τ).loc Cert.PostOdd.main_arg5) = m ((c.tc : Thread Cert.PostOdd.nD Cert.PostOdd.τ).loc Cert.PostOdd.main_arg5)
      ∧ r.2.mem ((c.tc : Thread Cert.PostOdd.nD Cert.PostOdd.τ).loc Cert.PostOdd.main_arg6) = m ((c.tc : Thread Cert.PostOdd.nD Cert.PostOdd.τ).loc Cert.PostOdd.main_arg6)
      ∧ r.2.mem ((c.tc : Thread Cert.PostOdd.nD Cert.PostOdd.τ).loc Cert.PostOdd.main_arg7) = m ((c.tc : Thread Cert.PostOdd.nD Cert.PostOdd.τ).loc Cert.PostOdd.main_arg7)
      ∧ r.2.mem ((c.tc : Thread Cert.PostOdd.nD Cert.PostOdd.τ).loc Cert.PostOdd.main_arg8) = m ((c.tc : Thread Cert.PostOdd.nD Cert.PostOdd.τ).loc Cert.PostOdd.main_arg8)
      ∧ r.2.mem ((c.tc : Thread Cert.PostOdd.nD Cert.PostOdd.τ).loc Cert.PostOdd.main_arg9) = m ((c.tc : Thread Cert.PostOdd.nD Cert.PostOdd.τ).loc Cert.PostOdd.main_arg9))
      ∧ r.2.sem = fun _ => 0)

def quiescent_PostOddIdeal [hPostOddIdeal : Cert.PostOddIdeal.Facts] : Prop :=
  ∀ (m : (ℓ : Loc Cert.PostOddIdeal.nD Cert.PostOddIdeal.τ Cert.PostOddIdeal.sig) → Buf (Elt Ideal) ℓ) (g : Dev Cert.PostOddIdeal.nD → PrngReg), Pre_PostOddIdeal m →
    θ_run (Cert.PostOddIdeal.defs (F := Ideal)) (onTc (τ := Cert.PostOddIdeal.τ) (Cert.PostOddIdeal.main (F := Ideal))) ⟨m, fun _ => 0, g⟩ (fun r => (∀ c : Dev Cert.PostOddIdeal.nD,
      r.2.mem ((c.tc : Thread Cert.PostOddIdeal.nD Cert.PostOddIdeal.τ).loc Cert.PostOddIdeal.main_arg0) = m ((c.tc : Thread Cert.PostOddIdeal.nD Cert.PostOddIdeal.τ).loc Cert.PostOddIdeal.main_arg0)
      ∧ r.2.mem ((c.tc : Thread Cert.PostOddIdeal.nD Cert.PostOddIdeal.τ).loc Cert.PostOddIdeal.main_arg1) = m ((c.tc : Thread Cert.PostOddIdeal.nD Cert.PostOddIdeal.τ).loc Cert.PostOddIdeal.main_arg1)
      ∧ r.2.mem ((c.tc : Thread Cert.PostOddIdeal.nD Cert.PostOddIdeal.τ).loc Cert.PostOddIdeal.main_arg2) = m ((c.tc : Thread Cert.PostOddIdeal.nD Cert.PostOddIdeal.τ).loc Cert.PostOddIdeal.main_arg2)
      ∧ r.2.mem ((c.tc : Thread Cert.PostOddIdeal.nD Cert.PostOddIdeal.τ).loc Cert.PostOddIdeal.main_arg3) = m ((c.tc : Thread Cert.PostOddIdeal.nD Cert.PostOddIdeal.τ).loc Cert.PostOddIdeal.main_arg3)
      ∧ r.2.mem ((c.tc : Thread Cert.PostOddIdeal.nD Cert.PostOddIdeal.τ).loc Cert.PostOddIdeal.main_arg4) = m ((c.tc : Thread Cert.PostOddIdeal.nD Cert.PostOddIdeal.τ).loc Cert.PostOddIdeal.main_arg4)
      ∧ r.2.mem ((c.tc : Thread Cert.PostOddIdeal.nD Cert.PostOddIdeal.τ).loc Cert.PostOddIdeal.main_arg5) = m ((c.tc : Thread Cert.PostOddIdeal.nD Cert.PostOddIdeal.τ).loc Cert.PostOddIdeal.main_arg5)
      ∧ r.2.mem ((c.tc : Thread Cert.PostOddIdeal.nD Cert.PostOddIdeal.τ).loc Cert.PostOddIdeal.main_arg6) = m ((c.tc : Thread Cert.PostOddIdeal.nD Cert.PostOddIdeal.τ).loc Cert.PostOddIdeal.main_arg6)
      ∧ r.2.mem ((c.tc : Thread Cert.PostOddIdeal.nD Cert.PostOddIdeal.τ).loc Cert.PostOddIdeal.main_arg7) = m ((c.tc : Thread Cert.PostOddIdeal.nD Cert.PostOddIdeal.τ).loc Cert.PostOddIdeal.main_arg7)
      ∧ r.2.mem ((c.tc : Thread Cert.PostOddIdeal.nD Cert.PostOddIdeal.τ).loc Cert.PostOddIdeal.main_arg8) = m ((c.tc : Thread Cert.PostOddIdeal.nD Cert.PostOddIdeal.τ).loc Cert.PostOddIdeal.main_arg8)
      ∧ r.2.mem ((c.tc : Thread Cert.PostOddIdeal.nD Cert.PostOddIdeal.τ).loc Cert.PostOddIdeal.main_arg9) = m ((c.tc : Thread Cert.PostOddIdeal.nD Cert.PostOddIdeal.τ).loc Cert.PostOddIdeal.main_arg9))
      ∧ r.2.sem = fun _ => 0)

def quiescent_PostOddRefIdeal [hPostOddRefIdeal : Cert.PostOddRefIdeal.Facts] : Prop :=
  ∀ (m : (ℓ : Loc Cert.PostOddRefIdeal.nD Cert.PostOddRefIdeal.τ Cert.PostOddRefIdeal.sig) → Buf (Elt Ideal) ℓ) (g : Dev Cert.PostOddRefIdeal.nD → PrngReg), Pre_PostOddRefIdeal m →
    θ_run (Cert.PostOddRefIdeal.defs (F := Ideal)) (onTc (τ := Cert.PostOddRefIdeal.τ) (Cert.PostOddRefIdeal.main (F := Ideal))) ⟨m, fun _ => 0, g⟩ (fun r => (∀ c : Dev Cert.PostOddRefIdeal.nD,
      r.2.mem ((c.tc : Thread Cert.PostOddRefIdeal.nD Cert.PostOddRefIdeal.τ).loc Cert.PostOddRefIdeal.main_arg0) = m ((c.tc : Thread Cert.PostOddRefIdeal.nD Cert.PostOddRefIdeal.τ).loc Cert.PostOddRefIdeal.main_arg0)
      ∧ r.2.mem ((c.tc : Thread Cert.PostOddRefIdeal.nD Cert.PostOddRefIdeal.τ).loc Cert.PostOddRefIdeal.main_arg1) = m ((c.tc : Thread Cert.PostOddRefIdeal.nD Cert.PostOddRefIdeal.τ).loc Cert.PostOddRefIdeal.main_arg1)
      ∧ r.2.mem ((c.tc : Thread Cert.PostOddRefIdeal.nD Cert.PostOddRefIdeal.τ).loc Cert.PostOddRefIdeal.main_arg2) = m ((c.tc : Thread Cert.PostOddRefIdeal.nD Cert.PostOddRefIdeal.τ).loc Cert.PostOddRefIdeal.main_arg2)
      ∧ r.2.mem ((c.tc : Thread Cert.PostOddRefIdeal.nD Cert.PostOddRefIdeal.τ).loc Cert.PostOddRefIdeal.main_arg3) = m ((c.tc : Thread Cert.PostOddRefIdeal.nD Cert.PostOddRefIdeal.τ).loc Cert.PostOddRefIdeal.main_arg3)
      ∧ r.2.mem ((c.tc : Thread Cert.PostOddRefIdeal.nD Cert.PostOddRefIdeal.τ).loc Cert.PostOddRefIdeal.main_arg4) = m ((c.tc : Thread Cert.PostOddRefIdeal.nD Cert.PostOddRefIdeal.τ).loc Cert.PostOddRefIdeal.main_arg4)
      ∧ r.2.mem ((c.tc : Thread Cert.PostOddRefIdeal.nD Cert.PostOddRefIdeal.τ).loc Cert.PostOddRefIdeal.main_arg5) = m ((c.tc : Thread Cert.PostOddRefIdeal.nD Cert.PostOddRefIdeal.τ).loc Cert.PostOddRefIdeal.main_arg5)
      ∧ r.2.mem ((c.tc : Thread Cert.PostOddRefIdeal.nD Cert.PostOddRefIdeal.τ).loc Cert.PostOddRefIdeal.main_arg6) = m ((c.tc : Thread Cert.PostOddRefIdeal.nD Cert.PostOddRefIdeal.τ).loc Cert.PostOddRefIdeal.main_arg6)
      ∧ r.2.mem ((c.tc : Thread Cert.PostOddRefIdeal.nD Cert.PostOddRefIdeal.τ).loc Cert.PostOddRefIdeal.main_arg7) = m ((c.tc : Thread Cert.PostOddRefIdeal.nD Cert.PostOddRefIdeal.τ).loc Cert.PostOddRefIdeal.main_arg7)
      ∧ r.2.mem ((c.tc : Thread Cert.PostOddRefIdeal.nD Cert.PostOddRefIdeal.τ).loc Cert.PostOddRefIdeal.main_arg8) = m ((c.tc : Thread Cert.PostOddRefIdeal.nD Cert.PostOddRefIdeal.τ).loc Cert.PostOddRefIdeal.main_arg8)
      ∧ r.2.mem ((c.tc : Thread Cert.PostOddRefIdeal.nD Cert.PostOddRefIdeal.τ).loc Cert.PostOddRefIdeal.main_arg9) = m ((c.tc : Thread Cert.PostOddRefIdeal.nD Cert.PostOddRefIdeal.τ).loc Cert.PostOddRefIdeal.main_arg9))
      ∧ r.2.sem = fun _ => 0)

def quiescent_PostEven [hPostEven : Cert.PostEven.Facts] : Prop :=
  ∀ (m : (ℓ : Loc Cert.PostEven.nD Cert.PostEven.τ Cert.PostEven.sig) → Buf (Elt Bits) ℓ) (g : Dev Cert.PostEven.nD → PrngReg), Pre_PostEven m →
    θ_run (Cert.PostEven.defs (F := Bits)) (onTc (τ := Cert.PostEven.τ) (Cert.PostEven.main (F := Bits))) ⟨m, fun _ => 0, g⟩ (fun r => (∀ c : Dev Cert.PostEven.nD,
      r.2.mem ((c.tc : Thread Cert.PostEven.nD Cert.PostEven.τ).loc Cert.PostEven.main_arg0) = m ((c.tc : Thread Cert.PostEven.nD Cert.PostEven.τ).loc Cert.PostEven.main_arg0)
      ∧ r.2.mem ((c.tc : Thread Cert.PostEven.nD Cert.PostEven.τ).loc Cert.PostEven.main_arg1) = m ((c.tc : Thread Cert.PostEven.nD Cert.PostEven.τ).loc Cert.PostEven.main_arg1)
      ∧ r.2.mem ((c.tc : Thread Cert.PostEven.nD Cert.PostEven.τ).loc Cert.PostEven.main_arg2) = m ((c.tc : Thread Cert.PostEven.nD Cert.PostEven.τ).loc Cert.PostEven.main_arg2)
      ∧ r.2.mem ((c.tc : Thread Cert.PostEven.nD Cert.PostEven.τ).loc Cert.PostEven.main_arg3) = m ((c.tc : Thread Cert.PostEven.nD Cert.PostEven.τ).loc Cert.PostEven.main_arg3)
      ∧ r.2.mem ((c.tc : Thread Cert.PostEven.nD Cert.PostEven.τ).loc Cert.PostEven.main_arg4) = m ((c.tc : Thread Cert.PostEven.nD Cert.PostEven.τ).loc Cert.PostEven.main_arg4)
      ∧ r.2.mem ((c.tc : Thread Cert.PostEven.nD Cert.PostEven.τ).loc Cert.PostEven.main_arg5) = m ((c.tc : Thread Cert.PostEven.nD Cert.PostEven.τ).loc Cert.PostEven.main_arg5)
      ∧ r.2.mem ((c.tc : Thread Cert.PostEven.nD Cert.PostEven.τ).loc Cert.PostEven.main_arg6) = m ((c.tc : Thread Cert.PostEven.nD Cert.PostEven.τ).loc Cert.PostEven.main_arg6)
      ∧ r.2.mem ((c.tc : Thread Cert.PostEven.nD Cert.PostEven.τ).loc Cert.PostEven.main_arg7) = m ((c.tc : Thread Cert.PostEven.nD Cert.PostEven.τ).loc Cert.PostEven.main_arg7)
      ∧ r.2.mem ((c.tc : Thread Cert.PostEven.nD Cert.PostEven.τ).loc Cert.PostEven.main_arg8) = m ((c.tc : Thread Cert.PostEven.nD Cert.PostEven.τ).loc Cert.PostEven.main_arg8)
      ∧ r.2.mem ((c.tc : Thread Cert.PostEven.nD Cert.PostEven.τ).loc Cert.PostEven.main_arg9) = m ((c.tc : Thread Cert.PostEven.nD Cert.PostEven.τ).loc Cert.PostEven.main_arg9)
      ∧ r.2.mem ((c.tc : Thread Cert.PostEven.nD Cert.PostEven.τ).loc Cert.PostEven.main_arg10) = m ((c.tc : Thread Cert.PostEven.nD Cert.PostEven.τ).loc Cert.PostEven.main_arg10))
      ∧ r.2.sem = fun _ => 0)

def quiescent_PostEvenIdeal [hPostEvenIdeal : Cert.PostEvenIdeal.Facts] : Prop :=
  ∀ (m : (ℓ : Loc Cert.PostEvenIdeal.nD Cert.PostEvenIdeal.τ Cert.PostEvenIdeal.sig) → Buf (Elt Ideal) ℓ) (g : Dev Cert.PostEvenIdeal.nD → PrngReg), Pre_PostEvenIdeal m →
    θ_run (Cert.PostEvenIdeal.defs (F := Ideal)) (onTc (τ := Cert.PostEvenIdeal.τ) (Cert.PostEvenIdeal.main (F := Ideal))) ⟨m, fun _ => 0, g⟩ (fun r => (∀ c : Dev Cert.PostEvenIdeal.nD,
      r.2.mem ((c.tc : Thread Cert.PostEvenIdeal.nD Cert.PostEvenIdeal.τ).loc Cert.PostEvenIdeal.main_arg0) = m ((c.tc : Thread Cert.PostEvenIdeal.nD Cert.PostEvenIdeal.τ).loc Cert.PostEvenIdeal.main_arg0)
      ∧ r.2.mem ((c.tc : Thread Cert.PostEvenIdeal.nD Cert.PostEvenIdeal.τ).loc Cert.PostEvenIdeal.main_arg1) = m ((c.tc : Thread Cert.PostEvenIdeal.nD Cert.PostEvenIdeal.τ).loc Cert.PostEvenIdeal.main_arg1)
      ∧ r.2.mem ((c.tc : Thread Cert.PostEvenIdeal.nD Cert.PostEvenIdeal.τ).loc Cert.PostEvenIdeal.main_arg2) = m ((c.tc : Thread Cert.PostEvenIdeal.nD Cert.PostEvenIdeal.τ).loc Cert.PostEvenIdeal.main_arg2)
      ∧ r.2.mem ((c.tc : Thread Cert.PostEvenIdeal.nD Cert.PostEvenIdeal.τ).loc Cert.PostEvenIdeal.main_arg3) = m ((c.tc : Thread Cert.PostEvenIdeal.nD Cert.PostEvenIdeal.τ).loc Cert.PostEvenIdeal.main_arg3)
      ∧ r.2.mem ((c.tc : Thread Cert.PostEvenIdeal.nD Cert.PostEvenIdeal.τ).loc Cert.PostEvenIdeal.main_arg4) = m ((c.tc : Thread Cert.PostEvenIdeal.nD Cert.PostEvenIdeal.τ).loc Cert.PostEvenIdeal.main_arg4)
      ∧ r.2.mem ((c.tc : Thread Cert.PostEvenIdeal.nD Cert.PostEvenIdeal.τ).loc Cert.PostEvenIdeal.main_arg5) = m ((c.tc : Thread Cert.PostEvenIdeal.nD Cert.PostEvenIdeal.τ).loc Cert.PostEvenIdeal.main_arg5)
      ∧ r.2.mem ((c.tc : Thread Cert.PostEvenIdeal.nD Cert.PostEvenIdeal.τ).loc Cert.PostEvenIdeal.main_arg6) = m ((c.tc : Thread Cert.PostEvenIdeal.nD Cert.PostEvenIdeal.τ).loc Cert.PostEvenIdeal.main_arg6)
      ∧ r.2.mem ((c.tc : Thread Cert.PostEvenIdeal.nD Cert.PostEvenIdeal.τ).loc Cert.PostEvenIdeal.main_arg7) = m ((c.tc : Thread Cert.PostEvenIdeal.nD Cert.PostEvenIdeal.τ).loc Cert.PostEvenIdeal.main_arg7)
      ∧ r.2.mem ((c.tc : Thread Cert.PostEvenIdeal.nD Cert.PostEvenIdeal.τ).loc Cert.PostEvenIdeal.main_arg8) = m ((c.tc : Thread Cert.PostEvenIdeal.nD Cert.PostEvenIdeal.τ).loc Cert.PostEvenIdeal.main_arg8)
      ∧ r.2.mem ((c.tc : Thread Cert.PostEvenIdeal.nD Cert.PostEvenIdeal.τ).loc Cert.PostEvenIdeal.main_arg9) = m ((c.tc : Thread Cert.PostEvenIdeal.nD Cert.PostEvenIdeal.τ).loc Cert.PostEvenIdeal.main_arg9)
      ∧ r.2.mem ((c.tc : Thread Cert.PostEvenIdeal.nD Cert.PostEvenIdeal.τ).loc Cert.PostEvenIdeal.main_arg10) = m ((c.tc : Thread Cert.PostEvenIdeal.nD Cert.PostEvenIdeal.τ).loc Cert.PostEvenIdeal.main_arg10))
      ∧ r.2.sem = fun _ => 0)

def quiescent_PostEvenRefIdeal [hPostEvenRefIdeal : Cert.PostEvenRefIdeal.Facts] : Prop :=
  ∀ (m : (ℓ : Loc Cert.PostEvenRefIdeal.nD Cert.PostEvenRefIdeal.τ Cert.PostEvenRefIdeal.sig) → Buf (Elt Ideal) ℓ) (g : Dev Cert.PostEvenRefIdeal.nD → PrngReg), Pre_PostEvenRefIdeal m →
    θ_run (Cert.PostEvenRefIdeal.defs (F := Ideal)) (onTc (τ := Cert.PostEvenRefIdeal.τ) (Cert.PostEvenRefIdeal.main (F := Ideal))) ⟨m, fun _ => 0, g⟩ (fun r => (∀ c : Dev Cert.PostEvenRefIdeal.nD,
      r.2.mem ((c.tc : Thread Cert.PostEvenRefIdeal.nD Cert.PostEvenRefIdeal.τ).loc Cert.PostEvenRefIdeal.main_arg0) = m ((c.tc : Thread Cert.PostEvenRefIdeal.nD Cert.PostEvenRefIdeal.τ).loc Cert.PostEvenRefIdeal.main_arg0)
      ∧ r.2.mem ((c.tc : Thread Cert.PostEvenRefIdeal.nD Cert.PostEvenRefIdeal.τ).loc Cert.PostEvenRefIdeal.main_arg1) = m ((c.tc : Thread Cert.PostEvenRefIdeal.nD Cert.PostEvenRefIdeal.τ).loc Cert.PostEvenRefIdeal.main_arg1)
      ∧ r.2.mem ((c.tc : Thread Cert.PostEvenRefIdeal.nD Cert.PostEvenRefIdeal.τ).loc Cert.PostEvenRefIdeal.main_arg2) = m ((c.tc : Thread Cert.PostEvenRefIdeal.nD Cert.PostEvenRefIdeal.τ).loc Cert.PostEvenRefIdeal.main_arg2)
      ∧ r.2.mem ((c.tc : Thread Cert.PostEvenRefIdeal.nD Cert.PostEvenRefIdeal.τ).loc Cert.PostEvenRefIdeal.main_arg3) = m ((c.tc : Thread Cert.PostEvenRefIdeal.nD Cert.PostEvenRefIdeal.τ).loc Cert.PostEvenRefIdeal.main_arg3)
      ∧ r.2.mem ((c.tc : Thread Cert.PostEvenRefIdeal.nD Cert.PostEvenRefIdeal.τ).loc Cert.PostEvenRefIdeal.main_arg4) = m ((c.tc : Thread Cert.PostEvenRefIdeal.nD Cert.PostEvenRefIdeal.τ).loc Cert.PostEvenRefIdeal.main_arg4)
      ∧ r.2.mem ((c.tc : Thread Cert.PostEvenRefIdeal.nD Cert.PostEvenRefIdeal.τ).loc Cert.PostEvenRefIdeal.main_arg5) = m ((c.tc : Thread Cert.PostEvenRefIdeal.nD Cert.PostEvenRefIdeal.τ).loc Cert.PostEvenRefIdeal.main_arg5)
      ∧ r.2.mem ((c.tc : Thread Cert.PostEvenRefIdeal.nD Cert.PostEvenRefIdeal.τ).loc Cert.PostEvenRefIdeal.main_arg6) = m ((c.tc : Thread Cert.PostEvenRefIdeal.nD Cert.PostEvenRefIdeal.τ).loc Cert.PostEvenRefIdeal.main_arg6)
      ∧ r.2.mem ((c.tc : Thread Cert.PostEvenRefIdeal.nD Cert.PostEvenRefIdeal.τ).loc Cert.PostEvenRefIdeal.main_arg7) = m ((c.tc : Thread Cert.PostEvenRefIdeal.nD Cert.PostEvenRefIdeal.τ).loc Cert.PostEvenRefIdeal.main_arg7)
      ∧ r.2.mem ((c.tc : Thread Cert.PostEvenRefIdeal.nD Cert.PostEvenRefIdeal.τ).loc Cert.PostEvenRefIdeal.main_arg8) = m ((c.tc : Thread Cert.PostEvenRefIdeal.nD Cert.PostEvenRefIdeal.τ).loc Cert.PostEvenRefIdeal.main_arg8)
      ∧ r.2.mem ((c.tc : Thread Cert.PostEvenRefIdeal.nD Cert.PostEvenRefIdeal.τ).loc Cert.PostEvenRefIdeal.main_arg9) = m ((c.tc : Thread Cert.PostEvenRefIdeal.nD Cert.PostEvenRefIdeal.τ).loc Cert.PostEvenRefIdeal.main_arg9)
      ∧ r.2.mem ((c.tc : Thread Cert.PostEvenRefIdeal.nD Cert.PostEvenRefIdeal.τ).loc Cert.PostEvenRefIdeal.main_arg10) = m ((c.tc : Thread Cert.PostEvenRefIdeal.nD Cert.PostEvenRefIdeal.τ).loc Cert.PostEvenRefIdeal.main_arg10))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvIdeal_pre_finite_qkv [hQkvIdeal : Cert.QkvIdeal.Facts] [hPre_finite_qkv : Cert.Pre_finite_qkv.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal_finite_qkv m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4))
      ∧ r.2.sem = fun _ => 0)

def quiescent_QkvRefIdeal_pre_finite_qkv [hQkvRefIdeal : Cert.QkvRefIdeal.Facts] [hPre_finite_qkv : Cert.Pre_finite_qkv.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal_finite_qkv m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2)
      ∧ r.2.mem ((c.tc : Thread Cert.EvenIn.nD Cert.EvenIn.τ).loc Cert.EvenIn.main_arg3) = m ((c.tc : Thread Cert.EvenIn.nD Cert.EvenIn.τ).loc Cert.EvenIn.main_arg3)
      ∧ r.2.mem ((c.tc : Thread Cert.EvenIn.nD Cert.EvenIn.τ).loc Cert.EvenIn.main_arg4) = m ((c.tc : Thread Cert.EvenIn.nD Cert.EvenIn.τ).loc Cert.EvenIn.main_arg4)
      ∧ r.2.mem ((c.tc : Thread Cert.EvenIn.nD Cert.EvenIn.τ).loc Cert.EvenIn.main_arg5) = m ((c.tc : Thread Cert.EvenIn.nD Cert.EvenIn.τ).loc Cert.EvenIn.main_arg5)
      ∧ r.2.mem ((c.tc : Thread Cert.EvenIn.nD Cert.EvenIn.τ).loc Cert.EvenIn.main_arg6) = m ((c.tc : Thread Cert.EvenIn.nD Cert.EvenIn.τ).loc Cert.EvenIn.main_arg6)
      ∧ r.2.mem ((c.tc : Thread Cert.EvenIn.nD Cert.EvenIn.τ).loc Cert.EvenIn.main_arg7) = m ((c.tc : Thread Cert.EvenIn.nD Cert.EvenIn.τ).loc Cert.EvenIn.main_arg7)
      ∧ r.2.mem ((c.tc : Thread Cert.EvenIn.nD Cert.EvenIn.τ).loc Cert.EvenIn.main_arg8) = m ((c.tc : Thread Cert.EvenIn.nD Cert.EvenIn.τ).loc Cert.EvenIn.main_arg8)
      ∧ r.2.mem ((c.tc : Thread Cert.EvenIn.nD Cert.EvenIn.τ).loc Cert.EvenIn.main_arg9) = m ((c.tc : Thread Cert.EvenIn.nD Cert.EvenIn.τ).loc Cert.EvenIn.main_arg9)
      ∧ r.2.mem ((c.tc : Thread Cert.EvenIn.nD Cert.EvenIn.τ).loc Cert.EvenIn.main_arg10) = m ((c.tc : Thread Cert.EvenIn.nD Cert.EvenIn.τ).loc Cert.EvenIn.main_arg10)
      ∧ r.2.mem ((c.tc : Thread Cert.EvenIn.nD Cert.EvenIn.τ).loc Cert.EvenIn.main_arg11) = m ((c.tc : Thread Cert.EvenIn.nD Cert.EvenIn.τ).loc Cert.EvenIn.main_arg11)
      ∧ r.2.mem ((c.tc : Thread Cert.EvenIn.nD Cert.EvenIn.τ).loc Cert.EvenIn.main_arg12) = m ((c.tc : Thread Cert.EvenIn.nD Cert.EvenIn.τ).loc Cert.EvenIn.main_arg12)
      ∧ r.2.mem ((c.tc : Thread Cert.EvenIn.nD Cert.EvenIn.τ).loc Cert.EvenIn.main_arg13) = m ((c.tc : Thread Cert.EvenIn.nD Cert.EvenIn.τ).loc Cert.EvenIn.main_arg13)
      ∧ r.2.mem ((c.tc : Thread Cert.EvenIn.nD Cert.EvenIn.τ).loc Cert.EvenIn.main_arg14) = m ((c.tc : Thread Cert.EvenIn.nD Cert.EvenIn.τ).loc Cert.EvenIn.main_arg14)
      ∧ r.2.mem ((c.tc : Thread Cert.EvenIn.nD Cert.EvenIn.τ).loc Cert.EvenIn.main_arg15) = m ((c.tc : Thread Cert.EvenIn.nD Cert.EvenIn.τ).loc Cert.EvenIn.main_arg15))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
      ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
      ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4)
      ∧ r.2.mem ((c.tc : Thread Cert.EvenInIdeal.nD Cert.EvenInIdeal.τ).loc Cert.EvenInIdeal.main_arg5) = m ((c.tc : Thread Cert.EvenInIdeal.nD Cert.EvenInIdeal.τ).loc Cert.EvenInIdeal.main_arg5)
      ∧ r.2.mem ((c.tc : Thread Cert.EvenInIdeal.nD Cert.EvenInIdeal.τ).loc Cert.EvenInIdeal.main_arg6) = m ((c.tc : Thread Cert.EvenInIdeal.nD Cert.EvenInIdeal.τ).loc Cert.EvenInIdeal.main_arg6)
      ∧ r.2.mem ((c.tc : Thread Cert.EvenInIdeal.nD Cert.EvenInIdeal.τ).loc Cert.EvenInIdeal.main_arg7) = m ((c.tc : Thread Cert.EvenInIdeal.nD Cert.EvenInIdeal.τ).loc Cert.EvenInIdeal.main_arg7)
      ∧ r.2.mem ((c.tc : Thread Cert.EvenInIdeal.nD Cert.EvenInIdeal.τ).loc Cert.EvenInIdeal.main_arg8) = m ((c.tc : Thread Cert.EvenInIdeal.nD Cert.EvenInIdeal.τ).loc Cert.EvenInIdeal.main_arg8)
      ∧ r.2.mem ((c.tc : Thread Cert.EvenInIdeal.nD Cert.EvenInIdeal.τ).loc Cert.EvenInIdeal.main_arg9) = m ((c.tc : Thread Cert.EvenInIdeal.nD Cert.EvenInIdeal.τ).loc Cert.EvenInIdeal.main_arg9)
      ∧ r.2.mem ((c.tc : Thread Cert.EvenInIdeal.nD Cert.EvenInIdeal.τ).loc Cert.EvenInIdeal.main_arg10) = m ((c.tc : Thread Cert.EvenInIdeal.nD Cert.EvenInIdeal.τ).loc Cert.EvenInIdeal.main_arg10)
      ∧ r.2.mem ((c.tc : Thread Cert.EvenInIdeal.nD Cert.EvenInIdeal.τ).loc Cert.EvenInIdeal.main_arg11) = m ((c.tc : Thread Cert.EvenInIdeal.nD Cert.EvenInIdeal.τ).loc Cert.EvenInIdeal.main_arg11)
      ∧ r.2.mem ((c.tc : Thread Cert.EvenInIdeal.nD Cert.EvenInIdeal.τ).loc Cert.EvenInIdeal.main_arg12) = m ((c.tc : Thread Cert.EvenInIdeal.nD Cert.EvenInIdeal.τ).loc Cert.EvenInIdeal.main_arg12)
      ∧ r.2.mem ((c.tc : Thread Cert.EvenInIdeal.nD Cert.EvenInIdeal.τ).loc Cert.EvenInIdeal.main_arg13) = m ((c.tc : Thread Cert.EvenInIdeal.nD Cert.EvenInIdeal.τ).loc Cert.EvenInIdeal.main_arg13)
      ∧ r.2.mem ((c.tc : Thread Cert.EvenInIdeal.nD Cert.EvenInIdeal.τ).loc Cert.EvenInIdeal.main_arg14) = m ((c.tc : Thread Cert.EvenInIdeal.nD Cert.EvenInIdeal.τ).loc Cert.EvenInIdeal.main_arg14)
      ∧ r.2.mem ((c.tc : Thread Cert.EvenInIdeal.nD Cert.EvenInIdeal.τ).loc Cert.EvenInIdeal.main_arg15) = m ((c.tc : Thread Cert.EvenInIdeal.nD Cert.EvenInIdeal.τ).loc Cert.EvenInIdeal.main_arg15))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2)
      ∧ r.2.mem ((c.tc : Thread Cert.EvenInRefIdeal.nD Cert.EvenInRefIdeal.τ).loc Cert.EvenInRefIdeal.main_arg3) = m ((c.tc : Thread Cert.EvenInRefIdeal.nD Cert.EvenInRefIdeal.τ).loc Cert.EvenInRefIdeal.main_arg3)
      ∧ r.2.mem ((c.tc : Thread Cert.EvenInRefIdeal.nD Cert.EvenInRefIdeal.τ).loc Cert.EvenInRefIdeal.main_arg4) = m ((c.tc : Thread Cert.EvenInRefIdeal.nD Cert.EvenInRefIdeal.τ).loc Cert.EvenInRefIdeal.main_arg4)
      ∧ r.2.mem ((c.tc : Thread Cert.EvenInRefIdeal.nD Cert.EvenInRefIdeal.τ).loc Cert.EvenInRefIdeal.main_arg5) = m ((c.tc : Thread Cert.EvenInRefIdeal.nD Cert.EvenInRefIdeal.τ).loc Cert.EvenInRefIdeal.main_arg5)
      ∧ r.2.mem ((c.tc : Thread Cert.EvenInRefIdeal.nD Cert.EvenInRefIdeal.τ).loc Cert.EvenInRefIdeal.main_arg6) = m ((c.tc : Thread Cert.EvenInRefIdeal.nD Cert.EvenInRefIdeal.τ).loc Cert.EvenInRefIdeal.main_arg6)
      ∧ r.2.mem ((c.tc : Thread Cert.EvenInRefIdeal.nD Cert.EvenInRefIdeal.τ).loc Cert.EvenInRefIdeal.main_arg7) = m ((c.tc : Thread Cert.EvenInRefIdeal.nD Cert.EvenInRefIdeal.τ).loc Cert.EvenInRefIdeal.main_arg7)
      ∧ r.2.mem ((c.tc : Thread Cert.EvenInRefIdeal.nD Cert.EvenInRefIdeal.τ).loc Cert.EvenInRefIdeal.main_arg8) = m ((c.tc : Thread Cert.EvenInRefIdeal.nD Cert.EvenInRefIdeal.τ).loc Cert.EvenInRefIdeal.main_arg8)
      ∧ r.2.mem ((c.tc : Thread Cert.EvenInRefIdeal.nD Cert.EvenInRefIdeal.τ).loc Cert.EvenInRefIdeal.main_arg9) = m ((c.tc : Thread Cert.EvenInRefIdeal.nD Cert.EvenInRefIdeal.τ).loc Cert.EvenInRefIdeal.main_arg9)
      ∧ r.2.mem ((c.tc : Thread Cert.EvenInRefIdeal.nD Cert.EvenInRefIdeal.τ).loc Cert.EvenInRefIdeal.main_arg10) = m ((c.tc : Thread Cert.EvenInRefIdeal.nD Cert.EvenInRefIdeal.τ).loc Cert.EvenInRefIdeal.main_arg10)
      ∧ r.2.mem ((c.tc : Thread Cert.EvenInRefIdeal.nD Cert.EvenInRefIdeal.τ).loc Cert.EvenInRefIdeal.main_arg11) = m ((c.tc : Thread Cert.EvenInRefIdeal.nD Cert.EvenInRefIdeal.τ).loc Cert.EvenInRefIdeal.main_arg11)
      ∧ r.2.mem ((c.tc : Thread Cert.EvenInRefIdeal.nD Cert.EvenInRefIdeal.τ).loc Cert.EvenInRefIdeal.main_arg12) = m ((c.tc : Thread Cert.EvenInRefIdeal.nD Cert.EvenInRefIdeal.τ).loc Cert.EvenInRefIdeal.main_arg12)
      ∧ r.2.mem ((c.tc : Thread Cert.EvenInRefIdeal.nD Cert.EvenInRefIdeal.τ).loc Cert.EvenInRefIdeal.main_arg13) = m ((c.tc : Thread Cert.EvenInRefIdeal.nD Cert.EvenInRefIdeal.τ).loc Cert.EvenInRefIdeal.main_arg13)
      ∧ r.2.mem ((c.tc : Thread Cert.EvenInRefIdeal.nD Cert.EvenInRefIdeal.τ).loc Cert.EvenInRefIdeal.main_arg14) = m ((c.tc : Thread Cert.EvenInRefIdeal.nD Cert.EvenInRefIdeal.τ).loc Cert.EvenInRefIdeal.main_arg14)
      ∧ r.2.mem ((c.tc : Thread Cert.EvenInRefIdeal.nD Cert.EvenInRefIdeal.τ).loc Cert.EvenInRefIdeal.main_arg15) = m ((c.tc : Thread Cert.EvenInRefIdeal.nD Cert.EvenInRefIdeal.τ).loc Cert.EvenInRefIdeal.main_arg15))
      ∧ r.2.sem = fun _ => 0)

def quiescent_EvenFirst [hEvenFirst : Cert.EvenFirst.Facts] : Prop :=
  ∀ (m : (ℓ : Loc Cert.EvenFirst.nD Cert.EvenFirst.τ Cert.EvenFirst.sig) → Buf (Elt Bits) ℓ) (g : Dev Cert.EvenFirst.nD → PrngReg), Pre_EvenFirst m →
    θ_run (Cert.EvenFirst.defs (F := Bits)) (onTc (τ := Cert.EvenFirst.τ) (Cert.EvenFirst.main (F := Bits))) ⟨m, fun _ => 0, g⟩ (fun r => (∀ c : Dev Cert.EvenFirst.nD,
      r.2.mem ((c.tc : Thread Cert.EvenFirst.nD Cert.EvenFirst.τ).loc Cert.EvenFirst.main_arg0) = m ((c.tc : Thread Cert.EvenFirst.nD Cert.EvenFirst.τ).loc Cert.EvenFirst.main_arg0)
      ∧ r.2.mem ((c.tc : Thread Cert.EvenFirst.nD Cert.EvenFirst.τ).loc Cert.EvenFirst.main_arg1) = m ((c.tc : Thread Cert.EvenFirst.nD Cert.EvenFirst.τ).loc Cert.EvenFirst.main_arg1)
      ∧ r.2.mem ((c.tc : Thread Cert.EvenFirst.nD Cert.EvenFirst.τ).loc Cert.EvenFirst.main_arg2) = m ((c.tc : Thread Cert.EvenFirst.nD Cert.EvenFirst.τ).loc Cert.EvenFirst.main_arg2)
      ∧ r.2.mem ((c.tc : Thread Cert.EvenFirst.nD Cert.EvenFirst.τ).loc Cert.EvenFirst.main_arg3) = m ((c.tc : Thread Cert.EvenFirst.nD Cert.EvenFirst.τ).loc Cert.EvenFirst.main_arg3)
      ∧ r.2.mem ((c.tc : Thread Cert.EvenFirst.nD Cert.EvenFirst.τ).loc Cert.EvenFirst.main_arg4) = m ((c.tc : Thread Cert.EvenFirst.nD Cert.EvenFirst.τ).loc Cert.EvenFirst.main_arg4)
      ∧ r.2.mem ((c.tc : Thread Cert.EvenFirst.nD Cert.EvenFirst.τ).loc Cert.EvenFirst.main_arg5) = m ((c.tc : Thread Cert.EvenFirst.nD Cert.EvenFirst.τ).loc Cert.EvenFirst.main_arg5)
      ∧ r.2.mem ((c.tc : Thread Cert.EvenFirst.nD Cert.EvenFirst.τ).loc Cert.EvenFirst.main_arg6) = m ((c.tc : Thread Cert.EvenFirst.nD Cert.EvenFirst.τ).loc Cert.EvenFirst.main_arg6)
      ∧ r.2.mem ((c.tc : Thread Cert.EvenFirst.nD Cert.EvenFirst.τ).loc Cert.EvenFirst.main_arg7) = m ((c.tc : Thread Cert.EvenFirst.nD Cert.EvenFirst.τ).loc Cert.EvenFirst.main_arg7)
      ∧ r.2.mem ((c.tc : Thread Cert.EvenFirst.nD Cert.EvenFirst.τ).loc Cert.EvenFirst.main_arg8) = m ((c.tc : Thread Cert.EvenFirst.nD Cert.EvenFirst.τ).loc Cert.EvenFirst.main_arg8)
      ∧ r.2.mem ((c.tc : Thread Cert.EvenFirst.nD Cert.EvenFirst.τ).loc Cert.EvenFirst.main_arg9) = m ((c.tc : Thread Cert.EvenFirst.nD Cert.EvenFirst.τ).loc Cert.EvenFirst.main_arg9)
      ∧ r.2.mem ((c.tc : Thread Cert.EvenFirst.nD Cert.EvenFirst.τ).loc Cert.EvenFirst.main_arg10) = m ((c.tc : Thread Cert.EvenFirst.nD Cert.EvenFirst.τ).loc Cert.EvenFirst.main_arg10)
      ∧ r.2.mem ((c.tc : Thread Cert.EvenFirst.nD Cert.EvenFirst.τ).loc Cert.EvenFirst.main_arg11) = m ((c.tc : Thread Cert.EvenFirst.nD Cert.EvenFirst.τ).loc Cert.EvenFirst.main_arg11))
      ∧ r.2.sem = fun _ => 0)

def quiescent_EvenFirstIdeal [hEvenFirstIdeal : Cert.EvenFirstIdeal.Facts] : Prop :=
  ∀ (m : (ℓ : Loc Cert.EvenFirstIdeal.nD Cert.EvenFirstIdeal.τ Cert.EvenFirstIdeal.sig) → Buf (Elt Ideal) ℓ) (g : Dev Cert.EvenFirstIdeal.nD → PrngReg), Pre_EvenFirstIdeal m →
    θ_run (Cert.EvenFirstIdeal.defs (F := Ideal)) (onTc (τ := Cert.EvenFirstIdeal.τ) (Cert.EvenFirstIdeal.main (F := Ideal))) ⟨m, fun _ => 0, g⟩ (fun r => (∀ c : Dev Cert.EvenFirstIdeal.nD,
      r.2.mem ((c.tc : Thread Cert.EvenFirstIdeal.nD Cert.EvenFirstIdeal.τ).loc Cert.EvenFirstIdeal.main_arg0) = m ((c.tc : Thread Cert.EvenFirstIdeal.nD Cert.EvenFirstIdeal.τ).loc Cert.EvenFirstIdeal.main_arg0)
      ∧ r.2.mem ((c.tc : Thread Cert.EvenFirstIdeal.nD Cert.EvenFirstIdeal.τ).loc Cert.EvenFirstIdeal.main_arg1) = m ((c.tc : Thread Cert.EvenFirstIdeal.nD Cert.EvenFirstIdeal.τ).loc Cert.EvenFirstIdeal.main_arg1)
      ∧ r.2.mem ((c.tc : Thread Cert.EvenFirstIdeal.nD Cert.EvenFirstIdeal.τ).loc Cert.EvenFirstIdeal.main_arg2) = m ((c.tc : Thread Cert.EvenFirstIdeal.nD Cert.EvenFirstIdeal.τ).loc Cert.EvenFirstIdeal.main_arg2)
      ∧ r.2.mem ((c.tc : Thread Cert.EvenFirstIdeal.nD Cert.EvenFirstIdeal.τ).loc Cert.EvenFirstIdeal.main_arg3) = m ((c.tc : Thread Cert.EvenFirstIdeal.nD Cert.EvenFirstIdeal.τ).loc Cert.EvenFirstIdeal.main_arg3)
      ∧ r.2.mem ((c.tc : Thread Cert.EvenFirstIdeal.nD Cert.EvenFirstIdeal.τ).loc Cert.EvenFirstIdeal.main_arg4) = m ((c.tc : Thread Cert.EvenFirstIdeal.nD Cert.EvenFirstIdeal.τ).loc Cert.EvenFirstIdeal.main_arg4)
      ∧ r.2.mem ((c.tc : Thread Cert.EvenFirstIdeal.nD Cert.EvenFirstIdeal.τ).loc Cert.EvenFirstIdeal.main_arg5) = m ((c.tc : Thread Cert.EvenFirstIdeal.nD Cert.EvenFirstIdeal.τ).loc Cert.EvenFirstIdeal.main_arg5)
      ∧ r.2.mem ((c.tc : Thread Cert.EvenFirstIdeal.nD Cert.EvenFirstIdeal.τ).loc Cert.EvenFirstIdeal.main_arg6) = m ((c.tc : Thread Cert.EvenFirstIdeal.nD Cert.EvenFirstIdeal.τ).loc Cert.EvenFirstIdeal.main_arg6)
      ∧ r.2.mem ((c.tc : Thread Cert.EvenFirstIdeal.nD Cert.EvenFirstIdeal.τ).loc Cert.EvenFirstIdeal.main_arg7) = m ((c.tc : Thread Cert.EvenFirstIdeal.nD Cert.EvenFirstIdeal.τ).loc Cert.EvenFirstIdeal.main_arg7)
      ∧ r.2.mem ((c.tc : Thread Cert.EvenFirstIdeal.nD Cert.EvenFirstIdeal.τ).loc Cert.EvenFirstIdeal.main_arg8) = m ((c.tc : Thread Cert.EvenFirstIdeal.nD Cert.EvenFirstIdeal.τ).loc Cert.EvenFirstIdeal.main_arg8)
      ∧ r.2.mem ((c.tc : Thread Cert.EvenFirstIdeal.nD Cert.EvenFirstIdeal.τ).loc Cert.EvenFirstIdeal.main_arg9) = m ((c.tc : Thread Cert.EvenFirstIdeal.nD Cert.EvenFirstIdeal.τ).loc Cert.EvenFirstIdeal.main_arg9)
      ∧ r.2.mem ((c.tc : Thread Cert.EvenFirstIdeal.nD Cert.EvenFirstIdeal.τ).loc Cert.EvenFirstIdeal.main_arg10) = m ((c.tc : Thread Cert.EvenFirstIdeal.nD Cert.EvenFirstIdeal.τ).loc Cert.EvenFirstIdeal.main_arg10)
      ∧ r.2.mem ((c.tc : Thread Cert.EvenFirstIdeal.nD Cert.EvenFirstIdeal.τ).loc Cert.EvenFirstIdeal.main_arg11) = m ((c.tc : Thread Cert.EvenFirstIdeal.nD Cert.EvenFirstIdeal.τ).loc Cert.EvenFirstIdeal.main_arg11))
      ∧ r.2.sem = fun _ => 0)

def quiescent_EvenFirstRefIdeal [hEvenFirstRefIdeal : Cert.EvenFirstRefIdeal.Facts] : Prop :=
  ∀ (m : (ℓ : Loc Cert.EvenFirstRefIdeal.nD Cert.EvenFirstRefIdeal.τ Cert.EvenFirstRefIdeal.sig) → Buf (Elt Ideal) ℓ) (g : Dev Cert.EvenFirstRefIdeal.nD → PrngReg), Pre_EvenFirstRefIdeal m →
    θ_run (Cert.EvenFirstRefIdeal.defs (F := Ideal)) (onTc (τ := Cert.EvenFirstRefIdeal.τ) (Cert.EvenFirstRefIdeal.main (F := Ideal))) ⟨m, fun _ => 0, g⟩ (fun r => (∀ c : Dev Cert.EvenFirstRefIdeal.nD,
      r.2.mem ((c.tc : Thread Cert.EvenFirstRefIdeal.nD Cert.EvenFirstRefIdeal.τ).loc Cert.EvenFirstRefIdeal.main_arg0) = m ((c.tc : Thread Cert.EvenFirstRefIdeal.nD Cert.EvenFirstRefIdeal.τ).loc Cert.EvenFirstRefIdeal.main_arg0)
      ∧ r.2.mem ((c.tc : Thread Cert.EvenFirstRefIdeal.nD Cert.EvenFirstRefIdeal.τ).loc Cert.EvenFirstRefIdeal.main_arg1) = m ((c.tc : Thread Cert.EvenFirstRefIdeal.nD Cert.EvenFirstRefIdeal.τ).loc Cert.EvenFirstRefIdeal.main_arg1)
      ∧ r.2.mem ((c.tc : Thread Cert.EvenFirstRefIdeal.nD Cert.EvenFirstRefIdeal.τ).loc Cert.EvenFirstRefIdeal.main_arg2) = m ((c.tc : Thread Cert.EvenFirstRefIdeal.nD Cert.EvenFirstRefIdeal.τ).loc Cert.EvenFirstRefIdeal.main_arg2)
      ∧ r.2.mem ((c.tc : Thread Cert.EvenFirstRefIdeal.nD Cert.EvenFirstRefIdeal.τ).loc Cert.EvenFirstRefIdeal.main_arg3) = m ((c.tc : Thread Cert.EvenFirstRefIdeal.nD Cert.EvenFirstRefIdeal.τ).loc Cert.EvenFirstRefIdeal.main_arg3)
      ∧ r.2.mem ((c.tc : Thread Cert.EvenFirstRefIdeal.nD Cert.EvenFirstRefIdeal.τ).loc Cert.EvenFirstRefIdeal.main_arg4) = m ((c.tc : Thread Cert.EvenFirstRefIdeal.nD Cert.EvenFirstRefIdeal.τ).loc Cert.EvenFirstRefIdeal.main_arg4)
      ∧ r.2.mem ((c.tc : Thread Cert.EvenFirstRefIdeal.nD Cert.EvenFirstRefIdeal.τ).loc Cert.EvenFirstRefIdeal.main_arg5) = m ((c.tc : Thread Cert.EvenFirstRefIdeal.nD Cert.EvenFirstRefIdeal.τ).loc Cert.EvenFirstRefIdeal.main_arg5)
      ∧ r.2.mem ((c.tc : Thread Cert.EvenFirstRefIdeal.nD Cert.EvenFirstRefIdeal.τ).loc Cert.EvenFirstRefIdeal.main_arg6) = m ((c.tc : Thread Cert.EvenFirstRefIdeal.nD Cert.EvenFirstRefIdeal.τ).loc Cert.EvenFirstRefIdeal.main_arg6)
      ∧ r.2.mem ((c.tc : Thread Cert.EvenFirstRefIdeal.nD Cert.EvenFirstRefIdeal.τ).loc Cert.EvenFirstRefIdeal.main_arg7) = m ((c.tc : Thread Cert.EvenFirstRefIdeal.nD Cert.EvenFirstRefIdeal.τ).loc Cert.EvenFirstRefIdeal.main_arg7)
      ∧ r.2.mem ((c.tc : Thread Cert.EvenFirstRefIdeal.nD Cert.EvenFirstRefIdeal.τ).loc Cert.EvenFirstRefIdeal.main_arg8) = m ((c.tc : Thread Cert.EvenFirstRefIdeal.nD Cert.EvenFirstRefIdeal.τ).loc Cert.EvenFirstRefIdeal.main_arg8)
      ∧ r.2.mem ((c.tc : Thread Cert.EvenFirstRefIdeal.nD Cert.EvenFirstRefIdeal.τ).loc Cert.EvenFirstRefIdeal.main_arg9) = m ((c.tc : Thread Cert.EvenFirstRefIdeal.nD Cert.EvenFirstRefIdeal.τ).loc Cert.EvenFirstRefIdeal.main_arg9)
      ∧ r.2.mem ((c.tc : Thread Cert.EvenFirstRefIdeal.nD Cert.EvenFirstRefIdeal.τ).loc Cert.EvenFirstRefIdeal.main_arg10) = m ((c.tc : Thread Cert.EvenFirstRefIdeal.nD Cert.EvenFirstRefIdeal.τ).loc Cert.EvenFirstRefIdeal.main_arg10)
      ∧ r.2.mem ((c.tc : Thread Cert.EvenFirstRefIdeal.nD Cert.EvenFirstRefIdeal.τ).loc Cert.EvenFirstRefIdeal.main_arg11) = m ((c.tc : Thread Cert.EvenFirstRefIdeal.nD Cert.EvenFirstRefIdeal.τ).loc Cert.EvenFirstRefIdeal.main_arg11))
      ∧ r.2.sem = fun _ => 0)

def quiescent_Gdn [hGdn : Cert.Gdn.Facts] : Prop :=
  ∀ (m : (ℓ : Loc Cert.Gdn.nD Cert.Gdn.τ Cert.Gdn.sig) → Buf (Elt Bits) ℓ) (g : Dev Cert.Gdn.nD → PrngReg), Pre_Gdn m →
    θ_run (Cert.Gdn.defs (F := Bits)) (onTc (τ := Cert.Gdn.τ) (Cert.Gdn.main (F := Bits))) ⟨m, fun _ => 0, g⟩ (fun r => (∀ c : Dev Cert.Gdn.nD,
      r.2.mem ((c.tc : Thread Cert.Gdn.nD Cert.Gdn.τ).loc Cert.Gdn.main_arg0) = m ((c.tc : Thread Cert.Gdn.nD Cert.Gdn.τ).loc Cert.Gdn.main_arg0)
      ∧ r.2.mem ((c.tc : Thread Cert.Gdn.nD Cert.Gdn.τ).loc Cert.Gdn.main_arg1) = m ((c.tc : Thread Cert.Gdn.nD Cert.Gdn.τ).loc Cert.Gdn.main_arg1)
      ∧ r.2.mem ((c.tc : Thread Cert.Gdn.nD Cert.Gdn.τ).loc Cert.Gdn.main_arg2) = m ((c.tc : Thread Cert.Gdn.nD Cert.Gdn.τ).loc Cert.Gdn.main_arg2)
      ∧ r.2.mem ((c.tc : Thread Cert.Gdn.nD Cert.Gdn.τ).loc Cert.Gdn.main_arg3) = m ((c.tc : Thread Cert.Gdn.nD Cert.Gdn.τ).loc Cert.Gdn.main_arg3)
      ∧ r.2.mem ((c.tc : Thread Cert.Gdn.nD Cert.Gdn.τ).loc Cert.Gdn.main_arg4) = m ((c.tc : Thread Cert.Gdn.nD Cert.Gdn.τ).loc Cert.Gdn.main_arg4)
      ∧ r.2.mem ((c.tc : Thread Cert.Gdn.nD Cert.Gdn.τ).loc Cert.Gdn.main_arg5) = m ((c.tc : Thread Cert.Gdn.nD Cert.Gdn.τ).loc Cert.Gdn.main_arg5)
      ∧ r.2.mem ((c.tc : Thread Cert.Gdn.nD Cert.Gdn.τ).loc Cert.Gdn.main_arg6) = m ((c.tc : Thread Cert.Gdn.nD Cert.Gdn.τ).loc Cert.Gdn.main_arg6))
      ∧ r.2.sem = fun _ => 0)

def quiescent_GdnIdeal [hGdnIdeal : Cert.GdnIdeal.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
      ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
      ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4)
      ∧ r.2.mem ((c.tc : Thread Cert.GdnIdeal.nD Cert.GdnIdeal.τ).loc Cert.GdnIdeal.main_arg5) = m ((c.tc : Thread Cert.GdnIdeal.nD Cert.GdnIdeal.τ).loc Cert.GdnIdeal.main_arg5)
      ∧ r.2.mem ((c.tc : Thread Cert.GdnIdeal.nD Cert.GdnIdeal.τ).loc Cert.GdnIdeal.main_arg6) = m ((c.tc : Thread Cert.GdnIdeal.nD Cert.GdnIdeal.τ).loc Cert.GdnIdeal.main_arg6))
      ∧ r.2.sem = fun _ => 0)

def quiescent_Rwkv [hRwkv : Cert.Rwkv.Facts] : Prop :=
  ∀ (m : (ℓ : Loc Cert.Rwkv.nD Cert.Rwkv.τ Cert.Rwkv.sig) → Buf (Elt Bits) ℓ) (g : Dev Cert.Rwkv.nD → PrngReg), Pre_Rwkv m →
    θ_run (Cert.Rwkv.defs (F := Bits)) (onTc (τ := Cert.Rwkv.τ) (Cert.Rwkv.main (F := Bits))) ⟨m, fun _ => 0, g⟩ (fun r => (∀ c : Dev Cert.Rwkv.nD,
      r.2.mem ((c.tc : Thread Cert.Rwkv.nD Cert.Rwkv.τ).loc Cert.Rwkv.main_arg0) = m ((c.tc : Thread Cert.Rwkv.nD Cert.Rwkv.τ).loc Cert.Rwkv.main_arg0)
      ∧ r.2.mem ((c.tc : Thread Cert.Rwkv.nD Cert.Rwkv.τ).loc Cert.Rwkv.main_arg1) = m ((c.tc : Thread Cert.Rwkv.nD Cert.Rwkv.τ).loc Cert.Rwkv.main_arg1)
      ∧ r.2.mem ((c.tc : Thread Cert.Rwkv.nD Cert.Rwkv.τ).loc Cert.Rwkv.main_arg2) = m ((c.tc : Thread Cert.Rwkv.nD Cert.Rwkv.τ).loc Cert.Rwkv.main_arg2)
      ∧ r.2.mem ((c.tc : Thread Cert.Rwkv.nD Cert.Rwkv.τ).loc Cert.Rwkv.main_arg3) = m ((c.tc : Thread Cert.Rwkv.nD Cert.Rwkv.τ).loc Cert.Rwkv.main_arg3)
      ∧ r.2.mem ((c.tc : Thread Cert.Rwkv.nD Cert.Rwkv.τ).loc Cert.Rwkv.main_arg4) = m ((c.tc : Thread Cert.Rwkv.nD Cert.Rwkv.τ).loc Cert.Rwkv.main_arg4)
      ∧ r.2.mem ((c.tc : Thread Cert.Rwkv.nD Cert.Rwkv.τ).loc Cert.Rwkv.main_arg5) = m ((c.tc : Thread Cert.Rwkv.nD Cert.Rwkv.τ).loc Cert.Rwkv.main_arg5)
      ∧ r.2.mem ((c.tc : Thread Cert.Rwkv.nD Cert.Rwkv.τ).loc Cert.Rwkv.main_arg6) = m ((c.tc : Thread Cert.Rwkv.nD Cert.Rwkv.τ).loc Cert.Rwkv.main_arg6)
      ∧ r.2.mem ((c.tc : Thread Cert.Rwkv.nD Cert.Rwkv.τ).loc Cert.Rwkv.main_arg7) = m ((c.tc : Thread Cert.Rwkv.nD Cert.Rwkv.τ).loc Cert.Rwkv.main_arg7)
      ∧ r.2.mem ((c.tc : Thread Cert.Rwkv.nD Cert.Rwkv.τ).loc Cert.Rwkv.main_arg8) = m ((c.tc : Thread Cert.Rwkv.nD Cert.Rwkv.τ).loc Cert.Rwkv.main_arg8)
      ∧ r.2.mem ((c.tc : Thread Cert.Rwkv.nD Cert.Rwkv.τ).loc Cert.Rwkv.main_arg9) = m ((c.tc : Thread Cert.Rwkv.nD Cert.Rwkv.τ).loc Cert.Rwkv.main_arg9)
      ∧ r.2.mem ((c.tc : Thread Cert.Rwkv.nD Cert.Rwkv.τ).loc Cert.Rwkv.main_arg10) = m ((c.tc : Thread Cert.Rwkv.nD Cert.Rwkv.τ).loc Cert.Rwkv.main_arg10)
      ∧ r.2.mem ((c.tc : Thread Cert.Rwkv.nD Cert.Rwkv.τ).loc Cert.Rwkv.main_arg11) = m ((c.tc : Thread Cert.Rwkv.nD Cert.Rwkv.τ).loc Cert.Rwkv.main_arg11))
      ∧ r.2.sem = fun _ => 0)

def quiescent_RwkvIdeal [hRwkvIdeal : Cert.RwkvIdeal.Facts] : Prop :=
  ∀ (m : (ℓ : Loc Cert.RwkvIdeal.nD Cert.RwkvIdeal.τ Cert.RwkvIdeal.sig) → Buf (Elt Ideal) ℓ) (g : Dev Cert.RwkvIdeal.nD → PrngReg), Pre_RwkvIdeal m →
    θ_run (Cert.RwkvIdeal.defs (F := Ideal)) (onTc (τ := Cert.RwkvIdeal.τ) (Cert.RwkvIdeal.main (F := Ideal))) ⟨m, fun _ => 0, g⟩ (fun r => (∀ c : Dev Cert.RwkvIdeal.nD,
      r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
      ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
      ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
      ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
      ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
      ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
      ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
      ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
      ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
      ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
      ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10)
      ∧ r.2.mem ((c.tc : Thread Cert.RwkvIdeal.nD Cert.RwkvIdeal.τ).loc Cert.RwkvIdeal.main_arg11) = m ((c.tc : Thread Cert.RwkvIdeal.nD Cert.RwkvIdeal.τ).loc Cert.RwkvIdeal.main_arg11))
      ∧ r.2.sem = fun _ => 0)

def quiescent_RwkvFirst [hRwkvFirst : Cert.RwkvFirst.Facts] : Prop :=
  ∀ (m : (ℓ : Loc Cert.RwkvFirst.nD Cert.RwkvFirst.τ Cert.RwkvFirst.sig) → Buf (Elt Bits) ℓ) (g : Dev Cert.RwkvFirst.nD → PrngReg), Pre_RwkvFirst m →
    θ_run (Cert.RwkvFirst.defs (F := Bits)) (onTc (τ := Cert.RwkvFirst.τ) (Cert.RwkvFirst.main (F := Bits))) ⟨m, fun _ => 0, g⟩ (fun r => (∀ c : Dev Cert.RwkvFirst.nD,
      r.2.mem ((c.tc : Thread Cert.RwkvFirst.nD Cert.RwkvFirst.τ).loc Cert.RwkvFirst.main_arg0) = m ((c.tc : Thread Cert.RwkvFirst.nD Cert.RwkvFirst.τ).loc Cert.RwkvFirst.main_arg0)
      ∧ r.2.mem ((c.tc : Thread Cert.RwkvFirst.nD Cert.RwkvFirst.τ).loc Cert.RwkvFirst.main_arg1) = m ((c.tc : Thread Cert.RwkvFirst.nD Cert.RwkvFirst.τ).loc Cert.RwkvFirst.main_arg1)
      ∧ r.2.mem ((c.tc : Thread Cert.RwkvFirst.nD Cert.RwkvFirst.τ).loc Cert.RwkvFirst.main_arg2) = m ((c.tc : Thread Cert.RwkvFirst.nD Cert.RwkvFirst.τ).loc Cert.RwkvFirst.main_arg2)
      ∧ r.2.mem ((c.tc : Thread Cert.RwkvFirst.nD Cert.RwkvFirst.τ).loc Cert.RwkvFirst.main_arg3) = m ((c.tc : Thread Cert.RwkvFirst.nD Cert.RwkvFirst.τ).loc Cert.RwkvFirst.main_arg3)
      ∧ r.2.mem ((c.tc : Thread Cert.RwkvFirst.nD Cert.RwkvFirst.τ).loc Cert.RwkvFirst.main_arg4) = m ((c.tc : Thread Cert.RwkvFirst.nD Cert.RwkvFirst.τ).loc Cert.RwkvFirst.main_arg4)
      ∧ r.2.mem ((c.tc : Thread Cert.RwkvFirst.nD Cert.RwkvFirst.τ).loc Cert.RwkvFirst.main_arg5) = m ((c.tc : Thread Cert.RwkvFirst.nD Cert.RwkvFirst.τ).loc Cert.RwkvFirst.main_arg5)
      ∧ r.2.mem ((c.tc : Thread Cert.RwkvFirst.nD Cert.RwkvFirst.τ).loc Cert.RwkvFirst.main_arg6) = m ((c.tc : Thread Cert.RwkvFirst.nD Cert.RwkvFirst.τ).loc Cert.RwkvFirst.main_arg6)
      ∧ r.2.mem ((c.tc : Thread Cert.RwkvFirst.nD Cert.RwkvFirst.τ).loc Cert.RwkvFirst.main_arg7) = m ((c.tc : Thread Cert.RwkvFirst.nD Cert.RwkvFirst.τ).loc Cert.RwkvFirst.main_arg7)
      ∧ r.2.mem ((c.tc : Thread Cert.RwkvFirst.nD Cert.RwkvFirst.τ).loc Cert.RwkvFirst.main_arg8) = m ((c.tc : Thread Cert.RwkvFirst.nD Cert.RwkvFirst.τ).loc Cert.RwkvFirst.main_arg8)
      ∧ r.2.mem ((c.tc : Thread Cert.RwkvFirst.nD Cert.RwkvFirst.τ).loc Cert.RwkvFirst.main_arg9) = m ((c.tc : Thread Cert.RwkvFirst.nD Cert.RwkvFirst.τ).loc Cert.RwkvFirst.main_arg9))
      ∧ r.2.sem = fun _ => 0)

def quiescent_RwkvFirstIdeal [hRwkvFirstIdeal : Cert.RwkvFirstIdeal.Facts] : Prop :=
  ∀ (m : (ℓ : Loc Cert.RwkvFirstIdeal.nD Cert.RwkvFirstIdeal.τ Cert.RwkvFirstIdeal.sig) → Buf (Elt Ideal) ℓ) (g : Dev Cert.RwkvFirstIdeal.nD → PrngReg), Pre_RwkvFirstIdeal m →
    θ_run (Cert.RwkvFirstIdeal.defs (F := Ideal)) (onTc (τ := Cert.RwkvFirstIdeal.τ) (Cert.RwkvFirstIdeal.main (F := Ideal))) ⟨m, fun _ => 0, g⟩ (fun r => (∀ c : Dev Cert.RwkvFirstIdeal.nD,
      r.2.mem ((c.tc : Thread Cert.RwkvFirstIdeal.nD Cert.RwkvFirstIdeal.τ).loc Cert.RwkvFirstIdeal.main_arg0) = m ((c.tc : Thread Cert.RwkvFirstIdeal.nD Cert.RwkvFirstIdeal.τ).loc Cert.RwkvFirstIdeal.main_arg0)
      ∧ r.2.mem ((c.tc : Thread Cert.RwkvFirstIdeal.nD Cert.RwkvFirstIdeal.τ).loc Cert.RwkvFirstIdeal.main_arg1) = m ((c.tc : Thread Cert.RwkvFirstIdeal.nD Cert.RwkvFirstIdeal.τ).loc Cert.RwkvFirstIdeal.main_arg1)
      ∧ r.2.mem ((c.tc : Thread Cert.RwkvFirstIdeal.nD Cert.RwkvFirstIdeal.τ).loc Cert.RwkvFirstIdeal.main_arg2) = m ((c.tc : Thread Cert.RwkvFirstIdeal.nD Cert.RwkvFirstIdeal.τ).loc Cert.RwkvFirstIdeal.main_arg2)
      ∧ r.2.mem ((c.tc : Thread Cert.RwkvFirstIdeal.nD Cert.RwkvFirstIdeal.τ).loc Cert.RwkvFirstIdeal.main_arg3) = m ((c.tc : Thread Cert.RwkvFirstIdeal.nD Cert.RwkvFirstIdeal.τ).loc Cert.RwkvFirstIdeal.main_arg3)
      ∧ r.2.mem ((c.tc : Thread Cert.RwkvFirstIdeal.nD Cert.RwkvFirstIdeal.τ).loc Cert.RwkvFirstIdeal.main_arg4) = m ((c.tc : Thread Cert.RwkvFirstIdeal.nD Cert.RwkvFirstIdeal.τ).loc Cert.RwkvFirstIdeal.main_arg4)
      ∧ r.2.mem ((c.tc : Thread Cert.RwkvFirstIdeal.nD Cert.RwkvFirstIdeal.τ).loc Cert.RwkvFirstIdeal.main_arg5) = m ((c.tc : Thread Cert.RwkvFirstIdeal.nD Cert.RwkvFirstIdeal.τ).loc Cert.RwkvFirstIdeal.main_arg5)
      ∧ r.2.mem ((c.tc : Thread Cert.RwkvFirstIdeal.nD Cert.RwkvFirstIdeal.τ).loc Cert.RwkvFirstIdeal.main_arg6) = m ((c.tc : Thread Cert.RwkvFirstIdeal.nD Cert.RwkvFirstIdeal.τ).loc Cert.RwkvFirstIdeal.main_arg6)
      ∧ r.2.mem ((c.tc : Thread Cert.RwkvFirstIdeal.nD Cert.RwkvFirstIdeal.τ).loc Cert.RwkvFirstIdeal.main_arg7) = m ((c.tc : Thread Cert.RwkvFirstIdeal.nD Cert.RwkvFirstIdeal.τ).loc Cert.RwkvFirstIdeal.main_arg7)
      ∧ r.2.mem ((c.tc : Thread Cert.RwkvFirstIdeal.nD Cert.RwkvFirstIdeal.τ).loc Cert.RwkvFirstIdeal.main_arg8) = m ((c.tc : Thread Cert.RwkvFirstIdeal.nD Cert.RwkvFirstIdeal.τ).loc Cert.RwkvFirstIdeal.main_arg8)
      ∧ r.2.mem ((c.tc : Thread Cert.RwkvFirstIdeal.nD Cert.RwkvFirstIdeal.τ).loc Cert.RwkvFirstIdeal.main_arg9) = m ((c.tc : Thread Cert.RwkvFirstIdeal.nD Cert.RwkvFirstIdeal.τ).loc Cert.RwkvFirstIdeal.main_arg9))
      ∧ r.2.sem = fun _ => 0)

def quiescent_RwkvValues [hRwkvValues : Cert.RwkvValues.Facts] : Prop :=
  ∀ (m : (ℓ : Loc Cert.RwkvValues.nD Cert.RwkvValues.τ Cert.RwkvValues.sig) → Buf (Elt Bits) ℓ) (g : Dev Cert.RwkvValues.nD → PrngReg), Pre_RwkvValues m →
    θ_run (Cert.RwkvValues.defs (F := Bits)) (onTc (τ := Cert.RwkvValues.τ) (Cert.RwkvValues.main (F := Bits))) ⟨m, fun _ => 0, g⟩ (fun r => (∀ c : Dev Cert.RwkvValues.nD,
      r.2.mem ((c.tc : Thread Cert.RwkvValues.nD Cert.RwkvValues.τ).loc Cert.RwkvValues.main_arg0) = m ((c.tc : Thread Cert.RwkvValues.nD Cert.RwkvValues.τ).loc Cert.RwkvValues.main_arg0)
      ∧ r.2.mem ((c.tc : Thread Cert.RwkvValues.nD Cert.RwkvValues.τ).loc Cert.RwkvValues.main_arg1) = m ((c.tc : Thread Cert.RwkvValues.nD Cert.RwkvValues.τ).loc Cert.RwkvValues.main_arg1)
      ∧ r.2.mem ((c.tc : Thread Cert.RwkvValues.nD Cert.RwkvValues.τ).loc Cert.RwkvValues.main_arg2) = m ((c.tc : Thread Cert.RwkvValues.nD Cert.RwkvValues.τ).loc Cert.RwkvValues.main_arg2)
      ∧ r.2.mem ((c.tc : Thread Cert.RwkvValues.nD Cert.RwkvValues.τ).loc Cert.RwkvValues.main_arg3) = m ((c.tc : Thread Cert.RwkvValues.nD Cert.RwkvValues.τ).loc Cert.RwkvValues.main_arg3)
      ∧ r.2.mem ((c.tc : Thread Cert.RwkvValues.nD Cert.RwkvValues.τ).loc Cert.RwkvValues.main_arg4) = m ((c.tc : Thread Cert.RwkvValues.nD Cert.RwkvValues.τ).loc Cert.RwkvValues.main_arg4)
      ∧ r.2.mem ((c.tc : Thread Cert.RwkvValues.nD Cert.RwkvValues.τ).loc Cert.RwkvValues.main_arg5) = m ((c.tc : Thread Cert.RwkvValues.nD Cert.RwkvValues.τ).loc Cert.RwkvValues.main_arg5)
      ∧ r.2.mem ((c.tc : Thread Cert.RwkvValues.nD Cert.RwkvValues.τ).loc Cert.RwkvValues.main_arg6) = m ((c.tc : Thread Cert.RwkvValues.nD Cert.RwkvValues.τ).loc Cert.RwkvValues.main_arg6)
      ∧ r.2.mem ((c.tc : Thread Cert.RwkvValues.nD Cert.RwkvValues.τ).loc Cert.RwkvValues.main_arg7) = m ((c.tc : Thread Cert.RwkvValues.nD Cert.RwkvValues.τ).loc Cert.RwkvValues.main_arg7)
      ∧ r.2.mem ((c.tc : Thread Cert.RwkvValues.nD Cert.RwkvValues.τ).loc Cert.RwkvValues.main_arg8) = m ((c.tc : Thread Cert.RwkvValues.nD Cert.RwkvValues.τ).loc Cert.RwkvValues.main_arg8)
      ∧ r.2.mem ((c.tc : Thread Cert.RwkvValues.nD Cert.RwkvValues.τ).loc Cert.RwkvValues.main_arg9) = m ((c.tc : Thread Cert.RwkvValues.nD Cert.RwkvValues.τ).loc Cert.RwkvValues.main_arg9))
      ∧ r.2.sem = fun _ => 0)

def quiescent_RwkvValuesIdeal [hRwkvValuesIdeal : Cert.RwkvValuesIdeal.Facts] : Prop :=
  ∀ (m : (ℓ : Loc Cert.RwkvValuesIdeal.nD Cert.RwkvValuesIdeal.τ Cert.RwkvValuesIdeal.sig) → Buf (Elt Ideal) ℓ) (g : Dev Cert.RwkvValuesIdeal.nD → PrngReg), Pre_RwkvValuesIdeal m →
    θ_run (Cert.RwkvValuesIdeal.defs (F := Ideal)) (onTc (τ := Cert.RwkvValuesIdeal.τ) (Cert.RwkvValuesIdeal.main (F := Ideal))) ⟨m, fun _ => 0, g⟩ (fun r => (∀ c : Dev Cert.RwkvValuesIdeal.nD,
      r.2.mem ((c.tc : Thread Cert.RwkvValuesIdeal.nD Cert.RwkvValuesIdeal.τ).loc Cert.RwkvValuesIdeal.main_arg0) = m ((c.tc : Thread Cert.RwkvValuesIdeal.nD Cert.RwkvValuesIdeal.τ).loc Cert.RwkvValuesIdeal.main_arg0)
      ∧ r.2.mem ((c.tc : Thread Cert.RwkvValuesIdeal.nD Cert.RwkvValuesIdeal.τ).loc Cert.RwkvValuesIdeal.main_arg1) = m ((c.tc : Thread Cert.RwkvValuesIdeal.nD Cert.RwkvValuesIdeal.τ).loc Cert.RwkvValuesIdeal.main_arg1)
      ∧ r.2.mem ((c.tc : Thread Cert.RwkvValuesIdeal.nD Cert.RwkvValuesIdeal.τ).loc Cert.RwkvValuesIdeal.main_arg2) = m ((c.tc : Thread Cert.RwkvValuesIdeal.nD Cert.RwkvValuesIdeal.τ).loc Cert.RwkvValuesIdeal.main_arg2)
      ∧ r.2.mem ((c.tc : Thread Cert.RwkvValuesIdeal.nD Cert.RwkvValuesIdeal.τ).loc Cert.RwkvValuesIdeal.main_arg3) = m ((c.tc : Thread Cert.RwkvValuesIdeal.nD Cert.RwkvValuesIdeal.τ).loc Cert.RwkvValuesIdeal.main_arg3)
      ∧ r.2.mem ((c.tc : Thread Cert.RwkvValuesIdeal.nD Cert.RwkvValuesIdeal.τ).loc Cert.RwkvValuesIdeal.main_arg4) = m ((c.tc : Thread Cert.RwkvValuesIdeal.nD Cert.RwkvValuesIdeal.τ).loc Cert.RwkvValuesIdeal.main_arg4)
      ∧ r.2.mem ((c.tc : Thread Cert.RwkvValuesIdeal.nD Cert.RwkvValuesIdeal.τ).loc Cert.RwkvValuesIdeal.main_arg5) = m ((c.tc : Thread Cert.RwkvValuesIdeal.nD Cert.RwkvValuesIdeal.τ).loc Cert.RwkvValuesIdeal.main_arg5)
      ∧ r.2.mem ((c.tc : Thread Cert.RwkvValuesIdeal.nD Cert.RwkvValuesIdeal.τ).loc Cert.RwkvValuesIdeal.main_arg6) = m ((c.tc : Thread Cert.RwkvValuesIdeal.nD Cert.RwkvValuesIdeal.τ).loc Cert.RwkvValuesIdeal.main_arg6)
      ∧ r.2.mem ((c.tc : Thread Cert.RwkvValuesIdeal.nD Cert.RwkvValuesIdeal.τ).loc Cert.RwkvValuesIdeal.main_arg7) = m ((c.tc : Thread Cert.RwkvValuesIdeal.nD Cert.RwkvValuesIdeal.τ).loc Cert.RwkvValuesIdeal.main_arg7)
      ∧ r.2.mem ((c.tc : Thread Cert.RwkvValuesIdeal.nD Cert.RwkvValuesIdeal.τ).loc Cert.RwkvValuesIdeal.main_arg8) = m ((c.tc : Thread Cert.RwkvValuesIdeal.nD Cert.RwkvValuesIdeal.τ).loc Cert.RwkvValuesIdeal.main_arg8)
      ∧ r.2.mem ((c.tc : Thread Cert.RwkvValuesIdeal.nD Cert.RwkvValuesIdeal.τ).loc Cert.RwkvValuesIdeal.main_arg9) = m ((c.tc : Thread Cert.RwkvValuesIdeal.nD Cert.RwkvValuesIdeal.τ).loc Cert.RwkvValuesIdeal.main_arg9))
      ∧ r.2.sem = fun _ => 0)

def quiescent_RwkvValuesRefIdeal [hRwkvValuesRefIdeal : Cert.RwkvValuesRefIdeal.Facts] : Prop :=
  ∀ (m : (ℓ : Loc Cert.RwkvValuesRefIdeal.nD Cert.RwkvValuesRefIdeal.τ Cert.RwkvValuesRefIdeal.sig) → Buf (Elt Ideal) ℓ) (g : Dev Cert.RwkvValuesRefIdeal.nD → PrngReg), Pre_RwkvValuesRefIdeal m →
    θ_run (Cert.RwkvValuesRefIdeal.defs (F := Ideal)) (onTc (τ := Cert.RwkvValuesRefIdeal.τ) (Cert.RwkvValuesRefIdeal.main (F := Ideal))) ⟨m, fun _ => 0, g⟩ (fun r => (∀ c : Dev Cert.RwkvValuesRefIdeal.nD,
      r.2.mem ((c.tc : Thread Cert.RwkvValuesRefIdeal.nD Cert.RwkvValuesRefIdeal.τ).loc Cert.RwkvValuesRefIdeal.main_arg0) = m ((c.tc : Thread Cert.RwkvValuesRefIdeal.nD Cert.RwkvValuesRefIdeal.τ).loc Cert.RwkvValuesRefIdeal.main_arg0)
      ∧ r.2.mem ((c.tc : Thread Cert.RwkvValuesRefIdeal.nD Cert.RwkvValuesRefIdeal.τ).loc Cert.RwkvValuesRefIdeal.main_arg1) = m ((c.tc : Thread Cert.RwkvValuesRefIdeal.nD Cert.RwkvValuesRefIdeal.τ).loc Cert.RwkvValuesRefIdeal.main_arg1)
      ∧ r.2.mem ((c.tc : Thread Cert.RwkvValuesRefIdeal.nD Cert.RwkvValuesRefIdeal.τ).loc Cert.RwkvValuesRefIdeal.main_arg2) = m ((c.tc : Thread Cert.RwkvValuesRefIdeal.nD Cert.RwkvValuesRefIdeal.τ).loc Cert.RwkvValuesRefIdeal.main_arg2)
      ∧ r.2.mem ((c.tc : Thread Cert.RwkvValuesRefIdeal.nD Cert.RwkvValuesRefIdeal.τ).loc Cert.RwkvValuesRefIdeal.main_arg3) = m ((c.tc : Thread Cert.RwkvValuesRefIdeal.nD Cert.RwkvValuesRefIdeal.τ).loc Cert.RwkvValuesRefIdeal.main_arg3)
      ∧ r.2.mem ((c.tc : Thread Cert.RwkvValuesRefIdeal.nD Cert.RwkvValuesRefIdeal.τ).loc Cert.RwkvValuesRefIdeal.main_arg4) = m ((c.tc : Thread Cert.RwkvValuesRefIdeal.nD Cert.RwkvValuesRefIdeal.τ).loc Cert.RwkvValuesRefIdeal.main_arg4)
      ∧ r.2.mem ((c.tc : Thread Cert.RwkvValuesRefIdeal.nD Cert.RwkvValuesRefIdeal.τ).loc Cert.RwkvValuesRefIdeal.main_arg5) = m ((c.tc : Thread Cert.RwkvValuesRefIdeal.nD Cert.RwkvValuesRefIdeal.τ).loc Cert.RwkvValuesRefIdeal.main_arg5)
      ∧ r.2.mem ((c.tc : Thread Cert.RwkvValuesRefIdeal.nD Cert.RwkvValuesRefIdeal.τ).loc Cert.RwkvValuesRefIdeal.main_arg6) = m ((c.tc : Thread Cert.RwkvValuesRefIdeal.nD Cert.RwkvValuesRefIdeal.τ).loc Cert.RwkvValuesRefIdeal.main_arg6)
      ∧ r.2.mem ((c.tc : Thread Cert.RwkvValuesRefIdeal.nD Cert.RwkvValuesRefIdeal.τ).loc Cert.RwkvValuesRefIdeal.main_arg7) = m ((c.tc : Thread Cert.RwkvValuesRefIdeal.nD Cert.RwkvValuesRefIdeal.τ).loc Cert.RwkvValuesRefIdeal.main_arg7)
      ∧ r.2.mem ((c.tc : Thread Cert.RwkvValuesRefIdeal.nD Cert.RwkvValuesRefIdeal.τ).loc Cert.RwkvValuesRefIdeal.main_arg8) = m ((c.tc : Thread Cert.RwkvValuesRefIdeal.nD Cert.RwkvValuesRefIdeal.τ).loc Cert.RwkvValuesRefIdeal.main_arg8)
      ∧ r.2.mem ((c.tc : Thread Cert.RwkvValuesRefIdeal.nD Cert.RwkvValuesRefIdeal.τ).loc Cert.RwkvValuesRefIdeal.main_arg9) = m ((c.tc : Thread Cert.RwkvValuesRefIdeal.nD Cert.RwkvValuesRefIdeal.τ).loc Cert.RwkvValuesRefIdeal.main_arg9))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v21)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v21) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v80) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def preserves_PostOdd_PostOddIdeal : Prop :=
  True

def algebraic_PostOddIdeal_PostOddRefIdeal [hPostOddIdeal : Cert.PostOddIdeal.Facts] [hPostOddRefIdeal : Cert.PostOddRefIdeal.Facts] : Prop :=
  ∀ (m : (ℓ : Loc Cert.PostOddIdeal.nD Cert.PostOddIdeal.τ Cert.PostOddIdeal.sig) → Buf (Elt Ideal) ℓ) (g : Dev Cert.PostOddIdeal.nD → PrngReg)
    (m' : (ℓ : Loc Cert.PostOddRefIdeal.nD Cert.PostOddRefIdeal.τ Cert.PostOddRefIdeal.sig) → Buf (Elt Ideal) ℓ) (g' : Dev Cert.PostOddRefIdeal.nD → PrngReg), Pre_PostOddIdeal m →
    (∀ c : Dev Cert.PostOddIdeal.nD,
      m' ((c.tc : Thread Cert.PostOddRefIdeal.nD Cert.PostOddRefIdeal.τ).loc Cert.PostOddRefIdeal.main_arg0) = m ((c.tc : Thread Cert.PostOddIdeal.nD Cert.PostOddIdeal.τ).loc Cert.PostOddIdeal.main_arg0)
      ∧ m' ((c.tc : Thread Cert.PostOddRefIdeal.nD Cert.PostOddRefIdeal.τ).loc Cert.PostOddRefIdeal.main_arg1) = m ((c.tc : Thread Cert.PostOddIdeal.nD Cert.PostOddIdeal.τ).loc Cert.PostOddIdeal.main_arg1)
      ∧ m' ((c.tc : Thread Cert.PostOddRefIdeal.nD Cert.PostOddRefIdeal.τ).loc Cert.PostOddRefIdeal.main_arg2) = m ((c.tc : Thread Cert.PostOddIdeal.nD Cert.PostOddIdeal.τ).loc Cert.PostOddIdeal.main_arg2)
      ∧ m' ((c.tc : Thread Cert.PostOddRefIdeal.nD Cert.PostOddRefIdeal.τ).loc Cert.PostOddRefIdeal.main_arg3) = m ((c.tc : Thread Cert.PostOddIdeal.nD Cert.PostOddIdeal.τ).loc Cert.PostOddIdeal.main_arg3)
      ∧ m' ((c.tc : Thread Cert.PostOddRefIdeal.nD Cert.PostOddRefIdeal.τ).loc Cert.PostOddRefIdeal.main_arg4) = m ((c.tc : Thread Cert.PostOddIdeal.nD Cert.PostOddIdeal.τ).loc Cert.PostOddIdeal.main_arg4)
      ∧ m' ((c.tc : Thread Cert.PostOddRefIdeal.nD Cert.PostOddRefIdeal.τ).loc Cert.PostOddRefIdeal.main_arg5) = m ((c.tc : Thread Cert.PostOddIdeal.nD Cert.PostOddIdeal.τ).loc Cert.PostOddIdeal.main_arg5)
      ∧ m' ((c.tc : Thread Cert.PostOddRefIdeal.nD Cert.PostOddRefIdeal.τ).loc Cert.PostOddRefIdeal.main_arg6) = m ((c.tc : Thread Cert.PostOddIdeal.nD Cert.PostOddIdeal.τ).loc Cert.PostOddIdeal.main_arg6)
      ∧ m' ((c.tc : Thread Cert.PostOddRefIdeal.nD Cert.PostOddRefIdeal.τ).loc Cert.PostOddRefIdeal.main_arg7) = m ((c.tc : Thread Cert.PostOddIdeal.nD Cert.PostOddIdeal.τ).loc Cert.PostOddIdeal.main_arg7)
      ∧ m' ((c.tc : Thread Cert.PostOddRefIdeal.nD Cert.PostOddRefIdeal.τ).loc Cert.PostOddRefIdeal.main_arg8) = m ((c.tc : Thread Cert.PostOddIdeal.nD Cert.PostOddIdeal.τ).loc Cert.PostOddIdeal.main_arg8)
      ∧ m' ((c.tc : Thread Cert.PostOddRefIdeal.nD Cert.PostOddRefIdeal.τ).loc Cert.PostOddRefIdeal.main_arg9) = m ((c.tc : Thread Cert.PostOddIdeal.nD Cert.PostOddIdeal.τ).loc Cert.PostOddIdeal.main_arg9)) →
    ∃ (v0 : (c : Dev Cert.PostOddIdeal.nD) → Buf (Elt Ideal) ((c.tc : Thread Cert.PostOddIdeal.nD Cert.PostOddIdeal.τ).loc Cert.PostOddIdeal.main_v8)),
      θ_run (Cert.PostOddIdeal.defs (F := Ideal)) (onTc (τ := Cert.PostOddIdeal.τ) (Cert.PostOddIdeal.main (F := Ideal))) ⟨m, fun _ => 0, g⟩ (fun r => ∀ c : Dev Cert.PostOddIdeal.nD,
          r.2.mem ((c.tc : Thread Cert.PostOddIdeal.nD Cert.PostOddIdeal.τ).loc Cert.PostOddIdeal.main_v8) = v0 c
          ∧ r.2.mem ((c.tc : Thread Cert.PostOddIdeal.nD Cert.PostOddIdeal.τ).loc Cert.PostOddIdeal.main_arg0) = m ((c.tc : Thread Cert.PostOddIdeal.nD Cert.PostOddIdeal.τ).loc Cert.PostOddIdeal.main_arg0)
          ∧ r.2.mem ((c.tc : Thread Cert.PostOddIdeal.nD Cert.PostOddIdeal.τ).loc Cert.PostOddIdeal.main_arg1) = m ((c.tc : Thread Cert.PostOddIdeal.nD Cert.PostOddIdeal.τ).loc Cert.PostOddIdeal.main_arg1)
          ∧ r.2.mem ((c.tc : Thread Cert.PostOddIdeal.nD Cert.PostOddIdeal.τ).loc Cert.PostOddIdeal.main_arg2) = m ((c.tc : Thread Cert.PostOddIdeal.nD Cert.PostOddIdeal.τ).loc Cert.PostOddIdeal.main_arg2)
          ∧ r.2.mem ((c.tc : Thread Cert.PostOddIdeal.nD Cert.PostOddIdeal.τ).loc Cert.PostOddIdeal.main_arg3) = m ((c.tc : Thread Cert.PostOddIdeal.nD Cert.PostOddIdeal.τ).loc Cert.PostOddIdeal.main_arg3)
          ∧ r.2.mem ((c.tc : Thread Cert.PostOddIdeal.nD Cert.PostOddIdeal.τ).loc Cert.PostOddIdeal.main_arg4) = m ((c.tc : Thread Cert.PostOddIdeal.nD Cert.PostOddIdeal.τ).loc Cert.PostOddIdeal.main_arg4)
          ∧ r.2.mem ((c.tc : Thread Cert.PostOddIdeal.nD Cert.PostOddIdeal.τ).loc Cert.PostOddIdeal.main_arg5) = m ((c.tc : Thread Cert.PostOddIdeal.nD Cert.PostOddIdeal.τ).loc Cert.PostOddIdeal.main_arg5)
          ∧ r.2.mem ((c.tc : Thread Cert.PostOddIdeal.nD Cert.PostOddIdeal.τ).loc Cert.PostOddIdeal.main_arg6) = m ((c.tc : Thread Cert.PostOddIdeal.nD Cert.PostOddIdeal.τ).loc Cert.PostOddIdeal.main_arg6)
          ∧ r.2.mem ((c.tc : Thread Cert.PostOddIdeal.nD Cert.PostOddIdeal.τ).loc Cert.PostOddIdeal.main_arg7) = m ((c.tc : Thread Cert.PostOddIdeal.nD Cert.PostOddIdeal.τ).loc Cert.PostOddIdeal.main_arg7)
          ∧ r.2.mem ((c.tc : Thread Cert.PostOddIdeal.nD Cert.PostOddIdeal.τ).loc Cert.PostOddIdeal.main_arg8) = m ((c.tc : Thread Cert.PostOddIdeal.nD Cert.PostOddIdeal.τ).loc Cert.PostOddIdeal.main_arg8)
          ∧ r.2.mem ((c.tc : Thread Cert.PostOddIdeal.nD Cert.PostOddIdeal.τ).loc Cert.PostOddIdeal.main_arg9) = m ((c.tc : Thread Cert.PostOddIdeal.nD Cert.PostOddIdeal.τ).loc Cert.PostOddIdeal.main_arg9))
      ∧ θ_run (Cert.PostOddRefIdeal.defs (F := Ideal)) (onTc (τ := Cert.PostOddRefIdeal.τ) (Cert.PostOddRefIdeal.main (F := Ideal))) ⟨m', fun _ => 0, g'⟩ (fun r => ∀ c : Dev Cert.PostOddRefIdeal.nD,
          r.2.mem ((c.tc : Thread Cert.PostOddRefIdeal.nD Cert.PostOddRefIdeal.τ).loc Cert.PostOddRefIdeal.main_v46) = v0 c
          ∧ r.2.mem ((c.tc : Thread Cert.PostOddRefIdeal.nD Cert.PostOddRefIdeal.τ).loc Cert.PostOddRefIdeal.main_arg0) = m' ((c.tc : Thread Cert.PostOddRefIdeal.nD Cert.PostOddRefIdeal.τ).loc Cert.PostOddRefIdeal.main_arg0)
          ∧ r.2.mem ((c.tc : Thread Cert.PostOddRefIdeal.nD Cert.PostOddRefIdeal.τ).loc Cert.PostOddRefIdeal.main_arg1) = m' ((c.tc : Thread Cert.PostOddRefIdeal.nD Cert.PostOddRefIdeal.τ).loc Cert.PostOddRefIdeal.main_arg1)
          ∧ r.2.mem ((c.tc : Thread Cert.PostOddRefIdeal.nD Cert.PostOddRefIdeal.τ).loc Cert.PostOddRefIdeal.main_arg2) = m' ((c.tc : Thread Cert.PostOddRefIdeal.nD Cert.PostOddRefIdeal.τ).loc Cert.PostOddRefIdeal.main_arg2)
          ∧ r.2.mem ((c.tc : Thread Cert.PostOddRefIdeal.nD Cert.PostOddRefIdeal.τ).loc Cert.PostOddRefIdeal.main_arg3) = m' ((c.tc : Thread Cert.PostOddRefIdeal.nD Cert.PostOddRefIdeal.τ).loc Cert.PostOddRefIdeal.main_arg3)
          ∧ r.2.mem ((c.tc : Thread Cert.PostOddRefIdeal.nD Cert.PostOddRefIdeal.τ).loc Cert.PostOddRefIdeal.main_arg4) = m' ((c.tc : Thread Cert.PostOddRefIdeal.nD Cert.PostOddRefIdeal.τ).loc Cert.PostOddRefIdeal.main_arg4)
          ∧ r.2.mem ((c.tc : Thread Cert.PostOddRefIdeal.nD Cert.PostOddRefIdeal.τ).loc Cert.PostOddRefIdeal.main_arg5) = m' ((c.tc : Thread Cert.PostOddRefIdeal.nD Cert.PostOddRefIdeal.τ).loc Cert.PostOddRefIdeal.main_arg5)
          ∧ r.2.mem ((c.tc : Thread Cert.PostOddRefIdeal.nD Cert.PostOddRefIdeal.τ).loc Cert.PostOddRefIdeal.main_arg6) = m' ((c.tc : Thread Cert.PostOddRefIdeal.nD Cert.PostOddRefIdeal.τ).loc Cert.PostOddRefIdeal.main_arg6)
          ∧ r.2.mem ((c.tc : Thread Cert.PostOddRefIdeal.nD Cert.PostOddRefIdeal.τ).loc Cert.PostOddRefIdeal.main_arg7) = m' ((c.tc : Thread Cert.PostOddRefIdeal.nD Cert.PostOddRefIdeal.τ).loc Cert.PostOddRefIdeal.main_arg7)
          ∧ r.2.mem ((c.tc : Thread Cert.PostOddRefIdeal.nD Cert.PostOddRefIdeal.τ).loc Cert.PostOddRefIdeal.main_arg8) = m' ((c.tc : Thread Cert.PostOddRefIdeal.nD Cert.PostOddRefIdeal.τ).loc Cert.PostOddRefIdeal.main_arg8)
          ∧ r.2.mem ((c.tc : Thread Cert.PostOddRefIdeal.nD Cert.PostOddRefIdeal.τ).loc Cert.PostOddRefIdeal.main_arg9) = m' ((c.tc : Thread Cert.PostOddRefIdeal.nD Cert.PostOddRefIdeal.τ).loc Cert.PostOddRefIdeal.main_arg9))

def preserves_PostEven_PostEvenIdeal : Prop :=
  True

def algebraic_PostEvenIdeal_PostEvenRefIdeal [hPostEvenIdeal : Cert.PostEvenIdeal.Facts] [hPostEvenRefIdeal : Cert.PostEvenRefIdeal.Facts] : Prop :=
  ∀ (m : (ℓ : Loc Cert.PostEvenIdeal.nD Cert.PostEvenIdeal.τ Cert.PostEvenIdeal.sig) → Buf (Elt Ideal) ℓ) (g : Dev Cert.PostEvenIdeal.nD → PrngReg)
    (m' : (ℓ : Loc Cert.PostEvenRefIdeal.nD Cert.PostEvenRefIdeal.τ Cert.PostEvenRefIdeal.sig) → Buf (Elt Ideal) ℓ) (g' : Dev Cert.PostEvenRefIdeal.nD → PrngReg), Pre_PostEvenIdeal m →
    (∀ c : Dev Cert.PostEvenIdeal.nD,
      m' ((c.tc : Thread Cert.PostEvenRefIdeal.nD Cert.PostEvenRefIdeal.τ).loc Cert.PostEvenRefIdeal.main_arg0) = m ((c.tc : Thread Cert.PostEvenIdeal.nD Cert.PostEvenIdeal.τ).loc Cert.PostEvenIdeal.main_arg0)
      ∧ m' ((c.tc : Thread Cert.PostEvenRefIdeal.nD Cert.PostEvenRefIdeal.τ).loc Cert.PostEvenRefIdeal.main_arg1) = m ((c.tc : Thread Cert.PostEvenIdeal.nD Cert.PostEvenIdeal.τ).loc Cert.PostEvenIdeal.main_arg1)
      ∧ m' ((c.tc : Thread Cert.PostEvenRefIdeal.nD Cert.PostEvenRefIdeal.τ).loc Cert.PostEvenRefIdeal.main_arg2) = m ((c.tc : Thread Cert.PostEvenIdeal.nD Cert.PostEvenIdeal.τ).loc Cert.PostEvenIdeal.main_arg2)
      ∧ m' ((c.tc : Thread Cert.PostEvenRefIdeal.nD Cert.PostEvenRefIdeal.τ).loc Cert.PostEvenRefIdeal.main_arg3) = m ((c.tc : Thread Cert.PostEvenIdeal.nD Cert.PostEvenIdeal.τ).loc Cert.PostEvenIdeal.main_arg3)
      ∧ m' ((c.tc : Thread Cert.PostEvenRefIdeal.nD Cert.PostEvenRefIdeal.τ).loc Cert.PostEvenRefIdeal.main_arg4) = m ((c.tc : Thread Cert.PostEvenIdeal.nD Cert.PostEvenIdeal.τ).loc Cert.PostEvenIdeal.main_arg4)
      ∧ m' ((c.tc : Thread Cert.PostEvenRefIdeal.nD Cert.PostEvenRefIdeal.τ).loc Cert.PostEvenRefIdeal.main_arg5) = m ((c.tc : Thread Cert.PostEvenIdeal.nD Cert.PostEvenIdeal.τ).loc Cert.PostEvenIdeal.main_arg5)
      ∧ m' ((c.tc : Thread Cert.PostEvenRefIdeal.nD Cert.PostEvenRefIdeal.τ).loc Cert.PostEvenRefIdeal.main_arg6) = m ((c.tc : Thread Cert.PostEvenIdeal.nD Cert.PostEvenIdeal.τ).loc Cert.PostEvenIdeal.main_arg6)
      ∧ m' ((c.tc : Thread Cert.PostEvenRefIdeal.nD Cert.PostEvenRefIdeal.τ).loc Cert.PostEvenRefIdeal.main_arg7) = m ((c.tc : Thread Cert.PostEvenIdeal.nD Cert.PostEvenIdeal.τ).loc Cert.PostEvenIdeal.main_arg7)
      ∧ m' ((c.tc : Thread Cert.PostEvenRefIdeal.nD Cert.PostEvenRefIdeal.τ).loc Cert.PostEvenRefIdeal.main_arg8) = m ((c.tc : Thread Cert.PostEvenIdeal.nD Cert.PostEvenIdeal.τ).loc Cert.PostEvenIdeal.main_arg8)
      ∧ m' ((c.tc : Thread Cert.PostEvenRefIdeal.nD Cert.PostEvenRefIdeal.τ).loc Cert.PostEvenRefIdeal.main_arg9) = m ((c.tc : Thread Cert.PostEvenIdeal.nD Cert.PostEvenIdeal.τ).loc Cert.PostEvenIdeal.main_arg9)
      ∧ m' ((c.tc : Thread Cert.PostEvenRefIdeal.nD Cert.PostEvenRefIdeal.τ).loc Cert.PostEvenRefIdeal.main_arg10) = m ((c.tc : Thread Cert.PostEvenIdeal.nD Cert.PostEvenIdeal.τ).loc Cert.PostEvenIdeal.main_arg10)) →
    ∃ (v0 : (c : Dev Cert.PostEvenIdeal.nD) → Buf (Elt Ideal) ((c.tc : Thread Cert.PostEvenIdeal.nD Cert.PostEvenIdeal.τ).loc Cert.PostEvenIdeal.main_v8)),
      θ_run (Cert.PostEvenIdeal.defs (F := Ideal)) (onTc (τ := Cert.PostEvenIdeal.τ) (Cert.PostEvenIdeal.main (F := Ideal))) ⟨m, fun _ => 0, g⟩ (fun r => ∀ c : Dev Cert.PostEvenIdeal.nD,
          r.2.mem ((c.tc : Thread Cert.PostEvenIdeal.nD Cert.PostEvenIdeal.τ).loc Cert.PostEvenIdeal.main_v8) = v0 c
          ∧ r.2.mem ((c.tc : Thread Cert.PostEvenIdeal.nD Cert.PostEvenIdeal.τ).loc Cert.PostEvenIdeal.main_arg0) = m ((c.tc : Thread Cert.PostEvenIdeal.nD Cert.PostEvenIdeal.τ).loc Cert.PostEvenIdeal.main_arg0)
          ∧ r.2.mem ((c.tc : Thread Cert.PostEvenIdeal.nD Cert.PostEvenIdeal.τ).loc Cert.PostEvenIdeal.main_arg1) = m ((c.tc : Thread Cert.PostEvenIdeal.nD Cert.PostEvenIdeal.τ).loc Cert.PostEvenIdeal.main_arg1)
          ∧ r.2.mem ((c.tc : Thread Cert.PostEvenIdeal.nD Cert.PostEvenIdeal.τ).loc Cert.PostEvenIdeal.main_arg2) = m ((c.tc : Thread Cert.PostEvenIdeal.nD Cert.PostEvenIdeal.τ).loc Cert.PostEvenIdeal.main_arg2)
          ∧ r.2.mem ((c.tc : Thread Cert.PostEvenIdeal.nD Cert.PostEvenIdeal.τ).loc Cert.PostEvenIdeal.main_arg3) = m ((c.tc : Thread Cert.PostEvenIdeal.nD Cert.PostEvenIdeal.τ).loc Cert.PostEvenIdeal.main_arg3)
          ∧ r.2.mem ((c.tc : Thread Cert.PostEvenIdeal.nD Cert.PostEvenIdeal.τ).loc Cert.PostEvenIdeal.main_arg4) = m ((c.tc : Thread Cert.PostEvenIdeal.nD Cert.PostEvenIdeal.τ).loc Cert.PostEvenIdeal.main_arg4)
          ∧ r.2.mem ((c.tc : Thread Cert.PostEvenIdeal.nD Cert.PostEvenIdeal.τ).loc Cert.PostEvenIdeal.main_arg5) = m ((c.tc : Thread Cert.PostEvenIdeal.nD Cert.PostEvenIdeal.τ).loc Cert.PostEvenIdeal.main_arg5)
          ∧ r.2.mem ((c.tc : Thread Cert.PostEvenIdeal.nD Cert.PostEvenIdeal.τ).loc Cert.PostEvenIdeal.main_arg6) = m ((c.tc : Thread Cert.PostEvenIdeal.nD Cert.PostEvenIdeal.τ).loc Cert.PostEvenIdeal.main_arg6)
          ∧ r.2.mem ((c.tc : Thread Cert.PostEvenIdeal.nD Cert.PostEvenIdeal.τ).loc Cert.PostEvenIdeal.main_arg7) = m ((c.tc : Thread Cert.PostEvenIdeal.nD Cert.PostEvenIdeal.τ).loc Cert.PostEvenIdeal.main_arg7)
          ∧ r.2.mem ((c.tc : Thread Cert.PostEvenIdeal.nD Cert.PostEvenIdeal.τ).loc Cert.PostEvenIdeal.main_arg8) = m ((c.tc : Thread Cert.PostEvenIdeal.nD Cert.PostEvenIdeal.τ).loc Cert.PostEvenIdeal.main_arg8)
          ∧ r.2.mem ((c.tc : Thread Cert.PostEvenIdeal.nD Cert.PostEvenIdeal.τ).loc Cert.PostEvenIdeal.main_arg9) = m ((c.tc : Thread Cert.PostEvenIdeal.nD Cert.PostEvenIdeal.τ).loc Cert.PostEvenIdeal.main_arg9)
          ∧ r.2.mem ((c.tc : Thread Cert.PostEvenIdeal.nD Cert.PostEvenIdeal.τ).loc Cert.PostEvenIdeal.main_arg10) = m ((c.tc : Thread Cert.PostEvenIdeal.nD Cert.PostEvenIdeal.τ).loc Cert.PostEvenIdeal.main_arg10))
      ∧ θ_run (Cert.PostEvenRefIdeal.defs (F := Ideal)) (onTc (τ := Cert.PostEvenRefIdeal.τ) (Cert.PostEvenRefIdeal.main (F := Ideal))) ⟨m', fun _ => 0, g'⟩ (fun r => ∀ c : Dev Cert.PostEvenRefIdeal.nD,
          r.2.mem ((c.tc : Thread Cert.PostEvenRefIdeal.nD Cert.PostEvenRefIdeal.τ).loc Cert.PostEvenRefIdeal.main_v47) = v0 c
          ∧ r.2.mem ((c.tc : Thread Cert.PostEvenRefIdeal.nD Cert.PostEvenRefIdeal.τ).loc Cert.PostEvenRefIdeal.main_arg0) = m' ((c.tc : Thread Cert.PostEvenRefIdeal.nD Cert.PostEvenRefIdeal.τ).loc Cert.PostEvenRefIdeal.main_arg0)
          ∧ r.2.mem ((c.tc : Thread Cert.PostEvenRefIdeal.nD Cert.PostEvenRefIdeal.τ).loc Cert.PostEvenRefIdeal.main_arg1) = m' ((c.tc : Thread Cert.PostEvenRefIdeal.nD Cert.PostEvenRefIdeal.τ).loc Cert.PostEvenRefIdeal.main_arg1)
          ∧ r.2.mem ((c.tc : Thread Cert.PostEvenRefIdeal.nD Cert.PostEvenRefIdeal.τ).loc Cert.PostEvenRefIdeal.main_arg2) = m' ((c.tc : Thread Cert.PostEvenRefIdeal.nD Cert.PostEvenRefIdeal.τ).loc Cert.PostEvenRefIdeal.main_arg2)
          ∧ r.2.mem ((c.tc : Thread Cert.PostEvenRefIdeal.nD Cert.PostEvenRefIdeal.τ).loc Cert.PostEvenRefIdeal.main_arg3) = m' ((c.tc : Thread Cert.PostEvenRefIdeal.nD Cert.PostEvenRefIdeal.τ).loc Cert.PostEvenRefIdeal.main_arg3)
          ∧ r.2.mem ((c.tc : Thread Cert.PostEvenRefIdeal.nD Cert.PostEvenRefIdeal.τ).loc Cert.PostEvenRefIdeal.main_arg4) = m' ((c.tc : Thread Cert.PostEvenRefIdeal.nD Cert.PostEvenRefIdeal.τ).loc Cert.PostEvenRefIdeal.main_arg4)
          ∧ r.2.mem ((c.tc : Thread Cert.PostEvenRefIdeal.nD Cert.PostEvenRefIdeal.τ).loc Cert.PostEvenRefIdeal.main_arg5) = m' ((c.tc : Thread Cert.PostEvenRefIdeal.nD Cert.PostEvenRefIdeal.τ).loc Cert.PostEvenRefIdeal.main_arg5)
          ∧ r.2.mem ((c.tc : Thread Cert.PostEvenRefIdeal.nD Cert.PostEvenRefIdeal.τ).loc Cert.PostEvenRefIdeal.main_arg6) = m' ((c.tc : Thread Cert.PostEvenRefIdeal.nD Cert.PostEvenRefIdeal.τ).loc Cert.PostEvenRefIdeal.main_arg6)
          ∧ r.2.mem ((c.tc : Thread Cert.PostEvenRefIdeal.nD Cert.PostEvenRefIdeal.τ).loc Cert.PostEvenRefIdeal.main_arg7) = m' ((c.tc : Thread Cert.PostEvenRefIdeal.nD Cert.PostEvenRefIdeal.τ).loc Cert.PostEvenRefIdeal.main_arg7)
          ∧ r.2.mem ((c.tc : Thread Cert.PostEvenRefIdeal.nD Cert.PostEvenRefIdeal.τ).loc Cert.PostEvenRefIdeal.main_arg8) = m' ((c.tc : Thread Cert.PostEvenRefIdeal.nD Cert.PostEvenRefIdeal.τ).loc Cert.PostEvenRefIdeal.main_arg8)
          ∧ r.2.mem ((c.tc : Thread Cert.PostEvenRefIdeal.nD Cert.PostEvenRefIdeal.τ).loc Cert.PostEvenRefIdeal.main_arg9) = m' ((c.tc : Thread Cert.PostEvenRefIdeal.nD Cert.PostEvenRefIdeal.τ).loc Cert.PostEvenRefIdeal.main_arg9)
          ∧ r.2.mem ((c.tc : Thread Cert.PostEvenRefIdeal.nD Cert.PostEvenRefIdeal.τ).loc Cert.PostEvenRefIdeal.main_arg10) = m' ((c.tc : Thread Cert.PostEvenRefIdeal.nD Cert.PostEvenRefIdeal.τ).loc Cert.PostEvenRefIdeal.main_arg10))

def preserves_Qkv_QkvIdeal : Prop :=
  True

def algebraic_QkvIdeal_QkvRefIdeal_pre_finite_qkv [hQkvIdeal : Cert.QkvIdeal.Facts] [hQkvRefIdeal : Cert.QkvRefIdeal.Facts] [hPre_finite_qkv : Cert.Pre_finite_qkv.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal_finite_qkv m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v20)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v20) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v57) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)
      ∧ m' ((c.tc : Thread Cert.EvenInRefIdeal.nD Cert.EvenInRefIdeal.τ).loc Cert.EvenInRefIdeal.main_arg3) = m ((c.tc : Thread Cert.EvenInIdeal.nD Cert.EvenInIdeal.τ).loc Cert.EvenInIdeal.main_arg3)
      ∧ m' ((c.tc : Thread Cert.EvenInRefIdeal.nD Cert.EvenInRefIdeal.τ).loc Cert.EvenInRefIdeal.main_arg4) = m ((c.tc : Thread Cert.EvenInIdeal.nD Cert.EvenInIdeal.τ).loc Cert.EvenInIdeal.main_arg4)
      ∧ m' ((c.tc : Thread Cert.EvenInRefIdeal.nD Cert.EvenInRefIdeal.τ).loc Cert.EvenInRefIdeal.main_arg5) = m ((c.tc : Thread Cert.EvenInIdeal.nD Cert.EvenInIdeal.τ).loc Cert.EvenInIdeal.main_arg5)
      ∧ m' ((c.tc : Thread Cert.EvenInRefIdeal.nD Cert.EvenInRefIdeal.τ).loc Cert.EvenInRefIdeal.main_arg6) = m ((c.tc : Thread Cert.EvenInIdeal.nD Cert.EvenInIdeal.τ).loc Cert.EvenInIdeal.main_arg6)
      ∧ m' ((c.tc : Thread Cert.EvenInRefIdeal.nD Cert.EvenInRefIdeal.τ).loc Cert.EvenInRefIdeal.main_arg7) = m ((c.tc : Thread Cert.EvenInIdeal.nD Cert.EvenInIdeal.τ).loc Cert.EvenInIdeal.main_arg7)
      ∧ m' ((c.tc : Thread Cert.EvenInRefIdeal.nD Cert.EvenInRefIdeal.τ).loc Cert.EvenInRefIdeal.main_arg8) = m ((c.tc : Thread Cert.EvenInIdeal.nD Cert.EvenInIdeal.τ).loc Cert.EvenInIdeal.main_arg8)
      ∧ m' ((c.tc : Thread Cert.EvenInRefIdeal.nD Cert.EvenInRefIdeal.τ).loc Cert.EvenInRefIdeal.main_arg9) = m ((c.tc : Thread Cert.EvenInIdeal.nD Cert.EvenInIdeal.τ).loc Cert.EvenInIdeal.main_arg9)
      ∧ m' ((c.tc : Thread Cert.EvenInRefIdeal.nD Cert.EvenInRefIdeal.τ).loc Cert.EvenInRefIdeal.main_arg10) = m ((c.tc : Thread Cert.EvenInIdeal.nD Cert.EvenInIdeal.τ).loc Cert.EvenInIdeal.main_arg10)
      ∧ m' ((c.tc : Thread Cert.EvenInRefIdeal.nD Cert.EvenInRefIdeal.τ).loc Cert.EvenInRefIdeal.main_arg11) = m ((c.tc : Thread Cert.EvenInIdeal.nD Cert.EvenInIdeal.τ).loc Cert.EvenInIdeal.main_arg11)
      ∧ m' ((c.tc : Thread Cert.EvenInRefIdeal.nD Cert.EvenInRefIdeal.τ).loc Cert.EvenInRefIdeal.main_arg12) = m ((c.tc : Thread Cert.EvenInIdeal.nD Cert.EvenInIdeal.τ).loc Cert.EvenInIdeal.main_arg12)
      ∧ m' ((c.tc : Thread Cert.EvenInRefIdeal.nD Cert.EvenInRefIdeal.τ).loc Cert.EvenInRefIdeal.main_arg13) = m ((c.tc : Thread Cert.EvenInIdeal.nD Cert.EvenInIdeal.τ).loc Cert.EvenInIdeal.main_arg13)
      ∧ m' ((c.tc : Thread Cert.EvenInRefIdeal.nD Cert.EvenInRefIdeal.τ).loc Cert.EvenInRefIdeal.main_arg14) = m ((c.tc : Thread Cert.EvenInIdeal.nD Cert.EvenInIdeal.τ).loc Cert.EvenInIdeal.main_arg14)
      ∧ m' ((c.tc : Thread Cert.EvenInRefIdeal.nD Cert.EvenInRefIdeal.τ).loc Cert.EvenInRefIdeal.main_arg15) = m ((c.tc : Thread Cert.EvenInIdeal.nD Cert.EvenInIdeal.τ).loc Cert.EvenInIdeal.main_arg15)) →
    ∃ (v0 : (c : Dev Cert.EvenInIdeal.nD) → Buf (Elt Ideal) ((c.tc : Thread Cert.EvenInIdeal.nD Cert.EvenInIdeal.τ).loc Cert.EvenInIdeal.main_v41_0)) (v1 : (c : Dev Cert.EvenInIdeal.nD) → Buf (Elt Ideal) ((c.tc : Thread Cert.EvenInIdeal.nD Cert.EvenInIdeal.τ).loc Cert.EvenInIdeal.main_v41_1)) (v2 : (c : Dev Cert.EvenInIdeal.nD) → Buf (Elt Ideal) ((c.tc : Thread Cert.EvenInIdeal.nD Cert.EvenInIdeal.τ).loc Cert.EvenInIdeal.main_v41_2)) (v3 : (c : Dev Cert.EvenInIdeal.nD) → Buf (Elt Ideal) ((c.tc : Thread Cert.EvenInIdeal.nD Cert.EvenInIdeal.τ).loc Cert.EvenInIdeal.main_v41_3)) (v4 : (c : Dev Cert.EvenInIdeal.nD) → Buf (Elt Ideal) ((c.tc : Thread Cert.EvenInIdeal.nD Cert.EvenInIdeal.τ).loc Cert.EvenInIdeal.main_v41_4)) (v5 : (c : Dev Cert.EvenInIdeal.nD) → Buf (Elt Ideal) ((c.tc : Thread Cert.EvenInIdeal.nD Cert.EvenInIdeal.τ).loc Cert.EvenInIdeal.main_v41_5)) (v6 : (c : Dev Cert.EvenInIdeal.nD) → Buf (Elt Ideal) ((c.tc : Thread Cert.EvenInIdeal.nD Cert.EvenInIdeal.τ).loc Cert.EvenInIdeal.main_v41_6)) (v7 : (c : Dev Cert.EvenInIdeal.nD) → Buf (Elt Ideal) ((c.tc : Thread Cert.EvenInIdeal.nD Cert.EvenInIdeal.τ).loc Cert.EvenInIdeal.main_v41_7)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v41_0) = v0 c
          ∧ r.2.mem ((c.tc : Thread Cert.EvenInIdeal.nD Cert.EvenInIdeal.τ).loc Cert.EvenInIdeal.main_v41_1) = v1 c
          ∧ r.2.mem ((c.tc : Thread Cert.EvenInIdeal.nD Cert.EvenInIdeal.τ).loc Cert.EvenInIdeal.main_v41_2) = v2 c
          ∧ r.2.mem ((c.tc : Thread Cert.EvenInIdeal.nD Cert.EvenInIdeal.τ).loc Cert.EvenInIdeal.main_v41_3) = v3 c
          ∧ r.2.mem ((c.tc : Thread Cert.EvenInIdeal.nD Cert.EvenInIdeal.τ).loc Cert.EvenInIdeal.main_v41_4) = v4 c
          ∧ r.2.mem ((c.tc : Thread Cert.EvenInIdeal.nD Cert.EvenInIdeal.τ).loc Cert.EvenInIdeal.main_v41_5) = v5 c
          ∧ r.2.mem ((c.tc : Thread Cert.EvenInIdeal.nD Cert.EvenInIdeal.τ).loc Cert.EvenInIdeal.main_v41_6) = v6 c
          ∧ r.2.mem ((c.tc : Thread Cert.EvenInIdeal.nD Cert.EvenInIdeal.τ).loc Cert.EvenInIdeal.main_v41_7) = v7 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
          ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
          ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4)
          ∧ r.2.mem ((c.tc : Thread Cert.EvenInIdeal.nD Cert.EvenInIdeal.τ).loc Cert.EvenInIdeal.main_arg5) = m ((c.tc : Thread Cert.EvenInIdeal.nD Cert.EvenInIdeal.τ).loc Cert.EvenInIdeal.main_arg5)
          ∧ r.2.mem ((c.tc : Thread Cert.EvenInIdeal.nD Cert.EvenInIdeal.τ).loc Cert.EvenInIdeal.main_arg6) = m ((c.tc : Thread Cert.EvenInIdeal.nD Cert.EvenInIdeal.τ).loc Cert.EvenInIdeal.main_arg6)
          ∧ r.2.mem ((c.tc : Thread Cert.EvenInIdeal.nD Cert.EvenInIdeal.τ).loc Cert.EvenInIdeal.main_arg7) = m ((c.tc : Thread Cert.EvenInIdeal.nD Cert.EvenInIdeal.τ).loc Cert.EvenInIdeal.main_arg7)
          ∧ r.2.mem ((c.tc : Thread Cert.EvenInIdeal.nD Cert.EvenInIdeal.τ).loc Cert.EvenInIdeal.main_arg8) = m ((c.tc : Thread Cert.EvenInIdeal.nD Cert.EvenInIdeal.τ).loc Cert.EvenInIdeal.main_arg8)
          ∧ r.2.mem ((c.tc : Thread Cert.EvenInIdeal.nD Cert.EvenInIdeal.τ).loc Cert.EvenInIdeal.main_arg9) = m ((c.tc : Thread Cert.EvenInIdeal.nD Cert.EvenInIdeal.τ).loc Cert.EvenInIdeal.main_arg9)
          ∧ r.2.mem ((c.tc : Thread Cert.EvenInIdeal.nD Cert.EvenInIdeal.τ).loc Cert.EvenInIdeal.main_arg10) = m ((c.tc : Thread Cert.EvenInIdeal.nD Cert.EvenInIdeal.τ).loc Cert.EvenInIdeal.main_arg10)
          ∧ r.2.mem ((c.tc : Thread Cert.EvenInIdeal.nD Cert.EvenInIdeal.τ).loc Cert.EvenInIdeal.main_arg11) = m ((c.tc : Thread Cert.EvenInIdeal.nD Cert.EvenInIdeal.τ).loc Cert.EvenInIdeal.main_arg11)
          ∧ r.2.mem ((c.tc : Thread Cert.EvenInIdeal.nD Cert.EvenInIdeal.τ).loc Cert.EvenInIdeal.main_arg12) = m ((c.tc : Thread Cert.EvenInIdeal.nD Cert.EvenInIdeal.τ).loc Cert.EvenInIdeal.main_arg12)
          ∧ r.2.mem ((c.tc : Thread Cert.EvenInIdeal.nD Cert.EvenInIdeal.τ).loc Cert.EvenInIdeal.main_arg13) = m ((c.tc : Thread Cert.EvenInIdeal.nD Cert.EvenInIdeal.τ).loc Cert.EvenInIdeal.main_arg13)
          ∧ r.2.mem ((c.tc : Thread Cert.EvenInIdeal.nD Cert.EvenInIdeal.τ).loc Cert.EvenInIdeal.main_arg14) = m ((c.tc : Thread Cert.EvenInIdeal.nD Cert.EvenInIdeal.τ).loc Cert.EvenInIdeal.main_arg14)
          ∧ r.2.mem ((c.tc : Thread Cert.EvenInIdeal.nD Cert.EvenInIdeal.τ).loc Cert.EvenInIdeal.main_arg15) = m ((c.tc : Thread Cert.EvenInIdeal.nD Cert.EvenInIdeal.τ).loc Cert.EvenInIdeal.main_arg15))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v87) = v0 c
          ∧ r.2.mem ((c.tc : Thread Cert.EvenInRefIdeal.nD Cert.EvenInRefIdeal.τ).loc Cert.EvenInRefIdeal.main_v88) = v1 c
          ∧ r.2.mem ((c.tc : Thread Cert.EvenInRefIdeal.nD Cert.EvenInRefIdeal.τ).loc Cert.EvenInRefIdeal.main_v89) = v2 c
          ∧ r.2.mem ((c.tc : Thread Cert.EvenInRefIdeal.nD Cert.EvenInRefIdeal.τ).loc Cert.EvenInRefIdeal.main_v86) = v3 c
          ∧ r.2.mem ((c.tc : Thread Cert.EvenInRefIdeal.nD Cert.EvenInRefIdeal.τ).loc Cert.EvenInRefIdeal.main_v54) = v4 c
          ∧ r.2.mem ((c.tc : Thread Cert.EvenInRefIdeal.nD Cert.EvenInRefIdeal.τ).loc Cert.EvenInRefIdeal.main_v65) = v5 c
          ∧ r.2.mem ((c.tc : Thread Cert.EvenInRefIdeal.nD Cert.EvenInRefIdeal.τ).loc Cert.EvenInRefIdeal.main_v73) = v6 c
          ∧ r.2.mem ((c.tc : Thread Cert.EvenInRefIdeal.nD Cert.EvenInRefIdeal.τ).loc Cert.EvenInRefIdeal.main_v84) = v7 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2)
          ∧ r.2.mem ((c.tc : Thread Cert.EvenInRefIdeal.nD Cert.EvenInRefIdeal.τ).loc Cert.EvenInRefIdeal.main_arg3) = m' ((c.tc : Thread Cert.EvenInRefIdeal.nD Cert.EvenInRefIdeal.τ).loc Cert.EvenInRefIdeal.main_arg3)
          ∧ r.2.mem ((c.tc : Thread Cert.EvenInRefIdeal.nD Cert.EvenInRefIdeal.τ).loc Cert.EvenInRefIdeal.main_arg4) = m' ((c.tc : Thread Cert.EvenInRefIdeal.nD Cert.EvenInRefIdeal.τ).loc Cert.EvenInRefIdeal.main_arg4)
          ∧ r.2.mem ((c.tc : Thread Cert.EvenInRefIdeal.nD Cert.EvenInRefIdeal.τ).loc Cert.EvenInRefIdeal.main_arg5) = m' ((c.tc : Thread Cert.EvenInRefIdeal.nD Cert.EvenInRefIdeal.τ).loc Cert.EvenInRefIdeal.main_arg5)
          ∧ r.2.mem ((c.tc : Thread Cert.EvenInRefIdeal.nD Cert.EvenInRefIdeal.τ).loc Cert.EvenInRefIdeal.main_arg6) = m' ((c.tc : Thread Cert.EvenInRefIdeal.nD Cert.EvenInRefIdeal.τ).loc Cert.EvenInRefIdeal.main_arg6)
          ∧ r.2.mem ((c.tc : Thread Cert.EvenInRefIdeal.nD Cert.EvenInRefIdeal.τ).loc Cert.EvenInRefIdeal.main_arg7) = m' ((c.tc : Thread Cert.EvenInRefIdeal.nD Cert.EvenInRefIdeal.τ).loc Cert.EvenInRefIdeal.main_arg7)
          ∧ r.2.mem ((c.tc : Thread Cert.EvenInRefIdeal.nD Cert.EvenInRefIdeal.τ).loc Cert.EvenInRefIdeal.main_arg8) = m' ((c.tc : Thread Cert.EvenInRefIdeal.nD Cert.EvenInRefIdeal.τ).loc Cert.EvenInRefIdeal.main_arg8)
          ∧ r.2.mem ((c.tc : Thread Cert.EvenInRefIdeal.nD Cert.EvenInRefIdeal.τ).loc Cert.EvenInRefIdeal.main_arg9) = m' ((c.tc : Thread Cert.EvenInRefIdeal.nD Cert.EvenInRefIdeal.τ).loc Cert.EvenInRefIdeal.main_arg9)
          ∧ r.2.mem ((c.tc : Thread Cert.EvenInRefIdeal.nD Cert.EvenInRefIdeal.τ).loc Cert.EvenInRefIdeal.main_arg10) = m' ((c.tc : Thread Cert.EvenInRefIdeal.nD Cert.EvenInRefIdeal.τ).loc Cert.EvenInRefIdeal.main_arg10)
          ∧ r.2.mem ((c.tc : Thread Cert.EvenInRefIdeal.nD Cert.EvenInRefIdeal.τ).loc Cert.EvenInRefIdeal.main_arg11) = m' ((c.tc : Thread Cert.EvenInRefIdeal.nD Cert.EvenInRefIdeal.τ).loc Cert.EvenInRefIdeal.main_arg11)
          ∧ r.2.mem ((c.tc : Thread Cert.EvenInRefIdeal.nD Cert.EvenInRefIdeal.τ).loc Cert.EvenInRefIdeal.main_arg12) = m' ((c.tc : Thread Cert.EvenInRefIdeal.nD Cert.EvenInRefIdeal.τ).loc Cert.EvenInRefIdeal.main_arg12)
          ∧ r.2.mem ((c.tc : Thread Cert.EvenInRefIdeal.nD Cert.EvenInRefIdeal.τ).loc Cert.EvenInRefIdeal.main_arg13) = m' ((c.tc : Thread Cert.EvenInRefIdeal.nD Cert.EvenInRefIdeal.τ).loc Cert.EvenInRefIdeal.main_arg13)
          ∧ r.2.mem ((c.tc : Thread Cert.EvenInRefIdeal.nD Cert.EvenInRefIdeal.τ).loc Cert.EvenInRefIdeal.main_arg14) = m' ((c.tc : Thread Cert.EvenInRefIdeal.nD Cert.EvenInRefIdeal.τ).loc Cert.EvenInRefIdeal.main_arg14)
          ∧ r.2.mem ((c.tc : Thread Cert.EvenInRefIdeal.nD Cert.EvenInRefIdeal.τ).loc Cert.EvenInRefIdeal.main_arg15) = m' ((c.tc : Thread Cert.EvenInRefIdeal.nD Cert.EvenInRefIdeal.τ).loc Cert.EvenInRefIdeal.main_arg15))

def preserves_EvenFirst_EvenFirstIdeal : Prop :=
  True

def algebraic_EvenFirstIdeal_EvenFirstRefIdeal [hEvenFirstIdeal : Cert.EvenFirstIdeal.Facts] [hEvenFirstRefIdeal : Cert.EvenFirstRefIdeal.Facts] : Prop :=
  ∀ (m : (ℓ : Loc Cert.EvenFirstIdeal.nD Cert.EvenFirstIdeal.τ Cert.EvenFirstIdeal.sig) → Buf (Elt Ideal) ℓ) (g : Dev Cert.EvenFirstIdeal.nD → PrngReg)
    (m' : (ℓ : Loc Cert.EvenFirstRefIdeal.nD Cert.EvenFirstRefIdeal.τ Cert.EvenFirstRefIdeal.sig) → Buf (Elt Ideal) ℓ) (g' : Dev Cert.EvenFirstRefIdeal.nD → PrngReg), Pre_EvenFirstIdeal m →
    (∀ c : Dev Cert.EvenFirstIdeal.nD,
      m' ((c.tc : Thread Cert.EvenFirstRefIdeal.nD Cert.EvenFirstRefIdeal.τ).loc Cert.EvenFirstRefIdeal.main_arg0) = m ((c.tc : Thread Cert.EvenFirstIdeal.nD Cert.EvenFirstIdeal.τ).loc Cert.EvenFirstIdeal.main_arg0)
      ∧ m' ((c.tc : Thread Cert.EvenFirstRefIdeal.nD Cert.EvenFirstRefIdeal.τ).loc Cert.EvenFirstRefIdeal.main_arg1) = m ((c.tc : Thread Cert.EvenFirstIdeal.nD Cert.EvenFirstIdeal.τ).loc Cert.EvenFirstIdeal.main_arg1)
      ∧ m' ((c.tc : Thread Cert.EvenFirstRefIdeal.nD Cert.EvenFirstRefIdeal.τ).loc Cert.EvenFirstRefIdeal.main_arg2) = m ((c.tc : Thread Cert.EvenFirstIdeal.nD Cert.EvenFirstIdeal.τ).loc Cert.EvenFirstIdeal.main_arg2)
      ∧ m' ((c.tc : Thread Cert.EvenFirstRefIdeal.nD Cert.EvenFirstRefIdeal.τ).loc Cert.EvenFirstRefIdeal.main_arg3) = m ((c.tc : Thread Cert.EvenFirstIdeal.nD Cert.EvenFirstIdeal.τ).loc Cert.EvenFirstIdeal.main_arg3)
      ∧ m' ((c.tc : Thread Cert.EvenFirstRefIdeal.nD Cert.EvenFirstRefIdeal.τ).loc Cert.EvenFirstRefIdeal.main_arg4) = m ((c.tc : Thread Cert.EvenFirstIdeal.nD Cert.EvenFirstIdeal.τ).loc Cert.EvenFirstIdeal.main_arg4)
      ∧ m' ((c.tc : Thread Cert.EvenFirstRefIdeal.nD Cert.EvenFirstRefIdeal.τ).loc Cert.EvenFirstRefIdeal.main_arg5) = m ((c.tc : Thread Cert.EvenFirstIdeal.nD Cert.EvenFirstIdeal.τ).loc Cert.EvenFirstIdeal.main_arg5)
      ∧ m' ((c.tc : Thread Cert.EvenFirstRefIdeal.nD Cert.EvenFirstRefIdeal.τ).loc Cert.EvenFirstRefIdeal.main_arg6) = m ((c.tc : Thread Cert.EvenFirstIdeal.nD Cert.EvenFirstIdeal.τ).loc Cert.EvenFirstIdeal.main_arg6)
      ∧ m' ((c.tc : Thread Cert.EvenFirstRefIdeal.nD Cert.EvenFirstRefIdeal.τ).loc Cert.EvenFirstRefIdeal.main_arg7) = m ((c.tc : Thread Cert.EvenFirstIdeal.nD Cert.EvenFirstIdeal.τ).loc Cert.EvenFirstIdeal.main_arg7)
      ∧ m' ((c.tc : Thread Cert.EvenFirstRefIdeal.nD Cert.EvenFirstRefIdeal.τ).loc Cert.EvenFirstRefIdeal.main_arg8) = m ((c.tc : Thread Cert.EvenFirstIdeal.nD Cert.EvenFirstIdeal.τ).loc Cert.EvenFirstIdeal.main_arg8)
      ∧ m' ((c.tc : Thread Cert.EvenFirstRefIdeal.nD Cert.EvenFirstRefIdeal.τ).loc Cert.EvenFirstRefIdeal.main_arg9) = m ((c.tc : Thread Cert.EvenFirstIdeal.nD Cert.EvenFirstIdeal.τ).loc Cert.EvenFirstIdeal.main_arg9)
      ∧ m' ((c.tc : Thread Cert.EvenFirstRefIdeal.nD Cert.EvenFirstRefIdeal.τ).loc Cert.EvenFirstRefIdeal.main_arg10) = m ((c.tc : Thread Cert.EvenFirstIdeal.nD Cert.EvenFirstIdeal.τ).loc Cert.EvenFirstIdeal.main_arg10)
      ∧ m' ((c.tc : Thread Cert.EvenFirstRefIdeal.nD Cert.EvenFirstRefIdeal.τ).loc Cert.EvenFirstRefIdeal.main_arg11) = m ((c.tc : Thread Cert.EvenFirstIdeal.nD Cert.EvenFirstIdeal.τ).loc Cert.EvenFirstIdeal.main_arg11)) →
    ∃ (v0 : (c : Dev Cert.EvenFirstIdeal.nD) → Buf (Elt Ideal) ((c.tc : Thread Cert.EvenFirstIdeal.nD Cert.EvenFirstIdeal.τ).loc Cert.EvenFirstIdeal.main_v35_0)) (v1 : (c : Dev Cert.EvenFirstIdeal.nD) → Buf (Elt Ideal) ((c.tc : Thread Cert.EvenFirstIdeal.nD Cert.EvenFirstIdeal.τ).loc Cert.EvenFirstIdeal.main_v35_1)) (v2 : (c : Dev Cert.EvenFirstIdeal.nD) → Buf (Elt Ideal) ((c.tc : Thread Cert.EvenFirstIdeal.nD Cert.EvenFirstIdeal.τ).loc Cert.EvenFirstIdeal.main_v35_2)) (v3 : (c : Dev Cert.EvenFirstIdeal.nD) → Buf (Elt Ideal) ((c.tc : Thread Cert.EvenFirstIdeal.nD Cert.EvenFirstIdeal.τ).loc Cert.EvenFirstIdeal.main_v35_3)) (v4 : (c : Dev Cert.EvenFirstIdeal.nD) → Buf (Elt Ideal) ((c.tc : Thread Cert.EvenFirstIdeal.nD Cert.EvenFirstIdeal.τ).loc Cert.EvenFirstIdeal.main_v35_4)) (v5 : (c : Dev Cert.EvenFirstIdeal.nD) → Buf (Elt Ideal) ((c.tc : Thread Cert.EvenFirstIdeal.nD Cert.EvenFirstIdeal.τ).loc Cert.EvenFirstIdeal.main_v35_5)) (v6 : (c : Dev Cert.EvenFirstIdeal.nD) → Buf (Elt Ideal) ((c.tc : Thread Cert.EvenFirstIdeal.nD Cert.EvenFirstIdeal.τ).loc Cert.EvenFirstIdeal.main_v35_6)),
      θ_run (Cert.EvenFirstIdeal.defs (F := Ideal)) (onTc (τ := Cert.EvenFirstIdeal.τ) (Cert.EvenFirstIdeal.main (F := Ideal))) ⟨m, fun _ => 0, g⟩ (fun r => ∀ c : Dev Cert.EvenFirstIdeal.nD,
          r.2.mem ((c.tc : Thread Cert.EvenFirstIdeal.nD Cert.EvenFirstIdeal.τ).loc Cert.EvenFirstIdeal.main_v35_0) = v0 c
          ∧ r.2.mem ((c.tc : Thread Cert.EvenFirstIdeal.nD Cert.EvenFirstIdeal.τ).loc Cert.EvenFirstIdeal.main_v35_1) = v1 c
          ∧ r.2.mem ((c.tc : Thread Cert.EvenFirstIdeal.nD Cert.EvenFirstIdeal.τ).loc Cert.EvenFirstIdeal.main_v35_2) = v2 c
          ∧ r.2.mem ((c.tc : Thread Cert.EvenFirstIdeal.nD Cert.EvenFirstIdeal.τ).loc Cert.EvenFirstIdeal.main_v35_3) = v3 c
          ∧ r.2.mem ((c.tc : Thread Cert.EvenFirstIdeal.nD Cert.EvenFirstIdeal.τ).loc Cert.EvenFirstIdeal.main_v35_4) = v4 c
          ∧ r.2.mem ((c.tc : Thread Cert.EvenFirstIdeal.nD Cert.EvenFirstIdeal.τ).loc Cert.EvenFirstIdeal.main_v35_5) = v5 c
          ∧ r.2.mem ((c.tc : Thread Cert.EvenFirstIdeal.nD Cert.EvenFirstIdeal.τ).loc Cert.EvenFirstIdeal.main_v35_6) = v6 c
          ∧ r.2.mem ((c.tc : Thread Cert.EvenFirstIdeal.nD Cert.EvenFirstIdeal.τ).loc Cert.EvenFirstIdeal.main_arg0) = m ((c.tc : Thread Cert.EvenFirstIdeal.nD Cert.EvenFirstIdeal.τ).loc Cert.EvenFirstIdeal.main_arg0)
          ∧ r.2.mem ((c.tc : Thread Cert.EvenFirstIdeal.nD Cert.EvenFirstIdeal.τ).loc Cert.EvenFirstIdeal.main_arg1) = m ((c.tc : Thread Cert.EvenFirstIdeal.nD Cert.EvenFirstIdeal.τ).loc Cert.EvenFirstIdeal.main_arg1)
          ∧ r.2.mem ((c.tc : Thread Cert.EvenFirstIdeal.nD Cert.EvenFirstIdeal.τ).loc Cert.EvenFirstIdeal.main_arg2) = m ((c.tc : Thread Cert.EvenFirstIdeal.nD Cert.EvenFirstIdeal.τ).loc Cert.EvenFirstIdeal.main_arg2)
          ∧ r.2.mem ((c.tc : Thread Cert.EvenFirstIdeal.nD Cert.EvenFirstIdeal.τ).loc Cert.EvenFirstIdeal.main_arg3) = m ((c.tc : Thread Cert.EvenFirstIdeal.nD Cert.EvenFirstIdeal.τ).loc Cert.EvenFirstIdeal.main_arg3)
          ∧ r.2.mem ((c.tc : Thread Cert.EvenFirstIdeal.nD Cert.EvenFirstIdeal.τ).loc Cert.EvenFirstIdeal.main_arg4) = m ((c.tc : Thread Cert.EvenFirstIdeal.nD Cert.EvenFirstIdeal.τ).loc Cert.EvenFirstIdeal.main_arg4)
          ∧ r.2.mem ((c.tc : Thread Cert.EvenFirstIdeal.nD Cert.EvenFirstIdeal.τ).loc Cert.EvenFirstIdeal.main_arg5) = m ((c.tc : Thread Cert.EvenFirstIdeal.nD Cert.EvenFirstIdeal.τ).loc Cert.EvenFirstIdeal.main_arg5)
          ∧ r.2.mem ((c.tc : Thread Cert.EvenFirstIdeal.nD Cert.EvenFirstIdeal.τ).loc Cert.EvenFirstIdeal.main_arg6) = m ((c.tc : Thread Cert.EvenFirstIdeal.nD Cert.EvenFirstIdeal.τ).loc Cert.EvenFirstIdeal.main_arg6)
          ∧ r.2.mem ((c.tc : Thread Cert.EvenFirstIdeal.nD Cert.EvenFirstIdeal.τ).loc Cert.EvenFirstIdeal.main_arg7) = m ((c.tc : Thread Cert.EvenFirstIdeal.nD Cert.EvenFirstIdeal.τ).loc Cert.EvenFirstIdeal.main_arg7)
          ∧ r.2.mem ((c.tc : Thread Cert.EvenFirstIdeal.nD Cert.EvenFirstIdeal.τ).loc Cert.EvenFirstIdeal.main_arg8) = m ((c.tc : Thread Cert.EvenFirstIdeal.nD Cert.EvenFirstIdeal.τ).loc Cert.EvenFirstIdeal.main_arg8)
          ∧ r.2.mem ((c.tc : Thread Cert.EvenFirstIdeal.nD Cert.EvenFirstIdeal.τ).loc Cert.EvenFirstIdeal.main_arg9) = m ((c.tc : Thread Cert.EvenFirstIdeal.nD Cert.EvenFirstIdeal.τ).loc Cert.EvenFirstIdeal.main_arg9)
          ∧ r.2.mem ((c.tc : Thread Cert.EvenFirstIdeal.nD Cert.EvenFirstIdeal.τ).loc Cert.EvenFirstIdeal.main_arg10) = m ((c.tc : Thread Cert.EvenFirstIdeal.nD Cert.EvenFirstIdeal.τ).loc Cert.EvenFirstIdeal.main_arg10)
          ∧ r.2.mem ((c.tc : Thread Cert.EvenFirstIdeal.nD Cert.EvenFirstIdeal.τ).loc Cert.EvenFirstIdeal.main_arg11) = m ((c.tc : Thread Cert.EvenFirstIdeal.nD Cert.EvenFirstIdeal.τ).loc Cert.EvenFirstIdeal.main_arg11))
      ∧ θ_run (Cert.EvenFirstRefIdeal.defs (F := Ideal)) (onTc (τ := Cert.EvenFirstRefIdeal.τ) (Cert.EvenFirstRefIdeal.main (F := Ideal))) ⟨m', fun _ => 0, g'⟩ (fun r => ∀ c : Dev Cert.EvenFirstRefIdeal.nD,
          r.2.mem ((c.tc : Thread Cert.EvenFirstRefIdeal.nD Cert.EvenFirstRefIdeal.τ).loc Cert.EvenFirstRefIdeal.main_v72) = v0 c
          ∧ r.2.mem ((c.tc : Thread Cert.EvenFirstRefIdeal.nD Cert.EvenFirstRefIdeal.τ).loc Cert.EvenFirstRefIdeal.main_v73) = v1 c
          ∧ r.2.mem ((c.tc : Thread Cert.EvenFirstRefIdeal.nD Cert.EvenFirstRefIdeal.τ).loc Cert.EvenFirstRefIdeal.main_v74) = v2 c
          ∧ r.2.mem ((c.tc : Thread Cert.EvenFirstRefIdeal.nD Cert.EvenFirstRefIdeal.τ).loc Cert.EvenFirstRefIdeal.main_v71) = v3 c
          ∧ r.2.mem ((c.tc : Thread Cert.EvenFirstRefIdeal.nD Cert.EvenFirstRefIdeal.τ).loc Cert.EvenFirstRefIdeal.main_v50) = v4 c
          ∧ r.2.mem ((c.tc : Thread Cert.EvenFirstRefIdeal.nD Cert.EvenFirstRefIdeal.τ).loc Cert.EvenFirstRefIdeal.main_v61) = v5 c
          ∧ r.2.mem ((c.tc : Thread Cert.EvenFirstRefIdeal.nD Cert.EvenFirstRefIdeal.τ).loc Cert.EvenFirstRefIdeal.main_v69) = v6 c
          ∧ r.2.mem ((c.tc : Thread Cert.EvenFirstRefIdeal.nD Cert.EvenFirstRefIdeal.τ).loc Cert.EvenFirstRefIdeal.main_arg0) = m' ((c.tc : Thread Cert.EvenFirstRefIdeal.nD Cert.EvenFirstRefIdeal.τ).loc Cert.EvenFirstRefIdeal.main_arg0)
          ∧ r.2.mem ((c.tc : Thread Cert.EvenFirstRefIdeal.nD Cert.EvenFirstRefIdeal.τ).loc Cert.EvenFirstRefIdeal.main_arg1) = m' ((c.tc : Thread Cert.EvenFirstRefIdeal.nD Cert.EvenFirstRefIdeal.τ).loc Cert.EvenFirstRefIdeal.main_arg1)
          ∧ r.2.mem ((c.tc : Thread Cert.EvenFirstRefIdeal.nD Cert.EvenFirstRefIdeal.τ).loc Cert.EvenFirstRefIdeal.main_arg2) = m' ((c.tc : Thread Cert.EvenFirstRefIdeal.nD Cert.EvenFirstRefIdeal.τ).loc Cert.EvenFirstRefIdeal.main_arg2)
          ∧ r.2.mem ((c.tc : Thread Cert.EvenFirstRefIdeal.nD Cert.EvenFirstRefIdeal.τ).loc Cert.EvenFirstRefIdeal.main_arg3) = m' ((c.tc : Thread Cert.EvenFirstRefIdeal.nD Cert.EvenFirstRefIdeal.τ).loc Cert.EvenFirstRefIdeal.main_arg3)
          ∧ r.2.mem ((c.tc : Thread Cert.EvenFirstRefIdeal.nD Cert.EvenFirstRefIdeal.τ).loc Cert.EvenFirstRefIdeal.main_arg4) = m' ((c.tc : Thread Cert.EvenFirstRefIdeal.nD Cert.EvenFirstRefIdeal.τ).loc Cert.EvenFirstRefIdeal.main_arg4)
          ∧ r.2.mem ((c.tc : Thread Cert.EvenFirstRefIdeal.nD Cert.EvenFirstRefIdeal.τ).loc Cert.EvenFirstRefIdeal.main_arg5) = m' ((c.tc : Thread Cert.EvenFirstRefIdeal.nD Cert.EvenFirstRefIdeal.τ).loc Cert.EvenFirstRefIdeal.main_arg5)
          ∧ r.2.mem ((c.tc : Thread Cert.EvenFirstRefIdeal.nD Cert.EvenFirstRefIdeal.τ).loc Cert.EvenFirstRefIdeal.main_arg6) = m' ((c.tc : Thread Cert.EvenFirstRefIdeal.nD Cert.EvenFirstRefIdeal.τ).loc Cert.EvenFirstRefIdeal.main_arg6)
          ∧ r.2.mem ((c.tc : Thread Cert.EvenFirstRefIdeal.nD Cert.EvenFirstRefIdeal.τ).loc Cert.EvenFirstRefIdeal.main_arg7) = m' ((c.tc : Thread Cert.EvenFirstRefIdeal.nD Cert.EvenFirstRefIdeal.τ).loc Cert.EvenFirstRefIdeal.main_arg7)
          ∧ r.2.mem ((c.tc : Thread Cert.EvenFirstRefIdeal.nD Cert.EvenFirstRefIdeal.τ).loc Cert.EvenFirstRefIdeal.main_arg8) = m' ((c.tc : Thread Cert.EvenFirstRefIdeal.nD Cert.EvenFirstRefIdeal.τ).loc Cert.EvenFirstRefIdeal.main_arg8)
          ∧ r.2.mem ((c.tc : Thread Cert.EvenFirstRefIdeal.nD Cert.EvenFirstRefIdeal.τ).loc Cert.EvenFirstRefIdeal.main_arg9) = m' ((c.tc : Thread Cert.EvenFirstRefIdeal.nD Cert.EvenFirstRefIdeal.τ).loc Cert.EvenFirstRefIdeal.main_arg9)
          ∧ r.2.mem ((c.tc : Thread Cert.EvenFirstRefIdeal.nD Cert.EvenFirstRefIdeal.τ).loc Cert.EvenFirstRefIdeal.main_arg10) = m' ((c.tc : Thread Cert.EvenFirstRefIdeal.nD Cert.EvenFirstRefIdeal.τ).loc Cert.EvenFirstRefIdeal.main_arg10)
          ∧ r.2.mem ((c.tc : Thread Cert.EvenFirstRefIdeal.nD Cert.EvenFirstRefIdeal.τ).loc Cert.EvenFirstRefIdeal.main_arg11) = m' ((c.tc : Thread Cert.EvenFirstRefIdeal.nD Cert.EvenFirstRefIdeal.τ).loc Cert.EvenFirstRefIdeal.main_arg11))

def preserves_Gdn_GdnIdeal : Prop :=
  True

def preserves_Rwkv_RwkvIdeal : Prop :=
  True

def preserves_RwkvFirst_RwkvFirstIdeal : Prop :=
  True

def preserves_RwkvValues_RwkvValuesIdeal : Prop :=
  True

def algebraic_RwkvValuesIdeal_RwkvValuesRefIdeal [hRwkvValuesIdeal : Cert.RwkvValuesIdeal.Facts] [hRwkvValuesRefIdeal : Cert.RwkvValuesRefIdeal.Facts] : Prop :=
  ∀ (m : (ℓ : Loc Cert.RwkvValuesIdeal.nD Cert.RwkvValuesIdeal.τ Cert.RwkvValuesIdeal.sig) → Buf (Elt Ideal) ℓ) (g : Dev Cert.RwkvValuesIdeal.nD → PrngReg)
    (m' : (ℓ : Loc Cert.RwkvValuesRefIdeal.nD Cert.RwkvValuesRefIdeal.τ Cert.RwkvValuesRefIdeal.sig) → Buf (Elt Ideal) ℓ) (g' : Dev Cert.RwkvValuesRefIdeal.nD → PrngReg), Pre_RwkvValuesIdeal m →
    (∀ c : Dev Cert.RwkvValuesIdeal.nD,
      m' ((c.tc : Thread Cert.RwkvValuesRefIdeal.nD Cert.RwkvValuesRefIdeal.τ).loc Cert.RwkvValuesRefIdeal.main_arg0) = m ((c.tc : Thread Cert.RwkvValuesIdeal.nD Cert.RwkvValuesIdeal.τ).loc Cert.RwkvValuesIdeal.main_arg0)
      ∧ m' ((c.tc : Thread Cert.RwkvValuesRefIdeal.nD Cert.RwkvValuesRefIdeal.τ).loc Cert.RwkvValuesRefIdeal.main_arg1) = m ((c.tc : Thread Cert.RwkvValuesIdeal.nD Cert.RwkvValuesIdeal.τ).loc Cert.RwkvValuesIdeal.main_arg1)
      ∧ m' ((c.tc : Thread Cert.RwkvValuesRefIdeal.nD Cert.RwkvValuesRefIdeal.τ).loc Cert.RwkvValuesRefIdeal.main_arg2) = m ((c.tc : Thread Cert.RwkvValuesIdeal.nD Cert.RwkvValuesIdeal.τ).loc Cert.RwkvValuesIdeal.main_arg2)
      ∧ m' ((c.tc : Thread Cert.RwkvValuesRefIdeal.nD Cert.RwkvValuesRefIdeal.τ).loc Cert.RwkvValuesRefIdeal.main_arg3) = m ((c.tc : Thread Cert.RwkvValuesIdeal.nD Cert.RwkvValuesIdeal.τ).loc Cert.RwkvValuesIdeal.main_arg3)
      ∧ m' ((c.tc : Thread Cert.RwkvValuesRefIdeal.nD Cert.RwkvValuesRefIdeal.τ).loc Cert.RwkvValuesRefIdeal.main_arg4) = m ((c.tc : Thread Cert.RwkvValuesIdeal.nD Cert.RwkvValuesIdeal.τ).loc Cert.RwkvValuesIdeal.main_arg4)
      ∧ m' ((c.tc : Thread Cert.RwkvValuesRefIdeal.nD Cert.RwkvValuesRefIdeal.τ).loc Cert.RwkvValuesRefIdeal.main_arg5) = m ((c.tc : Thread Cert.RwkvValuesIdeal.nD Cert.RwkvValuesIdeal.τ).loc Cert.RwkvValuesIdeal.main_arg5)
      ∧ m' ((c.tc : Thread Cert.RwkvValuesRefIdeal.nD Cert.RwkvValuesRefIdeal.τ).loc Cert.RwkvValuesRefIdeal.main_arg6) = m ((c.tc : Thread Cert.RwkvValuesIdeal.nD Cert.RwkvValuesIdeal.τ).loc Cert.RwkvValuesIdeal.main_arg6)
      ∧ m' ((c.tc : Thread Cert.RwkvValuesRefIdeal.nD Cert.RwkvValuesRefIdeal.τ).loc Cert.RwkvValuesRefIdeal.main_arg7) = m ((c.tc : Thread Cert.RwkvValuesIdeal.nD Cert.RwkvValuesIdeal.τ).loc Cert.RwkvValuesIdeal.main_arg7)
      ∧ m' ((c.tc : Thread Cert.RwkvValuesRefIdeal.nD Cert.RwkvValuesRefIdeal.τ).loc Cert.RwkvValuesRefIdeal.main_arg8) = m ((c.tc : Thread Cert.RwkvValuesIdeal.nD Cert.RwkvValuesIdeal.τ).loc Cert.RwkvValuesIdeal.main_arg8)
      ∧ m' ((c.tc : Thread Cert.RwkvValuesRefIdeal.nD Cert.RwkvValuesRefIdeal.τ).loc Cert.RwkvValuesRefIdeal.main_arg9) = m ((c.tc : Thread Cert.RwkvValuesIdeal.nD Cert.RwkvValuesIdeal.τ).loc Cert.RwkvValuesIdeal.main_arg9)) →
    ∃ (v0 : (c : Dev Cert.RwkvValuesIdeal.nD) → Buf (Elt Ideal) ((c.tc : Thread Cert.RwkvValuesIdeal.nD Cert.RwkvValuesIdeal.τ).loc Cert.RwkvValuesIdeal.main_v8_1)),
      θ_run (Cert.RwkvValuesIdeal.defs (F := Ideal)) (onTc (τ := Cert.RwkvValuesIdeal.τ) (Cert.RwkvValuesIdeal.main (F := Ideal))) ⟨m, fun _ => 0, g⟩ (fun r => ∀ c : Dev Cert.RwkvValuesIdeal.nD,
          r.2.mem ((c.tc : Thread Cert.RwkvValuesIdeal.nD Cert.RwkvValuesIdeal.τ).loc Cert.RwkvValuesIdeal.main_v8_1) = v0 c
          ∧ r.2.mem ((c.tc : Thread Cert.RwkvValuesIdeal.nD Cert.RwkvValuesIdeal.τ).loc Cert.RwkvValuesIdeal.main_arg0) = m ((c.tc : Thread Cert.RwkvValuesIdeal.nD Cert.RwkvValuesIdeal.τ).loc Cert.RwkvValuesIdeal.main_arg0)
          ∧ r.2.mem ((c.tc : Thread Cert.RwkvValuesIdeal.nD Cert.RwkvValuesIdeal.τ).loc Cert.RwkvValuesIdeal.main_arg1) = m ((c.tc : Thread Cert.RwkvValuesIdeal.nD Cert.RwkvValuesIdeal.τ).loc Cert.RwkvValuesIdeal.main_arg1)
          ∧ r.2.mem ((c.tc : Thread Cert.RwkvValuesIdeal.nD Cert.RwkvValuesIdeal.τ).loc Cert.RwkvValuesIdeal.main_arg2) = m ((c.tc : Thread Cert.RwkvValuesIdeal.nD Cert.RwkvValuesIdeal.τ).loc Cert.RwkvValuesIdeal.main_arg2)
          ∧ r.2.mem ((c.tc : Thread Cert.RwkvValuesIdeal.nD Cert.RwkvValuesIdeal.τ).loc Cert.RwkvValuesIdeal.main_arg3) = m ((c.tc : Thread Cert.RwkvValuesIdeal.nD Cert.RwkvValuesIdeal.τ).loc Cert.RwkvValuesIdeal.main_arg3)
          ∧ r.2.mem ((c.tc : Thread Cert.RwkvValuesIdeal.nD Cert.RwkvValuesIdeal.τ).loc Cert.RwkvValuesIdeal.main_arg4) = m ((c.tc : Thread Cert.RwkvValuesIdeal.nD Cert.RwkvValuesIdeal.τ).loc Cert.RwkvValuesIdeal.main_arg4)
          ∧ r.2.mem ((c.tc : Thread Cert.RwkvValuesIdeal.nD Cert.RwkvValuesIdeal.τ).loc Cert.RwkvValuesIdeal.main_arg5) = m ((c.tc : Thread Cert.RwkvValuesIdeal.nD Cert.RwkvValuesIdeal.τ).loc Cert.RwkvValuesIdeal.main_arg5)
          ∧ r.2.mem ((c.tc : Thread Cert.RwkvValuesIdeal.nD Cert.RwkvValuesIdeal.τ).loc Cert.RwkvValuesIdeal.main_arg6) = m ((c.tc : Thread Cert.RwkvValuesIdeal.nD Cert.RwkvValuesIdeal.τ).loc Cert.RwkvValuesIdeal.main_arg6)
          ∧ r.2.mem ((c.tc : Thread Cert.RwkvValuesIdeal.nD Cert.RwkvValuesIdeal.τ).loc Cert.RwkvValuesIdeal.main_arg7) = m ((c.tc : Thread Cert.RwkvValuesIdeal.nD Cert.RwkvValuesIdeal.τ).loc Cert.RwkvValuesIdeal.main_arg7)
          ∧ r.2.mem ((c.tc : Thread Cert.RwkvValuesIdeal.nD Cert.RwkvValuesIdeal.τ).loc Cert.RwkvValuesIdeal.main_arg8) = m ((c.tc : Thread Cert.RwkvValuesIdeal.nD Cert.RwkvValuesIdeal.τ).loc Cert.RwkvValuesIdeal.main_arg8)
          ∧ r.2.mem ((c.tc : Thread Cert.RwkvValuesIdeal.nD Cert.RwkvValuesIdeal.τ).loc Cert.RwkvValuesIdeal.main_arg9) = m ((c.tc : Thread Cert.RwkvValuesIdeal.nD Cert.RwkvValuesIdeal.τ).loc Cert.RwkvValuesIdeal.main_arg9))
      ∧ θ_run (Cert.RwkvValuesRefIdeal.defs (F := Ideal)) (onTc (τ := Cert.RwkvValuesRefIdeal.τ) (Cert.RwkvValuesRefIdeal.main (F := Ideal))) ⟨m', fun _ => 0, g'⟩ (fun r => ∀ c : Dev Cert.RwkvValuesRefIdeal.nD,
          r.2.mem ((c.tc : Thread Cert.RwkvValuesRefIdeal.nD Cert.RwkvValuesRefIdeal.τ).loc Cert.RwkvValuesRefIdeal.main_v11) = v0 c
          ∧ r.2.mem ((c.tc : Thread Cert.RwkvValuesRefIdeal.nD Cert.RwkvValuesRefIdeal.τ).loc Cert.RwkvValuesRefIdeal.main_arg0) = m' ((c.tc : Thread Cert.RwkvValuesRefIdeal.nD Cert.RwkvValuesRefIdeal.τ).loc Cert.RwkvValuesRefIdeal.main_arg0)
          ∧ r.2.mem ((c.tc : Thread Cert.RwkvValuesRefIdeal.nD Cert.RwkvValuesRefIdeal.τ).loc Cert.RwkvValuesRefIdeal.main_arg1) = m' ((c.tc : Thread Cert.RwkvValuesRefIdeal.nD Cert.RwkvValuesRefIdeal.τ).loc Cert.RwkvValuesRefIdeal.main_arg1)
          ∧ r.2.mem ((c.tc : Thread Cert.RwkvValuesRefIdeal.nD Cert.RwkvValuesRefIdeal.τ).loc Cert.RwkvValuesRefIdeal.main_arg2) = m' ((c.tc : Thread Cert.RwkvValuesRefIdeal.nD Cert.RwkvValuesRefIdeal.τ).loc Cert.RwkvValuesRefIdeal.main_arg2)
          ∧ r.2.mem ((c.tc : Thread Cert.RwkvValuesRefIdeal.nD Cert.RwkvValuesRefIdeal.τ).loc Cert.RwkvValuesRefIdeal.main_arg3) = m' ((c.tc : Thread Cert.RwkvValuesRefIdeal.nD Cert.RwkvValuesRefIdeal.τ).loc Cert.RwkvValuesRefIdeal.main_arg3)
          ∧ r.2.mem ((c.tc : Thread Cert.RwkvValuesRefIdeal.nD Cert.RwkvValuesRefIdeal.τ).loc Cert.RwkvValuesRefIdeal.main_arg4) = m' ((c.tc : Thread Cert.RwkvValuesRefIdeal.nD Cert.RwkvValuesRefIdeal.τ).loc Cert.RwkvValuesRefIdeal.main_arg4)
          ∧ r.2.mem ((c.tc : Thread Cert.RwkvValuesRefIdeal.nD Cert.RwkvValuesRefIdeal.τ).loc Cert.RwkvValuesRefIdeal.main_arg5) = m' ((c.tc : Thread Cert.RwkvValuesRefIdeal.nD Cert.RwkvValuesRefIdeal.τ).loc Cert.RwkvValuesRefIdeal.main_arg5)
          ∧ r.2.mem ((c.tc : Thread Cert.RwkvValuesRefIdeal.nD Cert.RwkvValuesRefIdeal.τ).loc Cert.RwkvValuesRefIdeal.main_arg6) = m' ((c.tc : Thread Cert.RwkvValuesRefIdeal.nD Cert.RwkvValuesRefIdeal.τ).loc Cert.RwkvValuesRefIdeal.main_arg6)
          ∧ r.2.mem ((c.tc : Thread Cert.RwkvValuesRefIdeal.nD Cert.RwkvValuesRefIdeal.τ).loc Cert.RwkvValuesRefIdeal.main_arg7) = m' ((c.tc : Thread Cert.RwkvValuesRefIdeal.nD Cert.RwkvValuesRefIdeal.τ).loc Cert.RwkvValuesRefIdeal.main_arg7)
          ∧ r.2.mem ((c.tc : Thread Cert.RwkvValuesRefIdeal.nD Cert.RwkvValuesRefIdeal.τ).loc Cert.RwkvValuesRefIdeal.main_arg8) = m' ((c.tc : Thread Cert.RwkvValuesRefIdeal.nD Cert.RwkvValuesRefIdeal.τ).loc Cert.RwkvValuesRefIdeal.main_arg8)
          ∧ r.2.mem ((c.tc : Thread Cert.RwkvValuesRefIdeal.nD Cert.RwkvValuesRefIdeal.τ).loc Cert.RwkvValuesRefIdeal.main_arg9) = m' ((c.tc : Thread Cert.RwkvValuesRefIdeal.nD Cert.RwkvValuesRefIdeal.τ).loc Cert.RwkvValuesRefIdeal.main_arg9))

def Claim : Prop :=
  ∃ (hAttn : Cert.Attn.Facts) (hAttnIdeal : Cert.AttnIdeal.Facts) (hAttnRefIdeal : Cert.AttnRefIdeal.Facts) (hPostOdd : Cert.PostOdd.Facts) (hPostOddIdeal : Cert.PostOddIdeal.Facts) (hPostOddRefIdeal : Cert.PostOddRefIdeal.Facts) (hPostEven : Cert.PostEven.Facts) (hPostEvenIdeal : Cert.PostEvenIdeal.Facts) (hPostEvenRefIdeal : Cert.PostEvenRefIdeal.Facts) (hQkv : Cert.Qkv.Facts) (hQkvIdeal : Cert.QkvIdeal.Facts) (hQkvRefIdeal : Cert.QkvRefIdeal.Facts) (hEvenIn : Cert.EvenIn.Facts) (hEvenInIdeal : Cert.EvenInIdeal.Facts) (hEvenInRefIdeal : Cert.EvenInRefIdeal.Facts) (hEvenFirst : Cert.EvenFirst.Facts) (hEvenFirstIdeal : Cert.EvenFirstIdeal.Facts) (hEvenFirstRefIdeal : Cert.EvenFirstRefIdeal.Facts) (hGdn : Cert.Gdn.Facts) (hGdnIdeal : Cert.GdnIdeal.Facts) (hRwkv : Cert.Rwkv.Facts) (hRwkvIdeal : Cert.RwkvIdeal.Facts) (hRwkvFirst : Cert.RwkvFirst.Facts) (hRwkvFirstIdeal : Cert.RwkvFirstIdeal.Facts) (hRwkvValues : Cert.RwkvValues.Facts) (hRwkvValuesIdeal : Cert.RwkvValuesIdeal.Facts) (hRwkvValuesRefIdeal : Cert.RwkvValuesRefIdeal.Facts) (hPre_finite : Cert.Pre_finite.Facts) (hPre_finite_qkv : Cert.Pre_finite_qkv.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_PostOdd (hPostOdd := hPostOdd)
    ∧ quiescent_PostOddIdeal (hPostOddIdeal := hPostOddIdeal)
    ∧ quiescent_PostOddRefIdeal (hPostOddRefIdeal := hPostOddRefIdeal)
    ∧ quiescent_PostEven (hPostEven := hPostEven)
    ∧ quiescent_PostEvenIdeal (hPostEvenIdeal := hPostEvenIdeal)
    ∧ quiescent_PostEvenRefIdeal (hPostEvenRefIdeal := hPostEvenRefIdeal)
    ∧ quiescent_Qkv (hQkv := hQkv)
    ∧ quiescent_QkvIdeal (hQkvIdeal := hQkvIdeal)
    ∧ quiescent_QkvIdeal_pre_finite_qkv (hQkvIdeal := hQkvIdeal) (hPre_finite_qkv := hPre_finite_qkv)
    ∧ quiescent_QkvRefIdeal (hQkvRefIdeal := hQkvRefIdeal)
    ∧ quiescent_QkvRefIdeal_pre_finite_qkv (hQkvRefIdeal := hQkvRefIdeal) (hPre_finite_qkv := hPre_finite_qkv)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_EvenFirst (hEvenFirst := hEvenFirst)
    ∧ quiescent_EvenFirstIdeal (hEvenFirstIdeal := hEvenFirstIdeal)
    ∧ quiescent_EvenFirstRefIdeal (hEvenFirstRefIdeal := hEvenFirstRefIdeal)
    ∧ quiescent_Gdn (hGdn := hGdn)
    ∧ quiescent_GdnIdeal (hGdnIdeal := hGdnIdeal)
    ∧ quiescent_Rwkv (hRwkv := hRwkv)
    ∧ quiescent_RwkvIdeal (hRwkvIdeal := hRwkvIdeal)
    ∧ quiescent_RwkvFirst (hRwkvFirst := hRwkvFirst)
    ∧ quiescent_RwkvFirstIdeal (hRwkvFirstIdeal := hRwkvFirstIdeal)
    ∧ quiescent_RwkvValues (hRwkvValues := hRwkvValues)
    ∧ quiescent_RwkvValuesIdeal (hRwkvValuesIdeal := hRwkvValuesIdeal)
    ∧ quiescent_RwkvValuesRefIdeal (hRwkvValuesRefIdeal := hRwkvValuesRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_PostOdd_PostOddIdeal
    ∧ algebraic_PostOddIdeal_PostOddRefIdeal (hPostOddIdeal := hPostOddIdeal) (hPostOddRefIdeal := hPostOddRefIdeal)
    ∧ preserves_PostEven_PostEvenIdeal
    ∧ algebraic_PostEvenIdeal_PostEvenRefIdeal (hPostEvenIdeal := hPostEvenIdeal) (hPostEvenRefIdeal := hPostEvenRefIdeal)
    ∧ preserves_Qkv_QkvIdeal
    ∧ algebraic_QkvIdeal_QkvRefIdeal_pre_finite_qkv (hQkvIdeal := hQkvIdeal) (hQkvRefIdeal := hQkvRefIdeal) (hPre_finite_qkv := hPre_finite_qkv)
    ∧ preserves_EvenIn_EvenInIdeal
    ∧ algebraic_EvenInIdeal_EvenInRefIdeal (hEvenInIdeal := hEvenInIdeal) (hEvenInRefIdeal := hEvenInRefIdeal)
    ∧ preserves_EvenFirst_EvenFirstIdeal
    ∧ algebraic_EvenFirstIdeal_EvenFirstRefIdeal (hEvenFirstIdeal := hEvenFirstIdeal) (hEvenFirstRefIdeal := hEvenFirstRefIdeal)
    ∧ preserves_Gdn_GdnIdeal
    ∧ preserves_Rwkv_RwkvIdeal
    ∧ preserves_RwkvFirst_RwkvFirstIdeal
    ∧ preserves_RwkvValues_RwkvValuesIdeal
    ∧ algebraic_RwkvValuesIdeal_RwkvValuesRefIdeal (hRwkvValuesIdeal := hRwkvValuesIdeal) (hRwkvValuesRefIdeal := hRwkvValuesRefIdeal)
-- ==== Pre_finite.lean ====
abbrev S34816x3072 : Shape := ⟨2, ![34816, 3072]⟩
abbrev S16x513 : Shape := ⟨2, ![16, 513]⟩
abbrev S_ : Shape := ⟨0, ![]⟩

class Facts : Prop where
  bitsLt_bf16_f32 : FTy.bits .bf16 < FTy.bits .f32
  bcast_S_S34816x3072 : S_.BroadcastsInDim S34816x3072 (![] : Fin 0 → Fin S34816x3072.rank)
  bcast_S_S16x513 : S_.BroadcastsInDim S16x513 (![] : Fin 0 → Fin S16x513.rank)

variable [Facts]

def fn {F : FTy → Type} [FloatOps F] (main_arg0 : FVec F S34816x3072 .bf16) (main_arg1 : FVec F S16x513 .f32) : IVec S34816x3072 1 × IVec S16x513 1 :=
  let main_v0 : FVec F S34816x3072 .f32 := (extf .f32 · bitsLt_bf16_f32) main_arg0
  let main_v1 : FVec F S34816x3072 .f32 := Host.absf main_v0
  let main_cst : FVec F S_ .f32 := constant S_ .f32 0x7F800000#32
  let main_v2 : FVec F S34816x3072 .f32 := broadcastInDim S34816x3072 ![] bcast_S_S34816x3072 main_cst
  let main_v3 : IVec S34816x3072 1 := cmpf .olt main_v1 main_v2
  let main_v4 : FVec F S16x513 .f32 := Host.absf main_arg1
  let main_cst_0 : FVec F S_ .f32 := constant S_ .f32 0x7F800000#32
  let main_v5 : FVec F S16x513 .f32 := broadcastInDim S16x513 ![] bcast_S_S16x513 main_cst_0
  let main_v6 : IVec S16x513 1 := cmpf .olt main_v4 main_v5
  (main_v3, main_v6)
-- ==== Pre_finite_qkv.lean ====
abbrev S32768x1024 : Shape := ⟨2, ![32768, 1024]⟩
abbrev S1024 : Shape := ⟨1, ![1024]⟩
abbrev S1024x3072 : Shape := ⟨2, ![1024, 3072]⟩
abbrev S64 : Shape := ⟨1, ![64]⟩
abbrev S_ : Shape := ⟨0, ![]⟩

class Facts : Prop where
  bcast_S_S1024 : S_.BroadcastsInDim S1024 (![] : Fin 0 → Fin S1024.rank)
  bcast_S_S1024x3072 : S_.BroadcastsInDim S1024x3072 (![] : Fin 0 → Fin S1024x3072.rank)

variable [Facts]

def fn {F : FTy → Type} [FloatOps F] (main_arg0 : FVec F S32768x1024 .f32) (main_arg1 : FVec F S1024 .f32) (main_arg2 : FVec F S1024x3072 .f32) (main_arg3 : FVec F S64 .f32) (main_arg4 : FVec F S64 .f32) : IVec S1024 1 × IVec S1024x3072 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x3072 .f32 := Host.absf main_arg2
  let main_cst_0 : FVec F S_ .f32 := constant S_ .f32 0x7F800000#32
  let main_v4 : FVec F S1024x3072 .f32 := broadcastInDim S1024x3072 ![] bcast_S_S1024x3072 main_cst_0
  let main_v5 : IVec S1024x3072 1 := cmpf .olt main_v3 main_v4
  (main_v2, main_v5)
-- ==== Attn.lean ====
abbrev S34816x3072 : Shape := ⟨2, ![34816, 3072]⟩
abbrev S16x513 : Shape := ⟨2, ![16, 513]⟩
abbrev S639 : Shape := ⟨1, ![639]⟩
abbrev S_ : Shape := ⟨0, ![]⟩
abbrev S639x1 : Shape := ⟨2, ![639, 1]⟩
abbrev S16x639 : Shape := ⟨2, ![16, 639]⟩
abbrev S16x640 : Shape := ⟨2, ![16, 640]⟩
abbrev S1x16x1x640 : Shape := ⟨4, ![1, 16, 1, 640]⟩
abbrev S1x16x64x640 : Shape := ⟨4, ![1, 16, 64, 640]⟩
abbrev S16x40960 : Shape := ⟨2, ![16, 40960]⟩
abbrev S16x40896 : Shape := ⟨2, ![16, 40896]⟩
abbrev S16x64x639 : Shape := ⟨3, ![16, 64, 639]⟩
abbrev S16x64x576 : Shape := ⟨3, ![16, 64, 576]⟩
abbrev S1024x576 : Shape := ⟨2, ![1024, 576]⟩
abbrev S32768x1024 : Shape := ⟨2, ![32768, 1024]⟩
abbrev S512x128 : Shape := ⟨2, ![512, 128]⟩
abbrev S8704x128 : Shape := ⟨2, ![8704, 128]⟩
abbrev S128x576 : Shape := ⟨2, ![128, 576]⟩
abbrev S64x128 : Shape := ⟨2, ![64, 128]⟩
abbrev S128x128 : Shape := ⟨2, ![128, 128]⟩
abbrev S576x128 : Shape := ⟨2, ![576, 128]⟩
abbrev S128 : Shape := ⟨1, ![128]⟩
abbrev S128x1 : Shape := ⟨2, ![128, 1]⟩

abbrev nBuf : Space → Nat
  | .hbm => 37
  | .vmem => 10
  | .smem => 0
  | _ => 0

abbrev bufTy : (tb : Table) → Fin (tcTables nBuf tb) → BufTy
  | .hbm, ⟨0, _⟩ => ⟨S34816x3072, .bf16⟩
  | .hbm, ⟨1, _⟩ => ⟨S16x513, .f32⟩
  | .hbm, ⟨2, _⟩ => ⟨S639, .i32⟩
  | .hbm, ⟨3, _⟩ => ⟨S_, .i32⟩
  | .hbm, ⟨4, _⟩ => ⟨S639, .i32⟩
  | .hbm, ⟨5, _⟩ => ⟨S639, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S639, .i32⟩
  | .hbm, ⟨10, _⟩ => ⟨S639, .i32⟩
  | .hbm, ⟨11, _⟩ => ⟨S_, .i32⟩
  | .hbm, ⟨12, _⟩ => ⟨S639, .i32⟩
  | .hbm, ⟨13, _⟩ => ⟨S639, .i32⟩
  | .hbm, ⟨14, _⟩ => ⟨S_, .i32⟩
  | .hbm, ⟨15, _⟩ => ⟨S639, .i32⟩
  | .hbm, ⟨16, _⟩ => ⟨S639, .i32⟩
  | .hbm, ⟨17, _⟩ => ⟨S_, .i32⟩
  | .hbm, ⟨18, _⟩ => ⟨S639, .i32⟩
  | .hbm, ⟨19, _⟩ => ⟨S639, .i1⟩
  | .hbm, ⟨20, _⟩ => ⟨S_, .i32⟩
  | .hbm, ⟨21, _⟩ => ⟨S639, .i32⟩
  | .hbm, ⟨22, _⟩ => ⟨S639, .i32⟩
  | .hbm, ⟨23, _⟩ => ⟨S639, .i32⟩
  | .hbm, ⟨24, _⟩ => ⟨S639x1, .i32⟩
  | .hbm, ⟨25, _⟩ => ⟨S16x639, .f32⟩
  | .hbm, ⟨26, _⟩ => ⟨S_, .i32⟩
  | .hbm, ⟨27, _⟩ => ⟨S_, .f32⟩
  | .hbm, ⟨28, _⟩ => ⟨S16x640, .f32⟩
  | .hbm, ⟨29, _⟩ => ⟨S1x16x1x640, .f32⟩
  | .hbm, ⟨30, _⟩ => ⟨S1x16x64x640, .f32⟩
  | .hbm, ⟨31, _⟩ => ⟨S16x40960, .f32⟩
  | .hbm, ⟨32, _⟩ => ⟨S16x40896, .f32⟩
  | .hbm, ⟨33, _⟩ => ⟨S16x64x639, .f32⟩
  | .hbm, ⟨34, _⟩ => ⟨S16x64x576, .f32⟩
  | .hbm, ⟨35, _⟩ => ⟨S1024x576, .f32⟩
  | .hbm, ⟨36, _⟩ => ⟨S32768x1024, .bf16⟩
  | .local _ .vmem, ⟨0, _⟩ => ⟨S512x128, .bf16⟩
  | .local _ .vmem, ⟨1, _⟩ => ⟨S512x128, .bf16⟩
  | .local _ .vmem, ⟨2, _⟩ => ⟨S8704x128, .bf16⟩
  | .local _ .vmem, ⟨3, _⟩ => ⟨S8704x128, .bf16⟩
  | .local _ .vmem, ⟨4, _⟩ => ⟨S8704x128, .bf16⟩
  | .local _ .vmem, ⟨5, _⟩ => ⟨S8704x128, .bf16⟩
  | .local _ .vmem, ⟨6, _⟩ => ⟨S128x576, .f32⟩
  | .local _ .vmem, ⟨7, _⟩ => ⟨S128x576, .f32⟩
  | .local _ .vmem, ⟨8, _⟩ => ⟨S512x128, .bf16⟩
  | .local _ .vmem, ⟨9, _⟩ => ⟨S512x128, .bf16⟩
  | _, _ => ⟨S34816x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_c_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_c_2 : Ref sig .tc := ⟨.hbm, 14, rfl⟩
abbrev main_v4 : Ref sig .tc := ⟨.hbm, 15, rfl⟩
abbrev main_v5 : Ref sig .tc := ⟨.hbm, 16, rfl⟩
abbrev main_c_3 : Ref sig .tc := ⟨.hbm, 17, rfl⟩
abbrev main_v6 : Ref sig .tc := ⟨.hbm, 18, rfl⟩
abbrev main_v7 : Ref sig .tc := ⟨.hbm, 19, rfl⟩
abbrev main_c_4 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_5 : Ref sig .tc := ⟨.hbm, 26, rfl⟩
abbrev main_call1_v0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 16], ![false, false, false]⟩

def k0_cond1 (i : grid0.Coords) : BitVec 1 :=
  let arg2 : BitVec 32 := BitVec.ofNat 32 (i 2).val
  let c1_i32 : BitVec 32 := 1#32
  let v4 : BitVec 1 := Scalar.cmpi .slt arg2 c1_i32
  let v5 : BitVec 32 := Scalar.extui v4
  let c0_i32 : BitVec 32 := 0#32
  let v6 : BitVec 1 := Scalar.cmpi .ne v5 c0_i32
  v6

def k0_mult1 (i : grid0.Coords) : BitVec 32 :=
  let arg2 : BitVec 32 := BitVec.ofNat 32 (i 2).val
  let c512_i32 : BitVec 32 := 512#32
  let v17 : BitVec 32 := Scalar.muli arg2 c512_i32
  let c0_i32_5 : BitVec 32 := 0#32
  let v18 : BitVec 32 := Scalar.addi v17 c0_i32_5
  v18
def k0_off1 (i : grid0.Coords) (c0_i32_5 : BitVec 32) : Fin 2 → Nat :=
  let arg2 : BitVec 32 := BitVec.ofNat 32 (i 2).val
  let c512_i32 : BitVec 32 := 512#32
  let v17 : BitVec 32 := Scalar.muli arg2 c512_i32
  let v18 : BitVec 32 := Scalar.addi v17 c0_i32_5
  let v19 : BitVec 32 := v18
  let v20 : Index := Scalar.indexCast v19
  let c0_6 : Index := 0#32
  ![v20.toNat, 0]
def k0_mult2 (i : grid0.Coords) : BitVec 32 :=
  let arg2 : BitVec 32 := BitVec.ofNat 32 (i 2).val
  let c512_i32_8 : BitVec 32 := 512#32
  let v24 : BitVec 32 := Scalar.muli arg2 c512_i32_8
  let c0_i32_9 : BitVec 32 := 0#32
  let v25 : BitVec 32 := Scalar.addi v24 c0_i32_9
  v25
def k0_mult3 (i : grid0.Coords) : BitVec 32 :=
  let arg2 : BitVec 32 := BitVec.ofNat 32 (i 2).val
  let c512_i32_13 : BitVec 32 := 512#32
  let v36 : BitVec 32 := Scalar.muli arg2 c512_i32_13
  let c64_i32_14 : BitVec 32 := 64#32
  let v37 : BitVec 32 := Scalar.addi v36 c64_i32_14
  v37
def k0_mult4 (i : grid0.Coords) : BitVec 32 :=
  let arg2 : BitVec 32 := BitVec.ofNat 32 (i 2).val
  let c512_i32_17 : BitVec 32 := 512#32
  let v43 : BitVec 32 := Scalar.muli arg2 c512_i32_17
  let c64_i32_18 : BitVec 32 := 64#32
  let v44 : BitVec 32 := Scalar.addi v43 c64_i32_18
  v44
def k0_mult5 (i : grid0.Coords) : BitVec 32 :=
  let arg2 : BitVec 32 := BitVec.ofNat 32 (i 2).val
  let c512_i32_22 : BitVec 32 := 512#32
  let v55 : BitVec 32 := Scalar.muli arg2 c512_i32_22
  let c128_i32 : BitVec 32 := 128#32
  let v56 : BitVec 32 := Scalar.addi v55 c128_i32
  v56
def k0_mult6 (i : grid0.Coords) : BitVec 32 :=
  let arg2 : BitVec 32 := BitVec.ofNat 32 (i 2).val
  let c512_i32_25 : BitVec 32 := 512#32
  let v62 : BitVec 32 := Scalar.muli arg2 c512_i32_25
  let c128_i32_26 : BitVec 32 := 128#32
  let v63 : BitVec 32 := Scalar.addi v62 c128_i32_26
  v63
def k0_mult7 (i : grid0.Coords) : BitVec 32 :=
  let arg2 : BitVec 32 := BitVec.ofNat 32 (i 2).val
  let c512_i32_30 : BitVec 32 := 512#32
  let v74 : BitVec 32 := Scalar.muli arg2 c512_i32_30
  let c192_i32 : BitVec 32 := 192#32
  let v75 : BitVec 32 := Scalar.addi v74 c192_i32
  v75
def k0_mult8 (i : grid0.Coords) : BitVec 32 :=
  let arg2 : BitVec 32 := BitVec.ofNat 32 (i 2).val
  let c512_i32_33 : BitVec 32 := 512#32
  let v81 : BitVec 32 := Scalar.muli arg2 c512_i32_33
  let c192_i32_34 : BitVec 32 := 192#32
  let v82 : BitVec 32 := Scalar.addi v81 c192_i32_34
  v82
def k0_mult9 (i : grid0.Coords) : BitVec 32 :=
  let arg2 : BitVec 32 := BitVec.ofNat 32 (i 2).val
  let c512_i32_41 : BitVec 32 := 512#32
  let v103 : BitVec 32 := Scalar.muli arg2 c512_i32_41
  let c0_i32_42 : BitVec 32 := 0#32
  let v104 : BitVec 32 := Scalar.addi v103 c0_i32_42
  v104
def k0_mult10 (i : grid0.Coords) : BitVec 32 :=
  let arg2 : BitVec 32 := BitVec.ofNat 32 (i 2).val
  let c512_i32_45 : BitVec 32 := 512#32
  let v112 : BitVec 32 := Scalar.muli arg2 c512_i32_45
  let c64_i32_46 : BitVec 32 := 64#32
  let v113 : BitVec 32 := Scalar.addi v112 c64_i32_46
  v113
def k0_mult11 (i : grid0.Coords) : BitVec 32 :=
  let arg2 : BitVec 32 := BitVec.ofNat 32 (i 2).val
  let c512_i32_54 : BitVec 32 := 512#32
  let v135 : BitVec 32 := Scalar.muli arg2 c512_i32_54
  let c256_i32 : BitVec 32 := 256#32
  let v136 : BitVec 32 := Scalar.addi v135 c256_i32
  v136
def k0_mult12 (i : grid0.Coords) : BitVec 32 :=
  let arg2 : BitVec 32 := BitVec.ofNat 32 (i 2).val
  let c512_i32_57 : BitVec 32 := 512#32
  let v142 : BitVec 32 := Scalar.muli arg2 c512_i32_57
  let c256_i32_58 : BitVec 32 := 256#32
  let v143 : BitVec 32 := Scalar.addi v142 c256_i32_58
  v143
def k0_mult13 (i : grid0.Coords) : BitVec 32 :=
  let arg2 : BitVec 32 := BitVec.ofNat 32 (i 2).val
  let c512_i32_62 : BitVec 32 := 512#32
  let v154 : BitVec 32 := Scalar.muli arg2 c512_i32_62
  let c320_i32 : BitVec 32 := 320#32
  let v155 : BitVec 32 := Scalar.addi v154 c320_i32
  v155
def k0_mult14 (i : grid0.Coords) : BitVec 32 :=
  let arg2 : BitVec 32 := BitVec.ofNat 32 (i 2).val
  let c512_i32_65 : BitVec 32 := 512#32
  let v161 : BitVec 32 := Scalar.muli arg2 c512_i32_65
  let c320_i32_66 : BitVec 32 := 320#32
  let v162 : BitVec 32 := Scalar.addi v161 c320_i32_66
  v162
def k0_mult15 (i : grid0.Coords) : BitVec 32 :=
  let arg2 : BitVec 32 := BitVec.ofNat 32 (i 2).val
  let c512_i32_73 : BitVec 32 := 512#32
  let v183 : BitVec 32 := Scalar.muli arg2 c512_i32_73
  let c128_i32_74 : BitVec 32 := 128#32
  let v184 : BitVec 32 := Scalar.addi v183 c128_i32_74
  v184
def k0_mult16 (i : grid0.Coords) : BitVec 32 :=
  let arg2 : BitVec 32 := BitVec.ofNat 32 (i 2).val
  let c512_i32_77 : BitVec 32 := 512#32
  let v192 : BitVec 32 := Scalar.muli arg2 c512_i32_77
  let c192_i32_78 : BitVec 32 := 192#32
  let v193 : BitVec 32 := Scalar.addi v192 c192_i32_78
  v193
def k0_mult17 (i : grid0.Coords) : BitVec 32 :=
  let arg2 : BitVec 32 := BitVec.ofNat 32 (i 2).val
  let c512_i32_86 : BitVec 32 := 512#32
  let v215 : BitVec 32 := Scalar.muli arg2 c512_i32_86
  let c384_i32 : BitVec 32 := 384#32
  let v216 : BitVec 32 := Scalar.addi v215 c384_i32
  v216
def k0_mult18 (i : grid0.Coords) : BitVec 32 :=
  let arg2 : BitVec 32 := BitVec.ofNat 32 (i 2).val
  let c512_i32_89 : BitVec 32 := 512#32
  let v222 : BitVec 32 := Scalar.muli arg2 c512_i32_89
  let c384_i32_90 : BitVec 32 := 384#32
  let v223 : BitVec 32 := Scalar.addi v222 c384_i32_90
  v223
def k0_mult19 (i : grid0.Coords) : BitVec 32 :=
  let arg2 : BitVec 32 := BitVec.ofNat 32 (i 2).val
  let c512_i32_94 : BitVec 32 := 512#32
  let v234 : BitVec 32 := Scalar.muli arg2 c512_i32_94
  let c448_i32 : BitVec 32 := 448#32
  let v235 : BitVec 32 := Scalar.addi v234 c448_i32
  v235
def k0_mult20 (i : grid0.Coords) : BitVec 32 :=
  let arg2 : BitVec 32 := BitVec.ofNat 32 (i 2).val
  let c512_i32_97 : BitVec 32 := 512#32
  let v241 : BitVec 32 := Scalar.muli arg2 c512_i32_97
  let c448_i32_98 : BitVec 32 := 448#32
  let v242 : BitVec 32 := Scalar.addi v241 c448_i32_98
  v242
def k0_mult21 (i : grid0.Coords) : BitVec 32 :=
  let arg2 : BitVec 32 := BitVec.ofNat 32 (i 2).val
  let c512_i32_105 : BitVec 32 := 512#32
  let v263 : BitVec 32 := Scalar.muli arg2 c512_i32_105
  let c256_i32_106 : BitVec 32 := 256#32
  let v264 : BitVec 32 := Scalar.addi v263 c256_i32_106
  v264
def k0_mult22 (i : grid0.Coords) : BitVec 32 :=
  let arg2 : BitVec 32 := BitVec.ofNat 32 (i 2).val
  let c512_i32_109 : BitVec 32 := 512#32
  let v272 : BitVec 32 := Scalar.muli arg2 c512_i32_109
  let c320_i32_110 : BitVec 32 := 320#32
  let v273 : BitVec 32 := Scalar.addi v272 c320_i32_110
  v273
def k0_mult23 (i : grid0.Coords) : BitVec 32 :=
  let arg2 : BitVec 32 := BitVec.ofNat 32 (i 2).val
  let c512_i32_121 : BitVec 32 := 512#32
  let v305 : BitVec 32 := Scalar.muli arg2 c512_i32_121
  let c384_i32_122 : BitVec 32 := 384#32
  let v306 : BitVec 32 := Scalar.addi v305 c384_i32_122
  v306
def k0_mult24 (i : grid0.Coords) : BitVec 32 :=
  let arg2 : BitVec 32 := BitVec.ofNat 32 (i 2).val
  let c512_i32_125 : BitVec 32 := 512#32
  let v314 : BitVec 32 := Scalar.muli arg2 c512_i32_125
  let c448_i32_126 : BitVec 32 := 448#32
  let v315 : BitVec 32 := Scalar.addi v314 c448_i32_126
  v315
def k0_cond2 (i : grid0.Coords) : BitVec 1 :=
  let arg2 : BitVec 32 := BitVec.ofNat 32 (i 2).val
  let c1_i32_0 : BitVec 32 := 1#32
  let v7 : BitVec 1 := Scalar.cmpi .sge arg2 c1_i32_0
  let v8 : BitVec 32 := Scalar.extui v7
  let c0_i32_1 : BitVec 32 := 0#32
  let v9 : BitVec 1 := Scalar.cmpi .ne v8 c0_i32_1
  v9

def k0_mult25 (i : grid0.Coords) : BitVec 32 :=
  let arg2 : BitVec 32 := BitVec.ofNat 32 (i 2).val
  let c512_i32 : BitVec 32 := 512#32
  let v16 : BitVec 32 := Scalar.muli arg2 c512_i32
  let c0_i32_5 : BitVec 32 := 0#32
  let v17 : BitVec 32 := Scalar.addi v16 c0_i32_5
  v17
def k0_off2 (i : grid0.Coords) (c0_i32_5 : BitVec 32) : Fin 2 → Nat :=
  let arg2 : BitVec 32 := BitVec.ofNat 32 (i 2).val
  let c512_i32 : BitVec 32 := 512#32
  let v16 : BitVec 32 := Scalar.muli arg2 c512_i32
  let v17 : BitVec 32 := Scalar.addi v16 c0_i32_5
  let v18 : BitVec 32 := v17
  let v19 : Index := Scalar.indexCast v18
  let c0_6 : Index := 0#32
  ![v19.toNat, 0]
def k0_mult26 (i : grid0.Coords) : BitVec 32 :=
  let arg2 : BitVec 32 := BitVec.ofNat 32 (i 2).val
  let c512_i32_9 : BitVec 32 := 512#32
  let v27 : BitVec 32 := Scalar.muli arg2 c512_i32_9
  let c64_i32_10 : BitVec 32 := 64#32
  let v28 : BitVec 32 := Scalar.addi v27 c64_i32_10
  v28
def k0_mult27 (i : grid0.Coords) : BitVec 32 :=
  let arg2 : BitVec 32 := BitVec.ofNat 32 (i 2).val
  let c512_i32_14 : BitVec 32 := 512#32
  let v38 : BitVec 32 := Scalar.muli arg2 c512_i32_14
  let c128_i32 : BitVec 32 := 128#32
  let v39 : BitVec 32 := Scalar.addi v38 c128_i32
  v39
def k0_mult28 (i : grid0.Coords) : BitVec 32 :=
  let arg2 : BitVec 32 := BitVec.ofNat 32 (i 2).val
  let c512_i32_18 : BitVec 32 := 512#32
  let v49 : BitVec 32 := Scalar.muli arg2 c512_i32_18
  let c192_i32 : BitVec 32 := 192#32
  let v50 : BitVec 32 := Scalar.addi v49 c192_i32
  v50
def k0_mult29 (i : grid0.Coords) : BitVec 32 :=
  let arg2 : BitVec 32 := BitVec.ofNat 32 (i 2).val
  let c512_i32_25 : BitVec 32 := 512#32
  let v70 : BitVec 32 := Scalar.muli arg2 c512_i32_25
  let c0_i32_26 : BitVec 32 := 0#32
  let v71 : BitVec 32 := Scalar.addi v70 c0_i32_26
  v71
def k0_mult30 (i : grid0.Coords) : BitVec 32 :=
  let arg2 : BitVec 32 := BitVec.ofNat 32 (i 2).val
  let c512_i32_29 : BitVec 32 := 512#32
  let v79 : BitVec 32 := Scalar.muli arg2 c512_i32_29
  let c64_i32_30 : BitVec 32 := 64#32
  let v80 : BitVec 32 := Scalar.addi v79 c64_i32_30
  v80
def k0_mult31 (i : grid0.Coords) : BitVec 32 :=
  let arg2 : BitVec 32 := BitVec.ofNat 32 (i 2).val
  let c512_i32_38 : BitVec 32 := 512#32
  let v102 : BitVec 32 := Scalar.muli arg2 c512_i32_38
  let c256_i32 : BitVec 32 := 256#32
  let v103 : BitVec 32 := Scalar.addi v102 c256_i32
  v103
def k0_mult32 (i : grid0.Coords) : BitVec 32 :=
  let arg2 : BitVec 32 := BitVec.ofNat 32 (i 2).val
  let c512_i32_42 : BitVec 32 := 512#32
  let v113 : BitVec 32 := Scalar.muli arg2 c512_i32_42
  let c320_i32 : BitVec 32 := 320#32
  let v114 : BitVec 32 := Scalar.addi v113 c320_i32
  v114
def k0_mult33 (i : grid0.Coords) : BitVec 32 :=
  let arg2 : BitVec 32 := BitVec.ofNat 32 (i 2).val
  let c512_i32_49 : BitVec 32 := 512#32
  let v134 : BitVec 32 := Scalar.muli arg2 c512_i32_49
  let c128_i32_50 : BitVec 32 := 128#32
  let v135 : BitVec 32 := Scalar.addi v134 c128_i32_50
  v135
def k0_mult34 (i : grid0.Coords) : BitVec 32 :=
  let arg2 : BitVec 32 := BitVec.ofNat 32 (i 2).val
  let c512_i32_53 : BitVec 32 := 512#32
  let v143 : BitVec 32 := Scalar.muli arg2 c512_i32_53
  let c192_i32_54 : BitVec 32 := 192#32
  let v144 : BitVec 32 := Scalar.addi v143 c192_i32_54
  v144
def k0_mult35 (i : grid0.Coords) : BitVec 32 :=
  let arg2 : BitVec 32 := BitVec.ofNat 32 (i 2).val
  let c512_i32_62 : BitVec 32 := 512#32
  let v166 : BitVec 32 := Scalar.muli arg2 c512_i32_62
  let c384_i32 : BitVec 32 := 384#32
  let v167 : BitVec 32 := Scalar.addi v166 c384_i32
  v167
def k0_mult36 (i : grid0.Coords) : BitVec 32 :=
  let arg2 : BitVec 32 := BitVec.ofNat 32 (i 2).val
  let c512_i32_66 : BitVec 32 := 512#32
  let v177 : BitVec 32 := Scalar.muli arg2 c512_i32_66
  let c448_i32 : BitVec 32 := 448#32
  let v178 : BitVec 32 := Scalar.addi v177 c448_i32
  v178
def k0_mult37 (i : grid0.Coords) : BitVec 32 :=
  let arg2 : BitVec 32 := BitVec.ofNat 32 (i 2).val
  let c512_i32_73 : BitVec 32 := 512#32
  let v198 : BitVec 32 := Scalar.muli arg2 c512_i32_73
  let c256_i32_74 : BitVec 32 := 256#32
  let v199 : BitVec 32 := Scalar.addi v198 c256_i32_74
  v199
def k0_mult38 (i : grid0.Coords) : BitVec 32 :=
  let arg2 : BitVec 32 := BitVec.ofNat 32 (i 2).val
  let c512_i32_77 : BitVec 32 := 512#32
  let v207 : BitVec 32 := Scalar.muli arg2 c512_i32_77
  let c320_i32_78 : BitVec 32 := 320#32
  let v208 : BitVec 32 := Scalar.addi v207 c320_i32_78
  v208
def k0_mult39 (i : grid0.Coords) : BitVec 32 :=
  let arg2 : BitVec 32 := BitVec.ofNat 32 (i 2).val
  let c512_i32_89 : BitVec 32 := 512#32
  let v240 : BitVec 32 := Scalar.muli arg2 c512_i32_89
  let c384_i32_90 : BitVec 32 := 384#32
  let v241 : BitVec 32 := Scalar.addi v240 c384_i32_90
  v241
def k0_mult40 (i : grid0.Coords) : BitVec 32 :=
  let arg2 : BitVec 32 := BitVec.ofNat 32 (i 2).val
  let c512_i32_93 : BitVec 32 := 512#32
  let v249 : BitVec 32 := Scalar.muli arg2 c512_i32_93
  let c448_i32_94 : BitVec 32 := 448#32
  let v250 : BitVec 32 := Scalar.addi v249 c448_i32_94
  v250
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c1_i32 : BitVec 32 := 1#32
  let v1 : BitVec 32 := Scalar.addi v0 c1_i32
  let v2 : BitVec 32 := Scalar.addi v1 arg2
  let c0_i32 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8704x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8704x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S128x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== AttnIdeal.lean ====
variable {F : FTy → Type} [FloatOps F] [Named F]
def κ : String → Option EReal := fun
  | "mask" => some ⊥
  | _ => none
-- ==== AttnRefIdeal.lean ====
abbrev S34816x3072 : Shape := ⟨2, ![34816, 3072]⟩
abbrev S16x513 : Shape := ⟨2, ![16, 513]⟩
abbrev S4x136x64x3x16x64 : Shape := ⟨6, ![4, 136, 64, 3, 16, 64]⟩
abbrev S4x128x64x1x16x64 : Shape := ⟨6, ![4, 128, 64, 1, 16, 64]⟩
abbrev S4x128x64x16x64 : Shape := ⟨5, ![4, 128, 64, 16, 64]⟩
abbrev S4x136x64x1x16x64 : Shape := ⟨6, ![4, 136, 64, 1, 16, 64]⟩
abbrev S4x136x64x16x64 : Shape := ⟨5, ![4, 136, 64, 16, 64]⟩
abbrev S4x128x576x16x64 : Shape := ⟨5, ![4, 128, 576, 16, 64]⟩
abbrev S64 : Shape := ⟨1, ![64]⟩
abbrev S64x1 : Shape := ⟨2, ![64, 1]⟩
abbrev S_ : Shape := ⟨0, ![]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S4x128x16x64x576 : Shape := ⟨5, ![4, 128, 16, 64, 576]⟩
abbrev S1x1x16x64x576 : Shape := ⟨5, ![1, 1, 16, 64, 576]⟩
abbrev S128 : Shape := ⟨1, ![128]⟩
abbrev S128x1 : Shape := ⟨2, ![128, 1]⟩
abbrev S128x576 : Shape := ⟨2, ![128, 576]⟩
abbrev S1x128x1x1x576 : Shape := ⟨5, ![1, 128, 1, 1, 576]⟩
abbrev S4x128x16x64 : Shape := ⟨4, ![4, 128, 16, 64]⟩
abbrev S4x128x16x64x1 : Shape := ⟨5, ![4, 128, 16, 64, 1]⟩
abbrev S4x128x16x64x64 : Shape := ⟨5, ![4, 128, 16, 64, 64]⟩
abbrev S32768x1024 : Shape := ⟨2, ![32768, 1024]⟩

abbrev nBuf : Space → Nat
  | .hbm => 104
  | .vmem => 0
  | .smem => 0
  | _ => 0

abbrev bufTy : (tb : Table) → Fin (tcTables nBuf tb) → BufTy
  | .hbm, ⟨0, _⟩ => ⟨S34816x3072, .bf16⟩
  | .hbm, ⟨1, _⟩ => ⟨S16x513, .f32⟩
  | .hbm, ⟨2, _⟩ => ⟨S34816x3072, .f32⟩
  | .hbm, ⟨3, _⟩ => ⟨S4x136x64x3x16x64, .f32⟩
  | .hbm, ⟨4, _⟩ => ⟨S4x128x64x1x16x64, .f32⟩
  | .hbm, ⟨5, _⟩ => ⟨S4x128x64x16x64, .f32⟩
  | .hbm, ⟨6, _⟩ => ⟨S4x136x64x1x16x64, .f32⟩
  | .hbm, ⟨7, _⟩ => ⟨S4x136x64x16x64, .f32⟩
  | .hbm, ⟨8, _⟩ => ⟨S4x136x64x1x16x64, .f32⟩
  | .hbm, ⟨9, _⟩ => ⟨S4x136x64x16x64, .f32⟩
  | .hbm, ⟨10, _⟩ => ⟨S4x128x64x16x64, .f32⟩
  | .hbm, ⟨11, _⟩ => ⟨S4x128x64x16x64, .f32⟩
  | .hbm, ⟨12, _⟩ => ⟨S4x128x64x16x64, .f32⟩
  | .hbm, ⟨13, _⟩ => ⟨S4x128x64x16x64, .f32⟩
  | .hbm, ⟨14, _⟩ => ⟨S4x128x64x16x64, .f32⟩
  | .hbm, ⟨15, _⟩ => ⟨S4x128x64x16x64, .f32⟩
  | .hbm, ⟨16, _⟩ => ⟨S4x128x64x16x64, .f32⟩
  | .hbm, ⟨17, _⟩ => ⟨S4x128x64x16x64, .f32⟩
  | .hbm, ⟨18, _⟩ => ⟨S4x128x64x16x64, .f32⟩
  | .hbm, ⟨19, _⟩ => ⟨S4x128x576x16x64, .f32⟩
  | .hbm, ⟨20, _⟩ => ⟨S4x128x64x16x64, .f32⟩
  | .hbm, ⟨21, _⟩ => ⟨S4x128x64x16x64, .f32⟩
  | .hbm, ⟨22, _⟩ => ⟨S4x128x64x16x64, .f32⟩
  | .hbm, ⟨23, _⟩ => ⟨S4x128x64x16x64, .f32⟩
  | .hbm, ⟨24, _⟩ => ⟨S4x128x64x16x64, .f32⟩
  | .hbm, ⟨25, _⟩ => ⟨S4x128x64x16x64, .f32⟩
  | .hbm, ⟨26, _⟩ => ⟨S4x128x64x16x64, .f32⟩
  | .hbm, ⟨27, _⟩ => ⟨S4x128x64x16x64, .f32⟩
  | .hbm, ⟨28, _⟩ => ⟨S4x128x64x16x64, .f32⟩
  | .hbm, ⟨29, _⟩ => ⟨S4x128x576x16x64, .f32⟩
  | .hbm, ⟨30, _⟩ => ⟨S64, .i32⟩
  | .hbm, ⟨31, _⟩ => ⟨S64x1, .i32⟩
  | .hbm, ⟨32, _⟩ => ⟨S_, .i32⟩
  | .hbm, ⟨33, _⟩ => ⟨S64x1, .i32⟩
  | .hbm, ⟨34, _⟩ => ⟨S64x1, .i32⟩
  | .hbm, ⟨35, _⟩ => ⟨S576, .i32⟩
  | .hbm, ⟨36, _⟩ => ⟨S1x576, .i32⟩
  | .hbm, ⟨37, _⟩ => ⟨S64x576, .i32⟩
  | .hbm, ⟨38, _⟩ => ⟨S64x576, .i32⟩
  | .hbm, ⟨39, _⟩ => ⟨S64x576, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S64x576, .i32⟩
  | .hbm, ⟨44, _⟩ => ⟨S64x576, .i32⟩
  | .hbm, ⟨45, _⟩ => ⟨S_, .i32⟩
  | .hbm, ⟨46, _⟩ => ⟨S64x576, .i32⟩
  | .hbm, ⟨47, _⟩ => ⟨S64x576, .i32⟩
  | .hbm, ⟨48, _⟩ => ⟨S_, .i32⟩
  | .hbm, ⟨49, _⟩ => ⟨S64x576, .i32⟩
  | .hbm, ⟨50, _⟩ => ⟨S64x576, .i32⟩
  | .hbm, ⟨51, _⟩ => ⟨S_, .i32⟩
  | .hbm, ⟨52, _⟩ => ⟨S64x576, .i32⟩
  | .hbm, ⟨53, _⟩ => ⟨S64x576, .i1⟩
  | .hbm, ⟨54, _⟩ => ⟨S_, .i32⟩
  | .hbm, ⟨55, _⟩ => ⟨S64x576, .i32⟩
  | .hbm, ⟨56, _⟩ => ⟨S64x576, .i32⟩
  | .hbm, ⟨57, _⟩ => ⟨S64x576, .i32⟩
  | .hbm, ⟨58, _⟩ => ⟨S64x576x1, .i32⟩
  | .hbm, ⟨59, _⟩ => ⟨S16x64x576, .f32⟩
  | .hbm, ⟨60, _⟩ => ⟨S4x128x16x64x576, .f32⟩
  | .hbm, ⟨61, _⟩ => ⟨S1x1x16x64x576, .f32⟩
  | .hbm, ⟨62, _⟩ => ⟨S4x128x16x64x576, .f32⟩
  | .hbm, ⟨63, _⟩ => ⟨S4x128x16x64x576, .f32⟩
  | .hbm, ⟨64, _⟩ => ⟨S128, .i32⟩
  | .hbm, ⟨65, _⟩ => ⟨S128x1, .i32⟩
  | .hbm, ⟨66, _⟩ => ⟨S_, .i32⟩
  | .hbm, ⟨67, _⟩ => ⟨S128x1, .i32⟩
  | .hbm, ⟨68, _⟩ => ⟨S128x1, .i32⟩
  | .hbm, ⟨69, _⟩ => ⟨S_, .i32⟩
  | .hbm, ⟨70, _⟩ => ⟨S128x1, .i32⟩
  | .hbm, ⟨71, _⟩ => ⟨S128x1, .i32⟩
  | .hbm, ⟨72, _⟩ => ⟨S576, .i32⟩
  | .hbm, ⟨73, _⟩ => ⟨S1x576, .i32⟩
  | .hbm, ⟨74, _⟩ => ⟨S128x576, .i32⟩
  | .hbm, ⟨75, _⟩ => ⟨S128x576, .i32⟩
  | .hbm, ⟨76, _⟩ => ⟨S128x576, .i32⟩
  | .hbm, ⟨77, _⟩ => ⟨S_, .i32⟩
  | .hbm, ⟨78, _⟩ => ⟨S128x576, .i32⟩
  | .hbm, ⟨79, _⟩ => ⟨S128x576, .i1⟩
  | .hbm, ⟨80, _⟩ => ⟨S1x128x1x1x576, .i1⟩
  | .hbm, ⟨81, _⟩ => ⟨S_, .f32⟩
  | .hbm, ⟨82, _⟩ => ⟨S_, .f32⟩
  | .hbm, ⟨83, _⟩ => ⟨S4x128x16x64x576, .i1⟩
  | .hbm, ⟨84, _⟩ => ⟨S4x128x16x64x576, .f32⟩
  | .hbm, ⟨85, _⟩ => ⟨S4x128x16x64x576, .f32⟩
  | .hbm, ⟨86, _⟩ => ⟨S_, .f32⟩
  | .hbm, ⟨87, _⟩ => ⟨S4x128x16x64, .f32⟩
  | .hbm, ⟨88, _⟩ => ⟨S_, .f32⟩
  | .hbm, ⟨89, _⟩ => ⟨S4x128x16x64, .f32⟩
  | .hbm, ⟨90, _⟩ => ⟨S4x128x16x64, .f32⟩
  | .hbm, ⟨91, _⟩ => ⟨S4x128x16x64x1, .f32⟩
  | .hbm, ⟨92, _⟩ => ⟨S4x128x16x64x576, .f32⟩
  | .hbm, ⟨93, _⟩ => ⟨S4x128x16x64x576, .f32⟩
  | .hbm, ⟨94, _⟩ => ⟨S4x128x16x64x576, .f32⟩
  | .hbm, ⟨95, _⟩ => ⟨S_, .f32⟩
  | .hbm, ⟨96, _⟩ => ⟨S4x128x16x64, .f32⟩
  | .hbm, ⟨97, _⟩ => ⟨S4x128x16x64x1, .f32⟩
  | .hbm, ⟨98, _⟩ => ⟨S4x128x16x64x576, .f32⟩
  | .hbm, ⟨99, _⟩ => ⟨S4x128x16x64x576, .f32⟩
  | .hbm, ⟨100, _⟩ => ⟨S4x128x16x64x64, .f32⟩
  | .hbm, ⟨101, _⟩ => ⟨S4x128x64x16x64, .f32⟩
  | .hbm, ⟨102, _⟩ => ⟨S32768x1024, .f32⟩
  | .hbm, ⟨103, _⟩ => ⟨S32768x1024, .bf16⟩
  | _, _ => ⟨S34816x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_c : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_c_0 : Ref sig .tc := ⟨.hbm, 40, rfl⟩
abbrev main_c_1 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v37 : Ref sig .tc := ⟨.hbm, 47, rfl⟩
abbrev main_c_2 : Ref sig .tc := ⟨.hbm, 48, rfl⟩
abbrev main_v38 : Ref sig .tc := ⟨.hbm, 49, rfl⟩
abbrev main_v39 : Ref sig .tc := ⟨.hbm, 50, rfl⟩
abbrev main_c_3 : Ref sig .tc := ⟨.hbm, 51, rfl⟩
abbrev main_v40 : Ref sig .tc := ⟨.hbm, 52, rfl⟩
abbrev main_v41 : Ref sig .tc := ⟨.hbm, 53, rfl⟩
abbrev main_c_4 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_c_5 : Ref sig .tc := ⟨.hbm, 66, rfl⟩
abbrev main_v53 : Ref sig .tc := ⟨.hbm, 67, rfl⟩
abbrev main_v54 : Ref sig .tc := ⟨.hbm, 68, rfl⟩
abbrev main_c_6 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_c_7 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_v65 : Ref sig .tc := ⟨.hbm, 85, rfl⟩
abbrev main_cst_8 : Ref sig .tc := ⟨.hbm, 86, rfl⟩
abbrev main_v66 : Ref sig .tc := ⟨.hbm, 87, rfl⟩
abbrev main_cst_9 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_10 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩

abbrev nD : Nat := 1
abbrev τ : Topo := Topo.v7x

variable {F : FTy → Type} [FloatOps F]
-- ==== PostOdd.lean ====
abbrev S32768x1024 : Shape := ⟨2, ![32768, 1024]⟩
abbrev S4x4x8192x256 : Shape := ⟨4, ![4, 4, 8192, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S4x32768x256 : Shape := ⟨3, ![4, 32768, 256]⟩
abbrev S1x1024 : Shape := ⟨2, ![1, 1024]⟩
abbrev S512x1024 : Shape := ⟨2, ![512, 1024]⟩
abbrev S1x512x256 : Shape := ⟨3, ![1, 512, 256]⟩
abbrev S512 : Shape := ⟨1, ![512]⟩
abbrev S512x1 : Shape := ⟨2, ![512, 1]⟩
abbrev S512x256 : Shape := ⟨2, ![512, 256]⟩

abbrev nBuf : Space → Nat
  | .hbm => 19
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S4x4x8192x256, .f32⟩
  | .hbm, ⟨2, _⟩ => ⟨S32768x1024, .bf16⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S256x1024, .f32⟩
  | .hbm, ⟨8, _⟩ => ⟨S1024, .f32⟩
  | .hbm, ⟨9, _⟩ => ⟨S1024x1024, .f32⟩
  | .hbm, ⟨10, _⟩ => ⟨S4x32768x256, .f32⟩
  | .hbm, ⟨11, _⟩ => ⟨S1024x1024, .bf16⟩
  | .hbm, ⟨12, _⟩ => ⟨S1x1024, .f32⟩
  | .hbm, ⟨13, _⟩ => ⟨S1024x4096, .bf16⟩
  | .hbm, ⟨14, _⟩ => ⟨S4096x1024, .bf16⟩
  | .hbm, ⟨15, _⟩ => ⟨S256x1024, .bf16⟩
  | .hbm, ⟨16, _⟩ => ⟨S1x1024, .f32⟩
  | .hbm, ⟨17, _⟩ => ⟨S1024x1024, .bf16⟩
  | .hbm, ⟨18, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x512x256, .f32⟩
  | .local _ .vmem, ⟨3, _⟩ => ⟨S1x512x256, .f32⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S256x1024, .bf16⟩
  | .local _ .vmem, ⟨11, _⟩ => ⟨S1x1024, .f32⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== PostOddRefIdeal.lean ====
abbrev S32768x1024 : Shape := ⟨2, ![32768, 1024]⟩
abbrev S4x4x8192x256 : Shape := ⟨4, ![4, 4, 8192, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩
abbrev S1x4x8192x256 : Shape := ⟨4, ![1, 4, 8192, 256]⟩
abbrev S4x8192x256 : Shape := ⟨3, ![4, 8192, 256]⟩
abbrev S32768x256 : Shape := ⟨2, ![32768, 256]⟩

abbrev nBuf : Space → Nat
  | .hbm => 67
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x4x8192x256, .f32⟩
  | .hbm, ⟨2, _⟩ => ⟨S32768x1024, .bf16⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S256x1024, .f32⟩
  | .hbm, ⟨8, _⟩ => ⟨S1024, .f32⟩
  | .hbm, ⟨9, _⟩ => ⟨S1024x1024, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S32768x4096, .f32⟩
  | .hbm, ⟨30, _⟩ => ⟨S_, .f32⟩
  | .hbm, ⟨31, _⟩ => ⟨S32768x4096, .f32⟩
  | .hbm, ⟨32, _⟩ => ⟨S32768x4096, .f32⟩
  | .hbm, ⟨33, _⟩ => ⟨S32768x4096, .f32⟩
  | .hbm, ⟨34, _⟩ => ⟨S32768x1024, .f32⟩
  | .hbm, ⟨35, _⟩ => ⟨S32768x1024, .f32⟩
  | .hbm, ⟨36, _⟩ => ⟨S1x4x8192x256, .f32⟩
  | .hbm, ⟨37, _⟩ => ⟨S4x8192x256, .f32⟩
  | .hbm, ⟨38, _⟩ => ⟨S32768x256, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S32768x1, .f32⟩
  | .hbm, ⟨51, _⟩ => ⟨S32768x1024, .f32⟩
  | .hbm, ⟨52, _⟩ => ⟨S32768x1024, .f32⟩
  | .hbm, ⟨53, _⟩ => ⟨S1x1024, .f32⟩
  | .hbm, ⟨54, _⟩ => ⟨S32768x1024, .f32⟩
  | .hbm, ⟨55, _⟩ => ⟨S32768x1024, .f32⟩
  | .hbm, ⟨56, _⟩ => ⟨S32768x1024, .f32⟩
  | .hbm, ⟨57, _⟩ => ⟨S32768x1024, .f32⟩
  | .hbm, ⟨58, _⟩ => ⟨S32768x1024, .f32⟩
  | .hbm, ⟨59, _⟩ => ⟨S_, .f32⟩
  | .hbm, ⟨60, _⟩ => ⟨S32768x1024, .f32⟩
  | .hbm, ⟨61, _⟩ => ⟨S32768x1024, .f32⟩
  | .hbm, ⟨62, _⟩ => ⟨S_, .f32⟩
  | .hbm, ⟨63, _⟩ => ⟨S32768x1024, .f32⟩
  | .hbm, ⟨64, _⟩ => ⟨S32768x1024, .f32⟩
  | .hbm, ⟨65, _⟩ => ⟨S32768x1024, .f32⟩
  | .hbm, ⟨66, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== PostEven.lean ====
abbrev S32768x1024 : Shape := ⟨2, ![32768, 1024]⟩
abbrev S4x4x8192x256 : Shape := ⟨4, ![4, 4, 8192, 256]⟩
abbrev S32768x512 : Shape := ⟨2, ![32768, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S4x32768x256 : Shape := ⟨3, ![4, 32768, 256]⟩
abbrev S1x1024 : Shape := ⟨2, ![1, 1024]⟩
abbrev S512x1024 : Shape := ⟨2, ![512, 1024]⟩
abbrev S1x512x256 : Shape := ⟨3, ![1, 512, 256]⟩
abbrev S512x512 : Shape := ⟨2, ![512, 512]⟩
abbrev S512 : Shape := ⟨1, ![512]⟩
abbrev S512x1 : Shape := ⟨2, ![512, 1]⟩
abbrev S512x256 : Shape := ⟨2, ![512, 256]⟩

abbrev nBuf : Space → Nat
  | .hbm => 20
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S4x4x8192x256, .f32⟩
  | .hbm, ⟨2, _⟩ => ⟨S32768x512, .bf16⟩
  | .hbm, ⟨3, _⟩ => ⟨S32768x512, .bf16⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S256x1024, .f32⟩
  | .hbm, ⟨9, _⟩ => ⟨S1024, .f32⟩
  | .hbm, ⟨10, _⟩ => ⟨S1024x1024, .f32⟩
  | .hbm, ⟨11, _⟩ => ⟨S4x32768x256, .f32⟩
  | .hbm, ⟨12, _⟩ => ⟨S1024x1024, .bf16⟩
  | .hbm, ⟨13, _⟩ => ⟨S1x1024, .f32⟩
  | .hbm, ⟨14, _⟩ => ⟨S1024x4096, .bf16⟩
  | .hbm, ⟨15, _⟩ => ⟨S4096x1024, .bf16⟩
  | .hbm, ⟨16, _⟩ => ⟨S256x1024, .bf16⟩
  | .hbm, ⟨17, _⟩ => ⟨S1x1024, .f32⟩
  | .hbm, ⟨18, _⟩ => ⟨S1024x1024, .bf16⟩
  | .hbm, ⟨19, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x512x256, .f32⟩
  | .local _ .vmem, ⟨3, _⟩ => ⟨S1x512x256, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1024x1024, .bf16⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S256x1024, .bf16⟩
  | .local _ .vmem, ⟨13, _⟩ => ⟨S1x1024, .f32⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== PostEvenRefIdeal.lean ====
abbrev S32768x1024 : Shape := ⟨2, ![32768, 1024]⟩
abbrev S4x4x8192x256 : Shape := ⟨4, ![4, 4, 8192, 256]⟩
abbrev S32768x512 : Shape := ⟨2, ![32768, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩
abbrev S1x4x8192x256 : Shape := ⟨4, ![1, 4, 8192, 256]⟩
abbrev S4x8192x256 : Shape := ⟨3, ![4, 8192, 256]⟩
abbrev S32768x256 : Shape := ⟨2, ![32768, 256]⟩

abbrev nBuf : Space → Nat
  | .hbm => 69
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x4x8192x256, .f32⟩
  | .hbm, ⟨2, _⟩ => ⟨S32768x512, .bf16⟩
  | .hbm, ⟨3, _⟩ => ⟨S32768x512, .bf16⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S256x1024, .f32⟩
  | .hbm, ⟨9, _⟩ => ⟨S1024, .f32⟩
  | .hbm, ⟨10, _⟩ => ⟨S1024x1024, .f32⟩
  | .hbm, ⟨11, _⟩ => ⟨S32768x1024, .bf16⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S32768x1, .f32⟩
  | .hbm, ⟨26, _⟩ => ⟨S32768x1024, .f32⟩
  | .hbm, ⟨27, _⟩ => ⟨S32768x1024, .f32⟩
  | .hbm, ⟨28, _⟩ => ⟨S1x1024, .f32⟩
  | .hbm, ⟨29, _⟩ => ⟨S32768x1024, .f32⟩
  | .hbm, ⟨30, _⟩ => ⟨S32768x1024, .f32⟩
  | .hbm, ⟨31, _⟩ => ⟨S32768x4096, .f32⟩
  | .hbm, ⟨32, _⟩ => ⟨S_, .f32⟩
  | .hbm, ⟨33, _⟩ => ⟨S32768x4096, .f32⟩
  | .hbm, ⟨34, _⟩ => ⟨S32768x4096, .f32⟩
  | .hbm, ⟨35, _⟩ => ⟨S32768x4096, .f32⟩
  | .hbm, ⟨36, _⟩ => ⟨S32768x1024, .f32⟩
  | .hbm, ⟨37, _⟩ => ⟨S32768x1024, .f32⟩
  | .hbm, ⟨38, _⟩ => ⟨S1x4x8192x256, .f32⟩
  | .hbm, ⟨39, _⟩ => ⟨S4x8192x256, .f32⟩
  | .hbm, ⟨40, _⟩ => ⟨S32768x256, .f32⟩
  | .hbm, ⟨41, _⟩ => ⟨S32768x1024, .f32⟩
  | .hbm, ⟨42, _⟩ => ⟨S32768x1024, .f32⟩
  | .hbm, ⟨43, _⟩ => ⟨S_, .f32⟩
  | .hbm, ⟨44, _⟩ => ⟨S32768, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S32768x1, .f32⟩
  | .hbm, ⟨53, _⟩ => ⟨S32768x1024, .f32⟩
  | .hbm, ⟨54, _⟩ => ⟨S32768x1024, .f32⟩
  | .hbm, ⟨55, _⟩ => ⟨S1x1024, .f32⟩
  | .hbm, ⟨56, _⟩ => ⟨S32768x1024, .f32⟩
  | .hbm, ⟨57, _⟩ => ⟨S32768x1024, .f32⟩
  | .hbm, ⟨58, _⟩ => ⟨S32768x1024, .f32⟩
  | .hbm, ⟨59, _⟩ => ⟨S32768x1024, .f32⟩
  | .hbm, ⟨60, _⟩ => ⟨S32768x1024, .f32⟩
  | .hbm, ⟨61, _⟩ => ⟨S_, .f32⟩
  | .hbm, ⟨62, _⟩ => ⟨S32768x1024, .f32⟩
  | .hbm, ⟨63, _⟩ => ⟨S32768x1024, .f32⟩
  | .hbm, ⟨64, _⟩ => ⟨S_, .f32⟩
  | .hbm, ⟨65, _⟩ => ⟨S32768x1024, .f32⟩
  | .hbm, ⟨66, _⟩ => ⟨S32768x1024, .f32⟩
  | .hbm, ⟨67, _⟩ => ⟨S32768x1024, .f32⟩
  | .hbm, ⟨68, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call0_cst : Ref sig .tc := ⟨.hbm, 32, rfl⟩
abbrev main_call0_v0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_5 : Ref sig .tc := ⟨.hbm, 61, rfl⟩
abbrev main_v42 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]
-- ==== Qkv.lean ====
abbrev S32768x1024 : Shape := ⟨2, ![32768, 1024]⟩
abbrev S1024 : Shape := ⟨1, ![1024]⟩
abbrev S1024x3072 : Shape := ⟨2, ![1024, 3072]⟩
abbrev S64 : Shape := ⟨1, ![64]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S1x1024 : Shape := ⟨2, ![1, 1024]⟩
abbrev S1x64 : Shape := ⟨2, ![1, 64]⟩
abbrev S4x64 : Shape := ⟨2, ![4, 64]⟩
abbrev S34816x3072 : Shape := ⟨2, ![34816, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1024x1024 : Shape := ⟨2, ![1024, 1024]⟩
abbrev S1024x256 : Shape := ⟨2, ![1024, 256]⟩
abbrev S512x256 : Shape := ⟨2, ![512, 256]⟩

abbrev nBuf : Space → Nat
  | .hbm => 60
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S256, .i32⟩
  | .hbm, ⟨6, _⟩ => ⟨S256x1, .i32⟩
  | .hbm, ⟨7, _⟩ => ⟨S_, .i32⟩
  | .hbm, ⟨8, _⟩ => ⟨S_, .i32⟩
  | .hbm, ⟨9, _⟩ => ⟨S256x1, .i32⟩
  | .hbm, ⟨10, _⟩ => ⟨S256x1, .i32⟩
  | .hbm, ⟨11, _⟩ => ⟨S256x1, .i32⟩
  | .hbm, ⟨12, _⟩ => ⟨S_, .i32⟩
  | .hbm, ⟨13, _⟩ => ⟨S256x1, .i32⟩
  | .hbm, ⟨14, _⟩ => ⟨S256x1, .i1⟩
  | .hbm, ⟨15, _⟩ => ⟨S256x1, .i32⟩
  | .hbm, ⟨16, _⟩ => ⟨S256x1, .i32⟩
  | .hbm, ⟨17, _⟩ => ⟨S_, .i32⟩
  | .hbm, ⟨18, _⟩ => ⟨S256x1, .i32⟩
  | .hbm, ⟨19, _⟩ => ⟨S256x1, .i1⟩
  | .hbm, ⟨20, _⟩ => ⟨S256x1, .i1⟩
  | .hbm, ⟨21, _⟩ => ⟨S_, .i32⟩
  | .hbm, ⟨22, _⟩ => ⟨S256x1, .i32⟩
  | .hbm, ⟨23, _⟩ => ⟨S256x1, .i32⟩
  | .hbm, ⟨24, _⟩ => ⟨S256x1, .i32⟩
  | .hbm, ⟨25, _⟩ => ⟨S256, .i32⟩
  | .hbm, ⟨26, _⟩ => ⟨S1x256, .i32⟩
  | .hbm, ⟨27, _⟩ => ⟨S_, .i32⟩
  | .hbm, ⟨28, _⟩ => ⟨S_, .i32⟩
  | .hbm, ⟨29, _⟩ => ⟨S1x256, .i32⟩
  | .hbm, ⟨30, _⟩ => ⟨S1x256, .i32⟩
  | .hbm, ⟨31, _⟩ => ⟨S1x256, .i32⟩
  | .hbm, ⟨32, _⟩ => ⟨S_, .i32⟩
  | .hbm, ⟨33, _⟩ => ⟨S1x256, .i32⟩
  | .hbm, ⟨34, _⟩ => ⟨S1x256, .i1⟩
  | .hbm, ⟨35, _⟩ => ⟨S1x256, .i32⟩
  | .hbm, ⟨36, _⟩ => ⟨S1x256, .i32⟩
  | .hbm, ⟨37, _⟩ => ⟨S_, .i32⟩
  | .hbm, ⟨38, _⟩ => ⟨S1x256, .i32⟩
  | .hbm, ⟨39, _⟩ => ⟨S1x256, .i1⟩
  | .hbm, ⟨40, _⟩ => ⟨S1x256, .i1⟩
  | .hbm, ⟨41, _⟩ => ⟨S_, .i32⟩
  | .hbm, ⟨42, _⟩ => ⟨S1x256, .i32⟩
  | .hbm, ⟨43, _⟩ => ⟨S1x256, .i32⟩
  | .hbm, ⟨44, _⟩ => ⟨S1x256, .i32⟩
  | .hbm, ⟨45, _⟩ => ⟨S256x256, .i32⟩
  | .hbm, ⟨46, _⟩ => ⟨S256x256, .i32⟩
  | .hbm, ⟨47, _⟩ => ⟨S256x256, .i1⟩
  | .hbm, ⟨48, _⟩ => ⟨S256x256, .bf16⟩
  | .hbm, ⟨49, _⟩ => ⟨S1x1024, .f32⟩
  | .hbm, ⟨50, _⟩ => ⟨S1024x3072, .bf16⟩
  | .hbm, ⟨51, _⟩ => ⟨S1x64, .f32⟩
  | .hbm, ⟨52, _⟩ => ⟨S4x64, .f32⟩
  | .hbm, ⟨53, _⟩ => ⟨S256, .f32⟩
  | .hbm, ⟨54, _⟩ => ⟨S1x256, .f32⟩
  | .hbm, ⟨55, _⟩ => ⟨S1x64, .f32⟩
  | .hbm, ⟨56, _⟩ => ⟨S4x64, .f32⟩
  | .hbm, ⟨57, _⟩ => ⟨S256, .f32⟩
  | .hbm, ⟨58, _⟩ => ⟨S1x256, .f32⟩
  | .hbm, ⟨59, _⟩ => ⟨S34816x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1x256, .f32⟩
  | .local _ .vmem, ⟨5, _⟩ => ⟨S1x256, .f32⟩
  | .local _ .vmem, ⟨6, _⟩ => ⟨S256x256, .bf16⟩
  | .local _ .vmem, ⟨7, _⟩ => ⟨S512x3072, .bf16⟩
  | .local _ .vmem, ⟨8, _⟩ => ⟨S512x3072, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_c_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_c : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_0 : Ref sig .tc := ⟨.hbm, 41, rfl⟩
abbrev main_call1_v12 : Ref sig .tc := ⟨.hbm, 42, rfl⟩
abbrev main_call1_v13 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![4, 17], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== QkvRefIdeal.lean ====
abbrev S32768x1024 : Shape := ⟨2, ![32768, 1024]⟩
abbrev S1024 : Shape := ⟨1, ![1024]⟩
abbrev S1024x3072 : Shape := ⟨2, ![1024, 3072]⟩
abbrev S64 : Shape := ⟨1, ![64]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S4x8192x1024 : Shape := ⟨3, ![4, 8192, 1024]⟩
abbrev S4x8192x3072 : Shape := ⟨3, ![4, 8192, 3072]⟩
abbrev S4x8192x3x16x64 : Shape := ⟨5, ![4, 8192, 3, 16, 64]⟩
abbrev S4x8192x1x16x64 : Shape := ⟨5, ![4, 8192, 1, 16, 64]⟩
abbrev S4x8192x16x64 : Shape := ⟨4, ![4, 8192, 16, 64]⟩
abbrev S4x8192x16 : Shape := ⟨3, ![4, 8192, 16]⟩
abbrev S4x8192x16x1 : Shape := ⟨4, ![4, 8192, 16, 1]⟩
abbrev S1x1x1x64 : Shape := ⟨4, ![1, 1, 1, 64]⟩
abbrev S4x8704x3072 : Shape := ⟨3, ![4, 8704, 3072]⟩
abbrev S34816x3072 : Shape := ⟨2, ![34816, 3072]⟩

abbrev nBuf : Space → Nat
  | .hbm => 75
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S4x8192x1024, .f32⟩
  | .hbm, ⟨22, _⟩ => ⟨S4x8192x3072, .f32⟩
  | .hbm, ⟨23, _⟩ => ⟨S4x8192x3x16x64, .f32⟩
  | .hbm, ⟨24, _⟩ => ⟨S4x8192x1x16x64, .f32⟩
  | .hbm, ⟨25, _⟩ => ⟨S4x8192x16x64, .f32⟩
  | .hbm, ⟨26, _⟩ => ⟨S4x8192x16x64, .f32⟩
  | .hbm, ⟨27, _⟩ => ⟨S_, .f32⟩
  | .hbm, ⟨28, _⟩ => ⟨S4x8192x16, .f32⟩
  | .hbm, ⟨29, _⟩ => ⟨S4x8192x16x1, .f32⟩
  | .hbm, ⟨30, _⟩ => ⟨S_, .f32⟩
  | .hbm, ⟨31, _⟩ => ⟨S4x8192x16x1, .f32⟩
  | .hbm, ⟨32, _⟩ => ⟨S4x8192x16x1, .f32⟩
  | .hbm, ⟨33, _⟩ => ⟨S_, .f32⟩
  | .hbm, ⟨34, _⟩ => ⟨S4x8192x16x1, .f32⟩
  | .hbm, ⟨35, _⟩ => ⟨S4x8192x16x1, .f32⟩
  | .hbm, ⟨36, _⟩ => ⟨S4x8192x16x1, .f32⟩
  | .hbm, ⟨37, _⟩ => ⟨S4x8192x16x64, .f32⟩
  | .hbm, ⟨38, _⟩ => ⟨S4x8192x16x64, .f32⟩
  | .hbm, ⟨39, _⟩ => ⟨S1x1x1x64, .f32⟩
  | .hbm, ⟨40, _⟩ => ⟨S4x8192x16x64, .f32⟩
  | .hbm, ⟨41, _⟩ => ⟨S4x8192x16x64, .f32⟩
  | .hbm, ⟨42, _⟩ => ⟨S_, .f32⟩
  | .hbm, ⟨43, _⟩ => ⟨S4x8192x16x64, .f32⟩
  | .hbm, ⟨44, _⟩ => ⟨S4x8192x16x64, .f32⟩
  | .hbm, ⟨45, _⟩ => ⟨S4x8192x1x16x64, .f32⟩
  | .hbm, ⟨46, _⟩ => ⟨S4x8192x16x64, .f32⟩
  | .hbm, ⟨47, _⟩ => ⟨S4x8192x16x64, .f32⟩
  | .hbm, ⟨48, _⟩ => ⟨S_, .f32⟩
  | .hbm, ⟨49, _⟩ => ⟨S4x8192x16, .f32⟩
  | .hbm, ⟨50, _⟩ => ⟨S4x8192x16x1, .f32⟩
  | .hbm, ⟨51, _⟩ => ⟨S_, .f32⟩
  | .hbm, ⟨52, _⟩ => ⟨S4x8192x16x1, .f32⟩
  | .hbm, ⟨53, _⟩ => ⟨S4x8192x16x1, .f32⟩
  | .hbm, ⟨54, _⟩ => ⟨S_, .f32⟩
  | .hbm, ⟨55, _⟩ => ⟨S4x8192x16x1, .f32⟩
  | .hbm, ⟨56, _⟩ => ⟨S4x8192x16x1, .f32⟩
  | .hbm, ⟨57, _⟩ => ⟨S4x8192x16x1, .f32⟩
  | .hbm, ⟨58, _⟩ => ⟨S4x8192x16x64, .f32⟩
  | .hbm, ⟨59, _⟩ => ⟨S4x8192x16x64, .f32⟩
  | .hbm, ⟨60, _⟩ => ⟨S1x1x1x64, .f32⟩
  | .hbm, ⟨61, _⟩ => ⟨S4x8192x16x64, .f32⟩
  | .hbm, ⟨62, _⟩ => ⟨S4x8192x16x64, .f32⟩
  | .hbm, ⟨63, _⟩ => ⟨S4x8192x1x16x64, .f32⟩
  | .hbm, ⟨64, _⟩ => ⟨S4x8192x16x64, .f32⟩
  | .hbm, ⟨65, _⟩ => ⟨S4x8192x1x16x64, .f32⟩
  | .hbm, ⟨66, _⟩ => ⟨S4x8192x1x16x64, .f32⟩
  | .hbm, ⟨67, _⟩ => ⟨S4x8192x1x16x64, .f32⟩
  | .hbm, ⟨68, _⟩ => ⟨S4x8192x3x16x64, .f32⟩
  | .hbm, ⟨69, _⟩ => ⟨S4x8192x3072, .f32⟩
  | .hbm, ⟨70, _⟩ => ⟨S_, .i32⟩
  | .hbm, ⟨71, _⟩ => ⟨S_, .f32⟩
  | .hbm, ⟨72, _⟩ => ⟨S4x8704x3072, .f32⟩
  | .hbm, ⟨73, _⟩ => ⟨S34816x3072, .f32⟩
  | .hbm, ⟨74, _⟩ => ⟨S34816x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_c : Ref sig .tc := ⟨.hbm, 70, rfl⟩
abbrev main_call0_v0 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩

abbrev nD : Nat := 1
abbrev τ : Topo := Topo.v7x

variable {F : FTy → Type} [FloatOps F]
-- ==== EvenIn.lean ====
abbrev S32768x1024 : Shape := ⟨2, ![32768, 1024]⟩
abbrev S1024 : Shape := ⟨1, ![1024]⟩
abbrev S1024x3592 : Shape := ⟨2, ![1024, 3592]⟩
abbrev S3x1024 : Shape := ⟨2, ![3, 1024]⟩
abbrev S512 : Shape := ⟨1, ![512]⟩
abbrev S1024x64 : Shape := ⟨2, ![1024, 64]⟩
abbrev S64x512 : Shape := ⟨2, ![64, 512]⟩
abbrev S1024x128 : Shape := ⟨2, ![1024, 128]⟩
abbrev S128x512 : Shape := ⟨2, ![128, 512]⟩
abbrev S1024x32 : Shape := ⟨2, ![1024, 32]⟩
abbrev S32x512 : Shape := ⟨2, ![32, 512]⟩
abbrev S1x1024 : Shape := ⟨2, ![1, 1024]⟩
abbrev S_ : Shape := ⟨0, ![]⟩
abbrev S1x1024x128 : Shape := ⟨3, ![1, 1024, 128]⟩
abbrev S4x1024x128 : Shape := ⟨3, ![4, 1024, 128]⟩
abbrev S1x128x512 : Shape := ⟨3, ![1, 128, 512]⟩
abbrev S4x128x512 : Shape := ⟨3, ![4, 128, 512]⟩
abbrev S1024x3584 : Shape := ⟨2, ![1024, 3584]⟩
abbrev S1024x8 : Shape := ⟨2, ![1024, 8]⟩
abbrev S4x1024 : Shape := ⟨2, ![4, 1024]⟩
abbrev S1x512 : Shape := ⟨2, ![1, 512]⟩
abbrev S3x512 : Shape := ⟨2, ![3, 512]⟩
abbrev S32768x1536 : Shape := ⟨2, ![32768, 1536]⟩
abbrev S32768x512 : Shape := ⟨2, ![32768, 512]⟩
abbrev S32768x128 : Shape := ⟨2, ![32768, 128]⟩
abbrev S512x1024 : Shape := ⟨2, ![512, 1024]⟩
abbrev S8x1024 : Shape := ⟨2, ![8, 1024]⟩
abbrev S512x1536 : Shape := ⟨2, ![512, 1536]⟩
abbrev S512x512 : Shape := ⟨2, ![512, 512]⟩
abbrev S512x128 : Shape := ⟨2, ![512, 128]⟩
abbrev S512x1 : Shape := ⟨2, ![512, 1]⟩
abbrev S8 : Shape := ⟨1, ![8]⟩
abbrev S8x1 : Shape := ⟨2, ![8, 1]⟩
abbrev S1024x1536 : Shape := ⟨2, ![1024, 1536]⟩
abbrev S1024x512 : Shape := ⟨2, ![1024, 512]⟩

abbrev nBuf : Space → Nat
  | .hbm => 83
  | .vmem => 27
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3592, .f32⟩
  | .hbm, ⟨3, _⟩ => ⟨S3x1024, .f32⟩
  | .hbm, ⟨4, _⟩ => ⟨S512, .f32⟩
  | .hbm, ⟨5, _⟩ => ⟨S1024x64, .f32⟩
  | .hbm, ⟨6, _⟩ => ⟨S64x512, .f32⟩
  | .hbm, ⟨7, _⟩ => ⟨S512, .f32⟩
  | .hbm, ⟨8, _⟩ => ⟨S1024x64, .f32⟩
  | .hbm, ⟨9, _⟩ => ⟨S64x512, .f32⟩
  | .hbm, ⟨10, _⟩ => ⟨S1024x128, .f32⟩
  | .hbm, ⟨11, _⟩ => ⟨S128x512, .f32⟩
  | .hbm, ⟨12, _⟩ => ⟨S1024, .f32⟩
  | .hbm, ⟨13, _⟩ => ⟨S512, .f32⟩
  | .hbm, ⟨14, _⟩ => ⟨S1024x32, .f32⟩
  | .hbm, ⟨15, _⟩ => ⟨S32x512, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S_, .i32⟩
  | .hbm, ⟨23, _⟩ => ⟨S_, .f32⟩
  | .hbm, ⟨24, _⟩ => ⟨S1024x128, .f32⟩
  | .hbm, ⟨25, _⟩ => ⟨S_, .i32⟩
  | .hbm, ⟨26, _⟩ => ⟨S_, .f32⟩
  | .hbm, ⟨27, _⟩ => ⟨S1024x128, .f32⟩
  | .hbm, ⟨28, _⟩ => ⟨S_, .i32⟩
  | .hbm, ⟨29, _⟩ => ⟨S_, .f32⟩
  | .hbm, ⟨30, _⟩ => ⟨S1024x128, .f32⟩
  | .hbm, ⟨31, _⟩ => ⟨S_, .i32⟩
  | .hbm, ⟨32, _⟩ => ⟨S_, .f32⟩
  | .hbm, ⟨33, _⟩ => ⟨S1024x128, .f32⟩
  | .hbm, ⟨34, _⟩ => ⟨S1x1024x128, .f32⟩
  | .hbm, ⟨35, _⟩ => ⟨S1x1024x128, .f32⟩
  | .hbm, ⟨36, _⟩ => ⟨S1x1024x128, .f32⟩
  | .hbm, ⟨37, _⟩ => ⟨S1x1024x128, .f32⟩
  | .hbm, ⟨38, _⟩ => ⟨S4x1024x128, .f32⟩
  | .hbm, ⟨39, _⟩ => ⟨S4x1024x128, .bf16⟩
  | .hbm, ⟨40, _⟩ => ⟨S_, .i32⟩
  | .hbm, ⟨41, _⟩ => ⟨S_, .f32⟩
  | .hbm, ⟨42, _⟩ => ⟨S128x512, .f32⟩
  | .hbm, ⟨43, _⟩ => ⟨S_, .i32⟩
  | .hbm, ⟨44, _⟩ => ⟨S_, .f32⟩
  | .hbm, ⟨45, _⟩ => ⟨S128x512, .f32⟩
  | .hbm, ⟨46, _⟩ => ⟨S_, .i32⟩
  | .hbm, ⟨47, _⟩ => ⟨S_, .f32⟩
  | .hbm, ⟨48, _⟩ => ⟨S128x512, .f32⟩
  | .hbm, ⟨49, _⟩ => ⟨S_, .i32⟩
  | .hbm, ⟨50, _⟩ => ⟨S_, .f32⟩
  | .hbm, ⟨51, _⟩ => ⟨S128x512, .f32⟩
  | .hbm, ⟨52, _⟩ => ⟨S1x128x512, .f32⟩
  | .hbm, ⟨53, _⟩ => ⟨S1x128x512, .f32⟩
  | .hbm, ⟨54, _⟩ => ⟨S1x128x512, .f32⟩
  | .hbm, ⟨55, _⟩ => ⟨S1x128x512, .f32⟩
  | .hbm, ⟨56, _⟩ => ⟨S4x128x512, .f32⟩
  | .hbm, ⟨57, _⟩ => ⟨S4x128x512, .bf16⟩
  | .hbm, ⟨58, _⟩ => ⟨S1x1024, .f32⟩
  | .hbm, ⟨59, _⟩ => ⟨S1024x3584, .f32⟩
  | .hbm, ⟨60, _⟩ => ⟨S1024x3584, .bf16⟩
  | .hbm, ⟨61, _⟩ => ⟨S1024x8, .f32⟩
  | .hbm, ⟨62, _⟩ => ⟨S_, .i32⟩
  | .hbm, ⟨63, _⟩ => ⟨S_, .f32⟩
  | .hbm, ⟨64, _⟩ => ⟨S1024x128, .f32⟩
  | .hbm, ⟨65, _⟩ => ⟨S1024x128, .bf16⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S1x1024, .f32⟩
  | .hbm, ⟨70, _⟩ => ⟨S4x1024, .f32⟩
  | .hbm, ⟨71, _⟩ => ⟨S1x512, .f32⟩
  | .hbm, ⟨72, _⟩ => ⟨S1x512, .f32⟩
  | .hbm, ⟨73, _⟩ => ⟨S1x512, .f32⟩
  | .hbm, ⟨74, _⟩ => ⟨S3x512, .f32⟩
  | .hbm, ⟨75, _⟩ => ⟨S32768x1536, .f32⟩
  | .hbm, ⟨76, _⟩ => ⟨S32768x1536, .f32⟩
  | .hbm, ⟨77, _⟩ => ⟨S32768x512, .f32⟩
  | .hbm, ⟨78, _⟩ => ⟨S32768x128, .f32⟩
  | .hbm, ⟨79, _⟩ => ⟨S32768x512, .f32⟩
  | .hbm, ⟨80, _⟩ => ⟨S32768x512, .f32⟩
  | .hbm, ⟨81, _⟩ => ⟨S32768x512, .f32⟩
  | .hbm, ⟨82, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S1x1024, .f32⟩
  | .local _ .vmem, ⟨5, _⟩ => ⟨S1024x3584, .bf16⟩
  | .local _ .vmem, ⟨6, _⟩ => ⟨S1024x128, .bf16⟩
  | .local _ .vmem, ⟨7, _⟩ => ⟨S4x1024, .f32⟩
  | .local _ .vmem, ⟨8, _⟩ => ⟨S4x1024x128, .bf16⟩
  | .local _ .vmem, ⟨9, _⟩ => ⟨S4x128x512, .bf16⟩
  | .local _ .vmem, ⟨10, _⟩ => ⟨S3x512, .f32⟩
  | .local _ .vmem, ⟨11, _⟩ => ⟨S512x1536, .f32⟩
  | .local _ .vmem, ⟨12, _⟩ => ⟨S512x1536, .f32⟩
  | .local _ .vmem, ⟨13, _⟩ => ⟨S512x1536, .f32⟩
  | .local _ .vmem, ⟨14, _⟩ => ⟨S512x1536, .f32⟩
  | .local _ .vmem, ⟨15, _⟩ => ⟨S512x512, .f32⟩
  | .local _ .vmem, ⟨16, _⟩ => ⟨S512x512, .f32⟩
  | .local _ .vmem, ⟨17, _⟩ => ⟨S512x128, .f32⟩
  | .local _ .vmem, ⟨18, _⟩ => ⟨S512x128, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c : Ref sig .tc := ⟨.hbm, 22, rfl⟩
abbrev main_call0_v0 : Ref sig .tc := ⟨.hbm, 23, rfl⟩
abbrev main_v6 : Ref sig .tc := ⟨.hbm, 24, rfl⟩
abbrev main_c_0 : Ref sig .tc := ⟨.hbm, 25, rfl⟩
abbrev main_call1_v0 : Ref sig .tc := ⟨.hbm, 26, rfl⟩
abbrev main_v7 : Ref sig .tc := ⟨.hbm, 27, rfl⟩
abbrev main_c_1 : Ref sig .tc := ⟨.hbm, 28, rfl⟩
abbrev main_call2_v0 : Ref sig .tc := ⟨.hbm, 29, rfl⟩
abbrev main_v8 : Ref sig .tc := ⟨.hbm, 30, rfl⟩
abbrev main_c_2 : Ref sig .tc := ⟨.hbm, 31, rfl⟩
abbrev main_call3_v0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_c_3 : Ref sig .tc := ⟨.hbm, 40, rfl⟩
abbrev main_call4_v0 : Ref sig .tc := ⟨.hbm, 41, rfl⟩
abbrev main_v16 : Ref sig .tc := ⟨.hbm, 42, rfl⟩
abbrev main_c_4 : Ref sig .tc := ⟨.hbm, 43, rfl⟩
abbrev main_call5_v0 : Ref sig .tc := ⟨.hbm, 44, rfl⟩
abbrev main_v17 : Ref sig .tc := ⟨.hbm, 45, rfl⟩
abbrev main_c_5 : Ref sig .tc := ⟨.hbm, 46, rfl⟩
abbrev main_call6_v0 : Ref sig .tc := ⟨.hbm, 47, rfl⟩
abbrev main_v18 : Ref sig .tc := ⟨.hbm, 48, rfl⟩
abbrev main_c_6 : Ref sig .tc := ⟨.hbm, 49, rfl⟩
abbrev main_call7_v0 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_c_7 : Ref sig .tc := ⟨.hbm, 62, rfl⟩
abbrev main_call8_v0 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41_0 : Ref sig .tc := ⟨.hbm, 75, rfl⟩
abbrev main_v41_1 : Ref sig .tc := ⟨.hbm, 76, rfl⟩
abbrev main_v41_2 : Ref sig .tc := ⟨.hbm, 77, rfl⟩
abbrev main_v41_3 : Ref sig .tc := ⟨.hbm, 78, rfl⟩
abbrev main_v41_4 : Ref sig .tc := ⟨.hbm, 79, rfl⟩
abbrev main_v41_5 : Ref sig .tc := ⟨.hbm, 80, rfl⟩
abbrev main_v41_6 : Ref sig .tc := ⟨.hbm, 81, rfl⟩
abbrev main_v41_7 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== EvenInRefIdeal.lean ====
abbrev S32768x1024 : Shape := ⟨2, ![32768, 1024]⟩
abbrev S1024 : Shape := ⟨1, ![1024]⟩
abbrev S1024x3592 : Shape := ⟨2, ![1024, 3592]⟩
abbrev S3x1024 : Shape := ⟨2, ![3, 1024]⟩
abbrev S512 : Shape := ⟨1, ![512]⟩
abbrev S1024x64 : Shape := ⟨2, ![1024, 64]⟩
abbrev S64x512 : Shape := ⟨2, ![64, 512]⟩
abbrev S1024x128 : Shape := ⟨2, ![1024, 128]⟩
abbrev S128x512 : Shape := ⟨2, ![128, 512]⟩
abbrev S1024x32 : Shape := ⟨2, ![1024, 32]⟩
abbrev S32x512 : Shape := ⟨2, ![32, 512]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S4x8192x1024 : Shape := ⟨3, ![4, 8192, 1024]⟩
abbrev S4x8193x1024 : Shape := ⟨3, ![4, 8193, 1024]⟩
abbrev S32768x3592 : Shape := ⟨2, ![32768, 3592]⟩
abbrev S32768x64 : Shape := ⟨2, ![32768, 64]⟩
abbrev S32768x512 : Shape := ⟨2, ![32768, 512]⟩
abbrev S1x512 : Shape := ⟨2, ![1, 512]⟩
abbrev S32768x128 : Shape := ⟨2, ![32768, 128]⟩
abbrev S32768x32 : Shape := ⟨2, ![32768, 32]⟩
abbrev S32768x8 : Shape := ⟨2, ![32768, 8]⟩
abbrev S32768x1536 : Shape := ⟨2, ![32768, 1536]⟩

abbrev nBuf : Space → Nat
  | .hbm => 133
  | .vmem => 0
  | .smem => 0
  | _ => 0

abbrev hbmTy0_0 (i : Nat) : BufTy := match i % 128 with
  | 0 => ⟨S32768x1024, .f32⟩
  | 1 => ⟨S1024, .f32⟩
  | 2 => ⟨S1024x3592, .f32⟩
  | 3 => ⟨S3x1024, .f32⟩
  | 4 => ⟨S512, .f32⟩
  | 5 => ⟨S1024x64, .f32⟩
  | 6 => ⟨S64x512, .f32⟩
  | 7 => ⟨S512, .f32⟩
  | 8 => ⟨S1024x64, .f32⟩
  | 9 => ⟨S64x512, .f32⟩
  | 10 => ⟨S1024x128, .f32⟩
  | 11 => ⟨S128x512, .f32⟩
  | 12 => ⟨S1024, .f32⟩
  | 13 => ⟨S512, .f32⟩
  | 14 => ⟨S1024x32, .f32⟩
  | 15 => ⟨S32x512, .f32⟩
  | 16 => ⟨S32768x1024, .f32⟩
  | 17 => ⟨S_, .f32⟩
  | 18 => ⟨S32768, .f32⟩
  | 19 => ⟨S32768x1, .f32⟩
  | 20 => ⟨S_, .f32⟩
  | 21 => ⟨S32768x1, .f32⟩
  | 22 => ⟨S32768x1, .f32⟩
  | 23 => ⟨S_, .f32⟩
  | 24 => ⟨S32768x1, .f32⟩
  | 25 => ⟨S32768x1, .f32⟩
  | 26 => ⟨S32768x1, .f32⟩
  | 27 => ⟨S32768x1024, .f32⟩
  | 28 => ⟨S32768x1024, .f32⟩
  | 29 => ⟨S1x1024, .f32⟩
  | 30 => ⟨S32768x1024, .f32⟩
  | 31 => ⟨S32768x1024, .f32⟩
  | 32 => ⟨S4x8192x1024, .f32⟩
  | 33 => ⟨S_, .i32⟩
  | 34 => ⟨S_, .f32⟩
  | 35 => ⟨S4x8193x1024, .f32⟩
  | 36 => ⟨S4x8192x1024, .f32⟩
  | 37 => ⟨S4x8192x1024, .f32⟩
  | 38 => ⟨S32768x1024, .f32⟩
  | 39 => ⟨S32768x1024, .f32⟩
  | 40 => ⟨S32768x3592, .f32⟩
  | 41 => ⟨S1x1024, .f32⟩
  | 42 => ⟨S1024, .f32⟩
  | 43 => ⟨S1x1024, .f32⟩
  | 44 => ⟨S32768x1024, .f32⟩
  | 45 => ⟨S32768x1024, .f32⟩
  | 46 => ⟨S32768x1024, .f32⟩
  | 47 => ⟨S1x1024, .f32⟩
  | 48 => ⟨S1024, .f32⟩
  | 49 => ⟨S1x1024, .f32⟩
  | 50 => ⟨S32768x1024, .f32⟩
  | 51 => ⟨S32768x1024, .f32⟩
  | 52 => ⟨S32768x1024, .f32⟩
  | 53 => ⟨S1x1024, .f32⟩
  | 54 => ⟨S1024, .f32⟩
  | 55 => ⟨S1x1024, .f32⟩
  | 56 => ⟨S32768x1024, .f32⟩
  | 57 => ⟨S32768x1024, .f32⟩
  | 58 => ⟨S32768x1024, .f32⟩
  | 59 => ⟨S1x1024, .f32⟩
  | 60 => ⟨S32768x1024, .f32⟩
  | 61 => ⟨S32768x1024, .f32⟩
  | 62 => ⟨S32768x1024, .f32⟩
  | 63 => ⟨S32768x64, .f32⟩
  | 64 => ⟨S32768x64, .f32⟩
  | 65 => ⟨S32768x512, .f32⟩
  | 66 => ⟨S1x512, .f32⟩
  | 67 => ⟨S32768x512, .f32⟩
  | 68 => ⟨S32768x512, .f32⟩
  | 69 => ⟨S32768x512, .f32⟩
  | 70 => ⟨S_, .f32⟩
  | 71 => ⟨S32768x512, .f32⟩
  | 72 => ⟨S32768x512, .f32⟩
  | 73 => ⟨S32768x512, .f32⟩
  | 74 => ⟨S32768x512, .f32⟩
  | 75 => ⟨S32768x512, .i1⟩
  | 76 => ⟨S32768x512, .f32⟩
  | 77 => ⟨S32768x512, .f32⟩
  | 78 => ⟨S32768x512, .f32⟩
  | 79 => ⟨S32768x512, .f32⟩
  | 80 => ⟨S32768x512, .f32⟩
  | 81 => ⟨S32768x512, .f32⟩
  | 82 => ⟨S32768x512, .f32⟩
  | 83 => ⟨S32768x512, .f32⟩
  | 84 => ⟨S32768x512, .f32⟩
  | 85 => ⟨S_, .f32⟩
  | 86 => ⟨S32768x512, .f32⟩
  | 87 => ⟨S32768x512, .f32⟩
  | 88 => ⟨S32768x512, .f32⟩
  | 89 => ⟨S32768x512, .f32⟩
  | 90 => ⟨S32768x64, .f32⟩
  | 91 => ⟨S32768x512, .f32⟩
  | 92 => ⟨S1x512, .f32⟩
  | 93 => ⟨S32768x512, .f32⟩
  | 94 => ⟨S32768x512, .f32⟩
  | 95 => ⟨S32768x512, .f32⟩
  | 96 => ⟨S32768x512, .f32⟩
  | 97 => ⟨S_, .f32⟩
  | 98 => ⟨S32768x512, .f32⟩
  | 99 => ⟨S32768x512, .f32⟩
  | 100 => ⟨S_, .f32⟩
  | 101 => ⟨S32768x512, .f32⟩
  | 102 => ⟨S32768x512, .f32⟩
  | 103 => ⟨S32768x128, .f32⟩
  | 104 => ⟨S32768x128, .f32⟩
  | 105 => ⟨S32768x128, .f32⟩
  | 106 => ⟨S_, .f32⟩
  | 107 => ⟨S32768x128, .f32⟩
  | 108 => ⟨S32768x128, .f32⟩
  | 109 => ⟨S_, .f32⟩
  | 110 => ⟨S32768x128, .f32⟩
  | 111 => ⟨S32768x128, .f32⟩
  | 112 => ⟨S32768x512, .f32⟩
  | 113 => ⟨S32768x32, .f32⟩
  | 114 => ⟨S32768x512, .f32⟩
  | 115 => ⟨S1x512, .f32⟩
  | 116 => ⟨S32768x512, .f32⟩
  | 117 => ⟨S32768x512, .f32⟩
  | 118 => ⟨S32768x512, .f32⟩
  | 119 => ⟨S32768x512, .f32⟩
  | 120 => ⟨S_, .f32⟩
  | 121 => ⟨S32768x512, .f32⟩
  | 122 => ⟨S32768x512, .f32⟩
  | 123 => ⟨S_, .f32⟩
  | 124 => ⟨S32768x512, .f32⟩
  | 125 => ⟨S32768x512, .f32⟩
  | 126 => ⟨S32768x8, .f32⟩
  | 127 => ⟨S_, .i32⟩
  | _ => ⟨S32768x1024, .f32⟩

abbrev hbmTy0_1 (i : Nat) : BufTy := match i % 128 with
  | 0 => ⟨S_, .f32⟩
  | 1 => ⟨S32768x128, .f32⟩
  | 2 => ⟨S32768x1536, .f32⟩
  | 3 => ⟨S32768x1536, .f32⟩
  | 4 => ⟨S32768x512, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c : Ref sig .tc := ⟨.hbm, 33, rfl⟩
abbrev main_call0_v0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call1_cst : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_v49 : Ref sig .tc := ⟨.hbm, 83, rfl⟩
abbrev main_v50 : Ref sig .tc := ⟨.hbm, 84, rfl⟩
abbrev main_cst_2 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_3 : Ref sig .tc := ⟨.hbm, 97, rfl⟩
abbrev main_v62 : Ref sig .tc := ⟨.hbm, 98, rfl⟩
abbrev main_v63 : Ref sig .tc := ⟨.hbm, 99, rfl⟩
abbrev main_cst_4 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_5 : Ref sig .tc := ⟨.hbm, 106, rfl⟩
abbrev main_v69 : Ref sig .tc := ⟨.hbm, 107, rfl⟩
abbrev main_v70 : Ref sig .tc := ⟨.hbm, 108, rfl⟩
abbrev main_cst_6 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_7 : Ref sig .tc := ⟨.hbm, 120, rfl⟩
abbrev main_v81 : Ref sig .tc := ⟨.hbm, 121, rfl⟩
abbrev main_v82 : Ref sig .tc := ⟨.hbm, 122, rfl⟩
abbrev main_cst_8 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_c_9 : Ref sig .tc := ⟨.hbm, 127, rfl⟩
abbrev main_call2_v0 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩

abbrev nD : Nat := 1
abbrev τ : Topo := Topo.v7x

variable {F : FTy → Type} [FloatOps F]
-- ==== EvenFirst.lean ====
abbrev S32768x1024 : Shape := ⟨2, ![32768, 1024]⟩
abbrev S1024 : Shape := ⟨1, ![1024]⟩
abbrev S1024x3592 : Shape := ⟨2, ![1024, 3592]⟩
abbrev S3x1024 : Shape := ⟨2, ![3, 1024]⟩
abbrev S512 : Shape := ⟨1, ![512]⟩
abbrev S1024x64 : Shape := ⟨2, ![1024, 64]⟩
abbrev S64x512 : Shape := ⟨2, ![64, 512]⟩
abbrev S1024x128 : Shape := ⟨2, ![1024, 128]⟩
abbrev S128x512 : Shape := ⟨2, ![128, 512]⟩
abbrev S_ : Shape := ⟨0, ![]⟩
abbrev S1x1024x128 : Shape := ⟨3, ![1, 1024, 128]⟩
abbrev S3x1024x128 : Shape := ⟨3, ![3, 1024, 128]⟩
abbrev S1x128x512 : Shape := ⟨3, ![1, 128, 512]⟩
abbrev S3x128x512 : Shape := ⟨3, ![3, 128, 512]⟩
abbrev S1x1024 : Shape := ⟨2, ![1, 1024]⟩
abbrev S1024x3584 : Shape := ⟨2, ![1024, 3584]⟩
abbrev S1024x8 : Shape := ⟨2, ![1024, 8]⟩
abbrev S1x512 : Shape := ⟨2, ![1, 512]⟩
abbrev S2x512 : Shape := ⟨2, ![2, 512]⟩
abbrev S32768x1536 : Shape := ⟨2, ![32768, 1536]⟩
abbrev S32768x512 : Shape := ⟨2, ![32768, 512]⟩
abbrev S32768x128 : Shape := ⟨2, ![32768, 128]⟩
abbrev S512x1024 : Shape := ⟨2, ![512, 1024]⟩
abbrev S8x1024 : Shape := ⟨2, ![8, 1024]⟩
abbrev S512x1536 : Shape := ⟨2, ![512, 1536]⟩
abbrev S512x512 : Shape := ⟨2, ![512, 512]⟩
abbrev S512x128 : Shape := ⟨2, ![512, 128]⟩
abbrev S512x1 : Shape := ⟨2, ![512, 1]⟩
abbrev S8 : Shape := ⟨1, ![8]⟩
abbrev S8x1 : Shape := ⟨2, ![8, 1]⟩
abbrev S1024x1536 : Shape := ⟨2, ![1024, 1536]⟩
abbrev S1024x512 : Shape := ⟨2, ![1024, 512]⟩

abbrev nBuf : Space → Nat
  | .hbm => 68
  | .vmem => 25
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3592, .f32⟩
  | .hbm, ⟨3, _⟩ => ⟨S3x1024, .f32⟩
  | .hbm, ⟨4, _⟩ => ⟨S512, .f32⟩
  | .hbm, ⟨5, _⟩ => ⟨S1024x64, .f32⟩
  | .hbm, ⟨6, _⟩ => ⟨S64x512, .f32⟩
  | .hbm, ⟨7, _⟩ => ⟨S512, .f32⟩
  | .hbm, ⟨8, _⟩ => ⟨S1024x64, .f32⟩
  | .hbm, ⟨9, _⟩ => ⟨S64x512, .f32⟩
  | .hbm, ⟨10, _⟩ => ⟨S1024x128, .f32⟩
  | .hbm, ⟨11, _⟩ => ⟨S128x512, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S_, .i32⟩
  | .hbm, ⟨19, _⟩ => ⟨S_, .f32⟩
  | .hbm, ⟨20, _⟩ => ⟨S1024x128, .f32⟩
  | .hbm, ⟨21, _⟩ => ⟨S1x1024x128, .f32⟩
  | .hbm, ⟨22, _⟩ => ⟨S1x1024x128, .f32⟩
  | .hbm, ⟨23, _⟩ => ⟨S1x1024x128, .f32⟩
  | .hbm, ⟨24, _⟩ => ⟨S3x1024x128, .f32⟩
  | .hbm, ⟨25, _⟩ => ⟨S3x1024x128, .bf16⟩
  | .hbm, ⟨26, _⟩ => ⟨S_, .i32⟩
  | .hbm, ⟨27, _⟩ => ⟨S_, .f32⟩
  | .hbm, ⟨28, _⟩ => ⟨S128x512, .f32⟩
  | .hbm, ⟨29, _⟩ => ⟨S_, .i32⟩
  | .hbm, ⟨30, _⟩ => ⟨S_, .f32⟩
  | .hbm, ⟨31, _⟩ => ⟨S128x512, .f32⟩
  | .hbm, ⟨32, _⟩ => ⟨S_, .i32⟩
  | .hbm, ⟨33, _⟩ => ⟨S_, .f32⟩
  | .hbm, ⟨34, _⟩ => ⟨S128x512, .f32⟩
  | .hbm, ⟨35, _⟩ => ⟨S1x128x512, .f32⟩
  | .hbm, ⟨36, _⟩ => ⟨S1x128x512, .f32⟩
  | .hbm, ⟨37, _⟩ => ⟨S1x128x512, .f32⟩
  | .hbm, ⟨38, _⟩ => ⟨S3x128x512, .f32⟩
  | .hbm, ⟨39, _⟩ => ⟨S3x128x512, .bf16⟩
  | .hbm, ⟨40, _⟩ => ⟨S1x1024, .f32⟩
  | .hbm, ⟨41, _⟩ => ⟨S1024x3584, .f32⟩
  | .hbm, ⟨42, _⟩ => ⟨S1024x3584, .bf16⟩
  | .hbm, ⟨43, _⟩ => ⟨S1024x8, .f32⟩
  | .hbm, ⟨44, _⟩ => ⟨S_, .i32⟩
  | .hbm, ⟨45, _⟩ => ⟨S_, .f32⟩
  | .hbm, ⟨46, _⟩ => ⟨S1024x128, .f32⟩
  | .hbm, ⟨47, _⟩ => ⟨S1024x128, .bf16⟩
  | .hbm, ⟨48, _⟩ => ⟨S1x1024, .f32⟩
  | .hbm, ⟨49, _⟩ => ⟨S1024, .f32⟩
  | .hbm, ⟨50, _⟩ => ⟨S1x1024, .f32⟩
  | .hbm, ⟨51, _⟩ => ⟨S1024, .f32⟩
  | .hbm, ⟨52, _⟩ => ⟨S1x1024, .f32⟩
  | .hbm, ⟨53, _⟩ => ⟨S1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S3x1024, .f32⟩
  | .hbm, ⟨58, _⟩ => ⟨S1x512, .f32⟩
  | .hbm, ⟨59, _⟩ => ⟨S1x512, .f32⟩
  | .hbm, ⟨60, _⟩ => ⟨S2x512, .f32⟩
  | .hbm, ⟨61, _⟩ => ⟨S32768x1536, .f32⟩
  | .hbm, ⟨62, _⟩ => ⟨S32768x1536, .f32⟩
  | .hbm, ⟨63, _⟩ => ⟨S32768x512, .f32⟩
  | .hbm, ⟨64, _⟩ => ⟨S32768x128, .f32⟩
  | .hbm, ⟨65, _⟩ => ⟨S32768x512, .f32⟩
  | .hbm, ⟨66, _⟩ => ⟨S32768x512, .f32⟩
  | .hbm, ⟨67, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S1x1024, .f32⟩
  | .local _ .vmem, ⟨5, _⟩ => ⟨S1024x3584, .bf16⟩
  | .local _ .vmem, ⟨6, _⟩ => ⟨S1024x128, .bf16⟩
  | .local _ .vmem, ⟨7, _⟩ => ⟨S3x1024, .f32⟩
  | .local _ .vmem, ⟨8, _⟩ => ⟨S3x1024x128, .bf16⟩
  | .local _ .vmem, ⟨9, _⟩ => ⟨S3x128x512, .bf16⟩
  | .local _ .vmem, ⟨10, _⟩ => ⟨S2x512, .f32⟩
  | .local _ .vmem, ⟨11, _⟩ => ⟨S512x1536, .f32⟩
  | .local _ .vmem, ⟨12, _⟩ => ⟨S512x1536, .f32⟩
  | .local _ .vmem, ⟨13, _⟩ => ⟨S512x1536, .f32⟩
  | .local _ .vmem, ⟨14, _⟩ => ⟨S512x1536, .f32⟩
  | .local _ .vmem, ⟨15, _⟩ => ⟨S512x512, .f32⟩
  | .local _ .vmem, ⟨16, _⟩ => ⟨S512x512, .f32⟩
  | .local _ .vmem, ⟨17, _⟩ => ⟨S512x128, .f32⟩
  | .local _ .vmem, ⟨18, _⟩ => ⟨S512x128, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_c_0 : Ref sig .tc := ⟨.hbm, 15, rfl⟩
abbrev main_call1_v0 : Ref sig .tc := ⟨.hbm, 16, rfl⟩
abbrev main_v1 : Ref sig .tc := ⟨.hbm, 17, rfl⟩
abbrev main_c_1 : Ref sig .tc := ⟨.hbm, 18, rfl⟩
abbrev main_call2_v0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_2 : Ref sig .tc := ⟨.hbm, 26, rfl⟩
abbrev main_call3_v0 : Ref sig .tc := ⟨.hbm, 27, rfl⟩
abbrev main_v8 : Ref sig .tc := ⟨.hbm, 28, rfl⟩
abbrev main_c_3 : Ref sig .tc := ⟨.hbm, 29, rfl⟩
abbrev main_call4_v0 : Ref sig .tc := ⟨.hbm, 30, rfl⟩
abbrev main_v9 : Ref sig .tc := ⟨.hbm, 31, rfl⟩
abbrev main_c_4 : Ref sig .tc := ⟨.hbm, 32, rfl⟩
abbrev main_call5_v0 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_5 : Ref sig .tc := ⟨.hbm, 44, rfl⟩
abbrev main_call6_v0 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35_0 : Ref sig .tc := ⟨.hbm, 61, rfl⟩
abbrev main_v35_1 : Ref sig .tc := ⟨.hbm, 62, rfl⟩
abbrev main_v35_2 : Ref sig .tc := ⟨.hbm, 63, rfl⟩
abbrev main_v35_3 : Ref sig .tc := ⟨.hbm, 64, rfl⟩
abbrev main_v35_4 : Ref sig .tc := ⟨.hbm, 65, rfl⟩
abbrev main_v35_5 : Ref sig .tc := ⟨.hbm, 66, rfl⟩
abbrev main_v35_6 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== EvenFirstRefIdeal.lean ====
abbrev S32768x1024 : Shape := ⟨2, ![32768, 1024]⟩
abbrev S1024 : Shape := ⟨1, ![1024]⟩
abbrev S1024x3592 : Shape := ⟨2, ![1024, 3592]⟩
abbrev S3x1024 : Shape := ⟨2, ![3, 1024]⟩
abbrev S512 : Shape := ⟨1, ![512]⟩
abbrev S1024x64 : Shape := ⟨2, ![1024, 64]⟩
abbrev S64x512 : Shape := ⟨2, ![64, 512]⟩
abbrev S1024x128 : Shape := ⟨2, ![1024, 128]⟩
abbrev S128x512 : Shape := ⟨2, ![128, 512]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S4x8192x1024 : Shape := ⟨3, ![4, 8192, 1024]⟩
abbrev S4x8193x1024 : Shape := ⟨3, ![4, 8193, 1024]⟩
abbrev S32768x3592 : Shape := ⟨2, ![32768, 3592]⟩
abbrev S32768x64 : Shape := ⟨2, ![32768, 64]⟩
abbrev S32768x512 : Shape := ⟨2, ![32768, 512]⟩
abbrev S1x512 : Shape := ⟨2, ![1, 512]⟩
abbrev S32768x128 : Shape := ⟨2, ![32768, 128]⟩
abbrev S32768x8 : Shape := ⟨2, ![32768, 8]⟩
abbrev S32768x1536 : Shape := ⟨2, ![32768, 1536]⟩

abbrev nBuf : Space → Nat
  | .hbm => 112
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3592, .f32⟩
  | .hbm, ⟨3, _⟩ => ⟨S3x1024, .f32⟩
  | .hbm, ⟨4, _⟩ => ⟨S512, .f32⟩
  | .hbm, ⟨5, _⟩ => ⟨S1024x64, .f32⟩
  | .hbm, ⟨6, _⟩ => ⟨S64x512, .f32⟩
  | .hbm, ⟨7, _⟩ => ⟨S512, .f32⟩
  | .hbm, ⟨8, _⟩ => ⟨S1024x64, .f32⟩
  | .hbm, ⟨9, _⟩ => ⟨S64x512, .f32⟩
  | .hbm, ⟨10, _⟩ => ⟨S1024x128, .f32⟩
  | .hbm, ⟨11, _⟩ => ⟨S128x512, .f32⟩
  | .hbm, ⟨12, _⟩ => ⟨S32768x1024, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1, .f32⟩
  | .hbm, ⟨23, _⟩ => ⟨S32768x1024, .f32⟩
  | .hbm, ⟨24, _⟩ => ⟨S32768x1024, .f32⟩
  | .hbm, ⟨25, _⟩ => ⟨S1x1024, .f32⟩
  | .hbm, ⟨26, _⟩ => ⟨S32768x1024, .f32⟩
  | .hbm, ⟨27, _⟩ => ⟨S32768x1024, .f32⟩
  | .hbm, ⟨28, _⟩ => ⟨S4x8192x1024, .f32⟩
  | .hbm, ⟨29, _⟩ => ⟨S_, .i32⟩
  | .hbm, ⟨30, _⟩ => ⟨S_, .f32⟩
  | .hbm, ⟨31, _⟩ => ⟨S4x8193x1024, .f32⟩
  | .hbm, ⟨32, _⟩ => ⟨S4x8192x1024, .f32⟩
  | .hbm, ⟨33, _⟩ => ⟨S4x8192x1024, .f32⟩
  | .hbm, ⟨34, _⟩ => ⟨S32768x1024, .f32⟩
  | .hbm, ⟨35, _⟩ => ⟨S32768x1024, .f32⟩
  | .hbm, ⟨36, _⟩ => ⟨S32768x3592, .f32⟩
  | .hbm, ⟨37, _⟩ => ⟨S1x1024, .f32⟩
  | .hbm, ⟨38, _⟩ => ⟨S1024, .f32⟩
  | .hbm, ⟨39, _⟩ => ⟨S1x1024, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S1x1024, .f32⟩
  | .hbm, ⟨44, _⟩ => ⟨S1024, .f32⟩
  | .hbm, ⟨45, _⟩ => ⟨S1x1024, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S1x1024, .f32⟩
  | .hbm, ⟨50, _⟩ => ⟨S1024, .f32⟩
  | .hbm, ⟨51, _⟩ => ⟨S1x1024, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S32768x64, .f32⟩
  | .hbm, ⟨56, _⟩ => ⟨S32768x64, .f32⟩
  | .hbm, ⟨57, _⟩ => ⟨S32768x512, .f32⟩
  | .hbm, ⟨58, _⟩ => ⟨S1x512, .f32⟩
  | .hbm, ⟨59, _⟩ => ⟨S32768x512, .f32⟩
  | .hbm, ⟨60, _⟩ => ⟨S32768x512, .f32⟩
  | .hbm, ⟨61, _⟩ => ⟨S32768x512, .f32⟩
  | .hbm, ⟨62, _⟩ => ⟨S_, .f32⟩
  | .hbm, ⟨63, _⟩ => ⟨S32768x512, .f32⟩
  | .hbm, ⟨64, _⟩ => ⟨S32768x512, .f32⟩
  | .hbm, ⟨65, _⟩ => ⟨S32768x512, .f32⟩
  | .hbm, ⟨66, _⟩ => ⟨S32768x512, .f32⟩
  | .hbm, ⟨67, _⟩ => ⟨S32768x512, .i1⟩
  | .hbm, ⟨68, _⟩ => ⟨S32768x512, .f32⟩
  | .hbm, ⟨69, _⟩ => ⟨S32768x512, .f32⟩
  | .hbm, ⟨70, _⟩ => ⟨S32768x512, .f32⟩
  | .hbm, ⟨71, _⟩ => ⟨S32768x512, .f32⟩
  | .hbm, ⟨72, _⟩ => ⟨S32768x512, .f32⟩
  | .hbm, ⟨73, _⟩ => ⟨S32768x512, .f32⟩
  | .hbm, ⟨74, _⟩ => ⟨S32768x512, .f32⟩
  | .hbm, ⟨75, _⟩ => ⟨S32768x512, .f32⟩
  | .hbm, ⟨76, _⟩ => ⟨S32768x512, .f32⟩
  | .hbm, ⟨77, _⟩ => ⟨S_, .f32⟩
  | .hbm, ⟨78, _⟩ => ⟨S32768x512, .f32⟩
  | .hbm, ⟨79, _⟩ => ⟨S32768x512, .f32⟩
  | .hbm, ⟨80, _⟩ => ⟨S32768x512, .f32⟩
  | .hbm, ⟨81, _⟩ => ⟨S32768x512, .f32⟩
  | .hbm, ⟨82, _⟩ => ⟨S32768x64, .f32⟩
  | .hbm, ⟨83, _⟩ => ⟨S32768x512, .f32⟩
  | .hbm, ⟨84, _⟩ => ⟨S1x512, .f32⟩
  | .hbm, ⟨85, _⟩ => ⟨S32768x512, .f32⟩
  | .hbm, ⟨86, _⟩ => ⟨S32768x512, .f32⟩
  | .hbm, ⟨87, _⟩ => ⟨S32768x512, .f32⟩
  | .hbm, ⟨88, _⟩ => ⟨S32768x512, .f32⟩
  | .hbm, ⟨89, _⟩ => ⟨S_, .f32⟩
  | .hbm, ⟨90, _⟩ => ⟨S32768x512, .f32⟩
  | .hbm, ⟨91, _⟩ => ⟨S32768x512, .f32⟩
  | .hbm, ⟨92, _⟩ => ⟨S_, .f32⟩
  | .hbm, ⟨93, _⟩ => ⟨S32768x512, .f32⟩
  | .hbm, ⟨94, _⟩ => ⟨S32768x512, .f32⟩
  | .hbm, ⟨95, _⟩ => ⟨S32768x128, .f32⟩
  | .hbm, ⟨96, _⟩ => ⟨S32768x128, .f32⟩
  | .hbm, ⟨97, _⟩ => ⟨S32768x128, .f32⟩
  | .hbm, ⟨98, _⟩ => ⟨S_, .f32⟩
  | .hbm, ⟨99, _⟩ => ⟨S32768x128, .f32⟩
  | .hbm, ⟨100, _⟩ => ⟨S32768x128, .f32⟩
  | .hbm, ⟨101, _⟩ => ⟨S_, .f32⟩
  | .hbm, ⟨102, _⟩ => ⟨S32768x128, .f32⟩
  | .hbm, ⟨103, _⟩ => ⟨S32768x128, .f32⟩
  | .hbm, ⟨104, _⟩ => ⟨S32768x512, .f32⟩
  | .hbm, ⟨105, _⟩ => ⟨S32768x8, .f32⟩
  | .hbm, ⟨106, _⟩ => ⟨S_, .i32⟩
  | .hbm, ⟨107, _⟩ => ⟨S_, .f32⟩
  | .hbm, ⟨108, _⟩ => ⟨S32768x128, .f32⟩
  | .hbm, ⟨109, _⟩ => ⟨S32768x1536, .f32⟩
  | .hbm, ⟨110, _⟩ => ⟨S32768x1536, .f32⟩
  | .hbm, ⟨111, _⟩ => ⟨S32768x512, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_call0_v0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_call1_cst : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_v45 : Ref sig .tc := ⟨.hbm, 75, rfl⟩
abbrev main_v46 : Ref sig .tc := ⟨.hbm, 76, rfl⟩
abbrev main_cst_2 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_3 : Ref sig .tc := ⟨.hbm, 89, rfl⟩
abbrev main_v58 : Ref sig .tc := ⟨.hbm, 90, rfl⟩
abbrev main_v59 : Ref sig .tc := ⟨.hbm, 91, rfl⟩
abbrev main_cst_4 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_5 : Ref sig .tc := ⟨.hbm, 98, rfl⟩
abbrev main_v65 : Ref sig .tc := ⟨.hbm, 99, rfl⟩
abbrev main_v66 : Ref sig .tc := ⟨.hbm, 100, rfl⟩
abbrev main_cst_6 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_c_7 : Ref sig .tc := ⟨.hbm, 106, rfl⟩
abbrev main_call2_v0 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩

abbrev nD : Nat := 1
abbrev τ : Topo := Topo.v7x

variable {F : FTy → Type} [FloatOps F]
-- ==== Gdn.lean ====
abbrev S32768x1536 : Shape := ⟨2, ![32768, 1536]⟩
abbrev S32768x512 : Shape := ⟨2, ![32768, 512]⟩
abbrev S32768x128 : Shape := ⟨2, ![32768, 128]⟩
abbrev S4x1536 : Shape := ⟨2, ![4, 1536]⟩
abbrev S4 : Shape := ⟨1, ![4]⟩
abbrev S128 : Shape := ⟨1, ![128]⟩
abbrev S1x4 : Shape := ⟨2, ![1, 4]⟩
abbrev S_ : Shape := ⟨0, ![]⟩
abbrev S1x8 : Shape := ⟨2, ![1, 8]⟩
abbrev S1x128 : Shape := ⟨2, ![1, 128]⟩
abbrev S2x128 : Shape := ⟨2, ![2, 128]⟩
abbrev S512x1536 : Shape := ⟨2, ![512, 1536]⟩
abbrev S512x512 : Shape := ⟨2, ![512, 512]⟩
abbrev S512x128 : Shape := ⟨2, ![512, 128]⟩
abbrev S4x128x128 : Shape := ⟨3, ![4, 128, 128]⟩
abbrev S520x1536 : Shape := ⟨2, ![520, 1536]⟩
abbrev S8x1536 : Shape := ⟨2, ![8, 1536]⟩
abbrev S1x1536 : Shape := ⟨2, ![1, 1536]⟩
abbrev S512 : Shape := ⟨1, ![512]⟩
abbrev S512x1 : Shape := ⟨2, ![512, 1]⟩
abbrev S256x256 : Shape := ⟨2, ![256, 256]⟩
abbrev S1x128x128 : Shape := ⟨3, ![1, 128, 128]⟩
abbrev S128x128 : Shape := ⟨2, ![128, 128]⟩
abbrev S64x512 : Shape := ⟨2, ![64, 512]⟩
abbrev S64x128 : Shape := ⟨2, ![64, 128]⟩
abbrev S128x64 : Shape := ⟨2, ![128, 64]⟩
abbrev S64x1 : Shape := ⟨2, ![64, 1]⟩
abbrev S1x512 : Shape := ⟨2, ![1, 512]⟩
abbrev S256x1 : Shape := ⟨2, ![256, 1]⟩
abbrev S1x64 : Shape := ⟨2, ![1, 64]⟩
abbrev S1x256 : Shape := ⟨2, ![1, 256]⟩
abbrev S256x512 : Shape := ⟨2, ![256, 512]⟩
abbrev S512x256 : Shape := ⟨2, ![512, 256]⟩
abbrev S64x256 : Shape := ⟨2, ![64, 256]⟩
abbrev S256x128 : Shape := ⟨2, ![256, 128]⟩
abbrev S64 : Shape := ⟨1, ![64]⟩

abbrev nBuf : Space → Nat
  | .hbm => 28
  | .vmem => 13
  | .smem => 0
  | _ => 0

abbrev bufTy : (tb : Table) → Fin (tcTables nBuf tb) → BufTy
  | .hbm, ⟨0, _⟩ => ⟨S32768x1536, .f32⟩
  | .hbm, ⟨1, _⟩ => ⟨S32768x512, .f32⟩
  | .hbm, ⟨2, _⟩ => ⟨S32768x128, .f32⟩
  | .hbm, ⟨3, _⟩ => ⟨S4x1536, .f32⟩
  | .hbm, ⟨4, _⟩ => ⟨S4, .f32⟩
  | .hbm, ⟨5, _⟩ => ⟨S4, .f32⟩
  | .hbm, ⟨6, _⟩ => ⟨S128, .f32⟩
  | .hbm, ⟨7, _⟩ => ⟨S1x4, .f32⟩
  | .hbm, ⟨8, _⟩ => ⟨S_, .i32⟩
  | .hbm, ⟨9, _⟩ => ⟨S_, .f32⟩
  | .hbm, ⟨10, _⟩ => ⟨S1x8, .f32⟩
  | .hbm, ⟨11, _⟩ => ⟨S_, .i32⟩
  | .hbm, ⟨12, _⟩ => ⟨S_, .f32⟩
  | .hbm, ⟨13, _⟩ => ⟨S1x128, .f32⟩
  | .hbm, ⟨14, _⟩ => ⟨S128, .f32⟩
  | .hbm, ⟨15, _⟩ => ⟨S1x4, .f32⟩
  | .hbm, ⟨16, _⟩ => ⟨S_, .i32⟩
  | .hbm, ⟨17, _⟩ => ⟨S_, .f32⟩
  | .hbm, ⟨18, _⟩ => ⟨S1x8, .f32⟩
  | .hbm, ⟨19, _⟩ => ⟨S_, .i32⟩
  | .hbm, ⟨20, _⟩ => ⟨S_, .f32⟩
  | .hbm, ⟨21, _⟩ => ⟨S1x128, .f32⟩
  | .hbm, ⟨22, _⟩ => ⟨S128, .f32⟩
  | .hbm, ⟨23, _⟩ => ⟨S1x128, .f32⟩
  | .hbm, ⟨24, _⟩ => ⟨S1x128, .f32⟩
  | .hbm, ⟨25, _⟩ => ⟨S2x128, .f32⟩
  | .hbm, ⟨26, _⟩ => ⟨S1x128, .f32⟩
  | .hbm, ⟨27, _⟩ => ⟨S32768x512, .bf16⟩
  | .local _ .vmem, ⟨0, _⟩ => ⟨S512x1536, .f32⟩
  | .local _ .vmem, ⟨1, _⟩ => ⟨S512x1536, .f32⟩
  | .local _ .vmem, ⟨2, _⟩ => ⟨S512x512, .f32⟩
  | .local _ .vmem, ⟨3, _⟩ => ⟨S512x512, .f32⟩
  | .local _ .vmem, ⟨4, _⟩ => ⟨S512x128, .f32⟩
  | .local _ .vmem, ⟨5, _⟩ => ⟨S512x128, .f32⟩
  | .local _ .vmem, ⟨6, _⟩ => ⟨S4x1536, .f32⟩
  | .local _ .vmem, ⟨7, _⟩ => ⟨S2x128, .f32⟩
  | .local _ .vmem, ⟨8, _⟩ => ⟨S1x128, .f32⟩
  | .local _ .vmem, ⟨9, _⟩ => ⟨S512x512, .bf16⟩
  | .local _ .vmem, ⟨10, _⟩ => ⟨S512x512, .bf16⟩
  | .local _ .vmem, ⟨11, _⟩ => ⟨S4x128x128, .f32⟩
  | .local _ .vmem, ⟨12, _⟩ => ⟨S520x1536, .f32⟩
  | _, _ => ⟨S32768x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_call2_v0 : Ref sig .tc := ⟨.hbm, 17, rfl⟩
abbrev main_v5 : Ref sig .tc := ⟨.hbm, 18, rfl⟩
abbrev main_c_2 : Ref sig .tc := ⟨.hbm, 19, rfl⟩
abbrev main_call3_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Rwkv.lean ====
abbrev S32768x1536 : Shape := ⟨2, ![32768, 1536]⟩
abbrev S32768x512 : Shape := ⟨2, ![32768, 512]⟩
abbrev S512 : Shape := ⟨1, ![512]⟩
abbrev S8x64 : Shape := ⟨2, ![8, 64]⟩
abbrev S3x512 : Shape := ⟨2, ![3, 512]⟩
abbrev S1x512 : Shape := ⟨2, ![1, 512]⟩
abbrev S5x512 : Shape := ⟨2, ![5, 512]⟩
abbrev S1x1536 : Shape := ⟨2, ![1, 1536]⟩
abbrev S512x1536 : Shape := ⟨2, ![512, 1536]⟩
abbrev S512x512 : Shape := ⟨2, ![512, 512]⟩
abbrev S2x256x256 : Shape := ⟨3, ![2, 256, 256]⟩
abbrev S8x1536 : Shape := ⟨2, ![8, 1536]⟩
abbrev S512x128 : Shape := ⟨2, ![512, 128]⟩
abbrev S512x1 : Shape := ⟨2, ![512, 1]⟩
abbrev S256x256 : Shape := ⟨2, ![256, 256]⟩
abbrev S256x512 : Shape := ⟨2, ![256, 512]⟩
abbrev S1x256x256 : Shape := ⟨3, ![1, 256, 256]⟩
abbrev S64x512 : Shape := ⟨2, ![64, 512]⟩
abbrev S64x256 : Shape := ⟨2, ![64, 256]⟩
abbrev S512x256 : Shape := ⟨2, ![512, 256]⟩
abbrev S128x256 : Shape := ⟨2, ![128, 256]⟩
abbrev S1x256 : Shape := ⟨2, ![1, 256]⟩
abbrev S256x128 : Shape := ⟨2, ![256, 128]⟩
abbrev S64x128 : Shape := ⟨2, ![64, 128]⟩
abbrev S64 : Shape := ⟨1, ![64]⟩
abbrev S64x1 : Shape := ⟨2, ![64, 1]⟩

abbrev nBuf : Space → Nat
  | .hbm => 21
  | .vmem => 18
  | .smem => 0
  | _ => 0

abbrev bufTy : (tb : Table) → Fin (tcTables nBuf tb) → BufTy
  | .hbm, ⟨0, _⟩ => ⟨S32768x1536, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S32768x512, .f32⟩
  | .hbm, ⟨5, _⟩ => ⟨S32768x512, .f32⟩
  | .hbm, ⟨6, _⟩ => ⟨S512, .f32⟩
  | .hbm, ⟨7, _⟩ => ⟨S512, .f32⟩
  | .hbm, ⟨8, _⟩ => ⟨S8x64, .f32⟩
  | .hbm, ⟨9, _⟩ => ⟨S512, .f32⟩
  | .hbm, ⟨10, _⟩ => ⟨S512, .f32⟩
  | .hbm, ⟨11, _⟩ => ⟨S3x512, .f32⟩
  | .hbm, ⟨12, _⟩ => ⟨S512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S5x512, .f32⟩
  | .hbm, ⟨19, _⟩ => ⟨S1x1536, .f32⟩
  | .hbm, ⟨20, _⟩ => ⟨S32768x512, .bf16⟩
  | .local _ .vmem, ⟨0, _⟩ => ⟨S512x1536, .f32⟩
  | .local _ .vmem, ⟨1, _⟩ => ⟨S512x1536, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S5x512, .f32⟩
  | .local _ .vmem, ⟨13, _⟩ => ⟨S1x1536, .f32⟩
  | .local _ .vmem, ⟨14, _⟩ => ⟨S512x512, .bf16⟩
  | .local _ .vmem, ⟨15, _⟩ => ⟨S512x512, .bf16⟩
  | .local _ .vmem, ⟨16, _⟩ => ⟨S2x256x256, .f32⟩
  | .local _ .vmem, ⟨17, _⟩ => ⟨S8x1536, .f32⟩
  | _, _ => ⟨S32768x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S5x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RwkvFirst.lean ====
abbrev S32768x1536 : Shape := ⟨2, ![32768, 1536]⟩
abbrev S32768x512 : Shape := ⟨2, ![32768, 512]⟩
abbrev S512 : Shape := ⟨1, ![512]⟩
abbrev S8x64 : Shape := ⟨2, ![8, 64]⟩
abbrev S3x512 : Shape := ⟨2, ![3, 512]⟩
abbrev S1x512 : Shape := ⟨2, ![1, 512]⟩
abbrev S5x512 : Shape := ⟨2, ![5, 512]⟩
abbrev S1x1536 : Shape := ⟨2, ![1, 1536]⟩
abbrev S512x1536 : Shape := ⟨2, ![512, 1536]⟩
abbrev S512x512 : Shape := ⟨2, ![512, 512]⟩
abbrev S2x256x256 : Shape := ⟨3, ![2, 256, 256]⟩
abbrev S8x1536 : Shape := ⟨2, ![8, 1536]⟩
abbrev S512x128 : Shape := ⟨2, ![512, 128]⟩
abbrev S512x1 : Shape := ⟨2, ![512, 1]⟩
abbrev S256x256 : Shape := ⟨2, ![256, 256]⟩
abbrev S256x512 : Shape := ⟨2, ![256, 512]⟩
abbrev S1x256x256 : Shape := ⟨3, ![1, 256, 256]⟩
abbrev S64x512 : Shape := ⟨2, ![64, 512]⟩
abbrev S64x256 : Shape := ⟨2, ![64, 256]⟩
abbrev S512x256 : Shape := ⟨2, ![512, 256]⟩
abbrev S128x256 : Shape := ⟨2, ![128, 256]⟩
abbrev S1x256 : Shape := ⟨2, ![1, 256]⟩
abbrev S256x128 : Shape := ⟨2, ![256, 128]⟩
abbrev S64x128 : Shape := ⟨2, ![64, 128]⟩
abbrev S64 : Shape := ⟨1, ![64]⟩
abbrev S64x1 : Shape := ⟨2, ![64, 1]⟩

abbrev nBuf : Space → Nat
  | .hbm => 20
  | .vmem => 16
  | .smem => 0
  | _ => 0

abbrev bufTy : (tb : Table) → Fin (tcTables nBuf tb) → BufTy
  | .hbm, ⟨0, _⟩ => ⟨S32768x1536, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S512, .f32⟩
  | .hbm, ⟨5, _⟩ => ⟨S512, .f32⟩
  | .hbm, ⟨6, _⟩ => ⟨S8x64, .f32⟩
  | .hbm, ⟨7, _⟩ => ⟨S512, .f32⟩
  | .hbm, ⟨8, _⟩ => ⟨S512, .f32⟩
  | .hbm, ⟨9, _⟩ => ⟨S3x512, .f32⟩
  | .hbm, ⟨10, _⟩ => ⟨S512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S5x512, .f32⟩
  | .hbm, ⟨17, _⟩ => ⟨S1x1536, .f32⟩
  | .hbm, ⟨18, _⟩ => ⟨S32768x512, .bf16⟩
  | .hbm, ⟨19, _⟩ => ⟨S32768x512, .f32⟩
  | .local _ .vmem, ⟨0, _⟩ => ⟨S512x1536, .f32⟩
  | .local _ .vmem, ⟨1, _⟩ => ⟨S512x1536, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S5x512, .f32⟩
  | .local _ .vmem, ⟨9, _⟩ => ⟨S1x1536, .f32⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | .local _ .vmem, ⟨14, _⟩ => ⟨S2x256x256, .f32⟩
  | .local _ .vmem, ⟨15, _⟩ => ⟨S8x1536, .f32⟩
  | _, _ => ⟨S32768x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S5x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RwkvValues.lean ====
abbrev S32768x1536 : Shape := ⟨2, ![32768, 1536]⟩
abbrev S32768x512 : Shape := ⟨2, ![32768, 512]⟩
abbrev S512 : Shape := ⟨1, ![512]⟩
abbrev S8x64 : Shape := ⟨2, ![8, 64]⟩
abbrev S3x512 : Shape := ⟨2, ![3, 512]⟩
abbrev S1x512 : Shape := ⟨2, ![1, 512]⟩
abbrev S5x512 : Shape := ⟨2, ![5, 512]⟩
abbrev S1x1536 : Shape := ⟨2, ![1, 1536]⟩
abbrev S512x1536 : Shape := ⟨2, ![512, 1536]⟩
abbrev S512x512 : Shape := ⟨2, ![512, 512]⟩
abbrev S2x256x256 : Shape := ⟨3, ![2, 256, 256]⟩
abbrev S8x1536 : Shape := ⟨2, ![8, 1536]⟩
abbrev S512x128 : Shape := ⟨2, ![512, 128]⟩
abbrev S512x1 : Shape := ⟨2, ![512, 1]⟩
abbrev S256x256 : Shape := ⟨2, ![256, 256]⟩
abbrev S256x512 : Shape := ⟨2, ![256, 512]⟩
abbrev S1x256x256 : Shape := ⟨3, ![1, 256, 256]⟩
abbrev S64x512 : Shape := ⟨2, ![64, 512]⟩
abbrev S64x256 : Shape := ⟨2, ![64, 256]⟩
abbrev S512x256 : Shape := ⟨2, ![512, 256]⟩
abbrev S128x256 : Shape := ⟨2, ![128, 256]⟩
abbrev S1x256 : Shape := ⟨2, ![1, 256]⟩
abbrev S256x128 : Shape := ⟨2, ![256, 128]⟩
abbrev S64x128 : Shape := ⟨2, ![64, 128]⟩
abbrev S64 : Shape := ⟨1, ![64]⟩
abbrev S64x1 : Shape := ⟨2, ![64, 1]⟩

abbrev nBuf : Space → Nat
  | .hbm => 20
  | .vmem => 16
  | .smem => 0
  | _ => 0

abbrev bufTy : (tb : Table) → Fin (tcTables nBuf tb) → BufTy
  | .hbm, ⟨0, _⟩ => ⟨S32768x1536, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S512, .f32⟩
  | .hbm, ⟨5, _⟩ => ⟨S512, .f32⟩
  | .hbm, ⟨6, _⟩ => ⟨S8x64, .f32⟩
  | .hbm, ⟨7, _⟩ => ⟨S512, .f32⟩
  | .hbm, ⟨8, _⟩ => ⟨S512, .f32⟩
  | .hbm, ⟨9, _⟩ => ⟨S3x512, .f32⟩
  | .hbm, ⟨10, _⟩ => ⟨S512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S5x512, .f32⟩
  | .hbm, ⟨17, _⟩ => ⟨S1x1536, .f32⟩
  | .hbm, ⟨18, _⟩ => ⟨S32768x512, .bf16⟩
  | .hbm, ⟨19, _⟩ => ⟨S32768x512, .f32⟩
  | .local _ .vmem, ⟨0, _⟩ => ⟨S512x1536, .f32⟩
  | .local _ .vmem, ⟨1, _⟩ => ⟨S512x1536, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S5x512, .f32⟩
  | .local _ .vmem, ⟨9, _⟩ => ⟨S1x1536, .f32⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | .local _ .vmem, ⟨14, _⟩ => ⟨S2x256x256, .f32⟩
  | .local _ .vmem, ⟨15, _⟩ => ⟨S8x1536, .f32⟩
  | _, _ => ⟨S32768x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S5x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RwkvValuesRefIdeal.lean ====
abbrev S32768x1536 : Shape := ⟨2, ![32768, 1536]⟩
abbrev S32768x512 : Shape := ⟨2, ![32768, 512]⟩
abbrev S512 : Shape := ⟨1, ![512]⟩
abbrev S8x64 : Shape := ⟨2, ![8, 64]⟩
abbrev S3x512 : Shape := ⟨2, ![3, 512]⟩
abbrev S4x8192x1536 : Shape := ⟨3, ![4, 8192, 1536]⟩
abbrev S4x8192x512 : Shape := ⟨3, ![4, 8192, 512]⟩
abbrev S_ : Shape := ⟨0, ![]⟩
abbrev S4x8193x512 : Shape := ⟨3, ![4, 8193, 512]⟩
abbrev S1x512 : Shape := ⟨2, ![1, 512]⟩
abbrev S1x1x512 : Shape := ⟨3, ![1, 1, 512]⟩

abbrev nBuf : Space → Nat
  | .hbm => 24
  | .vmem => 0
  | .smem => 0
  | _ => 0

abbrev bufTy : (tb : Table) → Fin (tcTables nBuf tb) → BufTy
  | .hbm, ⟨0, _⟩ => ⟨S32768x1536, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S512, .f32⟩
  | .hbm, ⟨5, _⟩ => ⟨S512, .f32⟩
  | .hbm, ⟨6, _⟩ => ⟨S8x64, .f32⟩
  | .hbm, ⟨7, _⟩ => ⟨S512, .f32⟩
  | .hbm, ⟨8, _⟩ => ⟨S512, .f32⟩
  | .hbm, ⟨9, _⟩ => ⟨S3x512, .f32⟩
  | .hbm, ⟨10, _⟩ => ⟨S4x8192x1536, .f32⟩
  | .hbm, ⟨11, _⟩ => ⟨S4x8192x512, .f32⟩
  | .hbm, ⟨12, _⟩ => ⟨S_, .i32⟩
  | .hbm, ⟨13, _⟩ => ⟨S_, .f32⟩
  | .hbm, ⟨14, _⟩ => ⟨S4x8193x512, .f32⟩
  | .hbm, ⟨15, _⟩ => ⟨S4x8192x512, .f32⟩
  | .hbm, ⟨16, _⟩ => ⟨S4x8192x512, .f32⟩
  | .hbm, ⟨17, _⟩ => ⟨S1x512, .f32⟩
  | .hbm, ⟨18, _⟩ => ⟨S512, .f32⟩
  | .hbm, ⟨19, _⟩ => ⟨S1x1x512, .f32⟩
  | .hbm, ⟨20, _⟩ => ⟨S4x8192x512, .f32⟩
  | .hbm, ⟨21, _⟩ => ⟨S4x8192x512, .f32⟩
  | .hbm, ⟨22, _⟩ => ⟨S4x8192x512, .f32⟩
  | .hbm, ⟨23, _⟩ => ⟨S32768x512, .f32⟩
  | _, _ => ⟨S32768x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Softmax.lean ====
/-
  A softmax row applied to values: dividing by the row's sum after the values are added up, or before. Over the extended
  reals the two agree when no score is plus infinity, some score is a real number, and the values are real numbers.
-/
module

public import Idealize.ShloMosaic.Lib.Pointwise

@[expose] public section

noncomputable section

namespace Cert.Softmax

open Idealize.ShloMosaic

variable {n : ℕ}

/-- The greatest entry of a row. -/
def top (s : Fin n → EReal) : EReal := Finset.univ.fold max ⊥ s

/-- The weight of entry `k` before the division. -/
def weight (s : Fin n → EReal) (k : Fin n) : EReal := Ideal.exp (s k - top s)

/-- The values weighed and added, then divided by the sum of the weights. -/
def late (s v : Fin n → EReal) : EReal := Ideal.div (∑ k, weight s k * v k) (∑ k, weight s k)

/-- Each weight divided by the sum of the weights, then the values weighed and added. -/
def early (s v : Fin n → EReal) : EReal := ∑ k, v k * Ideal.div (weight s k) (∑ k, weight s k)

theorem coe_sum {ι : Type} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

theorem top_real (s : Fin n → EReal) (hs : ∀ k, s k ≠ ⊤) (k₀ : Fin n) (h₀ : s k₀ ≠ ⊥) : ∃ a : ℝ, top s = a := by
  have h1 : top s < ⊤ := (Finset.fold_max_lt _).mpr ⟨bot_lt_top, fun k _ => lt_top_iff_ne_top.mpr (hs k)⟩
  have h2 : ⊥ < top s := (Finset.lt_fold_max _).mpr (.inr ⟨k₀, Finset.mem_univ _, bot_lt_iff_ne_bot.mpr h₀⟩)
  exact ⟨(top s).toReal, (EReal.coe_toReal h1.ne h2.ne').symm⟩

theorem weight_real (s : Fin n → EReal) (hs : ∀ k, s k ≠ ⊤) (k₀ : Fin n) (h₀ : s k₀ ≠ ⊥) (k : Fin n) :
    ∃ p : ℝ, weight s k = p ∧ 0 ≤ p ∧ (s k ≠ ⊥ → 0 < p) := by
  obtain ⟨a, ha⟩ := top_real s hs k₀ h₀
  unfold weight
  rw [ha]
  by_cases hb : s k = ⊥
  · refine ⟨0, ?_, le_refl _, fun h => absurd hb h⟩
    rw [hb, EReal.bot_sub]
    exact Ideal.exp_bot
  · refine ⟨Real.exp ((s k).toReal - a), ?_, (Real.exp_pos _).le, fun _ => Real.exp_pos _⟩
    conv_lhs => rw [← EReal.coe_toReal (hs k) hb]
    rw [← EReal.coe_sub]
    exact Ideal.exp_coe _

theorem late_eq_early (s v : Fin n → EReal) (hs : ∀ k, s k ≠ ⊤) (k₀ : Fin n) (h₀ : s k₀ ≠ ⊥)
    (hv : ∀ k, ∃ x : ℝ, v k = x) : late s v = early s v := by
  choose p hp hp0 hpos using weight_real s hs k₀ h₀
  choose w hw using hv
  have hD : (∑ k, p k) ≠ 0 :=
    (Finset.sum_pos' (fun k _ => hp0 k) ⟨k₀, Finset.mem_univ _, hpos k₀ h₀⟩).ne'
  unfold late early
  simp only [hp, hw]
  rw [← coe_sum]
  simp only [Ideal.div_coe hD, ← EReal.coe_mul]
  rw [← coe_sum, ← EReal.coe_mul, ← coe_sum, Finset.sum_mul]
  exact congrArg _ (Finset.sum_congr rfl fun k _ => by ring)

end Cert.Softmax

end
-- ==== Proof.AttnSpec.lean ====
/-
  One row of banded attention over the extended reals: the scores of a query against 576 key rows, the mask that leaves
  out the key rows before the sequence, and the softmax row applied to the values.
-/
module

public import proofs.«01_k».proof.Proof.Softmax

@[expose] public section

noncomputable section

namespace Cert.Attn

open Idealize.ShloMosaic

/-- The score of a query against a key: their product and the bias. -/
def score (q k : Fin 64 → EReal) (b : EReal) : EReal := (∑ d, q d * k d) + b

/-- The word that stands for minus infinity. -/
theorem low : Ideal.ofBits .f32 4286578688#32 = (⊥ : EReal) := by
  simp [Ideal.ofBits, Ideal.ieee]

/-- A real number, among the extended ones. -/
def IsReal (x : EReal) : Prop := ∃ r : ℝ, x = r

theorem IsReal.ne_top {x : EReal} (h : IsReal x) : x ≠ ⊤ := by
  obtain ⟨r, rfl⟩ := h
  exact EReal.coe_ne_top r

theorem IsReal.ne_bot {x : EReal} (h : IsReal x) : x ≠ ⊥ := by
  obtain ⟨r, rfl⟩ := h
  exact EReal.coe_ne_bot r

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sum {ι : Type} (t : Finset ι) {f : ι → EReal} (h : ∀ k, IsReal (f k)) : IsReal (∑ k ∈ t, f k) := by
  choose g hg using h
  exact ⟨∑ k ∈ t, g k, by simp only [hg]; exact (Softmax.coe_sum t g).symm⟩

theorem score_real {q k : Fin 64 → EReal} {b : EReal} (hq : ∀ d, IsReal (q d)) (hk : ∀ d, IsReal (k d)) (hb : IsReal b) :
    IsReal (score q k b) := (IsReal.sum _ fun d => (hq d).mul (hk d)).add hb

/-- The score of query row `n * 64 + i` of stream `b` against its key row `k`, for head `h`: query, keys and values lie side by
    side in the packed rows `X`, whose first 512 rows of each stream come before the sequence. -/
def scores (X : Fin 34816 → Fin 3072 → EReal) (T : Fin 16 → Fin 513 → EReal) (b : Fin 4) (n : Fin 128) (h : Fin 16)
    (i : Fin 64) (k : Fin 576) : EReal :=
  if 512 ≤ n.val * 64 + k.val then
    score (fun d => X ⟨b * 8704 + 512 + n * 64 + i, by omega⟩ ⟨h * 64 + d, by omega⟩)
      (fun d => X ⟨b * 8704 + n * 64 + k, by omega⟩ ⟨1024 + h * 64 + d, by omega⟩) (T h ⟨min 512 (i + 768 - k), by omega⟩)
  else ⊥

/-- The value that goes with key row `k`. -/
def value (X : Fin 34816 → Fin 3072 → EReal) (b : Fin 4) (n : Fin 128) (h : Fin 16) (d : Fin 64) (k : Fin 576) : EReal :=
  X ⟨b * 8704 + n * 64 + k, by omega⟩ ⟨2048 + h * 64 + d, by omega⟩

/-- Entry `r, l` of the attention, each weight divided before the values are added up. -/
def early (X : Fin 34816 → Fin 3072 → EReal) (T : Fin 16 → Fin 513 → EReal) (r : Fin 32768) (l : Fin 1024) : EReal :=
  Softmax.early (scores X T ⟨r / 8192, by omega⟩ ⟨r / 64 % 128, by omega⟩ ⟨l / 64, by omega⟩ ⟨r % 64, by omega⟩)
    (value X ⟨r / 8192, by omega⟩ ⟨r / 64 % 128, by omega⟩ ⟨l / 64, by omega⟩ ⟨l % 64, by omega⟩)

/-- Entry `r, l` of the attention, divided after the values are added up. -/
def late (X : Fin 34816 → Fin 3072 → EReal) (T : Fin 16 → Fin 513 → EReal) (r : Fin 32768) (l : Fin 1024) : EReal :=
  Softmax.late (scores X T ⟨r / 8192, by omega⟩ ⟨r / 64 % 128, by omega⟩ ⟨l / 64, by omega⟩ ⟨r % 64, by omega⟩)
    (value X ⟨r / 8192, by omega⟩ ⟨r / 64 % 128, by omega⟩ ⟨l / 64, by omega⟩ ⟨l % 64, by omega⟩)

/-- On real inputs the two are the same. -/
theorem late_eq_early {X : Fin 34816 → Fin 3072 → EReal} {T : Fin 16 → Fin 513 → EReal} (hX : ∀ a b, IsReal (X a b))
    (hT : ∀ a b, IsReal (T a b)) (r : Fin 32768) (l : Fin 1024) : late X T r l = early X T r l := by
  refine Softmax.late_eq_early _ _ (fun k => ?_) ⟨512, by omega⟩ ?_ fun k => hX _ _
  · unfold scores
    split
    · exact (score_real (fun _ => hX _ _) (fun _ => hX _ _) (hT _ _)).ne_top
    · exact bot_ne_top
  · unfold scores
    rw [if_pos (Nat.le_add_left _ _)]
    exact (score_real (fun _ => hX _ _) (fun _ => hX _ _) (hT _ _)).ne_bot

end Cert.Attn

end
-- ==== Proof.Attn.lean ====
/-
  One piece of the attention kernel, entry by entry. A piece is 64 query rows of two heads side by side in 128 lanes: the
  queries are stacked twice, once with the second head's lanes zero and once with the first head's, so that one product
  gives the scores of both heads; of the two results each lane keeps its own head's.
-/
module

public import proofs.«01_k».proof.Proof.AttnSpec
public import proofs.«01_k».proof.Proof.Gen.AttnIdeal.Skeleton
public import Idealize.ShloMosaic.Lib.Pointwise

@[expose] public section

set_option maxRecDepth 16384

noncomputable section

namespace Cert.AttnIdeal.Rows

open Cert.AttnIdeal Cert.AttnIdeal.Gen Idealize.ShloMosaic Idealize.ShloMosaic.TcCoe

/-- The comparison that tells the first head's lanes from the second's. -/
theorem lane (x : Fin 128) : IntOp.cmpi .slt (BitVec.ofNat 32 x.val) 64#32 = if x.val < 64 then 1#1 else 0#1 := by
  revert x
  decide +kernel

theorem sel_ite {α : Type} (p : Prop) [Decidable p] (a b : α) :
    Scalar.select (if p then 1#1 else 0#1) a b = if p then a else b := by
  split
  · rfl
  · rfl

/-- A sum over 128 lanes of which only the first 64 count. -/
theorem sum_first (f : Fin 128 → EReal) :
    (∑ x, if x.val < 64 then f x else 0) = ∑ d : Fin 64, f ⟨d, by omega⟩ := by
  refine (Fin.sum_univ_add (a := 64) (b := 64) _).trans ?_
  rw [Finset.sum_congr rfl fun d _ => if_pos (show ((Fin.castAdd 64 d : Fin (64 + 64)) : ℕ) < 64 from d.isLt),
    Finset.sum_congr rfl fun d _ => if_neg (show ¬ ((Fin.natAdd 64 d : Fin (64 + 64)) : ℕ) < 64 by
      rw [Fin.val_natAdd]; omega), Finset.sum_const_zero, add_zero]
  rfl

/-- A sum over 128 lanes of which only the last 64 count. -/
theorem sum_last (f : Fin 128 → EReal) :
    (∑ x, if x.val < 64 then 0 else f x) = ∑ d : Fin 64, f ⟨64 + d, by omega⟩ := by
  refine (Fin.sum_univ_add (a := 64) (b := 64) _).trans ?_
  rw [Finset.sum_congr rfl fun d _ => if_pos (show ((Fin.castAdd 64 d : Fin (64 + 64)) : ℕ) < 64 from d.isLt),
    Finset.sum_congr rfl fun d _ => if_neg (show ¬ ((Fin.natAdd 64 d : Fin (64 + 64)) : ℕ) < 64 by
      rw [Fin.val_natAdd]; omega), Finset.sum_const_zero, zero_add]
  rfl

variable (B : Vec Ideal S128x576 .f32) (q : Vec Ideal S64x128 .bf16) (K V : Vec Ideal S576x128 .bf16)

/-- The scores of the first head. -/
theorem first_at (r : Fin 64) (k : Fin 576) :
    k0_pay30 (F := Ideal) k0_pay1 k0_pay2 B q K (ix2 ⟨r, by omega⟩ k)
      = Attn.score (fun d => q (ix2 r ⟨d, by omega⟩)) (fun d => K (ix2 k ⟨d, by omega⟩)) (B (ix2 ⟨r, by omega⟩ k)) := by
  pointwise [k0_pay30, k0_pay29, k0_pay1, k0_pay2]
  simp only [lane, sel_ite]
  rw [sum_first]
  rfl

/-- The scores of the second head. -/
theorem second_at (r : Fin 64) (k : Fin 576) :
    k0_pay30 (F := Ideal) k0_pay1 k0_pay2 B q K (ix2 ⟨64 + r, by omega⟩ k)
      = Attn.score (fun d => q (ix2 r ⟨64 + d, by omega⟩)) (fun d => K (ix2 k ⟨64 + d, by omega⟩)) (B (ix2 ⟨64 + r, by omega⟩ k)) := by
  pointwise [k0_pay30, k0_pay29, k0_pay1, k0_pay2]
  simp only [lane, sel_ite]
  rw [sum_last]
  rfl

/-- The scores of a piece whose first key row is `w` rows into the block `a`, those before the sequence left out. -/
def masked (a w : BitVec 32) (S : FVec Ideal S128x576 .f32) : FVec Ideal S128x576 .f32 :=
  select (cmpi .sge (iota .tc S128x576 32 [1] iota_S128x576_d1_w32)
    (broadcast S128x576 (Scalar.subi 512#32 (Scalar.addi (Scalar.muli a 512#32) w)))) S
    (broadcast S128x576 (Named.named κ "mask" 0xF149F2CA#32))

/-- The comparison that leaves key rows out, in the first block. -/
theorem left_out (cc : Fin 8) (k : Fin 576) :
    IntOp.cmpi .sge (BitVec.ofNat 32 k.val)
        (Scalar.subi 512#32 (Scalar.addi (Scalar.muli 0#32 512#32) (BitVec.ofNat 32 (64 * cc.val))))
      = if 512 ≤ cc.val * 64 + k.val then 1#1 else 0#1 := by
  revert cc k
  decide +kernel

theorem masked_at (cc : Fin 8) (S : FVec Ideal S128x576 .f32) (r : Fin 128) (k : Fin 576) :
    masked 0#32 (BitVec.ofNat 32 (64 * cc.val)) S (ix2 r k) = if 512 ≤ cc.val * 64 + k.val then S (ix2 r k) else ⊥ := by
  pointwise [masked]
  rw [left_out, sel_ite]
  rfl

/-- The weighed values of a piece, for any scores. -/
theorem tail_at (S : FVec Ideal S128x576 .f32) (r : Fin 64) (l : Fin 128) :
    k0_pay15 (F := Ideal) k0_pay1 S V (ix2 r l)
      = Softmax.late (fun k => if l.val < 64 then S (ix2 ⟨r, by omega⟩ k) else S (ix2 ⟨64 + r, by omega⟩ k)) (fun k => V (ix2 k l)) := by
  pointwise [k0_pay15, k0_pay1]
  rw [lane, sel_ite, Attn.low]
  by_cases h : l.val < 64
  · simp only [if_pos h]
    rfl
  · simp only [if_neg h]
    rfl

/-- A lane's own head among the two. -/
def own (r : Fin 64) (l : Fin 128) : Fin 128 := ⟨l / 64 * 64 + r, by omega⟩

/-- A piece without the mask. -/
theorem plain_at (r : Fin 64) (l : Fin 128) :
    k0_pay15 (F := Ideal) k0_pay1 (k0_pay30 k0_pay1 k0_pay2 B q K) V (ix2 r l)
      = Softmax.late (fun k => Attn.score (fun d => q (ix2 r (own d l))) (fun d => K (ix2 k (own d l))) (B (ix2 (own r l) k)))
          (fun k => V (ix2 k l)) := by
  rw [tail_at]
  refine congrArg (Softmax.late · _) (funext fun k => ?_)
  by_cases h : l.val < 64
  · rw [if_pos h, first_at]
    simp only [own, show l.val / 64 = 0 by omega, Nat.zero_mul, Nat.zero_add]
  · rw [if_neg h, second_at]
    simp only [own, show l.val / 64 = 1 by omega, Nat.one_mul]

/-- A piece of the first block, with the mask. -/
theorem masked_piece_at (cc : Fin 8) (r : Fin 64) (l : Fin 128) :
    k0_pay15 (F := Ideal) k0_pay1 (masked 0#32 (BitVec.ofNat 32 (64 * cc.val)) (k0_pay30 k0_pay1 k0_pay2 B q K)) V (ix2 r l)
      = Softmax.late (fun k => if 512 ≤ cc.val * 64 + k.val then
            Attn.score (fun d => q (ix2 r (own d l))) (fun d => K (ix2 k (own d l))) (B (ix2 (own r l) k)) else ⊥)
          (fun k => V (ix2 k l)) := by
  rw [tail_at]
  refine congrArg (Softmax.late · _) (funext fun k => ?_)
  by_cases h : l.val < 64
  · rw [if_pos h, masked_at, first_at]
    simp only [own, show l.val / 64 = 0 by omega, Nat.zero_mul, Nat.zero_add]
  · rw [if_neg h, masked_at, second_at]
    simp only [own, show l.val / 64 = 1 by omega, Nat.one_mul]

end Cert.AttnIdeal.Rows

end
-- ==== Proof.Gather.lean ====
/-
  The host's gather along the columns of a matrix, read at an index: `x[:, idx]` holds, at row `h`, the entry of row `h`
  of `x` at the column the index array names, read as a signed number and clamped into the matrix.
-/
module

public import Idealize.ShloMosaic.Lib.Pointwise
public import Idealize.ShloMosaic.Lib.ValueIdxCore

@[expose] public section

noncomputable section

namespace Cert.Gather

open Idealize.ShloMosaic

variable {α : Type}

/-- The dimension numbers of `x[:, idx]` for a matrix `[N, M]` and a vector of `R` columns. -/
abbrev colsDims (N M R : ℕ) (wf : GatherDims.WF ⟨2, ![N, M]⟩ ⟨2, ![R, 1]⟩ ⟨2, ![N, R]⟩ [0] [1] [] [1] [] 1 ![N, 1]) :
    GatherDims ⟨2, ![N, M]⟩ ⟨2, ![R, 1]⟩ ⟨2, ![N, R]⟩ where
  offsetDims := [0]
  collapsedSliceDims := [1]
  operandBatchingDims := []
  startIndicesBatchingDims := []
  startIndexMap := [1]
  indexVectorDim := 1
  sliceSizes := ![N, 1]
  wf := wf

/-- The dimension numbers of `x[:, idx]` for a matrix `[N, M]` and an array `[R, C]` of columns. -/
abbrev colsDims2 (N M R C : ℕ) (wf : GatherDims.WF ⟨2, ![N, M]⟩ ⟨3, ![R, C, 1]⟩ ⟨3, ![N, R, C]⟩ [0] [1] [] [1] [] 2 ![N, 1]) :
    GatherDims ⟨2, ![N, M]⟩ ⟨3, ![R, C, 1]⟩ ⟨3, ![N, R, C]⟩ where
  offsetDims := [0]
  collapsedSliceDims := [1]
  operandBatchingDims := []
  startIndicesBatchingDims := []
  startIndexMap := [1]
  indexVectorDim := 2
  sliceSizes := ![N, 1]
  wf := wf

theorem cols_at {N M R w : ℕ} (hM : 0 < M) (wf) (x : (⟨2, ![N, M]⟩ : Shape).Idx → α) (idx : IVec ⟨2, ![R, 1]⟩ w) (h : Fin N) (r : Fin R) :
    Host.gather (colsDims N M R wf) x idx (ix2 h r) = x (ix2 h ⟨min (idx (ix2 r 0)).toInt.toNat (M - 1), by omega⟩) := by
  unfold Host.gather
  congr 1
  funext a
  refine Fin.ext ?_
  show (colsDims N M R wf).start (ix2 h r) idx a + (colsDims N M R wf).batchCoord (ix2 h r) a
      + (colsDims N M R wf).offCoord (ix2 h r) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil]
    unfold GatherDims.start GatherDims.offCoord
    rw [dif_neg (show (0 : Fin 2) ∉ [(1 : Fin 2)] by decide),
      dif_pos ((GatherDims.mem_sKept _ _).mpr ⟨(show (0 : Fin 2) ∉ [(1 : Fin 2)] by decide), List.not_mem_nil⟩)]
    simp only [Nat.zero_add, Nat.add_zero]
    rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ [(1 : Fin 2)] by decide)]
    have hsi : (colsDims N M R wf).siIdx (ix2 h r) ⟨List.idxOf (1 : Fin 2) (colsDims N M R wf).startIndexMap,
        List.idxOf_lt_length_iff.2 (List.mem_singleton.mpr rfl)⟩ = ix2 r 0 := by
      funext b; refine Fin.ext ?_
      match b with
      | ⟨0, _⟩ => rfl
      | ⟨1, _⟩ => rfl
    exact congrArg (fun i => min (idx i).toInt.toNat (M - 1)) hsi

theorem cols2_at {N M R C w : ℕ} (hM : 0 < M) (wf) (x : (⟨2, ![N, M]⟩ : Shape).Idx → α) (idx : IVec ⟨3, ![R, C, 1]⟩ w)
    (h : Fin N) (r : Fin R) (k : Fin C) :
    Host.gather (colsDims2 N M R C wf) x idx (ix3 h r k) = x (ix2 h ⟨min (idx (ix3 r k 0)).toInt.toNat (M - 1), by omega⟩) := by
  unfold Host.gather
  congr 1
  funext a
  refine Fin.ext ?_
  show (colsDims2 N M R C wf).start (ix3 h r k) idx a + (colsDims2 N M R C wf).batchCoord (ix3 h r k) a
      + (colsDims2 N M R C wf).offCoord (ix3 h r k) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil]
    unfold GatherDims.start GatherDims.offCoord
    rw [dif_neg (show (0 : Fin 2) ∉ [(1 : Fin 2)] by decide),
      dif_pos ((GatherDims.mem_sKept _ _).mpr ⟨(show (0 : Fin 2) ∉ [(1 : Fin 2)] by decide), List.not_mem_nil⟩)]
    simp only [Nat.zero_add, Nat.add_zero]
    rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ [(1 : Fin 2)] by decide)]
    have hsi : (colsDims2 N M R C wf).siIdx (ix3 h r k) ⟨List.idxOf (1 : Fin 2) (colsDims2 N M R C wf).startIndexMap,
        List.idxOf_lt_length_iff.2 (List.mem_singleton.mpr rfl)⟩ = ix3 r k 0 := by
      funext b; refine Fin.ext ?_
      match b with
      | ⟨0, _⟩ => rfl
      | ⟨1, _⟩ => rfl
      | ⟨2, _⟩ => rfl
    exact congrArg (fun i => min (idx i).toInt.toNat (M - 1)) hsi

/-- A column number below 513, written as a 32-bit word and read back. -/
theorem read_word (a : ℕ) (ha : a < 513) : (BitVec.ofNat 32 a).toInt.toNat = a :=
  (by decide +kernel : ∀ a : Fin 513, (BitVec.ofNat 32 a.val).toInt.toNat = a.val) ⟨a, ha⟩

end Cert.Gather

end
-- ==== Proof.AttnTable.lean ====
/-
  The bias operand of the attention call: row `64 h + i`, column `k` of the array laid out on the host is the entry of
  head `h` for the distance from query row `i` to key row `k`.
-/
module

public import proofs.«01_k».proof.Proof.Gather
public import proofs.«01_k».proof.Proof.Gen.AttnIdeal.Value
public import Idealize.ShloMosaic.Lib.Pointwise
public import Idealize.ShloMosaic.Lib.Pipeline.ValueKit
public import Idealize.ShloMosaic.Lib.Claim

@[expose] public section

set_option maxRecDepth 16384

noncomputable section

namespace Cert.AttnIdeal.Rows

open Cert.AttnIdeal Cert.AttnIdeal.Gen Idealize.ShloMosaic Idealize.ShloMosaic.TcCoe

variable (m : (ℓ : Loc nD τ sig) → Buf (Elt Ideal) ℓ)

/-- The column of the bias table that goes with the place `p` of a row of 639 distances. -/
def places : IVec S639 32 :=
  let w : IVec S639 32 := addi (minsi (broadcastInDim S639 ![] bcast_S_S639 (constantI S_ 32 256#32))
      (maxsi (broadcastInDim S639 ![] bcast_S_S639 (constantI S_ 32 4294967040#32))
        (subi (broadcastInDim S639 ![] bcast_S_S639 (constantI S_ 32 575#32)) (iotaInDim S639 32 0))))
    (broadcastInDim S639 ![] bcast_S_S639 (constantI S_ 32 256#32))
  select (cmpi .slt w (broadcastInDim S639 ![] bcast_S_S639 (constantI S_ 32 0#32)))
    (addi w (broadcastInDim S639 ![] bcast_S_S639 (constantI S_ 32 513#32))) w

/-- The bias laid out for the kernel: the row of distances of each head repeated, one place further for each row. -/
def laid (T : FVec Ideal S16x513 .f32) : FVec Ideal S1024x576 .f32 :=
  shapeCast S1024x576 (extractStridedSlice S16x64x576 ![0, 0, 63] (shapeCast S16x64x639
    (extractStridedSlice S16x40896 ![0, 0] (shapeCast S16x40960
      (broadcastInDim S1x16x64x640 ![0, 1, 2, 3] bcast_S1x16x1x640_S1x16x64x640_0_1_2_3
        (shapeCast S1x16x1x640
          (pad S16x640 ![0, 0] ![0, 1] ![0, 0]
            (Host.gather gather_S16x513_S639x1_S16x639_0_1_n_n_1_1_161 T
              (broadcastInDim S639x1 ![0] bcast_S639_S639x1_0 places))
            (sitofp .f32 (constantI S_ 32 0#32)) pads_S16x639_S16x640_000_010 h_S_)
          shapeCasts_S16x640_S1x16x1x640))
      shapeCasts_S1x16x64x640_S16x40960) slices_S16x40960_S16x40896_0_0)
    shapeCasts_S16x40896_S16x64x639) slices_S16x64x639_S16x64x576_0_0_63) shapeCasts_S16x64x576_S1024x576

/-- What the region finds in its bias operand. -/
theorem V_bias (c : Dev nD) : V m c main_v20 = laid (m ((c : Thread nD τ).loc main_arg1)) := by
  dsimp only [V, List.flatten, hostOps0, hostOps0_1, hostOps0_2, hostOps0_3, hostOps0_4, List.append, List.cons_append, List.nil_append]
  simp only [StableHlo.after_cons, StableHlo.after_nil]
  after_results_simp
  after_results_loop
  simp -implicitDefEqProofs only [StableHlo.TRef.toBuf, StableHlo.TRef.ofBuf, cast_cast, cast_eq, id_eq]
  rfl

/-- A place, read: the distance cut off at 512. -/
theorem places_at (p : Fin 639) : places (ix1 p) = BitVec.ofNat 32 (min 512 (831 - p)) := by
  pointwise [places]
  revert p
  decide +kernel

/-- An entry of the laid out bias. -/
theorem laid_at (T : FVec Ideal S16x513 .f32) (r : Fin 1024) (k : Fin 576) :
    laid T (ix2 r k) = T (ix2 ⟨r / 64, by omega⟩ ⟨min 512 (r % 64 + 768 - k), by omega⟩) := by
  have hp : (r.val % 64 * 639 + (63 + k.val)) % 640 = 63 + k.val - r.val % 64 := by omega
  pointwise [laid]
  rw [dif_pos (by omega)]
  refine (Gather.cols_at (N := 16) (M := 513) (R := 639) (by decide) _ T _ _ _).trans ?_
  refine congrArg T (congrArg (ix2 _) (Fin.ext ?_))
  pointwise
  rw [places_at]
  rw [Gather.read_word _ (by omega)]
  dsimp only
  omega

/-- An entry of the operand, as the region finds it. -/
theorem bias_at (c : Dev nD) (r : Fin 1024) (k : Fin 576) :
    (V m c main_v20 : FVec Ideal S1024x576 .f32) (ix2 r k)
      = m ((c : Thread nD τ).loc main_arg1) (ix2 ⟨r / 64, by omega⟩ ⟨min 512 (r % 64 + 768 - k), by omega⟩) :=
  (congrFun (V_bias m c) _).trans (laid_at _ r k)

end Cert.AttnIdeal.Rows

end
-- ==== Proof.AttnValue.lean ====
/-
  The attention call's result: every block the grid writes holds the rows of the attention divided late.
-/
module

public import proofs.«01_k».proof.Proof.Attn
public import proofs.«01_k».proof.Proof.AttnTable
public import proofs.«01_k».proof.Proof.Gen.AttnIdeal.Value
public import Idealize.ShloMosaic.Lib.Pointwise
public import Idealize.ShloMosaic.Lib.Pipeline.ValueKit
public import Idealize.ShloMosaic.Lib.Claim

@[expose] public section

set_option maxRecDepth 16384

noncomputable section

namespace Cert.AttnIdeal.Rows

open Cert.AttnIdeal Cert.AttnIdeal.Gen Idealize.ShloMosaic Idealize.ShloMosaic.TcCoe Idealize.SL Idealize.ShloMosaic.Pipeline

variable (m : (ℓ : Loc nD τ sig) → Buf (Elt Ideal) ℓ)

/-- The block each window stages at grid point `t`. -/
theorem idx : ∀ t : Fin cfg0.N,
    win0_0.index t = ![t.val / 128 * 17 + 1 + t.val % 16, t.val / 16 % 8] ∧ win0_1.index t = ![t.val / 128, 8 + t.val / 16 % 8]
      ∧ win0_2.index t = ![t.val / 128, 16 + t.val / 16 % 8] ∧ win0_3.index t = ![t.val / 16 % 8, 0]
      ∧ win0_4.index t = ![t.val / 128 * 16 + t.val % 16, t.val / 16 % 8] :=
  (by decide +kernel : ∀ t : Fin grid0.N, _)

/-- The first key row of each piece, in the first block and in the others. -/
theorem off : ∀ (t : Fin cfg0.N) (cc : Fin 8),
    k0_off1 (grid0.coords t) (BitVec.ofNat 32 (64 * cc.val)) = ![t.val % 16 * 512 + 64 * cc.val, 0]
      ∧ k0_off2 (grid0.coords t) (BitVec.ofNat 32 (64 * cc.val)) = ![t.val % 16 * 512 + 64 * cc.val, 0] :=
  (by decide +kernel : ∀ (t : Fin grid0.N) (cc : Fin 8), _)

/-- The first block's number. -/
theorem first_block : ∀ t : Fin cfg0.N, t.val % 16 = 0 → BitVec.ofNat 32 (grid0.coords t 2).val = 0#32 :=
  (by decide +kernel : ∀ t : Fin grid0.N, t.val % 16 = 0 → BitVec.ofNat 32 (grid0.coords t 2).val = 0#32)

/-- A load of 576 rows from a row on. -/
theorem ld_at (Y : FVec Ideal S8704x128 .bf16) (o : ℕ) (ho : o + 576 ≤ 8704) (f : Fin 2 → ℕ) (hf : f = ![o, 0]) (inb) (k : Fin 576) (e : Fin 128) :
    View.ld (Val := Elt Ideal) (e' := .bf16) Y (Rect.unit (s := S8704x128) f S576x128.size inb) (ix2 k e) = Y (ix2 ⟨o + k, by omega⟩ e) := by
  subst hf
  pointwise

/-- A load of 64 query rows. -/
theorem ldQ_at (Y : FVec Ideal S512x128 .bf16) (o : ℕ) (ho : o + 64 ≤ 512) (inb) (r : Fin 64) (e : Fin 128) :
    View.ld (Val := Elt Ideal) (e' := .bf16) Y (Rect.unit (s := S512x128) ![o, 0] S64x128.size inb) (ix2 r e) = Y (ix2 ⟨o + r, by omega⟩ e) := by
  pointwise

theorem readQ (c : Dev nD) (t : Fin cfg0.N) (r : Fin 512) (e : Fin 128) :
    (iblk m c 0 t : FVec Ideal S512x128 .bf16) (ix2 r e)
      = m ((c : Thread nD τ).loc main_arg0) (ix2 ⟨(t.val / 128 * 17 + 1 + t.val % 16) * 512 + r, by have := lt_of_lt_of_eq t.isLt N_0; omega⟩
          ⟨t.val / 16 % 8 * 128 + e, by omega⟩) := by
  have ht := lt_of_lt_of_eq t.isLt N_0
  blk_point [iblk, V, idx t]

theorem readK (c : Dev nD) (t : Fin cfg0.N) (r : Fin 8704) (e : Fin 128) :
    (iblk m c 1 t : FVec Ideal S8704x128 .bf16) (ix2 r e)
      = m ((c : Thread nD τ).loc main_arg0) (ix2 ⟨t.val / 128 * 8704 + r, by have := lt_of_lt_of_eq t.isLt N_0; omega⟩
          ⟨1024 + t.val / 16 % 8 * 128 + e, by omega⟩) := by
  have ht := lt_of_lt_of_eq t.isLt N_0
  blk_point [iblk, V, idx t]

theorem readV (c : Dev nD) (t : Fin cfg0.N) (r : Fin 8704) (e : Fin 128) :
    (iblk m c 2 t : FVec Ideal S8704x128 .bf16) (ix2 r e)
      = m ((c : Thread nD τ).loc main_arg0) (ix2 ⟨t.val / 128 * 8704 + r, by have := lt_of_lt_of_eq t.isLt N_0; omega⟩
          ⟨2048 + t.val / 16 % 8 * 128 + e, by omega⟩) := by
  have ht := lt_of_lt_of_eq t.isLt N_0
  blk_point [iblk, V, idx t]

theorem readB (c : Dev nD) (t : Fin cfg0.N) (r : Fin 128) (k : Fin 576) :
    (iblk m c 3 t : FVec Ideal S128x576 .f32) (ix2 r k)
      = m ((c : Thread nD τ).loc main_arg1) (ix2 ⟨t.val / 16 % 8 * 2 + r / 64, by omega⟩ ⟨min 512 (r % 64 + 768 - k), by omega⟩) := by
  have ht := lt_of_lt_of_eq t.isLt N_0
  have e : (iblk m c 3 t : FVec Ideal S128x576 .f32) (ix2 r k)
      = (V m c main_v20 : FVec Ideal S1024x576 .f32) (ix2 ⟨t.val / 16 % 8 * 128 + r, by omega⟩ k) := by
    refine congrArg (V m c main_v20) ?_
    funext a
    refine Fin.ext ?_
    blk_simp [idx t]
    match a with
    | ⟨0, _⟩ => rfl
    | ⟨1, _⟩ =>
      show 0 * 576 + k.val = k.val
      omega
  rw [e, bias_at]
  blk_ext

/-- The result as one function of the arguments. -/
abbrev out (c : Dev nD) (r : Fin 32768) (l : Fin 1024) : EReal :=
  Attn.late (fun a b => m ((c : Thread nD τ).loc main_arg0) (ix2 a b)) (fun a b => m ((c : Thread nD τ).loc main_arg1) (ix2 a b)) r l

section Pieces

variable (c : Dev nD) (t : Fin cfg0.N) (cc : Fin 8) (Q : Vec Ideal S64x128 .bf16) (K W : Vec Ideal S576x128 .bf16)
  (hQ : ∀ r e, Q (ix2 r e) = (iblk m c 0 t : FVec Ideal S512x128 .bf16) (ix2 ⟨64 * cc + r, by omega⟩ e))
  (hK : ∀ k e, K (ix2 k e) = (iblk m c 1 t : FVec Ideal S8704x128 .bf16) (ix2 ⟨t.val % 16 * 512 + 64 * cc + k, by omega⟩ e))
  (hW : ∀ k e, W (ix2 k e) = (iblk m c 2 t : FVec Ideal S8704x128 .bf16) (ix2 ⟨t.val % 16 * 512 + 64 * cc + k, by omega⟩ e))
include hQ hK hW

/-- Row `x` of piece `cc` at grid point `t`, and its lane, in the whole result. -/
abbrev row (x : Fin 64) : Fin 32768 :=
  ⟨(t.val / 128 * 16 + t.val % 16) * 512 + (64 * cc + x), by have := lt_of_lt_of_eq t.isLt N_0; omega⟩

abbrev col (l : Fin 128) : Fin 1024 := ⟨t.val / 16 % 8 * 128 + l, by omega⟩

/-- The scores and the values of a piece are the row's. -/
theorem scores_eq (x : Fin 64) (l : Fin 128) (k : Fin 576) :
    Attn.score (fun d => Q (ix2 x (own d l))) (fun d => K (ix2 k (own d l))) ((iblk m c 3 t : FVec Ideal S128x576 .f32) (ix2 (own x l) k))
      = Attn.score
        (fun d => m ((c : Thread nD τ).loc main_arg0) (ix2 ⟨(row t cc x).val / 8192 * 8704 + 512 + (row t cc x).val / 64 % 128 * 64 + (row t cc x).val % 64, by omega⟩
          ⟨(col t l).val / 64 * 64 + d, by omega⟩))
        (fun d => m ((c : Thread nD τ).loc main_arg0) (ix2 ⟨(row t cc x).val / 8192 * 8704 + (row t cc x).val / 64 % 128 * 64 + k, by omega⟩
          ⟨1024 + (col t l).val / 64 * 64 + d, by omega⟩))
        (m ((c : Thread nD τ).loc main_arg1) (ix2 ⟨(col t l).val / 64, by omega⟩ ⟨min 512 ((row t cc x).val % 64 + 768 - k), by omega⟩)) := by
  have ht := lt_of_lt_of_eq t.isLt N_0
  have e0 : ∀ d : Fin 64, Q (ix2 x (own d l)) = m ((c : Thread nD τ).loc main_arg0) (ix2 ⟨(row t cc x).val / 8192 * 8704 + 512 + (row t cc x).val / 64 % 128 * 64 + (row t cc x).val % 64, by omega⟩
          ⟨(col t l).val / 64 * 64 + d, by omega⟩) := fun d => by
    refine (hQ x _).trans ((readQ m c t _ _).trans (congrArg (m _) (congrArg₂ ix2 (Fin.ext ?_) (Fin.ext ?_))))
    · dsimp only [row]
      omega
    · dsimp only [own, col]
      omega
  have e1 : ∀ d : Fin 64, K (ix2 k (own d l)) = m ((c : Thread nD τ).loc main_arg0) (ix2 ⟨(row t cc x).val / 8192 * 8704 + (row t cc x).val / 64 % 128 * 64 + k, by omega⟩
          ⟨1024 + (col t l).val / 64 * 64 + d, by omega⟩) := fun d => by
    refine (hK k _).trans ((readK m c t _ _).trans (congrArg (m _) (congrArg₂ ix2 (Fin.ext ?_) (Fin.ext ?_))))
    · dsimp only [row]
      omega
    · dsimp only [own, col]
      omega
  have e2 : (iblk m c 3 t : FVec Ideal S128x576 .f32) (ix2 (own x l) k)
      = m ((c : Thread nD τ).loc main_arg1) (ix2 ⟨(col t l).val / 64, by omega⟩ ⟨min 512 ((row t cc x).val % 64 + 768 - k), by omega⟩) := by
    refine (readB m c t _ k).trans (congrArg (m _) (congrArg₂ ix2 (Fin.ext ?_) (Fin.ext ?_)))
    · dsimp only [own, col]
      omega
    · dsimp only [own, row]
      omega
  rw [funext e0, funext e1, e2]

theorem values_eq (x : Fin 64) (l : Fin 128) (k : Fin 576) :
    W (ix2 k l) = Attn.value (fun a b => m ((c : Thread nD τ).loc main_arg0) (ix2 a b)) ⟨(row t cc x).val / 8192, by omega⟩
      ⟨(row t cc x).val / 64 % 128, by omega⟩ ⟨(col t l).val / 64, by omega⟩ ⟨(col t l).val % 64, by omega⟩ k := by
  have ht := lt_of_lt_of_eq t.isLt N_0
  refine (hW k _).trans ((readV m c t _ _).trans (congrArg (m _) (congrArg₂ ix2 (Fin.ext ?_) (Fin.ext ?_))))
  · dsimp only [row]
    omega
  · dsimp only [col]
    omega

theorem plain_piece (h0 : ¬ t.val % 16 = 0) (x : S64x128.Idx) :
    k0_pay15 (F := Ideal) k0_pay1 (k0_pay30 k0_pay1 k0_pay2 (iblk m c 3 t) Q K) W x = out m c (row t cc (x 0)) (col t (x 1)) := by
  refine (congrArg _ (eq_ix2 (n0 := 64) (n1 := 128) x)).trans ((plain_at _ Q K W (x 0) (x 1)).trans ?_)
  refine congrArg₂ Softmax.late (funext fun k => ?_) (funext fun k => values_eq m c t cc Q K W hQ hK hW (x 0) (x 1) k)
  refine (scores_eq m c t cc Q K W hQ hK hW (x 0) (x 1) k).trans (if_pos ?_).symm
  have ht := lt_of_lt_of_eq t.isLt N_0
  have hx : (x 0).val < 64 := (x 0).isLt
  dsimp only [row]
  omega

theorem masked_piece (h0 : t.val % 16 = 0) (x : S64x128.Idx) :
    k0_pay15 (F := Ideal) k0_pay1 (masked (BitVec.ofNat 32 (grid0.coords t 2).val) (BitVec.ofNat 32 (64 * cc.val)) (k0_pay30 k0_pay1 k0_pay2 (iblk m c 3 t) Q K)) W x
      = out m c (row t cc (x 0)) (col t (x 1)) := by
  rw [first_block t h0]
  refine (congrArg _ (eq_ix2 (n0 := 64) (n1 := 128) x)).trans ((masked_piece_at _ Q K W cc (x 0) (x 1)).trans ?_)
  refine congrArg₂ Softmax.late (funext fun k => ?_) (funext fun k => values_eq m c t cc Q K W hQ hK hW (x 0) (x 1) k)
  have hx : (x 0).val < 64 := (x 0).isLt
  have hp : (512 ≤ cc.val * 64 + k.val) = (512 ≤ (row t cc (x 0)).val / 64 % 128 * 64 + k.val) := by
    have ht := lt_of_lt_of_eq t.isLt N_0
    dsimp only [row]
    exact propext (by omega)
  unfold Attn.scores
  dsimp only
  simp only [hp]
  split
  · exact scores_eq m c t cc Q K W hQ hK hW (x 0) (x 1) k
  · rfl

end Pieces

theorem plain_load (c : Dev nD) (t : Fin cfg0.N) (cc : Fin 8) (h0 : ¬ t.val % 16 = 0) (hq) (hk) (hw) (x : S64x128.Idx) :
    k0_pay15 (F := Ideal) k0_pay1 (k0_pay30 k0_pay1 k0_pay2 (iblk m c 3 t)
        (View.ld (iblk m c 0 t) (Rect.unit (s := S512x128) ![64 * cc.val, 0] S64x128.size hq))
        (View.ld (iblk m c 1 t) (Rect.unit (s := S8704x128) (k0_off2 (grid0.coords t) (BitVec.ofNat 32 (64 * cc.val))) S576x128.size hk)))
      (View.ld (iblk m c 2 t) (Rect.unit (s := S8704x128) (k0_off2 (grid0.coords t) (BitVec.ofNat 32 (64 * cc.val))) S576x128.size hw)) x
      = out m c (row t cc (x 0)) (col t (x 1)) :=
  plain_piece m c t cc _ _ _ (ldQ_at _ _ (by omega) _) (ld_at _ _ (by omega) _ (off t cc).2 _) (ld_at _ _ (by omega) _ (off t cc).2 _) h0 x

theorem masked_load (c : Dev nD) (t : Fin cfg0.N) (cc : Fin 8) (h0 : t.val % 16 = 0) (hq) (hk) (hw) (x : S64x128.Idx) :
    k0_pay15 (F := Ideal) k0_pay1 (masked (BitVec.ofNat 32 (grid0.coords t 2).val) (BitVec.ofNat 32 (64 * cc.val)) (k0_pay30 k0_pay1 k0_pay2 (iblk m c 3 t)
        (View.ld (iblk m c 0 t) (Rect.unit (s := S512x128) ![64 * cc.val, 0] S64x128.size hq))
        (View.ld (iblk m c 1 t) (Rect.unit (s := S8704x128) (k0_off1 (grid0.coords t) (BitVec.ofNat 32 (64 * cc.val))) S576x128.size hk))))
      (View.ld (iblk m c 2 t) (Rect.unit (s := S8704x128) (k0_off1 (grid0.coords t) (BitVec.ofNat 32 (64 * cc.val))) S576x128.size hw)) x
      = out m c (row t cc (x 0)) (col t (x 1)) :=
  masked_piece m c t cc _ _ _ (ldQ_at _ _ (by omega) _) (ld_at _ _ (by omega) _ (off t cc).1 _) (ld_at _ _ (by omega) _ (off t cc).1 _) h0 x

theorem tile (c : Dev nD) (t : Fin cfg0.N) (y : S512x128.Idx) (r : Fin 32768) (l : Fin 1024)
    (hr : r.val = (t.val / 128 * 16 + t.val % 16) * 512 + (y 0).val) (hl : l.val = t.val / 16 % 8 * 128 + (y 1).val) :
    outsAt0 m c t.val t.isLt y = out m c r l := by
  have at_piece : ∀ (cc : Fin 8) (x : S64x128.Idx), (y 0).val = 64 * cc.val + (x 0).val → (y 1).val = (x 1).val →
      out m c (row t cc (x 0)) (col t (x 1)) = out m c r l := fun cc x e0 e1 =>
    congrArg₂ (out m c) (Fin.ext (by rw [hr, e0])) (Fin.ext (by rw [hl, e1]))
  by_cases h0 : t.val % 16 = 0
  · rw [outsAt0_A m c t h0 (by omega)]
    frame_out
    canon_tiles x h
    · exact (masked_load m c t 7 (by assumption) _ _ _ x).trans (at_piece 7 x (by omega) h1)
    · exact (masked_load m c t 6 (by assumption) _ _ _ x).trans (at_piece 6 x (by omega) h1)
    · exact (masked_load m c t 5 (by assumption) _ _ _ x).trans (at_piece 5 x (by omega) h1)
    · exact (masked_load m c t 4 (by assumption) _ _ _ x).trans (at_piece 4 x (by omega) h1)
    · exact (masked_load m c t 3 (by assumption) _ _ _ x).trans (at_piece 3 x (by omega) h1)
    · exact (masked_load m c t 2 (by assumption) _ _ _ x).trans (at_piece 2 x (by omega) h1)
    · exact (masked_load m c t 1 (by assumption) _ _ _ x).trans (at_piece 1 x (by omega) h1)
    · exact (masked_load m c t 0 (by assumption) _ _ _ x).trans (at_piece 0 x (by omega) h1)
  · rw [outsAt0_B m c t h0 (by omega)]
    frame_out
    canon_tiles x h
    · exact (plain_load m c t 7 (by assumption) _ _ _ x).trans (at_piece 7 x (by omega) h1)
    · exact (plain_load m c t 6 (by assumption) _ _ _ x).trans (at_piece 6 x (by omega) h1)
    · exact (plain_load m c t 5 (by assumption) _ _ _ x).trans (at_piece 5 x (by omega) h1)
    · exact (plain_load m c t 4 (by assumption) _ _ _ x).trans (at_piece 4 x (by omega) h1)
    · exact (plain_load m c t 3 (by assumption) _ _ _ x).trans (at_piece 3 x (by omega) h1)
    · exact (plain_load m c t 2 (by assumption) _ _ _ x).trans (at_piece 2 x (by omega) h1)
    · exact (plain_load m c t 1 (by assumption) _ _ _ x).trans (at_piece 1 x (by omega) h1)
    · exact (plain_load m c t 0 (by assumption) _ _ _ x).trans (at_piece 0 x (by omega) h1)

/-- The whole result after the run. -/
theorem final (c : Dev nD) : (dats m 0 c).arrAt 4 cfg0.N = fun j : S32768x1024.Idx => out m c (j 0) (j 1) := by
  refine (dats m 0 c).arrAt_eq_of_covers 4 _ (by decide +kernel) fun t _ y => ?_
  blk_simp
  rw [after0_4]
  refine tile m c t y _ _ ?_ ?_
  · blk_simp [idx t]
  · blk_simp [idx t]

end Cert.AttnIdeal.Rows

end
-- ==== Proof.AttnRef.lean ====
/-
  The plain attention read entry by entry: the pieces of the packed rows, the bias, the masked scores, their maximum, the
  weights, and the weighed sum of the values.
-/
module

public import proofs.«01_k».proof.Proof.AttnSpec
public import proofs.«01_k».proof.Proof.Gather
public import proofs.«01_k».proof.Proof.Gen.AttnRefIdeal.Read
public import Idealize.ShloMosaic.Lib.Pointwise
public import Idealize.ShloMosaic.Lib.Pipeline.ValueKit

@[expose] public section

set_option maxRecDepth 16384

noncomputable section

namespace Cert.AttnRefIdeal.Rows

open Cert.AttnRefIdeal Cert.AttnRefIdeal.Read Idealize.ShloMosaic Idealize.ShloMosaic.TcCoe

variable (X : FVec Ideal S34816x3072 .bf16) (T : FVec Ideal S16x513 .f32)

theorem v3_at (b : Fin 4) (n : Fin 128) (i : Fin 64) (h : Fin 16) (d : Fin 64) :
    val_main_v3 (F := Ideal) X (ix5 b n i h d)
      = X (ix2 ⟨b * 8704 + 512 + n * 64 + i, by omega⟩ ⟨h * 64 + d, by omega⟩) := by
  pointwise [val_main_v3, val_main_v2, val_main_v1, val_main_v0]
  blk_ext

theorem v5_at (b : Fin 4) (n : Fin 136) (i : Fin 64) (h : Fin 16) (d : Fin 64) :
    val_main_v5 (F := Ideal) X (ix5 b n i h d)
      = X (ix2 ⟨b * 8704 + n * 64 + i, by omega⟩ ⟨1024 + h * 64 + d, by omega⟩) := by
  pointwise [val_main_v5, val_main_v4, val_main_v1, val_main_v0]

theorem v7_at (b : Fin 4) (n : Fin 136) (i : Fin 64) (h : Fin 16) (d : Fin 64) :
    val_main_v7 (F := Ideal) X (ix5 b n i h d)
      = X (ix2 ⟨b * 8704 + n * 64 + i, by omega⟩ ⟨2048 + h * 64 + d, by omega⟩) := by
  pointwise [val_main_v7, val_main_v6, val_main_v1, val_main_v0]

theorem v17_at (b : Fin 4) (n : Fin 128) (k : Fin 576) (h : Fin 16) (d : Fin 64) :
    val_main_v17 (F := Ideal) X (ix5 b n k h d)
      = X (ix2 ⟨b * 8704 + n * 64 + k, by omega⟩ ⟨1024 + h * 64 + d, by omega⟩) := by
  pointwise [val_main_v17, val_main_v8, val_main_v9, val_main_v10, val_main_v11, val_main_v12, val_main_v13, val_main_v14, val_main_v15, val_main_v16]
  simp only [v5_at]
  blk_point []

theorem v27_at (b : Fin 4) (n : Fin 128) (k : Fin 576) (h : Fin 16) (d : Fin 64) :
    val_main_v27 (F := Ideal) X (ix5 b n k h d)
      = X (ix2 ⟨b * 8704 + n * 64 + k, by omega⟩ ⟨2048 + h * 64 + d, by omega⟩) := by
  pointwise [val_main_v27, val_main_v18, val_main_v19, val_main_v20, val_main_v21, val_main_v22, val_main_v23, val_main_v24, val_main_v25, val_main_v26]
  simp only [v7_at]
  blk_point []

/-- The distance from a query row to a key row depends on their difference alone. -/
theorem distance (i : Fin 64) (k : Fin 576) :
    IntOp.subi (IntOp.addi (BitVec.ofNat 32 i.val) 512#32) (BitVec.ofNat 32 k.val) = IntOp.subi (BitVec.ofNat 32 (i + 575 - k)) 63#32 := by
  refine BitVec.eq_of_toNat_eq ?_
  simp only [IntOp.subi, IntOp.addi, BitVec.toNat_sub, BitVec.toNat_add, BitVec.toNat_ofNat]
  omega

/-- The column of the bias table for a distance, as the operations on 32-bit words find it. -/
theorem column (e : Fin 639) :
    (let w := IntOp.addi (IntOp.minsi 256#32 (IntOp.maxsi 4294967040#32 (IntOp.subi (BitVec.ofNat 32 e.val) 63#32))) 256#32
     Scalar.select (IntOp.cmpi .slt w 0#32) (IntOp.addi w 513#32) w) = BitVec.ofNat 32 (min 512 (e + 193)) := by
  revert e
  decide +kernel

theorem v44_at (i : Fin 64) (k : Fin 576) :
    val_main_v44 (F := Ideal) (ix2 i k) = BitVec.ofNat 32 (min 512 (i + 768 - k)) := by
  pointwise [val_main_v44, val_main_v43, val_main_v42, val_main_v41, val_main_v40, val_main_v39, val_main_v38, val_main_v37, val_main_v36, val_main_v35, val_main_v34, val_main_v33, val_main_v32, val_main_v31, val_main_v30, val_main_v29, val_main_v28, val_main_c, val_main_c_0, val_main_c_1, val_main_c_2, val_main_c_3, val_main_c_4, val_main_call0_v0, val_main_call0_v1, val_main_call0_v2, val_main_call0_v3, val_main_call0_v4]
  rw [distance]
  refine (column ⟨i + 575 - k, by omega⟩).trans (congrArg _ ?_)
  show min 512 (i.val + 575 - k.val + 193) = _
  omega

theorem v46_at (h : Fin 16) (i : Fin 64) (k : Fin 576) :
    val_main_v46 (F := Ideal) T (ix3 h i k) = T (ix2 h ⟨min 512 (i + 768 - k), by omega⟩) := by
  unfold val_main_v46
  refine (Gather.cols2_at (N := 16) (M := 513) (R := 64) (C := 576) (by decide) _ T _ h i k).trans ?_
  refine congrArg T (congrArg (ix2 _) (Fin.ext ?_))
  pointwise [val_main_v45]
  rw [v44_at, Gather.read_word _ (by omega)]
  omega

theorem v50_at (b : Fin 4) (n : Fin 128) (h : Fin 16) (i : Fin 64) (k : Fin 576) :
    val_main_v50 (F := Ideal) X T (ix5 b n h i k)
      = Attn.score (fun d => X (ix2 ⟨b * 8704 + 512 + n * 64 + i, by omega⟩ ⟨h * 64 + d, by omega⟩))
          (fun d => X (ix2 ⟨b * 8704 + n * 64 + k, by omega⟩ ⟨1024 + h * 64 + d, by omega⟩))
          (T (ix2 h ⟨min 512 (i + 768 - k), by omega⟩)) := by
  pointwise [val_main_v50, val_main_v47, val_main_v48, val_main_v49]
  simp only [v3_at, v17_at, v46_at]
  rfl

/-- The place of a key row, counted from the first row of the sequence. -/
theorem place (n : Fin 128) (k : Fin 576) :
    IntOp.addi (IntOp.subi (IntOp.muli (BitVec.ofNat 32 n) 64#32) 512#32) (BitVec.ofNat 32 k) = IntOp.subi (BitVec.ofNat 32 (n * 64 + k)) 512#32 := by
  refine BitVec.eq_of_toNat_eq ?_
  simp only [IntOp.subi, IntOp.addi, IntOp.muli, BitVec.toNat_sub, BitVec.toNat_add, BitVec.toNat_mul, BitVec.toNat_ofNat]
  omega

/-- Whether a key row lies before the sequence, as the comparison of 32-bit words decides it. -/
theorem before (n : Fin 128) (k : Fin 576) :
    IntOp.cmpi .sge (IntOp.addi (IntOp.subi (IntOp.muli (BitVec.ofNat 32 n) 64#32) 512#32) (BitVec.ofNat 32 k)) 0#32
      = if 512 ≤ n.val * 64 + k.val then 1#1 else 0#1 := by
  rw [place]
  exact (by decide +kernel : ∀ e : Fin 8704, IntOp.cmpi .sge (IntOp.subi (BitVec.ofNat 32 e.val) 512#32) 0#32
      = if 512 ≤ e.val then 1#1 else 0#1) ⟨n * 64 + k, by omega⟩

theorem v65_at (b : Fin 4) (n : Fin 128) (h : Fin 16) (i : Fin 64) (k : Fin 576) :
    val_main_v65 (F := Ideal) X T (ix5 b n h i k)
      = if 512 ≤ n.val * 64 + k.val then val_main_v50 (F := Ideal) X T (ix5 b n h i k) else ⊥ := by
  pointwise [val_main_v65, val_main_call1_v2, val_main_call1_v1, val_main_call1_v0, val_main_cst, val_main_v64, val_main_v63, val_main_v62, val_main_v61, val_main_v60, val_main_v59, val_main_v58, val_main_v57, val_main_v56, val_main_v55, val_main_v54, val_main_v53, val_main_v52, val_main_v51, val_main_c_5, val_main_c_6, val_main_c_7]
  rw [before]
  split
  · rfl
  · exact Attn.low

theorem scores_at (b : Fin 4) (n : Fin 128) (h : Fin 16) (i : Fin 64) (k : Fin 576) :
    val_main_v65 (F := Ideal) X T (ix5 b n h i k) = Attn.scores (fun a c => X (ix2 a c)) (fun a c => T (ix2 a c)) b n h i k := by
  rw [v65_at, v50_at]
  rfl

/-- The maximum along the last axis, for any operand. -/
theorem max_at (Y : FVec Ideal S4x128x16x64x576 .f32) (b : Fin 4) (n : Fin 128) (h : Fin 16) (i : Fin 64) :
    Host.reduce (FloatOps.maximumf (F := Ideal) (φ := .f32)) Y (val_main_cst_8 (F := Ideal)) Gen.reducesTo_S4x128x16x64x576_S4x128x16x64_d4 Gen.h_S_ (ix4 b n h i)
      = Softmax.top fun k : Fin 576 => Y (ix5 b n h i k) := by
  pointwise [val_main_cst_8]
  rw [Attn.low]
  rfl

theorem v66_at (b : Fin 4) (n : Fin 128) (h : Fin 16) (i : Fin 64) :
    val_main_v66 (F := Ideal) X T (ix4 b n h i) = Softmax.top fun k : Fin 576 => val_main_v65 (F := Ideal) X T (ix5 b n h i k) :=
  max_at _ b n h i

/-- The weights, for any scores and any maxima. -/
theorem weights_at (S : FVec Ideal S4x128x16x64x576 .f32) (M : FVec Ideal S4x128x16x64 .f32) (b : Fin 4) (n : Fin 128)
    (h : Fin 16) (i : Fin 64) (k : Fin 576) :
    (Host.exp (subf S (broadcastInDim S4x128x16x64x576 ![0, 1, 2, 3, 4] Gen.bcast_S4x128x16x64x1_S4x128x16x64x576_0_1_2_3_4
      (broadcastInDim S4x128x16x64x1 ![0, 1, 2, 3] Gen.bcast_S4x128x16x64_S4x128x16x64x1_0_1_2_3
        (maximumf (val_main_v67 (F := Ideal)) M)))) : FVec Ideal S4x128x16x64x576 .f32) (ix5 b n h i k)
      = Ideal.exp (S (ix5 b n h i k) - M (ix4 b n h i)) := by
  pointwise [val_main_v67, val_main_cst_9]
  rw [Attn.low, bot_sup_eq]

theorem v72_at (b : Fin 4) (n : Fin 128) (h : Fin 16) (i : Fin 64) (k : Fin 576) :
    val_main_v72 (F := Ideal) X T (ix5 b n h i k)
      = Softmax.weight (Attn.scores (fun a c => X (ix2 a c)) (fun a c => T (ix2 a c)) b n h i) k := by
  unfold val_main_v72 val_main_v71 val_main_v70 val_main_v69 val_main_v68
  rw [weights_at, v66_at]
  simp only [scores_at]
  rfl

theorem v80_at (r : Fin 32768) (l : Fin 1024) :
    val_main_v80 (F := Ideal) X T (ix2 r l) = Attn.early (fun a c => X (ix2 a c)) (fun a c => T (ix2 a c)) r l := by
  pointwise [val_main_v80, val_main_v79, val_main_v78, val_main_v77, val_main_v76, val_main_v75, val_main_v74, val_main_v73, val_main_cst_10]
  simp only [v27_at, v72_at]
  rfl

end Cert.AttnRefIdeal.Rows

end
-- ==== Proof.AttnClaim.lean ====
/-
  The banded attention: on finite inputs the kernel's result is the reference's, over the extended reals.
-/
module

public import proofs.«01_k».proof.Defs
public import proofs.«01_k».proof.Proof.AttnValue
public import proofs.«01_k».proof.Proof.AttnRef
public import Idealize.ShloMosaic.Lib.Claim

@[expose] public section

set_option maxRecDepth 16384

noncomputable section

namespace Cert.Proof

open Idealize.ShloMosaic Idealize.ShloMosaic.TcCoe Idealize.SL.Sem

theorem finite_facts : Cert.Pre_finite.Facts := ⟨by decide, by decide, by decide⟩

/-- An entry whose absolute value is below plus infinity is a real number. -/
theorem real_of_test {x : Ideal .f32}
    (h : BitVec.ofBool (decide (FloatOps.absf (F := Ideal) x < Ideal.ofBits .f32 2139095040#32)) = 1#1) : Attn.IsReal x := by
  have ht : Ideal.ofBits .f32 2139095040#32 = (⊤ : EReal) := by simp [Ideal.ofBits, Ideal.ieee]
  rw [ht] at h
  have hx : FloatOps.absf (F := Ideal) x < (⊤ : EReal) := by
    by_contra hn
    rw [decide_eq_false hn] at h
    exact absurd h (by decide)
  induction x using EReal.rec with
  | bot => exact absurd hx (by simp [FloatOps.absf])
  | top => exact absurd hx (by simp [FloatOps.absf])
  | coe r => exact ⟨r, rfl⟩

variable [hPre_finite : Cert.Pre_finite.Facts]

theorem finite_at (X : FVec Ideal Cert.Pre_finite.S34816x3072 .bf16) (T : FVec Ideal Cert.Pre_finite.S16x513 .f32)
    (h : (Cert.Pre_finite.fn (F := Ideal) X T).1 = (fun _ => 1#1) ∧ (Cert.Pre_finite.fn (F := Ideal) X T).2 = (fun _ => 1#1)) :
    (∀ a b, Attn.IsReal (X (ix2 a b))) ∧ (∀ a b, Attn.IsReal (T (ix2 a b))) := by
  constructor
  · intro a b
    have := congrFun h.1 (ix2 a b)
    revert this
    pointwise [Cert.Pre_finite.fn]
    exact real_of_test
  · intro a b
    have := congrFun h.2 (ix2 a b)
    revert this
    pointwise [Cert.Pre_finite.fn]
    exact real_of_test

theorem algebraic_attn : Cert.algebraic_AttnIdeal_AttnRefIdeal_pre_finite := by
  pair_intro
  · run_from Cert.AttnIdeal.Gen.run_main m g
    exact Cert.AttnIdeal.Gen.V_main_arg1 m c
  · run_from Cert.AttnRefIdeal.Value.run m' g'
    rw [Cert.AttnIdeal.Rows.final m c, Cert.AttnRefIdeal.Read.val_main_v80_eq m' c]
    have h := hagree c
    simp only [h]
    funext j
    refine (congrArg _ (eq_ix2 (n0 := 32768) (n1 := 1024) j)).trans ?_
    refine (Cert.AttnRefIdeal.Rows.v80_at _ _ (j 0) (j 1)).trans ?_
    have hf := finite_at _ _ (hpre c)
    exact (Attn.late_eq_early hf.1 hf.2 (j 0) (j 1)).symm

end Cert.Proof

end
-- ==== Proof.Rows.lean ====
/-
  The layer's mathematics one row at a time, over the extended reals: the root-mean-square norm, the
  squared-relu feed-forward, the sigmoid gate and the whole output block of a layer. Both the kernel's and
  the reference's entries are brought to these forms.
-/
module

public import Idealize.ShloMosaic.Lib.Pointwise

@[expose] public section

set_option maxRecDepth 16384

noncomputable section

namespace Cert.Rows

open Idealize.ShloMosaic

/-- Entry `l` of the row `x` divided by its root mean square (`cnt` entries, `eps` added under the root), times the gain `g`. -/
def rms {n : ℕ} (cnt eps : EReal) (x g : Fin n → EReal) (l : Fin n) : EReal :=
  x l * Ideal.rsqrt (Ideal.div (∑ k, x k * x k) cnt + eps) * g l

/-- The logistic function. -/
def sigm (z : EReal) : EReal := Ideal.div 1 (1 + Ideal.exp (-z))

/-- The square of the positive part. -/
def sqrelu (z : EReal) : EReal := max z 0 * max z 0

/-- Taken from zero is negated. -/
theorem zero_sub_eq (z : EReal) : 0 - z = -z := by rw [sub_eq_add_neg, zero_add]

/-- The row `h` times the matrix `w`, at column `l`. -/
def dotRow {n p : ℕ} (h : Fin n → EReal) (w : Fin n → Fin p → EReal) (l : Fin p) : EReal := ∑ k, h k * w k l

/-- The feed-forward of a row: up by `w1`, squared relu, down by `w2`. -/
def ffn {n f p : ℕ} (h : Fin n → EReal) (w1 : Fin n → Fin f → EReal) (w2 : Fin f → Fin p → EReal) (l : Fin p) : EReal :=
  ∑ j, sqrelu (dotRow h w1 j) * w2 j l

/-- The same feed-forward with the 4096 hidden columns taken in four blocks of 1024, one after the other. -/
theorem ffn_blocks {n p : ℕ} (h : Fin n → EReal) (w1 : Fin n → Fin 4096 → EReal) (w2 : Fin 4096 → Fin p → EReal) (l : Fin p) :
    ffn h w1 w2 l
      = ffn h (fun k (j : Fin 1024) => w1 k ⟨j, by omega⟩) (fun (j : Fin 1024) => w2 ⟨j, by omega⟩) l
        + ffn h (fun k (j : Fin 1024) => w1 k ⟨1024 + j, by omega⟩) (fun (j : Fin 1024) => w2 ⟨1024 + j, by omega⟩) l
        + ffn h (fun k (j : Fin 1024) => w1 k ⟨2048 + j, by omega⟩) (fun (j : Fin 1024) => w2 ⟨2048 + j, by omega⟩) l
        + ffn h (fun k (j : Fin 1024) => w1 k ⟨3072 + j, by omega⟩) (fun (j : Fin 1024) => w2 ⟨3072 + j, by omega⟩) l := by
  unfold ffn
  rw [Fin.sum_univ_tiles 4 1024 rfl]
  simp only [Fin.sum_univ_four]
  simp
  rfl

/-- What a layer makes of a row `x` (mixing already added) and its embedding row `e`: the feed-forward added,
    then the normed projection of `e` gated by the row itself. -/
def post (cnt eps : EReal) (x : Fin 1024 → EReal) (e : Fin 256 → EReal) (g : Fin 1024 → EReal)
    (w1 : Fin 1024 → Fin 4096 → EReal) (w2 : Fin 4096 → Fin 1024 → EReal) (wp : Fin 256 → Fin 1024 → EReal)
    (pg : Fin 1024 → EReal) (wg : Fin 1024 → Fin 1024 → EReal) (l : Fin 1024) : EReal :=
  (x l + ffn (rms cnt eps x g) w1 w2 l)
    + rms cnt eps (dotRow e wp) pg l * sigm (dotRow (fun k => x k + ffn (rms cnt eps x g) w1 w2 k) wg l)

end Cert.Rows

end
-- ==== Proof.PostOdd.lean ====
/-
  The output block of an odd layer: the kernel's payloads at an index, in the row forms of Rows.lean.
-/
module

public import proofs.«01_k».proof.Proof.Rows
public import proofs.«01_k».proof.Proof.Gen.PostOddIdeal.Skeleton

@[expose] public section

set_option maxRecDepth 16384

noncomputable section

namespace Cert.PostOddIdeal.Rows

open Cert.PostOddIdeal Cert.PostOddIdeal.Gen Idealize.ShloMosaic Idealize.ShloMosaic.TcCoe Cert.Rows

/-- The number of columns and the norm's epsilon, as both programs spell them. -/
abbrev cnt : EReal := Ideal.ofBits .f32 0x44800000#32
abbrev eps : EReal := Ideal.ofBits .f32 0x358637BD#32

variable (y : FVec Ideal S512x1024 .bf16) (x : FVec Ideal S512x1024 .f32) (wo : FVec Ideal S1024x1024 .bf16)
  (g : FVec Ideal S1x1024 .f32)

theorem pay2_at (r : Fin 512) (l : Fin 1024) : k0_pay2 (F := Ideal) y x wo (ix2 r l)
    = x (ix2 r l) + dotRow (fun k : Fin 1024 => y (ix2 r k)) (fun k l : Fin 1024 => wo (ix2 k l)) l := by
  pointwise [k0_pay2, dotRow]

theorem pay3_at (r : Fin 512) (l : Fin 1024) : k0_pay3 (F := Ideal) y x wo g (ix2 r l)
    = rms cnt eps (fun k : Fin 1024 => k0_pay2 (F := Ideal) y x wo (ix2 r k)) (fun k => g (ix2 0 k)) l := by
  pointwise [k0_pay3, rms]

theorem pay4_at (u d : FVec Ideal S1024x1024 .bf16) (r : Fin 512) (l : Fin 1024) : k0_pay4 (F := Ideal) y x wo g u d (ix2 r l)
    = ffn (fun k : Fin 1024 => k0_pay3 (F := Ideal) y x wo g (ix2 r k)) (fun k l : Fin 1024 => u (ix2 k l)) (fun k l : Fin 1024 => d (ix2 k l)) l := by
  pointwise [k0_pay4, ffn, sqrelu, dotRow]

theorem pay5_at (u : FVec Ideal S1024x1024 .bf16) (r : Fin 512) (l : Fin 1024) : k0_pay5 (F := Ideal) y x wo g u (ix2 r l)
    = max (dotRow (fun k : Fin 1024 => k0_pay3 (F := Ideal) y x wo g (ix2 r k)) (fun k l : Fin 1024 => u (ix2 k l)) l) 0 := by
  pointwise [k0_pay5, dotRow]

theorem pay6_at (x1 : FVec Ideal S512x1024 .f32) (h : FVec Ideal S512x1024 .bf16) (b0 r1 : FVec Ideal S512x1024 .f32)
    (d1 u2 d2 u3 d3 : FVec Ideal S1024x1024 .bf16) (r : Fin 512) (l : Fin 1024) :
    k0_pay6 (F := Ideal) x1 h b0 r1 d1 u2 d2 u3 d3 (ix2 r l)
    = x1 (ix2 r l) + (b0 (ix2 r l) + (∑ k : Fin 1024, (r1 (ix2 r k) * r1 (ix2 r k)) * d1 (ix2 k l))
      + ffn (fun k : Fin 1024 => h (ix2 r k)) (fun k l : Fin 1024 => u2 (ix2 k l)) (fun k l : Fin 1024 => d2 (ix2 k l)) l
      + ffn (fun k : Fin 1024 => h (ix2 r k)) (fun k l : Fin 1024 => u3 (ix2 k l)) (fun k l : Fin 1024 => d3 (ix2 k l)) l) := by
  pointwise [k0_pay6, ffn, sqrelu, dotRow]

theorem pay7_at (e : FVec Ideal S1x512x256 .f32) (wp : FVec Ideal S256x1024 .bf16) (r : Fin 512) (l : Fin 1024) :
    k0_pay7 (F := Ideal) e wp (ix2 r l)
    = dotRow (fun k : Fin 256 => e (ix3 0 r k)) (fun (k : Fin 256) (l : Fin 1024) => wp (ix2 k l)) l := by
  pointwise [k0_pay7, dotRow]

theorem pay1_at (x2 pr : FVec Ideal S512x1024 .f32) (pg : FVec Ideal S1x1024 .f32) (wg : FVec Ideal S1024x1024 .bf16)
    (r : Fin 512) (l : Fin 1024) : k0_pay1 (F := Ideal) x2 pr pg wg (ix2 r l)
    = x2 (ix2 r l) + rms cnt eps (fun k : Fin 1024 => pr (ix2 r k)) (fun k => pg (ix2 0 k)) l
      * sigm (dotRow (fun k : Fin 1024 => x2 (ix2 r k)) (fun k l : Fin 1024 => wg (ix2 k l)) l) := by
  pointwise [k0_pay1, rms, dotRow, sigm]
  rw [zero_sub_eq]

/-- The stored block of a grid point at row `r`, column `l`: the layer's output row. The kernel's loads of the two
    feed-forward weights, in four blocks of 1024 hidden columns each, are read off the whole weights `w1`, `w2`. -/
theorem body_at (w1 : FVec Ideal S1024x4096 .bf16) (w2 : FVec Ideal S4096x1024 .bf16)
    (u0 u1 u2 u3 d0 d1 d2 d3 : FVec Ideal S1024x1024 .bf16)
    (e : FVec Ideal S1x512x256 .f32) (wp : FVec Ideal S256x1024 .bf16) (pg : FVec Ideal S1x1024 .f32) (wg : FVec Ideal S1024x1024 .bf16)
    (hu0 : ∀ k j : Fin 1024, u0 (ix2 k j) = w1 (ix2 k ⟨j, by omega⟩)) (hu1 : ∀ k j : Fin 1024, u1 (ix2 k j) = w1 (ix2 k ⟨1024 + j, by omega⟩))
    (hu2 : ∀ k j : Fin 1024, u2 (ix2 k j) = w1 (ix2 k ⟨2048 + j, by omega⟩)) (hu3 : ∀ k j : Fin 1024, u3 (ix2 k j) = w1 (ix2 k ⟨3072 + j, by omega⟩))
    (hd0 : ∀ j k : Fin 1024, d0 (ix2 j k) = w2 (ix2 ⟨j, by omega⟩ k)) (hd1 : ∀ j k : Fin 1024, d1 (ix2 j k) = w2 (ix2 ⟨1024 + j, by omega⟩ k))
    (hd2 : ∀ j k : Fin 1024, d2 (ix2 j k) = w2 (ix2 ⟨2048 + j, by omega⟩ k)) (hd3 : ∀ j k : Fin 1024, d3 (ix2 j k) = w2 (ix2 ⟨3072 + j, by omega⟩ k))
    (r : Fin 512) (l : Fin 1024) :
    k0_pay1 (F := Ideal) (k0_pay6 (k0_pay2 y x wo) (k0_pay3 y x wo g) (k0_pay4 y x wo g u0 d0) (k0_pay5 y x wo g u1) d1 u2 d2 u3 d3)
        (k0_pay7 e wp) pg wg (ix2 r l)
    = post cnt eps (fun k : Fin 1024 => x (ix2 r k) + dotRow (fun k : Fin 1024 => y (ix2 r k)) (fun k l : Fin 1024 => wo (ix2 k l)) k)
        (fun k : Fin 256 => e (ix3 0 r k)) (fun k => g (ix2 0 k)) (fun k j => w1 (ix2 k j)) (fun j k => w2 (ix2 j k))
        (fun k l => wp (ix2 k l)) (fun k => pg (ix2 0 k)) (fun k l => wg (ix2 k l)) l := by
  have h6 : ∀ l : Fin 1024, k0_pay6 (F := Ideal) (k0_pay2 y x wo) (k0_pay3 y x wo g) (k0_pay4 y x wo g u0 d0) (k0_pay5 y x wo g u1) d1 u2 d2 u3 d3 (ix2 r l)
      = (x (ix2 r l) + dotRow (fun k : Fin 1024 => y (ix2 r k)) (fun k l : Fin 1024 => wo (ix2 k l)) l)
        + ffn (rms cnt eps (fun k : Fin 1024 => x (ix2 r k) + dotRow (fun k : Fin 1024 => y (ix2 r k)) (fun k l : Fin 1024 => wo (ix2 k l)) k) (fun k => g (ix2 0 k)))
          (fun k j => w1 (ix2 k j)) (fun j k => w2 (ix2 j k)) l := fun l => by
    rw [pay6_at, ffn_blocks]
    simp only [pay4_at, pay5_at, pay3_at, pay2_at, hu0, hu1, hu2, hu3, hd0, hd1, hd2, hd3]
    rfl
  rw [pay1_at]
  simp only [h6, pay7_at]
  rfl

end Cert.PostOddIdeal.Rows

end
-- ==== Proof.PostOddValue.lean ====
/-
  The output block of an odd layer: the whole result array after the kernel's run, entry by entry.
-/
module

public import proofs.«01_k».proof.Proof.PostOdd
public import proofs.«01_k».proof.Proof.Gen.PostOddIdeal.Value
public import Idealize.ShloMosaic.Lib.Pipeline.ValueKit
public import Idealize.ShloMosaic.Lib.Claim

@[expose] public section

set_option maxRecDepth 16384

noncomputable section

namespace Cert.PostOddIdeal.Rows

open Cert.PostOddIdeal Cert.PostOddIdeal.Gen Idealize.ShloMosaic Idealize.ShloMosaic.TcCoe Cert.Rows Idealize.SL.Sem
open Idealize.ShloMosaic.Pipeline (Dat)

/-- The result as one function of the arguments: row `r` of the mixing added to row `r` of the input, then the layer's output row. -/
def out (X : FVec Ideal S32768x1024 .f32) (E : FVec Ideal S4x4x8192x256 .f32) (Y : FVec Ideal S32768x1024 .bf16)
    (WO : FVec Ideal S1024x1024 .f32) (G : FVec Ideal S1024 .f32) (W1 : FVec Ideal S1024x4096 .f32) (W2 : FVec Ideal S4096x1024 .f32)
    (WP : FVec Ideal S256x1024 .f32) (PG : FVec Ideal S1024 .f32) (WG : FVec Ideal S1024x1024 .f32) (r : Fin 32768) (l : Fin 1024) : EReal :=
  post cnt eps (fun k : Fin 1024 => X (ix2 r k) + dotRow (fun k : Fin 1024 => Y (ix2 r k)) (fun k l : Fin 1024 => WO (ix2 k l)) k)
    (fun k : Fin 256 => E (ix4 1 ⟨r / 8192, by omega⟩ ⟨r % 8192, by omega⟩ k)) (fun k => G (ix1 k)) (fun k j => W1 (ix2 k j)) (fun j k => W2 (ix2 j k))
    (fun k l => WP (ix2 k l)) (fun k => PG (ix1 k)) (fun k l => WG (ix2 k l)) l

variable (m : (ℓ : Loc nD τ sig) → Buf (Elt Ideal) ℓ)

theorem idx : ∀ t : Fin cfg0.N, win0_0.index t = ![t.val, 0] ∧ win0_1.index t = ![1, t.val, 0] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![t.val, 0] ∧ t.val < 64 :=
  (by decide +kernel : ∀ t : Fin grid0.N, _)

theorem read0 (c : Dev nD) (t : Fin cfg0.N) (r : Fin 512) (k : Fin 1024) :
    (show FVec Ideal S512x1024 .f32 from iblk m c 0 t) (ix2 r k) = m ((c : Thread nD τ).loc main_arg0) (ix2 ⟨t.val * 512 + r, by have ht := (idx t).2.2.2.2.2.2.2.2.2.2.2; omega⟩ k) := by
  have ht := (idx t).2.2.2.2.2.2.2.2.2.2.2
  blk_point [iblk, V, idx t]

theorem read1 (c : Dev nD) (t : Fin cfg0.N) (r : Fin 512) (k : Fin 256) :
    (show FVec Ideal S1x512x256 .f32 from iblk m c 1 t) (ix3 0 r k) = m ((c : Thread nD τ).loc main_arg1) (ix4 1 ⟨(t.val * 512 + r) / 8192, by have ht := (idx t).2.2.2.2.2.2.2.2.2.2.2; omega⟩ ⟨(t.val * 512 + r) % 8192, by omega⟩ k) := by
  have ht := (idx t).2.2.2.2.2.2.2.2.2.2.2
  blk_point [iblk, V, idx t]

theorem read2 (c : Dev nD) (t : Fin cfg0.N) (r : Fin 512) (k : Fin 1024) :
    (show FVec Ideal S512x1024 .bf16 from iblk m c 2 t) (ix2 r k) = m ((c : Thread nD τ).loc main_arg2) (ix2 ⟨t.val * 512 + r, by have ht := (idx t).2.2.2.2.2.2.2.2.2.2.2; omega⟩ k) := by
  have ht := (idx t).2.2.2.2.2.2.2.2.2.2.2
  blk_point [iblk, V, idx t]

theorem read3 (c : Dev nD) (t : Fin cfg0.N) (k l : Fin 1024) :
    (show FVec Ideal S1024x1024 .bf16 from iblk m c 3 t) (ix2 k l) = m ((c : Thread nD τ).loc main_arg3) (ix2 k l) := by
  have ht := (idx t).2.2.2.2.2.2.2.2.2.2.2
  blk_point [iblk, V, idx t]

theorem read4 (c : Dev nD) (t : Fin cfg0.N) (k : Fin 1024) :
    (show FVec Ideal S1x1024 .f32 from iblk m c 4 t) (ix2 0 k) = m ((c : Thread nD τ).loc main_arg4) (ix1 k) := by
  have ht := (idx t).2.2.2.2.2.2.2.2.2.2.2
  blk_point [iblk, V, idx t]

theorem read5 (c : Dev nD) (t : Fin cfg0.N) (k : Fin 1024) (l : Fin 4096) :
    (show FVec Ideal S1024x4096 .bf16 from iblk m c 5 t) (ix2 k l) = m ((c : Thread nD τ).loc main_arg5) (ix2 k l) := by
  have ht := (idx t).2.2.2.2.2.2.2.2.2.2.2
  blk_point [iblk, V, idx t]

theorem read6 (c : Dev nD) (t : Fin cfg0.N) (k : Fin 4096) (l : Fin 1024) :
    (show FVec Ideal S4096x1024 .bf16 from iblk m c 6 t) (ix2 k l) = m ((c : Thread nD τ).loc main_arg6) (ix2 k l) := by
  have ht := (idx t).2.2.2.2.2.2.2.2.2.2.2
  blk_point [iblk, V, idx t]

theorem read7 (c : Dev nD) (t : Fin cfg0.N) (k : Fin 256) (l : Fin 1024) :
    (show FVec Ideal S256x1024 .bf16 from iblk m c 7 t) (ix2 k l) = m ((c : Thread nD τ).loc main_arg7) (ix2 k l) := by
  have ht := (idx t).2.2.2.2.2.2.2.2.2.2.2
  blk_point [iblk, V, idx t]

theorem read8 (c : Dev nD) (t : Fin cfg0.N) (k : Fin 1024) :
    (show FVec Ideal S1x1024 .f32 from iblk m c 8 t) (ix2 0 k) = m ((c : Thread nD τ).loc main_arg8) (ix1 k) := by
  have ht := (idx t).2.2.2.2.2.2.2.2.2.2.2
  blk_point [iblk, V, idx t]

theorem read9 (c : Dev nD) (t : Fin cfg0.N) (k l : Fin 1024) :
    (show FVec Ideal S1024x1024 .bf16 from iblk m c 9 t) (ix2 k l) = m ((c : Thread nD τ).loc main_arg9) (ix2 k l) := by
  have ht := (idx t).2.2.2.2.2.2.2.2.2.2.2
  blk_point [iblk, V, idx t]

/-- The row form at the blocks of grid point `t` is the row form at the arrays, 512 rows to a point. -/
theorem rows_eq (c : Dev nD) (t : Fin cfg0.N) (r : Fin 512) (l : Fin 1024) :
    post cnt eps (fun k : Fin 1024 => (show FVec Ideal S512x1024 .f32 from iblk m c 0 t) (ix2 r k)
          + dotRow (fun k : Fin 1024 => (show FVec Ideal S512x1024 .bf16 from iblk m c 2 t) (ix2 r k)) (fun k l : Fin 1024 => (show FVec Ideal S1024x1024 .bf16 from iblk m c 3 t) (ix2 k l)) k)
        (fun k : Fin 256 => (show FVec Ideal S1x512x256 .f32 from iblk m c 1 t) (ix3 0 r k)) (fun k => (show FVec Ideal S1x1024 .f32 from iblk m c 4 t) (ix2 0 k))
        (fun k j => (show FVec Ideal S1024x4096 .bf16 from iblk m c 5 t) (ix2 k j)) (fun j k => (show FVec Ideal S4096x1024 .bf16 from iblk m c 6 t) (ix2 j k))
        (fun k l => (show FVec Ideal S256x1024 .bf16 from iblk m c 7 t) (ix2 k l)) (fun k => (show FVec Ideal S1x1024 .f32 from iblk m c 8 t) (ix2 0 k))
        (fun k l => (show FVec Ideal S1024x1024 .bf16 from iblk m c 9 t) (ix2 k l)) l
    = out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) ⟨t.val * 512 + r, by have ht := (idx t).2.2.2.2.2.2.2.2.2.2.2; omega⟩ l := by
  simp only [out, read0, read1, read2, read3, read4, read5, read6, read7, read8, read9]

theorem final (c : Dev nD) : (dats m 0 c).arrAt 10 cfg0.N
    = fun j : S32768x1024.Idx => out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (j 0) (j 1) := by
  refine (dats m 0 c).arrAt_eq_of_covers 10 _ (by decide +kernel) fun t _ y => ?_
  blk_simp
  rw [after0_10]; frame_out
  refine (congrArg _ (eq_ix2 (n0 := 512) (n1 := 1024) y)).trans ((body_at _ _ _ _ (iblk m c 5 t) (iblk m c 6 t) _ _ _ _ _ _ _ _ _ _ _ _ ?_ ?_ ?_ ?_ ?_ ?_ ?_ ?_ (y 0) (y 1)).trans ?_)
  iterate 8 (intro a b; pointwise)
  refine (rows_eq m c t (y 0) (y 1)).trans (congrArg₂ (out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9))) ?_ ?_)
  · refine Fin.ext ?_
    blk_simp [idx t]
  · refine Fin.ext ?_
    blk_simp [idx t]

end Cert.PostOddIdeal.Rows

end
-- ==== Proof.PostOddRef.lean ====
/-
  The output block of an odd layer: the reference's result at an index, in the row forms of Rows.lean.
-/
module

public import proofs.«01_k».proof.Proof.Rows
public import proofs.«01_k».proof.Proof.Gen.PostOddRefIdeal.Read

@[expose] public section

set_option maxRecDepth 16384

noncomputable section

namespace Cert.PostOddRefIdeal.Rows

open Cert.PostOddRefIdeal Cert.PostOddRefIdeal.Gen Cert.PostOddRefIdeal.Read Idealize.ShloMosaic Idealize.ShloMosaic.TcCoe Cert.Rows

/-- The number of columns and the norm's epsilon, as both programs spell them. -/
abbrev cnt : EReal := Ideal.ofBits .f32 0x44800000#32
abbrev eps : EReal := Ideal.ofBits .f32 0x358637BD#32

variable (X : FVec Ideal S32768x1024 .f32) (E : FVec Ideal S4x4x8192x256 .f32) (Y : FVec Ideal S32768x1024 .bf16)
    (WO : FVec Ideal S1024x1024 .f32) (G : FVec Ideal S1024 .f32) (W1 : FVec Ideal S1024x4096 .f32) (W2 : FVec Ideal S4096x1024 .f32)
    (WP : FVec Ideal S256x1024 .f32) (PG : FVec Ideal S1024 .f32) (WG : FVec Ideal S1024x1024 .f32)

theorem v2_at (r : Fin 32768) (l : Fin 1024) : val_main_v2 (F := Ideal) X Y WO (ix2 r l)
    = X (ix2 r l) + dotRow (fun k : Fin 1024 => Y (ix2 r k)) (fun k l : Fin 1024 => WO (ix2 k l)) l := by
  pointwise [val_main_v2, val_main_v1, val_main_v0, dotRow]

theorem v15_at (r : Fin 32768) (l : Fin 1024) : val_main_v15 (F := Ideal) X Y WO G (ix2 r l)
    = rms cnt eps (fun k : Fin 1024 => val_main_v2 (F := Ideal) X Y WO (ix2 r k)) (fun k => G (ix1 k)) l := by
  pointwise [val_main_v15, val_main_v14, val_main_v13, val_main_v12, val_main_v11, val_main_v10, val_main_v9, val_main_v8,
    val_main_v7, val_main_v6, val_main_v5, val_main_v4, val_main_v3, val_main_cst, val_main_cst_0, val_main_cst_1, rms]

theorem v20_at (r : Fin 32768) (l : Fin 1024) : val_main_v20 (F := Ideal) X Y WO G W1 W2 (ix2 r l)
    = val_main_v2 (F := Ideal) X Y WO (ix2 r l)
      + ffn (fun k : Fin 1024 => val_main_v15 (F := Ideal) X Y WO G (ix2 r k)) (fun k j => W1 (ix2 k j)) (fun j k => W2 (ix2 j k)) l := by
  pointwise [val_main_v20, val_main_v19, val_main_v18, val_main_v17, val_main_v16, val_main_call0_v0, val_main_call0_cst, ffn, sqrelu, dotRow]

theorem v24_at (r : Fin 32768) (l : Fin 1024) : val_main_v24 (F := Ideal) E WP (ix2 r l)
    = dotRow (fun k : Fin 256 => E (ix4 1 ⟨r / 8192, by omega⟩ ⟨r % 8192, by omega⟩ k)) (fun k l => WP (ix2 k l)) l := by
  pointwise [val_main_v24, val_main_v23, val_main_v22, val_main_v21, dotRow]

theorem v37_at (r : Fin 32768) (l : Fin 1024) : val_main_v37 (F := Ideal) E WP PG (ix2 r l)
    = rms cnt eps (fun k : Fin 1024 => val_main_v24 (F := Ideal) E WP (ix2 r k)) (fun k => PG (ix1 k)) l := by
  pointwise [val_main_v37, val_main_v36, val_main_v35, val_main_v34, val_main_v33, val_main_v32, val_main_v31, val_main_v30, val_main_v29, val_main_v28,
    val_main_v27, val_main_v26, val_main_v25, val_main_cst_2, val_main_cst_3, val_main_cst_4, rms]

theorem v44_at (r : Fin 32768) (l : Fin 1024) : val_main_v44 (F := Ideal) X Y WO G W1 W2 WG (ix2 r l)
    = sigm (dotRow (fun k : Fin 1024 => val_main_v20 (F := Ideal) X Y WO G W1 W2 (ix2 r k)) (fun k l => WG (ix2 k l)) l) := by
  pointwise [val_main_v44, val_main_v43, val_main_v42, val_main_v41, val_main_v40, val_main_v39, val_main_v38, val_main_cst_5, val_main_cst_6, sigm, dotRow]

/-- The reference's result at row `r`, column `l`. -/
theorem v46_at (r : Fin 32768) (l : Fin 1024) : val_main_v46 (F := Ideal) X E Y WO G W1 W2 WP PG WG (ix2 r l)
    = post cnt eps (fun k : Fin 1024 => X (ix2 r k) + dotRow (fun k : Fin 1024 => Y (ix2 r k)) (fun k l : Fin 1024 => WO (ix2 k l)) k)
    (fun k : Fin 256 => E (ix4 1 ⟨r / 8192, by omega⟩ ⟨r % 8192, by omega⟩ k)) (fun k => G (ix1 k)) (fun k j => W1 (ix2 k j)) (fun j k => W2 (ix2 j k))
    (fun k l => WP (ix2 k l)) (fun k => PG (ix1 k)) (fun k l => WG (ix2 k l)) l := by
  pointwise [val_main_v46, val_main_v45]
  simp only [v44_at, v37_at, v24_at, v20_at, v15_at, v2_at]
  rfl

end Cert.PostOddRefIdeal.Rows

end
-- ==== Proof.PostOddClaim.lean ====
/-
  The output block of an odd layer: the kernel's result is the reference's, over the extended reals.
-/
module

public import proofs.«01_k».proof.Defs
public import proofs.«01_k».proof.Proof.PostOddValue
public import proofs.«01_k».proof.Proof.PostOddRef
public import Idealize.ShloMosaic.Lib.Claim

@[expose] public section

set_option maxRecDepth 16384

noncomputable section

namespace Cert.Proof

open Idealize.ShloMosaic Idealize.ShloMosaic.TcCoe Idealize.SL.Sem

theorem algebraic_post_odd : Cert.algebraic_PostOddIdeal_PostOddRefIdeal := by
  pair_intro
  · run_from Cert.PostOddIdeal.Gen.run_main m g
  · run_from Cert.PostOddRefIdeal.Value.run m' g'
    rw [Cert.PostOddIdeal.Rows.final m c, Cert.PostOddRefIdeal.Read.val_main_v46_eq m' c]
    have h := hagree c
    simp only [h]
    funext j
    refine (congrArg _ (eq_ix2 (n0 := 32768) (n1 := 1024) j)).trans ?_
    exact Cert.PostOddRefIdeal.Rows.v46_at _ _ _ _ _ _ _ _ _ _ (j 0) (j 1)

end Cert.Proof

end
-- ==== Proof.PostEven.lean ====
/-
  The output block of an even layer: the kernel's payloads at an index, in the row forms of Rows.lean.
-/
module

public import proofs.«01_k».proof.Proof.Rows
public import proofs.«01_k».proof.Proof.Gen.PostEvenIdeal.Skeleton

@[expose] public section

set_option maxRecDepth 16384

noncomputable section

namespace Cert.PostEvenIdeal.Rows

open Cert.PostEvenIdeal Cert.PostEvenIdeal.Gen Idealize.ShloMosaic Idealize.ShloMosaic.TcCoe Cert.Rows

/-- The number of columns and the norm's epsilon, as both programs spell them. -/
abbrev cnt : EReal := Ideal.ofBits .f32 0x44800000#32
abbrev eps : EReal := Ideal.ofBits .f32 0x358637BD#32

variable (ya yb : FVec Ideal S512x512 .bf16) (x : FVec Ideal S512x1024 .f32) (wo : FVec Ideal S1024x1024 .bf16)
  (g : FVec Ideal S1x1024 .f32)

theorem pay2_at (r : Fin 512) (l : Fin 1024) : k0_pay2 (F := Ideal) ya yb x wo (ix2 r l)
    = x (ix2 r l) + (dotRow (fun k : Fin 512 => ya (ix2 r k)) (fun (k : Fin 512) (l : Fin 1024) => wo (ix2 ⟨k, by omega⟩ l)) l + dotRow (fun k : Fin 512 => yb (ix2 r k)) (fun (k : Fin 512) (l : Fin 1024) => wo (ix2 ⟨512 + k, by omega⟩ l)) l) := by
  pointwise [k0_pay2, dotRow]

theorem pay3_at (r : Fin 512) (l : Fin 1024) : k0_pay3 (F := Ideal) ya yb x wo g (ix2 r l)
    = rms cnt eps (fun k : Fin 1024 => k0_pay2 (F := Ideal) ya yb x wo (ix2 r k)) (fun k => g (ix2 0 k)) l := by
  pointwise [k0_pay3, rms]

theorem pay4_at (u d : FVec Ideal S1024x1024 .bf16) (r : Fin 512) (l : Fin 1024) : k0_pay4 (F := Ideal) ya yb x wo g u d (ix2 r l)
    = ffn (fun k : Fin 1024 => k0_pay3 (F := Ideal) ya yb x wo g (ix2 r k)) (fun k l : Fin 1024 => u (ix2 k l)) (fun k l : Fin 1024 => d (ix2 k l)) l := by
  pointwise [k0_pay4, ffn, sqrelu, dotRow]

theorem pay6_at (x1 : FVec Ideal S512x1024 .f32) (h : FVec Ideal S512x1024 .bf16) (b0 : FVec Ideal S512x1024 .f32)
    (u1 d1 u2 d2 u3 d3 : FVec Ideal S1024x1024 .bf16) (r : Fin 512) (l : Fin 1024) :
    k0_pay6 (F := Ideal) x1 h b0 (k0_pay5 u1) (constant S512x1024 .f32 0x00000000#32) d1 u2 d2 u3 d3 (ix2 r l)
    = x1 (ix2 r l) + (b0 (ix2 r l) + ffn (fun k : Fin 1024 => h (ix2 r k)) (fun k l : Fin 1024 => u1 (ix2 k l)) (fun k l : Fin 1024 => d1 (ix2 k l)) l
      + ffn (fun k : Fin 1024 => h (ix2 r k)) (fun k l : Fin 1024 => u2 (ix2 k l)) (fun k l : Fin 1024 => d2 (ix2 k l)) l
      + ffn (fun k : Fin 1024 => h (ix2 r k)) (fun k l : Fin 1024 => u3 (ix2 k l)) (fun k l : Fin 1024 => d3 (ix2 k l)) l) := by
  pointwise [k0_pay6, k0_pay5, ffn, sqrelu, dotRow]

theorem pay1_at (x2 : FVec Ideal S512x1024 .f32) (e : FVec Ideal S1x512x256 .f32) (wp : FVec Ideal S256x1024 .bf16) (pg : FVec Ideal S1x1024 .f32) (wg : FVec Ideal S1024x1024 .bf16)
    (r : Fin 512) (l : Fin 1024) : k0_pay1 (F := Ideal) x2 (k0_pay7 wp) (k0_pay8 e) pg wg (ix2 r l)
    = x2 (ix2 r l) + rms cnt eps (dotRow (fun k : Fin 256 => e (ix3 0 r k)) (fun (k : Fin 256) (l : Fin 1024) => wp (ix2 k l))) (fun k => pg (ix2 0 k)) l
      * sigm (dotRow (fun k : Fin 1024 => x2 (ix2 r k)) (fun k l : Fin 1024 => wg (ix2 k l)) l) := by
  pointwise [k0_pay1, k0_pay7, k0_pay8, rms, dotRow, sigm]
  rw [zero_sub_eq]

/-- The stored block of a grid point at row `r`, column `l`: the layer's output row. The kernel's loads of the two
    feed-forward weights, in four blocks of 1024 hidden columns each, are read off the whole weights `w1`, `w2`. -/
theorem body_at (w1 : FVec Ideal S1024x4096 .bf16) (w2 : FVec Ideal S4096x1024 .bf16)
    (u0 u1 u2 u3 d0 d1 d2 d3 : FVec Ideal S1024x1024 .bf16)
    (e : FVec Ideal S1x512x256 .f32) (wp : FVec Ideal S256x1024 .bf16) (pg : FVec Ideal S1x1024 .f32) (wg : FVec Ideal S1024x1024 .bf16)
    (hu0 : ∀ k j : Fin 1024, u0 (ix2 k j) = w1 (ix2 k ⟨j, by omega⟩)) (hu1 : ∀ k j : Fin 1024, u1 (ix2 k j) = w1 (ix2 k ⟨1024 + j, by omega⟩))
    (hu2 : ∀ k j : Fin 1024, u2 (ix2 k j) = w1 (ix2 k ⟨2048 + j, by omega⟩)) (hu3 : ∀ k j : Fin 1024, u3 (ix2 k j) = w1 (ix2 k ⟨3072 + j, by omega⟩))
    (hd0 : ∀ j k : Fin 1024, d0 (ix2 j k) = w2 (ix2 ⟨j, by omega⟩ k)) (hd1 : ∀ j k : Fin 1024, d1 (ix2 j k) = w2 (ix2 ⟨1024 + j, by omega⟩ k))
    (hd2 : ∀ j k : Fin 1024, d2 (ix2 j k) = w2 (ix2 ⟨2048 + j, by omega⟩ k)) (hd3 : ∀ j k : Fin 1024, d3 (ix2 j k) = w2 (ix2 ⟨3072 + j, by omega⟩ k))
    (r : Fin 512) (l : Fin 1024) :
    k0_pay1 (F := Ideal) (k0_pay6 (k0_pay2 ya yb x wo) (k0_pay3 ya yb x wo g) (k0_pay4 ya yb x wo g u0 d0) (k0_pay5 u1) (constant S512x1024 .f32 0x00000000#32) d1 u2 d2 u3 d3)
        (k0_pay7 wp) (k0_pay8 e) pg wg (ix2 r l)
    = post cnt eps (fun k : Fin 1024 => x (ix2 r k) + (dotRow (fun k : Fin 512 => ya (ix2 r k)) (fun (k : Fin 512) (l : Fin 1024) => wo (ix2 ⟨k, by omega⟩ l)) k + dotRow (fun k : Fin 512 => yb (ix2 r k)) (fun (k : Fin 512) (l : Fin 1024) => wo (ix2 ⟨512 + k, by omega⟩ l)) k))
        (fun k : Fin 256 => e (ix3 0 r k)) (fun k => g (ix2 0 k)) (fun k j => w1 (ix2 k j)) (fun j k => w2 (ix2 j k))
        (fun k l => wp (ix2 k l)) (fun k => pg (ix2 0 k)) (fun k l => wg (ix2 k l)) l := by
  have h6 : ∀ l : Fin 1024, k0_pay6 (F := Ideal) (k0_pay2 ya yb x wo) (k0_pay3 ya yb x wo g) (k0_pay4 ya yb x wo g u0 d0) (k0_pay5 u1) (constant S512x1024 .f32 0x00000000#32) d1 u2 d2 u3 d3 (ix2 r l)
      = (x (ix2 r l) + (dotRow (fun k : Fin 512 => ya (ix2 r k)) (fun (k : Fin 512) (l : Fin 1024) => wo (ix2 ⟨k, by omega⟩ l)) l + dotRow (fun k : Fin 512 => yb (ix2 r k)) (fun (k : Fin 512) (l : Fin 1024) => wo (ix2 ⟨512 + k, by omega⟩ l)) l))
        + ffn (rms cnt eps (fun k : Fin 1024 => x (ix2 r k) + (dotRow (fun k : Fin 512 => ya (ix2 r k)) (fun (k : Fin 512) (l : Fin 1024) => wo (ix2 ⟨k, by omega⟩ l)) k + dotRow (fun k : Fin 512 => yb (ix2 r k)) (fun (k : Fin 512) (l : Fin 1024) => wo (ix2 ⟨512 + k, by omega⟩ l)) k)) (fun k => g (ix2 0 k)))
          (fun k j => w1 (ix2 k j)) (fun j k => w2 (ix2 j k)) l := fun l => by
    rw [pay6_at, ffn_blocks]
    simp only [pay4_at, pay3_at, pay2_at, hu0, hu1, hu2, hu3, hd0, hd1, hd2, hd3]
  rw [pay1_at]
  simp only [h6]
  rfl

end Cert.PostEvenIdeal.Rows

end
-- ==== Proof.PostEvenValue.lean ====
/-
  The output block of an even layer: the whole result array after the kernel's run, entry by entry.
-/
module

public import proofs.«01_k».proof.Proof.PostEven
public import proofs.«01_k».proof.Proof.Gen.PostEvenIdeal.Value
public import Idealize.ShloMosaic.Lib.Pipeline.ValueKit
public import Idealize.ShloMosaic.Lib.Claim

@[expose] public section

set_option maxRecDepth 16384

noncomputable section

namespace Cert.PostEvenIdeal.Rows

open Cert.PostEvenIdeal Cert.PostEvenIdeal.Gen Idealize.ShloMosaic Idealize.ShloMosaic.TcCoe Cert.Rows Idealize.SL.Sem
open Idealize.ShloMosaic.Pipeline (Dat)

/-- The result as one function of the arguments: row `r` of the mixing added to row `r` of the input, then the layer's output row. -/
def out (X : FVec Ideal S32768x1024 .f32) (E : FVec Ideal S4x4x8192x256 .f32) (YA YB : FVec Ideal S32768x512 .bf16)
    (WO : FVec Ideal S1024x1024 .f32) (G : FVec Ideal S1024 .f32) (W1 : FVec Ideal S1024x4096 .f32) (W2 : FVec Ideal S4096x1024 .f32)
    (WP : FVec Ideal S256x1024 .f32) (PG : FVec Ideal S1024 .f32) (WG : FVec Ideal S1024x1024 .f32) (r : Fin 32768) (l : Fin 1024) : EReal :=
  post cnt eps (fun k : Fin 1024 => X (ix2 r k) + (dotRow (fun k : Fin 512 => YA (ix2 r k)) (fun (k : Fin 512) (l : Fin 1024) => WO (ix2 ⟨k, by omega⟩ l)) k + dotRow (fun k : Fin 512 => YB (ix2 r k)) (fun (k : Fin 512) (l : Fin 1024) => WO (ix2 ⟨512 + k, by omega⟩ l)) k))
    (fun k : Fin 256 => E (ix4 0 ⟨r / 8192, by omega⟩ ⟨r % 8192, by omega⟩ k)) (fun k => G (ix1 k)) (fun k j => W1 (ix2 k j)) (fun j k => W2 (ix2 j k))
    (fun k l => WP (ix2 k l)) (fun k => PG (ix1 k)) (fun k l => WG (ix2 k l)) l

variable (m : (ℓ : Loc nD τ sig) → Buf (Elt Ideal) ℓ)

theorem idx : ∀ t : Fin cfg0.N, win0_0.index t = ![t.val, 0] ∧ win0_1.index t = ![0, t.val, 0] ∧ win0_2.index t = ![t.val, 0]
    ∧ win0_3.index t = ![t.val, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![t.val, 0] ∧ t.val < 64 :=
  (by decide +kernel : ∀ t : Fin grid0.N, _)

theorem lt_points (t : Fin cfg0.N) : t.val < 64 := (idx t).2.2.2.2.2.2.2.2.2.2.2.2

theorem read0 (c : Dev nD) (t : Fin cfg0.N) (r : Fin 512) (k : Fin 1024) :
    (show FVec Ideal S512x1024 .f32 from iblk m c 0 t) (ix2 r k) = m ((c : Thread nD τ).loc main_arg0) (ix2 ⟨t.val * 512 + r, by have ht := lt_points t; omega⟩ k) := by
  have ht := lt_points t
  blk_point [iblk, V, idx t]

theorem read1 (c : Dev nD) (t : Fin cfg0.N) (r : Fin 512) (k : Fin 256) :
    (show FVec Ideal S1x512x256 .f32 from iblk m c 1 t) (ix3 0 r k) = m ((c : Thread nD τ).loc main_arg1) (ix4 0 ⟨(t.val * 512 + r) / 8192, by have ht := lt_points t; omega⟩ ⟨(t.val * 512 + r) % 8192, by omega⟩ k) := by
  have ht := lt_points t
  blk_point [iblk, V, idx t]

theorem read2 (c : Dev nD) (t : Fin cfg0.N) (r : Fin 512) (k : Fin 512) :
    (show FVec Ideal S512x512 .bf16 from iblk m c 2 t) (ix2 r k) = m ((c : Thread nD τ).loc main_arg2) (ix2 ⟨t.val * 512 + r, by have ht := lt_points t; omega⟩ k) := by
  have ht := lt_points t
  blk_point [iblk, V, idx t]

theorem read3 (c : Dev nD) (t : Fin cfg0.N) (r : Fin 512) (k : Fin 512) :
    (show FVec Ideal S512x512 .bf16 from iblk m c 3 t) (ix2 r k) = m ((c : Thread nD τ).loc main_arg3) (ix2 ⟨t.val * 512 + r, by have ht := lt_points t; omega⟩ k) := by
  have ht := lt_points t
  blk_point [iblk, V, idx t]

theorem read4 (c : Dev nD) (t : Fin cfg0.N) (k l : Fin 1024) :
    (show FVec Ideal S1024x1024 .bf16 from iblk m c 4 t) (ix2 k l) = m ((c : Thread nD τ).loc main_arg4) (ix2 k l) := by
  have ht := lt_points t
  blk_point [iblk, V, idx t]

theorem read5 (c : Dev nD) (t : Fin cfg0.N) (k : Fin 1024) :
    (show FVec Ideal S1x1024 .f32 from iblk m c 5 t) (ix2 0 k) = m ((c : Thread nD τ).loc main_arg5) (ix1 k) := by
  have ht := lt_points t
  blk_point [iblk, V, idx t]

theorem read6 (c : Dev nD) (t : Fin cfg0.N) (k : Fin 1024) (l : Fin 4096) :
    (show FVec Ideal S1024x4096 .bf16 from iblk m c 6 t) (ix2 k l) = m ((c : Thread nD τ).loc main_arg6) (ix2 k l) := by
  have ht := lt_points t
  blk_point [iblk, V, idx t]

theorem read7 (c : Dev nD) (t : Fin cfg0.N) (k : Fin 4096) (l : Fin 1024) :
    (show FVec Ideal S4096x1024 .bf16 from iblk m c 7 t) (ix2 k l) = m ((c : Thread nD τ).loc main_arg7) (ix2 k l) := by
  have ht := lt_points t
  blk_point [iblk, V, idx t]

theorem read8 (c : Dev nD) (t : Fin cfg0.N) (k : Fin 256) (l : Fin 1024) :
    (show FVec Ideal S256x1024 .bf16 from iblk m c 8 t) (ix2 k l) = m ((c : Thread nD τ).loc main_arg8) (ix2 k l) := by
  have ht := lt_points t
  blk_point [iblk, V, idx t]

theorem read9 (c : Dev nD) (t : Fin cfg0.N) (k : Fin 1024) :
    (show FVec Ideal S1x1024 .f32 from iblk m c 9 t) (ix2 0 k) = m ((c : Thread nD τ).loc main_arg9) (ix1 k) := by
  have ht := lt_points t
  blk_point [iblk, V, idx t]

theorem read10 (c : Dev nD) (t : Fin cfg0.N) (k l : Fin 1024) :
    (show FVec Ideal S1024x1024 .bf16 from iblk m c 10 t) (ix2 k l) = m ((c : Thread nD τ).loc main_arg10) (ix2 k l) := by
  have ht := lt_points t
  blk_point [iblk, V, idx t]

/-- The row form at the blocks of grid point `t` is the row form at the arrays, 512 rows to a point. -/
theorem rows_eq (c : Dev nD) (t : Fin cfg0.N) (r : Fin 512) (l : Fin 1024) :
    post cnt eps (fun k : Fin 1024 => (show FVec Ideal S512x1024 .f32 from iblk m c 0 t) (ix2 r k)
          + (dotRow (fun k : Fin 512 => (show FVec Ideal S512x512 .bf16 from iblk m c 2 t) (ix2 r k)) (fun (k : Fin 512) (l : Fin 1024) => (show FVec Ideal S1024x1024 .bf16 from iblk m c 4 t) (ix2 ⟨k, by omega⟩ l)) k + dotRow (fun k : Fin 512 => (show FVec Ideal S512x512 .bf16 from iblk m c 3 t) (ix2 r k)) (fun (k : Fin 512) (l : Fin 1024) => (show FVec Ideal S1024x1024 .bf16 from iblk m c 4 t) (ix2 ⟨512 + k, by omega⟩ l)) k))
        (fun k : Fin 256 => (show FVec Ideal S1x512x256 .f32 from iblk m c 1 t) (ix3 0 r k)) (fun k => (show FVec Ideal S1x1024 .f32 from iblk m c 5 t) (ix2 0 k))
        (fun k j => (show FVec Ideal S1024x4096 .bf16 from iblk m c 6 t) (ix2 k j)) (fun j k => (show FVec Ideal S4096x1024 .bf16 from iblk m c 7 t) (ix2 j k))
        (fun k l => (show FVec Ideal S256x1024 .bf16 from iblk m c 8 t) (ix2 k l)) (fun k => (show FVec Ideal S1x1024 .f32 from iblk m c 9 t) (ix2 0 k))
        (fun k l => (show FVec Ideal S1024x1024 .bf16 from iblk m c 10 t) (ix2 k l)) l
    = out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) ⟨t.val * 512 + r, by have ht := lt_points t; omega⟩ l := by
  simp only [out, read0, read1, read2, read3, read4, read5, read6, read7, read8, read9, read10]

theorem final (c : Dev nD) : (dats m 0 c).arrAt 11 cfg0.N
    = fun j : S32768x1024.Idx => out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (j 0) (j 1) := by
  refine (dats m 0 c).arrAt_eq_of_covers 11 _ (by decide +kernel) fun t _ y => ?_
  blk_simp
  rw [after0_11]; frame_out
  refine (congrArg _ (eq_ix2 (n0 := 512) (n1 := 1024) y)).trans ((body_at _ _ _ _ _ (iblk m c 6 t) (iblk m c 7 t) _ _ _ _ _ _ _ _ _ _ _ _ ?_ ?_ ?_ ?_ ?_ ?_ ?_ ?_ (y 0) (y 1)).trans ?_)
  iterate 8 (intro a b; pointwise)
  refine (rows_eq m c t (y 0) (y 1)).trans (congrArg₂ (out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10))) ?_ ?_)
  · refine Fin.ext ?_
    blk_simp [idx t]
  · refine Fin.ext ?_
    blk_simp [idx t]

end Cert.PostEvenIdeal.Rows

end
-- ==== Proof.PostEvenRef.lean ====
/-
  The output block of an even layer: the reference's result at an index, in the row forms of Rows.lean.
-/
module

public import proofs.«01_k».proof.Proof.Rows
public import proofs.«01_k».proof.Proof.Gen.PostEvenRefIdeal.Read

@[expose] public section

set_option maxRecDepth 16384

noncomputable section

namespace Cert.PostEvenRefIdeal.Rows

open Cert.PostEvenRefIdeal Cert.PostEvenRefIdeal.Gen Cert.PostEvenRefIdeal.Read Idealize.ShloMosaic Idealize.ShloMosaic.TcCoe Cert.Rows

/-- The number of columns and the norm's epsilon, as both programs spell them. -/
abbrev cnt : EReal := Ideal.ofBits .f32 0x44800000#32
abbrev eps : EReal := Ideal.ofBits .f32 0x358637BD#32

variable (X : FVec Ideal S32768x1024 .f32) (E : FVec Ideal S4x4x8192x256 .f32) (YA YB : FVec Ideal S32768x512 .bf16)
    (WO : FVec Ideal S1024x1024 .f32) (G : FVec Ideal S1024 .f32) (W1 : FVec Ideal S1024x4096 .f32) (W2 : FVec Ideal S4096x1024 .f32)
    (WP : FVec Ideal S256x1024 .f32) (PG : FVec Ideal S1024 .f32) (WG : FVec Ideal S1024x1024 .f32)

theorem v3_at (r : Fin 32768) (l : Fin 1024) : val_main_v3 (F := Ideal) X YA YB WO (ix2 r l)
    = X (ix2 r l) + (dotRow (fun k : Fin 512 => YA (ix2 r k)) (fun (k : Fin 512) (l : Fin 1024) => WO (ix2 ⟨k, by omega⟩ l)) l + dotRow (fun k : Fin 512 => YB (ix2 r k)) (fun (k : Fin 512) (l : Fin 1024) => WO (ix2 ⟨512 + k, by omega⟩ l)) l) := by
  pointwise [val_main_v3, val_main_v2, val_main_v1, val_main_v0, dotRow]

theorem v16_at (r : Fin 32768) (l : Fin 1024) : val_main_v16 (F := Ideal) X YA YB WO G (ix2 r l)
    = rms cnt eps (fun k : Fin 1024 => val_main_v3 (F := Ideal) X YA YB WO (ix2 r k)) (fun k => G (ix1 k)) l := by
  pointwise [val_main_v16, val_main_v15, val_main_v14, val_main_v13, val_main_v12, val_main_v11, val_main_v10, val_main_v9,
    val_main_v8, val_main_v7, val_main_v6, val_main_v5, val_main_v4, val_main_cst, val_main_cst_0, val_main_cst_1, rms]

theorem v21_at (r : Fin 32768) (l : Fin 1024) : val_main_v21 (F := Ideal) X YA YB WO G W1 W2 (ix2 r l)
    = val_main_v3 (F := Ideal) X YA YB WO (ix2 r l)
      + ffn (fun k : Fin 1024 => val_main_v16 (F := Ideal) X YA YB WO G (ix2 r k)) (fun k j => W1 (ix2 k j)) (fun j k => W2 (ix2 j k)) l := by
  pointwise [val_main_v21, val_main_v20, val_main_v19, val_main_v18, val_main_v17, val_main_call0_v0, val_main_call0_cst, ffn, sqrelu, dotRow]

theorem v25_at (r : Fin 32768) (l : Fin 1024) : val_main_v25 (F := Ideal) E WP (ix2 r l)
    = dotRow (fun k : Fin 256 => E (ix4 0 ⟨r / 8192, by omega⟩ ⟨r % 8192, by omega⟩ k)) (fun k l => WP (ix2 k l)) l := by
  pointwise [val_main_v25, val_main_v24, val_main_v23, val_main_v22, dotRow]

theorem v38_at (r : Fin 32768) (l : Fin 1024) : val_main_v38 (F := Ideal) E WP PG (ix2 r l)
    = rms cnt eps (fun k : Fin 1024 => val_main_v25 (F := Ideal) E WP (ix2 r k)) (fun k => PG (ix1 k)) l := by
  pointwise [val_main_v38, val_main_v37, val_main_v36, val_main_v35, val_main_v34, val_main_v33, val_main_v32, val_main_v31, val_main_v30, val_main_v29,
    val_main_v28, val_main_v27, val_main_v26, val_main_cst_2, val_main_cst_3, val_main_cst_4, rms]

theorem v45_at (r : Fin 32768) (l : Fin 1024) : val_main_v45 (F := Ideal) X YA YB WO G W1 W2 WG (ix2 r l)
    = sigm (dotRow (fun k : Fin 1024 => val_main_v21 (F := Ideal) X YA YB WO G W1 W2 (ix2 r k)) (fun k l => WG (ix2 k l)) l) := by
  pointwise [val_main_v45, val_main_v44, val_main_v43, val_main_v42, val_main_v41, val_main_v40, val_main_v39, val_main_cst_5, val_main_cst_6, sigm, dotRow]

/-- The reference's result at row `r`, column `l`. -/
theorem v47_at (r : Fin 32768) (l : Fin 1024) : val_main_v47 (F := Ideal) X E YA YB WO G W1 W2 WP PG WG (ix2 r l)
    = post cnt eps (fun k : Fin 1024 => X (ix2 r k) + (dotRow (fun k : Fin 512 => YA (ix2 r k)) (fun (k : Fin 512) (l : Fin 1024) => WO (ix2 ⟨k, by omega⟩ l)) k + dotRow (fun k : Fin 512 => YB (ix2 r k)) (fun (k : Fin 512) (l : Fin 1024) => WO (ix2 ⟨512 + k, by omega⟩ l)) k))
    (fun k : Fin 256 => E (ix4 0 ⟨r / 8192, by omega⟩ ⟨r % 8192, by omega⟩ k)) (fun k => G (ix1 k)) (fun k j => W1 (ix2 k j)) (fun j k => W2 (ix2 j k))
    (fun k l => WP (ix2 k l)) (fun k => PG (ix1 k)) (fun k l => WG (ix2 k l)) l := by
  pointwise [val_main_v47, val_main_v46]
  simp only [v45_at, v38_at, v25_at, v21_at, v16_at, v3_at]
  rfl

end Cert.PostEvenRefIdeal.Rows

end
-- ==== Proof.PostEvenClaim.lean ====
/-
  The output block of an even layer: the kernel's result is the reference's, over the extended reals.
-/
module

public import proofs.«01_k».proof.Defs
public import proofs.«01_k».proof.Proof.PostEvenValue
public import proofs.«01_k».proof.Proof.PostEvenRef
public import Idealize.ShloMosaic.Lib.Claim

@[expose] public section

set_option maxRecDepth 16384

noncomputable section

namespace Cert.Proof

open Idealize.ShloMosaic Idealize.ShloMosaic.TcCoe Idealize.SL.Sem

theorem algebraic_post_even : Cert.algebraic_PostEvenIdeal_PostEvenRefIdeal := by
  pair_intro
  · run_from Cert.PostEvenIdeal.Gen.run_main m g
  · run_from Cert.PostEvenRefIdeal.Value.run m' g'
    rw [Cert.PostEvenIdeal.Rows.final m c, Cert.PostEvenRefIdeal.Read.val_main_v47_eq m' c]
    have h := hagree c
    simp only [h]
    funext j
    refine (congrArg _ (eq_ix2 (n0 := 32768) (n1 := 1024) j)).trans ?_
    exact Cert.PostEvenRefIdeal.Rows.v47_at _ _ _ _ _ _ _ _ _ _ _ (j 0) (j 1)

end Cert.Proof

end
-- ==== Proof.QkvRows.lean ====
/-
  The packed queries, keys and values one row at a time: the norm of 256 columns whose sums of squares over the four
  heads of 64 come from a product with the block matrix of ones, and that on real rows it is each head's own norm.
-/
module

public import proofs.«01_k».proof.Proof.Rows
public import proofs.«01_k».proof.Proof.AttnSpec
public import Idealize.ShloMosaic.Lib.Pointwise

@[expose] public section

set_option maxRecDepth 16384

noncomputable section

namespace Cert.Qkv

open Idealize.ShloMosaic Cert.Rows Cert.Attn

/-- The constants of the two programs: the number of columns, of columns in a head, its inverse, the epsilon, an eighth. -/
abbrev cnt : EReal := Ideal.ofBits .f32 0x44800000#32
abbrev c64 : EReal := Ideal.ofBits .f32 0x42800000#32
abbrev inv64 : EReal := Ideal.ofBits .f32 0x3C800000#32
abbrev eps : EReal := Ideal.ofBits .f32 0x358637BD#32
abbrev eighth : EReal := Ideal.ofBits .f32 0x3E000000#32

theorem cnt_eq : cnt = ((1024 : ℝ) : EReal) := by
  simp [Ideal.ofBits, Ideal.ieee]
  rw [← EReal.coe_mul]
  norm_num

theorem c64_eq : c64 = ((64 : ℝ) : EReal) := by
  simp [Ideal.ofBits, Ideal.ieee]
  rw [← EReal.coe_mul]
  norm_num

theorem inv64_eq : inv64 = ((1 / 64 : ℝ) : EReal) := by
  simp [Ideal.ofBits, Ideal.ieee]
  rw [← EReal.coe_mul]
  norm_num

/-- The epsilon is a positive real number. -/
theorem eps_pos : ∃ e : ℝ, 0 < e ∧ eps = (e : EReal) := by
  refine ⟨8796093 * (1 / 2 ^ 43), by positivity, ?_⟩
  simp [Ideal.ofBits, Ideal.ieee]

/-- A product with the inverse of 64 is the division by 64. -/
theorem mul_inv64 (s : EReal) : s * inv64 = Ideal.div s c64 := by
  rw [c64_eq, inv64_eq, Ideal.div_coe (by norm_num)]

/-- The norm of 256 columns as the kernel takes it: the squares and what their rounding left out go through the matrix `O`. -/
def chunk (O : Fin 256 → Fin 256 → EReal) (y g : Fin 256 → EReal) (l : Fin 256) : EReal :=
  y l * Ideal.rsqrt (((∑ k, y k * y k * O k l) + ∑ k, (y k * y k - y k * y k) * O k l) * inv64 + eps) * g l

/-- The block matrix: one where row and column lie in the same head. -/
def ones (k l : Fin 256) : EReal := if k.val / 64 = l.val / 64 then 1 else 0

/-- The columns of the head that column `l` lies in. -/
abbrev own (l : Fin 256) (d : Fin 64) : Fin 256 := ⟨l / 64 * 64 + d, by omega⟩

/-- A sum against the block matrix is the sum over the own head. -/
theorem sum_ones (f : Fin 256 → EReal) (l : Fin 256) : ∑ k, f k * ones k l = ∑ d, f (own l d) := by
  rw [Fin.sum_univ_tiles 4 64 rfl]
  refine (Finset.sum_eq_single (⟨l / 64, by omega⟩ : Fin 4) (fun b _ hb => Finset.sum_eq_zero fun t _ => ?_) fun h => absurd (Finset.mem_univ _) h).trans ?_
  · have hne : ¬ b.val = l.val / 64 := fun h => hb (Fin.ext h)
    rw [ones, if_neg (by dsimp only; omega), mul_zero]
  · refine Finset.sum_congr rfl fun d _ => ?_
    rw [ones, if_pos (by dsimp only; omega), mul_one]

/-- On a real row the kernel's norm is the head's own. -/
theorem chunk_eq {y : Fin 256 → EReal} (hy : ∀ k, IsReal (y k)) (g : Fin 256 → EReal) (l : Fin 256) :
    chunk ones y g l = rms c64 eps (fun d => y (own l d)) (fun d => g (own l d)) ⟨l % 64, by omega⟩ := by
  have h0 : ∀ k, (y k * y k - y k * y k) * ones k l = 0 := fun k => by
    rw [EReal.sub_self ((hy k).mul (hy k)).ne_top ((hy k).mul (hy k)).ne_bot, zero_mul]
  have hl : own l ⟨l % 64, by omega⟩ = l := Fin.ext (by dsimp only; omega)
  unfold chunk rms
  rw [Finset.sum_congr rfl fun k _ => h0 k, Finset.sum_const_zero, add_zero, sum_ones (fun k => y k * y k), mul_inv64]
  dsimp only
  rw [hl]

/-- A square is not negative. -/
theorem square_nonneg (z : EReal) : 0 ≤ z * z := by
  induction z with
  | bot => rw [EReal.bot_mul_bot]; exact le_top
  | top => rw [EReal.top_mul_top]; exact le_top
  | coe r => rw [← EReal.coe_mul]; exact EReal.coe_nonneg.2 (mul_self_nonneg r)

/-- The square of what is not real is infinite. -/
theorem square_top {z : EReal} (hz : ¬ IsReal z) : z * z = ⊤ := by
  induction z with
  | bot => exact EReal.bot_mul_bot
  | top => exact EReal.top_mul_top
  | coe r => exact absurd ⟨r, rfl⟩ hz

/-- The norm of any row with a real gain is real: a row with an infinite entry has an infinite mean square, and its norm is zero. -/
theorem rms_real {n : ℕ} {x g : Fin n → EReal} (hg : ∀ k, IsReal (g k)) (l : Fin n) : IsReal (rms cnt eps x g l) := by
  obtain ⟨e, he, hee⟩ := eps_pos
  by_cases hx : ∀ k, IsReal (x k)
  · choose r hr using hx
    have hs : ∑ k, x k * x k = ((∑ k, r k * r k : ℝ) : EReal) := by
      rw [Softmax.coe_sum]
      exact Finset.sum_congr rfl fun k _ => by rw [hr k, EReal.coe_mul]
    have h0 : 0 ≤ ∑ k, r k * r k := Finset.sum_nonneg fun k _ => mul_self_nonneg _
    have hp : 0 < (∑ k, r k * r k) * (1 / 1024) + e := by positivity
    unfold rms
    refine IsReal.mul (IsReal.mul ⟨r l, hr l⟩ ?_) (hg l)
    rw [hs, cnt_eq, hee, Ideal.div_coe (by norm_num), ← EReal.coe_mul, ← EReal.coe_add, Ideal.rsqrt_coe, if_neg hp.not_gt, if_neg hp.ne']
    exact ⟨_, rfl⟩
  · obtain ⟨k, hk⟩ := not_forall.1 hx
    have hs : ∑ k, x k * x k = ⊤ := top_le_iff.1 <|
      (square_top hk).ge.trans (Finset.single_le_sum (f := fun k => x k * x k) (fun i _ => square_nonneg (x i)) (Finset.mem_univ k))
    have hz : Ideal.rsqrt ⊤ = 0 := rfl
    unfold rms
    rw [hs, cnt_eq, hee, Ideal.div_coe (by norm_num), EReal.top_mul_coe_of_pos (by norm_num), EReal.top_add_coe, hz, mul_zero, zero_mul]
    exact ⟨0, rfl⟩

/-- A product of real rows is real. -/
theorem dot_real {n p : ℕ} {h : Fin n → EReal} {W : Fin n → Fin p → EReal} (hh : ∀ k, IsReal (h k)) (hW : ∀ k l, IsReal (W k l)) (l : Fin p) :
    IsReal (dotRow h W l) := IsReal.sum _ fun k => (hh k).mul (hW k l)

/-- A factor of the gain may be taken afterwards. -/
theorem rms_scale {n : ℕ} (c e s : EReal) (x g : Fin n → EReal) (l : Fin n) :
    rms c e x (fun d => g d * s) l = rms c e x g l * s := (mul_assoc _ _ _).symm

/-- The kernel's norm of columns `o` to `o + 255` of a longer real row, where `o` begins a head. -/
theorem chunk_cols {y : Fin 3072 → EReal} (hy : ∀ k, IsReal (y k)) (gain : Fin 64 → EReal) (o : ℕ) (ho : o % 64 = 0) (hb : o + 256 ≤ 3072)
    (l : Fin 256) : chunk ones (fun k => y ⟨o + k, by omega⟩) (fun k => gain ⟨k % 64, by omega⟩) l
      = rms c64 eps (fun d : Fin 64 => y ⟨(o + l) / 64 * 64 + d, by omega⟩) gain ⟨(o + l) % 64, by omega⟩ := by
  rw [chunk_eq fun k => hy _]
  have e1 : (fun d : Fin 64 => y ⟨o + own l d, by omega⟩) = fun d : Fin 64 => y ⟨(o + l) / 64 * 64 + d, by omega⟩ :=
    funext fun d => congrArg y (Fin.ext (by dsimp only; omega))
  have e2 : (fun d : Fin 64 => gain ⟨own l d % 64, by omega⟩) = gain := funext fun d => congrArg gain (Fin.ext (by dsimp only; omega))
  have e3 : (⟨l % 64, by omega⟩ : Fin 64) = ⟨(o + l) % 64, by omega⟩ := Fin.ext (by dsimp only; omega)
  rw [e1, e2, e3]

section Packed

variable (X : Fin 32768 → Fin 1024 → EReal) (G : Fin 1024 → EReal) (W : Fin 1024 → Fin 3072 → EReal) (Q K : Fin 64 → EReal)

/-- Row `r` normed and projected to the queries, the keys and the values. -/
def yrow (r : Fin 32768) : Fin 3072 → EReal := dotRow (rms cnt eps (X r) G) W

theorem yrow_real (hG : ∀ a, IsReal (G a)) (hW : ∀ a b, IsReal (W a b)) (r : Fin 32768) (l : Fin 3072) :
    IsReal (yrow X G W r l) := dot_real (rms_real hG) hW l

/-- Column `l` of row `r` before packing: the queries, each head normed and divided by eight, the keys, each head normed,
    and the values. -/
def entry (r : Fin 32768) (l : Fin 3072) : EReal :=
  if l.val < 1024 then rms c64 eps (fun d : Fin 64 => yrow X G W r ⟨l / 64 * 64 + d, by omega⟩) Q ⟨l % 64, by omega⟩ * eighth
  else if l.val < 2048 then rms c64 eps (fun d : Fin 64 => yrow X G W r ⟨l / 64 * 64 + d, by omega⟩) K ⟨l % 64, by omega⟩
  else yrow X G W r l

/-- Entry `R, l` of the packed rows: the first 512 rows of each stream of 8704 are zero. -/
def packed (R : Fin 34816) (l : Fin 3072) : EReal :=
  if h : R.val % 8704 < 512 then 0 else entry X G W Q K ⟨R / 8704 * 8192 + (R % 8704 - 512), by omega⟩ l

end Packed

end Cert.Qkv

end
-- ==== Proof.Qkv.lean ====
/-
  The packed queries, keys and values: what the kernel's body computes from its blocks, entry by entry, in the row forms.
-/
module

public import proofs.«01_k».proof.Proof.QkvRows
public import proofs.«01_k».proof.Proof.Gen.QkvIdeal.Skeleton
public import Idealize.ShloMosaic.Lib.Pointwise

@[expose] public section

set_option maxRecDepth 16384

noncomputable section

namespace Cert.QkvIdeal.Rows

open Cert.QkvIdeal Cert.QkvIdeal.Gen Idealize.ShloMosaic Idealize.ShloMosaic.TcCoe Cert.Rows Cert.Qkv

variable (x : FVec Ideal S512x1024 .f32) (g : FVec Ideal S1x1024 .f32) (h : FVec Ideal S512x1024 .bf16) (v : FVec Ideal S1024x1024 .bf16)
  (w : FVec Ideal S1024x256 .bf16) (o : FVec Ideal S256x256 .bf16) (q : FVec Ideal S1x256 .f32) (y s s' : FVec Ideal S512x256 .f32)

/-- The zeros every product starts from. -/
abbrev start : FVec Ideal S512x256 .f32 := constant S512x256 .f32 0x00000000#32

/-- The rows written before a stream. -/
theorem pay1_at (r : Fin 512) (l : Fin 3072) : k0_pay1 (F := Ideal) (ix2 r l) = 0 := by
  pointwise [k0_pay1]

/-- The normed rows. -/
theorem pay2_at (r : Fin 512) (l : Fin 1024) : k0_pay2 (F := Ideal) x g (ix2 r l)
    = rms cnt eps (fun k : Fin 1024 => x (ix2 r k)) (fun k => g (ix2 0 k)) l := by
  pointwise [k0_pay2, rms]

/-- The values. -/
theorem pay4_at (r : Fin 512) (l : Fin 1024) : k0_pay4 (F := Ideal) x g v (ix2 r l)
    = dotRow (fun k : Fin 1024 => k0_pay2 (F := Ideal) x g (ix2 r k)) (fun k l => v (ix2 k l)) l := by
  pointwise [k0_pay4, dotRow]

/-- A projection of the rows `h` to 256 columns. -/
abbrev proj (r : Fin 512) : Fin 256 → EReal := dotRow (fun k : Fin 1024 => h (ix2 r k)) (fun k l => w (ix2 k l))

/-- What a piece of 256 columns comes to. -/
abbrev piece (gain : Fin 256 → EReal) (r : Fin 512) (l : Fin 256) : EReal :=
  chunk (fun k l => o (ix2 k l)) (proj h w r) gain l

/-- The eight pieces of queries and keys; they differ in where the body keeps its intermediate values. -/
theorem q0_at (r : Fin 512) (l : Fin 256) :
    k0_pay16 (F := Ideal) (k0_pay5 q) (k0_pay7 x g w) (k0_pay15 (k0_pay3 o) (k0_pay7 x g w)) (ix2 r l)
      = piece (k0_pay2 x g) w o (fun l => q (ix2 0 l) * eighth) r l := by
  pointwise [k0_pay16, k0_pay15, k0_pay14, k0_pay5, k0_pay3, k0_pay7, piece, proj, chunk, dotRow]

theorem q1_at (r : Fin 512) (l : Fin 256) :
    k0_pay17 (F := Ideal) (k0_pay5 q) (k0_pay9 h (k0_pay8 w) start) (k0_pay12 h (k0_pay3 o) (k0_pay8 w) start) (ix2 r l)
      = piece h w o (fun l => q (ix2 0 l) * eighth) r l := by
  pointwise [k0_pay17, k0_pay5, k0_pay9, k0_pay8, k0_pay12, k0_pay3, piece, proj, chunk, dotRow]

theorem q2_at (r : Fin 512) (l : Fin 256) :
    k0_pay32 (F := Ideal) (k0_pay5 q) (k0_pay21 h w) (k0_pay28 h (k0_pay3 o) w) (ix2 r l)
      = piece h w o (fun l => q (ix2 0 l) * eighth) r l := by
  pointwise [k0_pay32, k0_pay5, k0_pay21, k0_pay28, k0_pay3, piece, proj, chunk, dotRow]

theorem q3_at (r : Fin 512) (l : Fin 256) :
    k0_pay33 (F := Ideal) (k0_pay5 q) (k0_pay22 h w) (k0_pay29 h (k0_pay3 o) w) (ix2 r l)
      = piece h w o (fun l => q (ix2 0 l) * eighth) r l := by
  pointwise [k0_pay33, k0_pay5, k0_pay22, k0_pay29, k0_pay3, piece, proj, chunk, dotRow]

theorem k0_at (r : Fin 512) (l : Fin 256) :
    k0_pay18 (F := Ideal) (k0_pay6 q) (k0_pay10 h w) (k0_pay13 h (k0_pay3 o) w) (ix2 r l)
      = piece h w o (fun l => q (ix2 0 l)) r l := by
  pointwise [k0_pay18, k0_pay6, k0_pay10, k0_pay13, k0_pay3, piece, proj, chunk, dotRow]

theorem k1_at (r : Fin 512) (l : Fin 256) :
    k0_pay19 (F := Ideal) (k0_pay6 q) (k0_pay11 h w) (k0_pay14 h (k0_pay3 o) w) (ix2 r l)
      = piece h w o (fun l => q (ix2 0 l)) r l := by
  pointwise [k0_pay19, k0_pay6, k0_pay11, k0_pay14, k0_pay3, piece, proj, chunk, dotRow]

theorem k2_at (r : Fin 512) (l : Fin 256) :
    k0_pay34 (F := Ideal) (k0_pay20 q) (k0_pay23 h w) (k0_pay30 h (k0_pay3 o) w) (ix2 r l)
      = piece h w o (fun l => q (ix2 0 l)) r l := by
  pointwise [k0_pay34, k0_pay20, k0_pay23, k0_pay30, k0_pay3, piece, proj, chunk, dotRow]

theorem k3_at (r : Fin 512) (l : Fin 256) :
    k0_pay35 (F := Ideal) (k0_pay20 q) (k0_pay24 h w) (k0_pay27 h (k0_pay3 o) w) (k0_pay31 h (k0_pay3 o) w) (ix2 r l)
      = piece h w o (fun l => q (ix2 0 l)) r l := by
  pointwise [k0_pay35, k0_pay20, k0_pay24, k0_pay27, k0_pay31, k0_pay26, k0_pay25, k0_pay3, piece, proj, chunk, dotRow]

end Cert.QkvIdeal.Rows

end
-- ==== Proof.QkvHost.lean ====
/-
  The packed queries, keys and values: the operands the program lays out before the kernel
  runs (the block matrix of ones, the gains repeated for four heads), as the kernel finds them.
-/
module

public import proofs.«01_k».proof.Proof.QkvRows
public import proofs.«01_k».proof.Proof.Gen.QkvIdeal.Frame
public import Idealize.ShloMosaic.Lib.Pointwise
public import Idealize.ShloMosaic.Lib.Pipeline.ValueKit
public import Idealize.ShloMosaic.Lib.Claim
public import Idealize.ShloMosaic.Lib.Routing.Words
public import Idealize.ShloMosaic.Lib.StableHlo.RunRead

@[expose] public section

set_option maxRecDepth 16384

noncomputable section

namespace Cert.QkvIdeal.Rows

open Cert.QkvIdeal Cert.QkvIdeal.Gen Idealize.ShloMosaic Idealize.ShloMosaic.TcCoe Cert.Rows

variable (m : (ℓ : Loc nD τ sig) → Buf (Elt Ideal) ℓ)

/-- A gain of 64 columns, once for each of four heads. -/
def four (G : FVec Ideal S64 .f32) : FVec Ideal S1x256 .f32 :=
  shapeCast S1x256 (shapeCast S256 (broadcastInDim S4x64 ![0, 1] bcast_S1x64_S4x64_0_1 (shapeCast S1x64 G shapeCasts_S64_S1x64)) shapeCasts_S4x64_S256)
    shapeCasts_S256_S1x256

theorem V_q (c : Dev nD) : (V m c main_v15 : FVec Ideal S1x256 .f32) = four (m ((c : Thread nD τ).loc main_arg3)) := by
  dsimp only [V]
  after_reads_simp
  rfl

theorem V_k (c : Dev nD) : (V m c main_v19 : FVec Ideal S1x256 .f32) = four (m ((c : Thread nD τ).loc main_arg4)) := by
  dsimp only [V]
  after_reads_simp
  rfl

theorem four_at (G : FVec Ideal S64 .f32) (l : Fin 256) : four G (ix2 0 l) = G (ix1 ⟨l % 64, by omega⟩) := by
  pointwise [four]

theorem V_gain (c : Dev nD) : (V m c main_v10 : FVec Ideal S1x1024 .f32)
    = shapeCast S1x1024 (m ((c : Thread nD τ).loc main_arg1) : FVec Ideal S1024 .f32) shapeCasts_S1024_S1x1024 := by
  dsimp only [V]
  after_reads_simp
  rfl

theorem V_w (c : Dev nD) : (V m c main_v11 : FVec Ideal S1024x3072 .bf16)
    = (truncf .bf16 (m ((c : Thread nD τ).loc main_arg2) : FVec Ideal S1024x3072 .f32) bitsLt_bf16_f32 : FVec Ideal S1024x3072 .bf16) := by
  dsimp only [V]
  after_reads_simp

/-- The head of every row number, and of every column number. -/
def rowHeads : IVec S256x1 32 :=
  Routing.pyDiv bcast_S_S256x1 (broadcastInDim S256x1 ![0] bcast_S256_S256x1_0 (iotaInDim S256 32 0)) (constantI S_ 32 64#32)
def colHeads : IVec S1x256 32 :=
  Routing.pyDiv bcast_S_S1x256 (broadcastInDim S1x256 ![1] bcast_S256_S1x256_1 (iotaInDim S256 32 0)) (constantI S_ 32 64#32)

/-- The block matrix: one where the heads of row and column agree. -/
def blocks : FVec Ideal S256x256 .bf16 :=
  uitofp .bf16 (cmpi .eq (broadcastInDim S256x256 ![0, 1] bcast_S256x1_S256x256_0_1 rowHeads) (broadcastInDim S256x256 ![0, 1] bcast_S1x256_S256x256_0_1 colHeads))

theorem V_ones (c : Dev nD) : (V m c main_v9 : FVec Ideal S256x256 .bf16) = blocks := by
  dsimp only [V]
  after_reads_simp
  rfl

theorem rowHeads_at (k : Fin 256) : rowHeads (ix2 k 0) = BitVec.ofNat 32 (k / 64) :=
  Routing.pyDiv_ap _ _ _ _ (by pointwise) rfl (by omega) (by decide) (by decide)

theorem colHeads_at (l : Fin 256) : colHeads (ix2 0 l) = BitVec.ofNat 32 (l / 64) :=
  Routing.pyDiv_ap _ _ _ _ (by pointwise) rfl (by omega) (by decide) (by decide)

theorem same_head : ∀ a b : Fin 4, IntOp.cmpi .eq (BitVec.ofNat 32 a) (BitVec.ofNat 32 b) = if a.val = b.val then 1#1 else 0#1 := by decide +kernel

theorem blocks_at (k l : Fin 256) : blocks (ix2 k l) = Qkv.ones k l := by
  pointwise [blocks, Qkv.ones]
  rw [rowHeads_at, colHeads_at, same_head ⟨k / 64, by omega⟩ ⟨l / 64, by omega⟩]
  dsimp only
  split
  · exact (Nat.cast_one : ((1 : ℕ) : EReal) = 1)
  · exact (Nat.cast_zero : ((0 : ℕ) : EReal) = 0)

end Cert.QkvIdeal.Rows

end
-- ==== Proof.QkvValue.lean ====
/-
  The packed queries, keys and values: on real inputs every block the grid writes holds the packed rows.
-/
module

public import proofs.«01_k».proof.Proof.Qkv
public import proofs.«01_k».proof.Proof.QkvHost
public import proofs.«01_k».proof.Proof.Gen.QkvIdeal.Value
public import Idealize.ShloMosaic.Lib.Pointwise
public import Idealize.ShloMosaic.Lib.Pipeline.ValueKit
public import Idealize.ShloMosaic.Lib.Claim

@[expose] public section

set_option maxRecDepth 16384

noncomputable section

namespace Cert.QkvIdeal.Rows

open Cert.QkvIdeal Cert.QkvIdeal.Gen Idealize.ShloMosaic Idealize.ShloMosaic.TcCoe Idealize.SL Idealize.ShloMosaic.Pipeline Cert.Rows Cert.Qkv

variable (m : (ℓ : Loc nD τ sig) → Buf (Elt Ideal) ℓ)

/-- The block each window stages at grid point `t`. -/
theorem idx : ∀ t : Fin cfg0.N,
    win0_0.index t = ![t.val / 17 * 16 + (t.val % 17 - 1), 0] ∧ win0_1.index t = ![0, 0] ∧ win0_2.index t = ![0, 0]
      ∧ win0_3.index t = ![0, 0] ∧ win0_4.index t = ![0, 0] ∧ win0_5.index t = ![0, 0] ∧ win0_6.index t = ![t.val, 0] :=
  (by decide +kernel : ∀ t : Fin grid0.N, _)

theorem bound (t : Fin cfg0.N) : t.val < 68 := lt_of_lt_of_eq t.isLt N_0

/-- The arguments as rows. -/
abbrev X (c : Dev nD) (a : Fin 32768) (b : Fin 1024) : EReal := m ((c : Thread nD τ).loc main_arg0) (ix2 a b)
abbrev G (c : Dev nD) (a : Fin 1024) : EReal := m ((c : Thread nD τ).loc main_arg1) (ix1 a)
abbrev W (c : Dev nD) (a : Fin 1024) (b : Fin 3072) : EReal := m ((c : Thread nD τ).loc main_arg2) (ix2 a b)
abbrev Q (c : Dev nD) (a : Fin 64) : EReal := m ((c : Thread nD τ).loc main_arg3) (ix1 a)
abbrev K (c : Dev nD) (a : Fin 64) : EReal := m ((c : Thread nD τ).loc main_arg4) (ix1 a)

/-- The row of the input that row `r` of block `t` is made of. -/
abbrev row (t : Fin cfg0.N) (r : Fin 512) : Fin 32768 :=
  ⟨(t.val / 17 * 16 + (t.val % 17 - 1)) * 512 + r, by have := bound t; omega⟩

theorem readX (c : Dev nD) (t : Fin cfg0.N) (r : Fin 512) (e : Fin 1024) :
    (iblk m c 0 t : FVec Ideal S512x1024 .f32) (ix2 r e) = X m c (row t r) e := by
  have ht := bound t
  blk_point [iblk, V, idx t]

theorem readG (c : Dev nD) (t : Fin cfg0.N) (e : Fin 1024) :
    (iblk m c 1 t : FVec Ideal S1x1024 .f32) (ix2 0 e) = G m c e := by
  have h : (iblk m c 1 t : FVec Ideal S1x1024 .f32) (ix2 0 e) = (V m c main_v10 : FVec Ideal S1x1024 .f32) (ix2 0 e) := by
    refine congrArg (V m c main_v10) ?_
    funext a
    refine Fin.ext ?_
    blk_simp [idx t]
    match a with
    | 0 => simp
    | 1 => simp
  rw [h, V_gain]
  pointwise

theorem readW (c : Dev nD) (t : Fin cfg0.N) (a : Fin 1024) (b : Fin 3072) :
    (iblk m c 2 t : FVec Ideal S1024x3072 .bf16) (ix2 a b) = W m c a b := by
  have h : (iblk m c 2 t : FVec Ideal S1024x3072 .bf16) (ix2 a b) = (V m c main_v11 : FVec Ideal S1024x3072 .bf16) (ix2 a b) := by
    refine congrArg (V m c main_v11) ?_
    funext a
    refine Fin.ext ?_
    blk_simp [idx t]
    match a with
    | 0 => simp
    | 1 => simp
  rw [h, V_w]
  pointwise

theorem readQ (c : Dev nD) (t : Fin cfg0.N) (l : Fin 256) :
    (iblk m c 3 t : FVec Ideal S1x256 .f32) (ix2 0 l) = Q m c ⟨l % 64, by omega⟩ := by
  have h : (iblk m c 3 t : FVec Ideal S1x256 .f32) (ix2 0 l) = (V m c main_v15 : FVec Ideal S1x256 .f32) (ix2 0 l) := by
    refine congrArg (V m c main_v15) ?_
    funext a
    refine Fin.ext ?_
    blk_simp [idx t]
    match a with
    | 0 => simp
    | 1 => simp
  rw [h, V_q, four_at]

theorem readK (c : Dev nD) (t : Fin cfg0.N) (l : Fin 256) :
    (iblk m c 4 t : FVec Ideal S1x256 .f32) (ix2 0 l) = K m c ⟨l % 64, by omega⟩ := by
  have h : (iblk m c 4 t : FVec Ideal S1x256 .f32) (ix2 0 l) = (V m c main_v19 : FVec Ideal S1x256 .f32) (ix2 0 l) := by
    refine congrArg (V m c main_v19) ?_
    funext a
    refine Fin.ext ?_
    blk_simp [idx t]
    match a with
    | 0 => simp
    | 1 => simp
  rw [h, V_k, four_at]

theorem readO (c : Dev nD) (t : Fin cfg0.N) (k l : Fin 256) : (iblk m c 5 t : FVec Ideal S256x256 .bf16) (ix2 k l) = ones k l := by
  have h : (iblk m c 5 t : FVec Ideal S256x256 .bf16) (ix2 k l) = (V m c main_v9 : FVec Ideal S256x256 .bf16) (ix2 k l) := by
    refine congrArg (V m c main_v9) ?_
    funext a
    refine Fin.ext ?_
    blk_simp [idx t]
    match a with
    | 0 => simp
    | 1 => simp
  rw [h, V_ones, blocks_at]

/-- The gains a block's queries and keys are multiplied by. -/
abbrev gainQ (c : Dev nD) (t : Fin cfg0.N) (l : Fin 256) : EReal := (iblk m c 3 t : FVec Ideal S1x256 .f32) (ix2 0 l)
abbrev gainK (c : Dev nD) (t : Fin cfg0.N) (l : Fin 256) : EReal := (iblk m c 4 t : FVec Ideal S1x256 .f32) (ix2 0 l)

/-- The normed rows of a block. -/
abbrev hrows (c : Dev nD) (t : Fin cfg0.N) : FVec Ideal S512x1024 .bf16 := k0_pay2 (F := Ideal) (iblk m c 0 t) (iblk m c 1 t)

theorem hrows_at (c : Dev nD) (t : Fin cfg0.N) (r : Fin 512) (l : Fin 1024) :
    hrows m c t (ix2 r l) = rms cnt eps (X m c (row t r)) (G m c) l := by
  rw [hrows, pay2_at, funext (readX m c t r), funext (readG m c t)]

/-- A load of `n` columns of the weight from column `o` on. -/
theorem ld_at (Y : FVec Ideal S1024x3072 .bf16) (o : ℕ) (ho : o + 256 ≤ 3072) (inb) (k : Fin 1024) (l : Fin 256) :
    View.ld (Val := Elt Ideal) (e' := .bf16) Y (Rect.unit (s := S1024x3072) ![0, o] S1024x256.size inb) (ix2 k l) = Y (ix2 k ⟨o + l, by omega⟩) := by
  pointwise

/-- The projection of a block's rows to 256 columns. -/
theorem proj_eq (c : Dev nD) (t : Fin cfg0.N) (o : ℕ) (ho : o + 256 ≤ 3072) (w : FVec Ideal S1024x256 .bf16)
    (hw : ∀ k l, w (ix2 k l) = (iblk m c 2 t : FVec Ideal S1024x3072 .bf16) (ix2 k ⟨o + l.val, by omega⟩)) (r : Fin 512) :
    proj (hrows m c t) w r = fun l : Fin 256 => yrow (X m c) (G m c) (W m c) (row t r) ⟨o + l, by omega⟩ := by
  funext l
  exact Finset.sum_congr rfl fun k _ => congrArg₂ (· * ·) (hrows_at m c t r k) ((hw k l).trans (readW m c t k _))

/-- The result as one function of the arguments. -/
abbrev out (c : Dev nD) : Fin 34816 → Fin 3072 → EReal := packed (X m c) (G m c) (W m c) (Q m c) (K m c)

/-- Row `r` of block `t` in the result. -/
abbrev at_row (t : Fin cfg0.N) (r : Fin 512) : Fin 34816 := ⟨t.val * 512 + r, by have := bound t; omega⟩

/-- Away from the first block of a stream a row of the result comes from the block's row. -/
theorem out_eq (c : Dev nD) (t : Fin cfg0.N) (h0 : ¬ t.val % 17 = 0) (r : Fin 512) (l : Fin 3072) :
    out m c (at_row t r) l = Qkv.entry (X m c) (G m c) (W m c) (Q m c) (K m c) (row t r) l := by
  have ht := bound t
  rw [out, packed, dif_neg (by dsimp only [at_row]; omega)]
  exact congrArg (Qkv.entry _ _ _ _ _ · l) (Fin.ext (by dsimp only [at_row, row]; omega))

section Pieces

variable (c : Dev nD) (hG : ∀ a, Attn.IsReal (G m c a)) (hW : ∀ a b, Attn.IsReal (W m c a b))
  (t : Fin cfg0.N) (h0 : ¬ t.val % 17 = 0) (o : ℕ) (ho : o % 64 = 0) (w : FVec Ideal S1024x256 .bf16)

include hG hW h0 ho

/-- A piece of queries. -/
theorem q_piece (hb : o + 256 ≤ 1024)
    (hw : ∀ k l, w (ix2 k l) = (iblk m c 2 t : FVec Ideal S1024x3072 .bf16) (ix2 k ⟨o + l.val, by omega⟩)) (r : Fin 512) (l : Fin 256) :
    piece (hrows m c t) w (iblk m c 5 t) (fun l => gainQ m c t l * eighth) r l
      = out m c (at_row t r) ⟨o + l, by omega⟩ := by
  have e5 : (fun k l => (iblk m c 5 t : FVec Ideal S256x256 .bf16) (ix2 k l)) = ones := funext fun k => funext (readO m c t k)
  have e3 : (fun l => gainQ m c t l * eighth) = fun l : Fin 256 => (fun d => Q m c d * eighth) ⟨l % 64, by omega⟩ :=
    funext fun l => congrArg (· * eighth) (readQ m c t l)
  rw [piece, proj_eq m c t o (by omega) w hw r, e5, e3,
    chunk_cols (yrow_real _ _ _ hG hW (row t r)) (fun d => Q m c d * eighth) o ho (by omega) l, rms_scale, out_eq m c t h0, Qkv.entry, if_pos (by dsimp only; omega)]

/-- A piece of keys. -/
theorem k_piece (ha : 1024 ≤ o) (hb : o + 256 ≤ 2048)
    (hw : ∀ k l, w (ix2 k l) = (iblk m c 2 t : FVec Ideal S1024x3072 .bf16) (ix2 k ⟨o + l.val, by omega⟩)) (r : Fin 512) (l : Fin 256) :
    piece (hrows m c t) w (iblk m c 5 t) (gainK m c t) r l
      = out m c (at_row t r) ⟨o + l, by omega⟩ := by
  have e5 : (fun k l => (iblk m c 5 t : FVec Ideal S256x256 .bf16) (ix2 k l)) = ones := funext fun k => funext (readO m c t k)
  have e4 : gainK m c t = fun l : Fin 256 => (K m c) ⟨l % 64, by omega⟩ :=
    funext (readK m c t)
  rw [piece, proj_eq m c t o (by omega) w hw r, e5, e4,
    chunk_cols (yrow_real _ _ _ hG hW (row t r)) (K m c) o ho (by omega) l, out_eq m c t h0, Qkv.entry, if_neg (by dsimp only; omega),
    if_pos (by dsimp only; omega)]

end Pieces

/-- The values. -/
theorem v_piece (c : Dev nD) (t : Fin cfg0.N) (h0 : ¬ t.val % 17 = 0) (w : FVec Ideal S1024x1024 .bf16)
    (hw : ∀ k l, w (ix2 k l) = (iblk m c 2 t : FVec Ideal S1024x3072 .bf16) (ix2 k ⟨2048 + l.val, by omega⟩)) (r : Fin 512) (l : Fin 1024) :
    k0_pay4 (F := Ideal) (iblk m c 0 t) (iblk m c 1 t) w (ix2 r l) = out m c (at_row t r) ⟨2048 + l, by omega⟩ := by
  rw [out_eq m c t h0, Qkv.entry, if_neg (by dsimp only; omega), if_neg (by dsimp only; omega)]
  refine (pay4_at _ _ _ r l).trans ?_
  exact Finset.sum_congr rfl fun k _ => congrArg₂ (· * ·) (hrows_at m c t r k) ((hw k l).trans (readW m c t k _))

theorem ldV_at (Y : FVec Ideal S1024x3072 .bf16) (inb) (k : Fin 1024) (l : Fin 1024) :
    View.ld (Val := Elt Ideal) (e' := .bf16) Y (Rect.unit (s := S1024x3072) ![0, 2048] S1024x1024.size inb) (ix2 k l) = Y (ix2 k ⟨2048 + l, by omega⟩) := by
  pointwise

section Tiles

variable (c : Dev nD) (hG : ∀ a, Attn.IsReal (G m c a)) (hW : ∀ a b, Attn.IsReal (W m c a b))

include hG hW

set_option maxHeartbeats 1000000 in
theorem tile (t : Fin cfg0.N) (y : S512x3072.Idx) (R : Fin 34816) (l : Fin 3072)
    (hR : R.val = t.val * 512 + (y 0).val) (hl : l.val = (y 1).val) : outsAt0 m c t.val t.isLt y = out m c R l := by
  have at_piece : ∀ (r : Fin 512) (n : ℕ) (hn : n < 3072), (y 0).val = r.val → (y 1).val = n → out m c (at_row t r) ⟨n, hn⟩ = out m c R l :=
    fun r n hn e0 e1 => congrArg₂ (out m c) (Fin.ext (by rw [hR, e0])) (Fin.ext (by rw [hl, e1]))
  have ix : ∀ x : S512x256.Idx, x = ix2 (x 0) (x 1) := fun x => eq_ix2 (n0 := 512) (n1 := 256) x
  by_cases h0 : t.val % 17 = 0
  · rw [outsAt0_A m c t h0 (by omega)]
    frame_out
    refine (congrArg _ (eq_ix2 (n0 := 512) (n1 := 3072) y)).trans ((pay1_at _ _).trans ?_)
    have ht := bound t
    have hy : (y 0).val < 512 := (y 0).isLt
    rw [out, packed, dif_pos (by omega)]
  · have q := q_piece m c hG hW t h0
    have k := k_piece m c hG hW t h0
    have v := v_piece m c t h0
    rw [outsAt0_B m c t h0 (by omega)]
    frame_out
    canon_tiles x h using View.cover_of_tiledBy _ ![512, 256] (by sl_kernel_rfl) y
    · refine (congrArg _ (ix x)).trans ((k3_at _ _ _ _ _ _).trans ?_)
      exact (k 1792 (by decide) _ (by decide) (by decide) (ld_at _ 1792 (by decide) _) (x 0) (x 1)).trans (at_piece _ _ _ (by assumption) (by assumption))
    · refine (congrArg _ (ix x)).trans ((k2_at _ _ _ _ _ _).trans ?_)
      exact (k 1536 (by decide) _ (by decide) (by decide) (ld_at _ 1536 (by decide) _) (x 0) (x 1)).trans (at_piece _ _ _ (by assumption) (by assumption))
    · refine (congrArg _ (ix x)).trans ((q3_at _ _ _ _ _ _).trans ?_)
      exact (q 768 (by decide) _ (by decide) (ld_at _ 768 (by decide) _) (x 0) (x 1)).trans (at_piece _ _ _ (by assumption) (by assumption))
    · refine (congrArg _ (ix x)).trans ((q2_at _ _ _ _ _ _).trans ?_)
      exact (q 512 (by decide) _ (by decide) (ld_at _ 512 (by decide) _) (x 0) (x 1)).trans (at_piece _ _ _ (by assumption) (by assumption))
    · refine (congrArg _ (ix x)).trans ((k1_at _ _ _ _ _ _).trans ?_)
      exact (k 1280 (by decide) _ (by decide) (by decide) (ld_at _ 1280 (by decide) _) (x 0) (x 1)).trans (at_piece _ _ _ (by assumption) (by assumption))
    · refine (congrArg _ (ix x)).trans ((k0_at _ _ _ _ _ _).trans ?_)
      exact (k 1024 (by decide) _ (by decide) (by decide) (ld_at _ 1024 (by decide) _) (x 0) (x 1)).trans (at_piece _ _ _ (by assumption) (by assumption))
    · refine (congrArg _ (ix x)).trans ((q1_at _ _ _ _ _ _).trans ?_)
      exact (q 256 (by decide) _ (by decide) (ld_at _ 256 (by decide) _) (x 0) (x 1)).trans (at_piece _ _ _ (by assumption) (by assumption))
    · refine (congrArg _ (ix x)).trans ((q0_at _ _ _ _ _ _ _).trans ?_)
      exact (q 0 (by decide) _ (by decide) (ld_at _ 0 (by decide) _) (x 0) (x 1)).trans (at_piece _ _ _ (by assumption) (by omega))
    · refine (congrArg _ (eq_ix2 (n0 := 512) (n1 := 1024) x)).trans ?_
      exact (v _ (ldV_at _ _) (x 0) (x 1)).trans (at_piece _ _ _ (by assumption) (by assumption))

/-- The whole result after the run. -/
theorem final : (dats m 0 c).arrAt 6 cfg0.N = fun j : S34816x3072.Idx => out m c (j 0) (j 1) := by
  refine (dats m 0 c).arrAt_eq_of_covers 6 _ (by decide +kernel) fun t _ y => ?_
  blk_simp
  rw [after0_6]
  refine tile m c hG hW t y _ _ ?_ ?_
  · blk_simp [idx t]
  · blk_simp [idx t]

end Tiles

end Cert.QkvIdeal.Rows

end
-- ==== Proof.EvenRows.lean ====
/-
  The entry of an even layer one row at a time, over the extended reals: the difference to the row before, the mixed
  row, the low-rank branches and the decay. Both the kernel's and the reference's entries are brought to these forms.
-/
module

public import proofs.«01_k».proof.Proof.Rows

@[expose] public section

set_option maxRecDepth 16384

noncomputable section

namespace Cert.Rows

open Idealize.ShloMosaic

/-- Row `r` of the 32768 rows `X`, normed. -/
def normed (cnt eps : EReal) (X : Fin 32768 → Fin 1024 → EReal) (g : Fin 1024 → EReal) (r : Fin 32768) : Fin 1024 → EReal := rms cnt eps (X r) g

/-- The normed row before row `r` less row `r`; the first row of a sequence of 8192 has zero before it. -/
def step (cnt eps : EReal) (X : Fin 32768 → Fin 1024 → EReal) (g : Fin 1024 → EReal) (r : Fin 32768) (l : Fin 1024) : EReal :=
  (if r.val % 8192 = 0 then 0 else normed cnt eps X g ⟨r - 1, by omega⟩ l) - normed cnt eps X g r l

/-- The row `h` moved by the share `mu` of the difference `d`. -/
def mixed {n : ℕ} (h d mu : Fin n → EReal) (l : Fin n) : EReal := h l + d l * mu l

/-- A low-rank branch of the row `h`: down by `w1`, each entry through `act`, up by `w2`. -/
def branch {n p q : ℕ} (act : EReal → EReal) (h : Fin n → EReal) (w1 : Fin n → Fin p → EReal) (w2 : Fin p → Fin q → EReal) (l : Fin q) : EReal :=
  dotRow (fun j => act (dotRow h w1 j)) w2 l

/-- The smooth positive part `log (1 + e^z)`, split so that nothing overflows. -/
def softplus (z : EReal) : EReal := max z 0 + Ideal.log (1 + Ideal.exp (-(max z (-z))))

/-- The logarithm of a decay from its raw value `z`; `half` is the constant taken off in the exponent. -/
def decay (half z : EReal) : EReal := -Ideal.exp (-softplus (-z) - half)

/-- The word zero, read as a float. -/
theorem word_zero : FloatOps.sitofp (F := Ideal) .f32 (0#32) = 0 := by
  show (((0#32).toInt : ℝ) : EReal) = 0
  simp

/-- The decay with every sign spelt as a difference from zero. -/
theorem decay_sub (half z : EReal) :
    0 - Ideal.exp (0 - (max (0 - z) 0 + Ideal.log (1 + Ideal.exp (0 - FloatOps.absf (F := Ideal) (φ := .f32) (0 - z)))) - half) = decay half z := by
  simp only [zero_sub_eq]
  rfl

/-- The decay with the smooth positive part guarded by a test that a value differs from itself. -/
theorem decay_guard (half z u : EReal) :
    -Ideal.exp ((-if -z ≠ -z then u else max (-z) 0 + Ideal.log1p (Ideal.exp (-FloatOps.absf (F := Ideal) (φ := .f32) (-z)))) - half) = decay half z := by
  rw [if_neg (by simp)]
  rfl

/-- Rows past the first `p` that are zero leave the product unchanged. -/
theorem dotRow_pad {p q n : ℕ} (hpq : p ≤ q) (h : Fin q → EReal) (w : Fin q → Fin n → EReal) (l : Fin n)
    (hw : ∀ j : Fin q, p ≤ j → w j l = 0) :
    dotRow h w l = dotRow (fun j : Fin p => h ⟨j, by omega⟩) (fun j l => w ⟨j, by omega⟩ l) l := by
  obtain ⟨d, rfl⟩ := Nat.exists_eq_add_of_le hpq
  unfold dotRow
  rw [Fin.sum_univ_add]
  rw [Finset.sum_eq_zero (s := Finset.univ) (f := fun i : Fin d => h (Fin.natAdd p i) * w (Fin.natAdd p i) l), add_zero]
  · rfl
  · intro i _
    rw [hw _ (by simp), mul_zero]

/-- A branch widened by zero rows of `w2` is the narrow branch. -/
theorem branch_pad {n p q s : ℕ} (hpq : p ≤ q) (act : EReal → EReal) (h : Fin n → EReal) (w1 : Fin n → Fin q → EReal) (w2 : Fin q → Fin s → EReal)
    (l : Fin s) (hw : ∀ j : Fin q, p ≤ j → w2 j l = 0) :
    branch act h w1 w2 l = branch act h (fun k (j : Fin p) => w1 k ⟨j, by omega⟩) (fun (j : Fin p) l => w2 ⟨j, by omega⟩ l) l :=
  dotRow_pad hpq _ _ l hw

end Cert.Rows

end
-- ==== Proof.QkvRef.lean ====
/-
  The packed queries, keys and values: the reference's result, entry by entry, in the row forms.
-/
module

public import proofs.«01_k».proof.Proof.QkvRows
public import proofs.«01_k».proof.Proof.EvenRows
public import proofs.«01_k».proof.Proof.Gen.QkvRefIdeal.Read
public import Idealize.ShloMosaic.Lib.Pointwise

@[expose] public section

set_option maxRecDepth 16384

noncomputable section

namespace Cert.QkvRefIdeal.Rows

open Cert.QkvRefIdeal Cert.QkvRefIdeal.Read Idealize.ShloMosaic Idealize.ShloMosaic.TcCoe Cert.Rows Cert.Qkv

variable (x : FVec Ideal S32768x1024 .f32) (g : FVec Ideal S1024 .f32) (w : FVec Ideal S1024x3072 .f32) (q k : FVec Ideal S64 .f32)

/-- The normed rows. -/
theorem v12_at (r : Fin 32768) (l : Fin 1024) : val_main_v12 (F := Ideal) x g (ix2 r l)
    = rms cnt eps (fun k : Fin 1024 => x (ix2 r k)) (fun k => g (ix1 k)) l := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1, rms]

/-- The arguments as rows. -/
abbrev y : Fin 32768 → Fin 3072 → EReal := yrow (fun r k => x (ix2 r k)) (fun k => g (ix1 k)) (fun k l => w (ix2 k l))

theorem v14_at (b : Fin 4) (s : Fin 8192) (l : Fin 3072) : val_main_v14 (F := Ideal) x g w (ix3 b s l) = y x g w ⟨b * 8192 + s, by omega⟩ l := by
  have e : ∀ k : Fin 1024, val_main_v13 (F := Ideal) x g (ix3 b s k)
      = rms cnt eps (fun k : Fin 1024 => x (ix2 ⟨b * 8192 + s, by omega⟩ k)) (fun k => g (ix1 k)) k := fun k => by
    rw [← v12_at]
    pointwise [val_main_v13]
  pointwise [val_main_v14, y, yrow, dotRow]
  exact Finset.sum_congr rfl fun k _ => congrArg (· * w (ix2 k l)) (e k)

/-- The three parts, one head at a time. -/
theorem v17_at (b : Fin 4) (s : Fin 8192) (h : Fin 16) (d : Fin 64) : val_main_v17 (F := Ideal) x g w (ix4 b s h d)
    = y x g w ⟨b * 8192 + s, by omega⟩ ⟨h * 64 + d, by omega⟩ := by
  rw [← v14_at]
  pointwise [val_main_v17, val_main_v16, val_main_v15]

theorem v34_at (b : Fin 4) (s : Fin 8192) (h : Fin 16) (d : Fin 64) : val_main_v34 (F := Ideal) x g w (ix4 b s h d)
    = y x g w ⟨b * 8192 + s, by omega⟩ ⟨1024 + h * 64 + d, by omega⟩ := by
  rw [← v14_at]
  pointwise [val_main_v34, val_main_v33, val_main_v15]

theorem v49_at (b : Fin 4) (s : Fin 8192) (h : Fin 16) (d : Fin 64) : val_main_v49 (F := Ideal) x g w (ix4 b s h d)
    = y x g w ⟨b * 8192 + s, by omega⟩ ⟨2048 + h * 64 + d, by omega⟩ := by
  rw [← v14_at]
  pointwise [val_main_v49, val_main_v48, val_main_v15]

theorem v32_at (b : Fin 4) (s : Fin 8192) (h : Fin 16) (d : Fin 64) : val_main_v32 (F := Ideal) x g w q (ix4 b s h d)
    = rms c64 eps (fun e : Fin 64 => y x g w ⟨b * 8192 + s, by omega⟩ ⟨h * 64 + e, by omega⟩) (fun e => q (ix1 e)) d * eighth := by
  simp only [← v17_at]
  pointwise [val_main_v32, val_main_v31, val_main_v30, val_main_v29, val_main_v28, val_main_v27, val_main_v26, val_main_v25, val_main_v24, val_main_v23,
    val_main_v22, val_main_v21, val_main_v20, val_main_v19, val_main_v18, val_main_cst_2, val_main_cst_3, val_main_cst_4, val_main_cst_5, rms]

theorem v47_at (b : Fin 4) (s : Fin 8192) (h : Fin 16) (d : Fin 64) : val_main_v47 (F := Ideal) x g w k (ix4 b s h d)
    = rms c64 eps (fun e : Fin 64 => y x g w ⟨b * 8192 + s, by omega⟩ ⟨1024 + h * 64 + e, by omega⟩) (fun e => k (ix1 e)) d := by
  simp only [← v34_at]
  pointwise [val_main_v47, val_main_v46, val_main_v45, val_main_v44, val_main_v43, val_main_v42, val_main_v41, val_main_v40, val_main_v39, val_main_v38,
    val_main_v37, val_main_v36, val_main_v35, val_main_cst_6, val_main_cst_7, val_main_cst_8, rms]

/-- The three parts side by side. -/
theorem v54_at (b : Fin 4) (s : Fin 8192) (l : Fin 3072) : val_main_v54 (F := Ideal) x g w q k (ix3 b s l)
    = entry (fun r k => x (ix2 r k)) (fun k => g (ix1 k)) (fun k l => w (ix2 k l)) (fun e => q (ix1 e)) (fun e => k (ix1 e))
      ⟨b * 8192 + s, by omega⟩ l := by
  pointwise [val_main_v54, val_main_v53, val_main_v52, val_main_v51, val_main_v50]
  unfold entry
  by_cases h0 : l.val < 1024
  · rw [dif_pos (by omega), if_pos h0, v32_at]
    refine congrArg (fun f => rms c64 eps f (fun e : Fin 64 => q (ix1 e)) ⟨l % 64, by omega⟩ * eighth) (funext fun e => ?_)
    exact congrArg (y x g w _) (Fin.ext (by dsimp only; omega))
  by_cases h1 : l.val < 2048
  · rw [dif_neg (by omega), dif_pos (by omega), if_neg h0, if_pos h1, v47_at]
    refine congrArg (fun f => rms c64 eps f (fun e : Fin 64 => k (ix1 e)) ⟨l % 64, by omega⟩) (funext fun e => ?_)
    exact congrArg (y x g w _) (Fin.ext (by dsimp only; omega))
  · rw [dif_neg (by omega), dif_neg (by omega), if_neg h0, if_neg h1, v49_at]
    exact congrArg (y x g w _) (Fin.ext (by dsimp only; omega))

/-- The whole result: each stream of 8192 rows after 512 rows of zeros. -/
theorem v57_at (r : Fin 34816) (l : Fin 3072) : val_main_v57 (F := Ideal) x g w q k (ix2 r l)
    = packed (fun r k => x (ix2 r k)) (fun k => g (ix1 k)) (fun k l => w (ix2 k l)) (fun e => q (ix1 e)) (fun e => k (ix1 e)) r l := by
  pointwise [val_main_v57, val_main_v56, val_main_v55, val_main_call0_v0, val_main_c, packed]
  by_cases h : r.val % 8704 < 512
  · rw [dif_neg (by omega), dif_pos h]
    exact word_zero
  · rw [dif_pos (by omega), dif_neg h, v54_at]

end Cert.QkvRefIdeal.Rows

end
-- ==== Proof.QkvClaim.lean ====
/-
  The packed queries, keys and values: on finite gains and weights the kernel's result is the reference's, over
  the extended reals.
-/
module

public import proofs.«01_k».proof.Defs
public import proofs.«01_k».proof.Proof.QkvValue
public import proofs.«01_k».proof.Proof.QkvRef
public import proofs.«01_k».proof.Proof.AttnClaim
public import Idealize.ShloMosaic.Lib.Claim

@[expose] public section

set_option maxRecDepth 16384

noncomputable section

namespace Cert.Proof

open Idealize.ShloMosaic Idealize.ShloMosaic.TcCoe Idealize.SL.Sem

theorem finite_qkv_facts : Cert.Pre_finite_qkv.Facts := ⟨by decide, by decide⟩

variable [hPre_finite_qkv : Cert.Pre_finite_qkv.Facts]

theorem finite_qkv_at (X : FVec Ideal Cert.Pre_finite_qkv.S32768x1024 .f32) (G : FVec Ideal Cert.Pre_finite_qkv.S1024 .f32)
    (W : FVec Ideal Cert.Pre_finite_qkv.S1024x3072 .f32) (Q K : FVec Ideal Cert.Pre_finite_qkv.S64 .f32)
    (h : (Cert.Pre_finite_qkv.fn (F := Ideal) X G W Q K).1 = (fun _ => 1#1) ∧ (Cert.Pre_finite_qkv.fn (F := Ideal) X G W Q K).2 = (fun _ => 1#1)) :
    (∀ a, Attn.IsReal (G (ix1 a))) ∧ (∀ a b, Attn.IsReal (W (ix2 a b))) := by
  refine ⟨fun a => ?_, fun a b => ?_⟩
  · have := congrFun h.1 (ix1 a)
    revert this
    pointwise [Cert.Pre_finite_qkv.fn]
    exact real_of_test
  · have := congrFun h.2 (ix2 a b)
    revert this
    pointwise [Cert.Pre_finite_qkv.fn]
    exact real_of_test

theorem algebraic_qkv : Cert.algebraic_QkvIdeal_QkvRefIdeal_pre_finite_qkv := by
  pair_intro
  · run_from Cert.QkvIdeal.Gen.run_main m g
    · exact Cert.QkvIdeal.Gen.V_main_arg1 m c
    · exact Cert.QkvIdeal.Gen.V_main_arg2 m c
    · exact Cert.QkvIdeal.Gen.V_main_arg3 m c
    · exact Cert.QkvIdeal.Gen.V_main_arg4 m c
  · run_from Cert.QkvRefIdeal.Value.run m' g'
    have hf := finite_qkv_at _ _ _ _ _ (hpre c)
    rw [Cert.QkvIdeal.Rows.final m c hf.1 hf.2, Cert.QkvRefIdeal.Read.val_main_v57_eq]
    have h := hagree c
    simp only [h]
    funext j
    refine (congrArg _ (eq_ix2 (n0 := 34816) (n1 := 3072) j)).trans ?_
    exact Cert.QkvRefIdeal.Rows.v57_at _ _ _ _ _ (j 0) (j 1)

end Cert.Proof

end
-- ==== Proof.EvenIn.lean ====
/-
  The entry of an even layer: what the kernel's body computes from its blocks, entry by entry, in the row forms.
-/
module

public import proofs.«01_k».proof.Proof.EvenRows
public import proofs.«01_k».proof.Proof.Gen.EvenInIdeal.Skeleton
public import Idealize.ShloMosaic.Lib.Pointwise

@[expose] public section

set_option maxRecDepth 16384

noncomputable section

namespace Cert.EvenInIdeal.Rows

open Cert.EvenInIdeal Cert.EvenInIdeal.Gen Idealize.ShloMosaic Idealize.ShloMosaic.TcCoe Cert.Rows

/-- The number of columns, the norm's epsilon and the half, as both programs spell them. -/
abbrev cnt : EReal := Ideal.ofBits .f32 0x44800000#32
abbrev eps : EReal := Ideal.ofBits .f32 0x358637BD#32
abbrev half : EReal := Ideal.ofBits .f32 0x3F000000#32

variable (x : FVec Ideal S512x1024 .f32) (xp : FVec Ideal S8x1024 .f32) (g : FVec Ideal S1x1024 .f32) (mu : FVec Ideal S1x1024 .f32)
  (h d : FVec Ideal S512x1024 .f32) (p : FVec Ideal S1x1024 .f32) (l1 : FVec Ideal S1x1024x128 .bf16) (l2 : FVec Ideal S1x128x512 .bf16)
  (b : FVec Ideal S1x512 .f32) (y : FVec Ideal S512x128 .f32) (z : FVec Ideal S512x512 .f32)

/-- The test for the first row of a block. -/
theorem first_row : ∀ r : Fin 512, IntOp.cmpi .eq (BitVec.ofNat 32 r) 0#32 = if r.val = 0 then 1#1 else 0#1 := by decide +kernel

/-- The normed rows. -/
theorem pay2_at (r : Fin 512) (l : Fin 1024) : k0_pay2 (F := Ideal) g x (ix2 r l)
    = rms cnt eps (fun k : Fin 1024 => x (ix2 r k)) (fun k => g (ix2 0 k)) l := by
  pointwise [k0_pay2, k0_pay1, rms]

/-- The normed last row of the eight rows above. -/
theorem pay3_at (l : Fin 1024) : k0_pay3 (F := Ideal) g xp (ix2 0 l)
    = rms cnt eps (fun k : Fin 1024 => xp (ix2 7 k)) (fun k => g (ix2 0 k)) l := by
  pointwise [k0_pay3, k0_pay1, rms]

/-- The rows moved down by one, less the rows. -/
theorem pay4_at (w : BitVec 1) (r : Fin 512) (l : Fin 1024) : k0_pay4 (F := Ideal) h p w (ix2 r l)
    = (if r.val = 0 then (if w = 1#1 then 0 else p (ix2 0 l)) else h (ix2 ⟨r - 1, by omega⟩ l)) - h (ix2 r l) := by
  pointwise [k0_pay4]
  rw [first_row]
  by_cases h0 : r.val = 0
  · rw [if_pos h0, if_pos h0]
    rfl
  · rw [if_neg h0, if_neg h0]
    refine congrArg (· - h (ix2 r l)) (congrArg h (congrArg (ix2 · l) (Fin.ext ?_)))
    dsimp only
    omega

theorem pay6_at (w : FVec Ideal S1024x1536 .bf16) (r : Fin 512) (l : Fin 1536) : k0_pay6 (F := Ideal) h w (ix2 r l)
    = dotRow (fun k : Fin 1024 => h (ix2 r k)) (fun k l => w (ix2 k l)) l := by
  pointwise [k0_pay6, k0_pay5, dotRow]

theorem pay7_at (w : FVec Ideal S1024x1536 .bf16) (r : Fin 512) (l : Fin 1536) : k0_pay7 (F := Ideal) h w (ix2 r l)
    = dotRow (fun k : Fin 1024 => h (ix2 r k)) (fun k l => w (ix2 k l)) l := by
  pointwise [k0_pay7, k0_pay5, dotRow]

theorem pay8_at (w : FVec Ideal S1024x512 .bf16) (r : Fin 512) (l : Fin 512) : k0_pay8 (F := Ideal) h w (ix2 r l)
    = dotRow (fun k : Fin 1024 => h (ix2 r k)) (fun k l => w (ix2 k l)) l := by
  pointwise [k0_pay8, k0_pay5, dotRow]

theorem pay9_at (w : FVec Ideal S1024x128 .bf16) (r : Fin 512) (l : Fin 128) : k0_pay9 (F := Ideal) h w (ix2 r l)
    = dotRow (fun k : Fin 1024 => h (ix2 r k)) (fun k l => w (ix2 k l)) l := by
  pointwise [k0_pay9, k0_pay5, dotRow]

/-- The decay: the mixed row down, through the hyperbolic tangent, up, the bias added. -/
theorem lw_at (w : BitVec 1) (r : Fin 512) (l : Fin 512) :
    k0_pay19 (F := Ideal) (k0_pay18 (k0_pay13 h (k0_pay10 h p w mu) l1) l2 b) (Ideal.ofBits .f32 0#32) (ix2 r l)
    = decay half (b (ix2 0 l) + branch Ideal.tanh (mixed (fun k : Fin 1024 => h (ix2 r k)) (fun k => k0_pay4 (F := Ideal) h p w (ix2 r k)) (fun k => mu (ix2 0 k)))
        (fun k (j : Fin 128) => l1 (ix3 0 k j)) (fun (j : Fin 128) l => l2 (ix3 0 j l)) l) := by
  pointwise [k0_pay19, k0_pay18, k0_pay13, k0_pay10, branch, mixed, dotRow]
  exact decay_sub _ _

theorem a_at (r : Fin 512) (l : Fin 512) : k0_pay20 (F := Ideal) (k0_pay15 (k0_pay11 h d mu l1) l2) b (ix2 r l)
    = sigm (b (ix2 0 l) + branch (fun z => z) (mixed (fun k : Fin 1024 => h (ix2 r k)) (fun k => d (ix2 r k)) (fun k => mu (ix2 0 k)))
        (fun k (j : Fin 128) => l1 (ix3 0 k j)) (fun (j : Fin 128) l => l2 (ix3 0 j l)) l) := by
  pointwise [k0_pay20, k0_pay15, k0_pay11, sigm, branch, mixed, dotRow, zero_sub_eq]

theorem gg_at (r : Fin 512) (l : Fin 512) : k0_pay16 (F := Ideal) (k0_pay14 h d mu l1) (Ideal.ofBits .f32 1065353216#32) l2 (ix2 r l)
    = branch sigm (mixed (fun k : Fin 1024 => h (ix2 r k)) (fun k => d (ix2 r k)) (fun k => mu (ix2 0 k)))
        (fun k (j : Fin 128) => l1 (ix3 0 k j)) (fun (j : Fin 128) l => l2 (ix3 0 j l)) l := by
  pointwise [k0_pay16, k0_pay14, sigm, branch, mixed, dotRow, zero_sub_eq]

theorem vg_at (r : Fin 512) (l : Fin 512) : k0_pay21 (F := Ideal) (k0_pay17 (k0_pay12 h d mu l1) l2) b (ix2 r l)
    = sigm (b (ix2 0 l) + branch (fun z => z) (mixed (fun k : Fin 1024 => h (ix2 r k)) (fun k => d (ix2 r k)) (fun k => mu (ix2 0 k)))
        (fun k (j : Fin 128) => l1 (ix3 0 k j)) (fun (j : Fin 128) l => l2 (ix3 0 j l)) l) := by
  pointwise [k0_pay21, k0_pay17, k0_pay12, sigm, branch, mixed, dotRow, zero_sub_eq]

end Cert.EvenInIdeal.Rows

end
-- ==== Proof.EvenInHost.lean ====
/-
  The entry of an even layer: the operands the program lays out before the kernel runs (weights cut and padded, the
  shares, the branches and the biases stacked), as the kernel finds them.
-/
module

public import proofs.«01_k».proof.Proof.EvenRows
public import proofs.«01_k».proof.Proof.Gen.EvenInIdeal.Frame
public import Idealize.ShloMosaic.Lib.Pointwise
public import Idealize.ShloMosaic.Lib.Pipeline.ValueKit
public import Idealize.ShloMosaic.Lib.Claim
public import Idealize.ShloMosaic.Lib.StableHlo.RunRead

@[expose] public section

set_option maxRecDepth 16384

noncomputable section

namespace Cert.EvenInIdeal.Rows

open Cert.EvenInIdeal Cert.EvenInIdeal.Gen Idealize.ShloMosaic Idealize.ShloMosaic.TcCoe Cert.Rows

variable (m : (ℓ : Loc nD τ sig) → Buf (Elt Ideal) ℓ)

/-- The zero the program pads with. -/
def zero : FVec Ideal S_ .f32 := sitofp .f32 (constantI S_ 32 0#32)

/-- The four shares, one to a row. -/
def shares (M : FVec Ideal S3x1024 .f32) (V : FVec Ideal S1024 .f32) : FVec Ideal S4x1024 .f32 :=
  concatenate S4x1024 0
    [⟨S1x1024, broadcastInDim S1x1024 ![1] bcast_S1024_S1x1024_1 (shapeCast S1024 (extractStridedSlice S1x1024 ![0, 0] M slices_S3x1024_S1x1024_0_0) shapeCasts_S1x1024_S1024)⟩,
     ⟨S1x1024, broadcastInDim S1x1024 ![1] bcast_S1024_S1x1024_1 (shapeCast S1024 (extractStridedSlice S1x1024 ![1, 0] M slices_S3x1024_S1x1024_1_0) shapeCasts_S1x1024_S1024)⟩,
     ⟨S1x1024, broadcastInDim S1x1024 ![1] bcast_S1024_S1x1024_1 (shapeCast S1024 (extractStridedSlice S1x1024 ![2, 0] M slices_S3x1024_S1x1024_2_0) shapeCasts_S1x1024_S1024)⟩,
     ⟨S1x1024, broadcastInDim S1x1024 ![1] bcast_S1024_S1x1024_1 V⟩]
    concatenates_S1x1024_S1x1024_S1x1024_S1x1024_S4x1024_d0

theorem V_shares (c : Dev nD) : V m c main_v36 = shares (m ((c : Thread nD τ).loc main_arg3)) (m ((c : Thread nD τ).loc main_arg12)) := by
  dsimp only [V]
  after_reads_simp
  rfl

/-- A weight going down, widened to 128 columns. -/
abbrev wide64 (A : FVec Ideal S1024x64 .f32) : FVec Ideal S1024x128 .f32 := pad S1024x128 ![0, 0] ![0, 64] ![0, 0] A zero pads_S1024x64_S1024x128_000_0640 h_S_
abbrev wide128 (A : FVec Ideal S1024x128 .f32) : FVec Ideal S1024x128 .f32 := pad S1024x128 ![0, 0] ![0, 0] ![0, 0] A zero pads_S1024x128_S1024x128_000_000 h_S_
abbrev wide32 (A : FVec Ideal S1024x32 .f32) : FVec Ideal S1024x128 .f32 := pad S1024x128 ![0, 0] ![0, 96] ![0, 0] A zero pads_S1024x32_S1024x128_000_0960 h_S_

/-- A weight going up, lengthened to 128 rows. -/
abbrev long64 (A : FVec Ideal S64x512 .f32) : FVec Ideal S128x512 .f32 := pad S128x512 ![0, 0] ![64, 0] ![0, 0] A zero pads_S64x512_S128x512_0640_000 h_S_
abbrev long128 (A : FVec Ideal S128x512 .f32) : FVec Ideal S128x512 .f32 := pad S128x512 ![0, 0] ![0, 0] ![0, 0] A zero pads_S128x512_S128x512_000_000 h_S_
abbrev long32 (A : FVec Ideal S32x512 .f32) : FVec Ideal S128x512 .f32 := pad S128x512 ![0, 0] ![96, 0] ![0, 0] A zero pads_S32x512_S128x512_0960_000 h_S_

/-- The four weights going down, stacked. -/
def down (A : FVec Ideal S1024x64 .f32) (B : FVec Ideal S1024x64 .f32) (C : FVec Ideal S1024x128 .f32) (D : FVec Ideal S1024x32 .f32) : FVec Ideal S4x1024x128 .bf16 :=
  truncf .bf16 (concatenate S4x1024x128 0
    [⟨S1x1024x128, broadcastInDim S1x1024x128 ![1, 2] bcast_S1024x128_S1x1024x128_1_2 (wide64 A)⟩,
     ⟨S1x1024x128, broadcastInDim S1x1024x128 ![1, 2] bcast_S1024x128_S1x1024x128_1_2 (wide64 B)⟩,
     ⟨S1x1024x128, broadcastInDim S1x1024x128 ![1, 2] bcast_S1024x128_S1x1024x128_1_2 (wide128 C)⟩,
     ⟨S1x1024x128, broadcastInDim S1x1024x128 ![1, 2] bcast_S1024x128_S1x1024x128_1_2 (wide32 D)⟩]
    concatenates_S1x1024x128_S1x1024x128_S1x1024x128_S1x1024x128_S4x1024x128_d0) bitsLt_bf16_f32

/-- The four weights going up, stacked. -/
def up (A : FVec Ideal S64x512 .f32) (B : FVec Ideal S64x512 .f32) (C : FVec Ideal S128x512 .f32) (D : FVec Ideal S32x512 .f32) : FVec Ideal S4x128x512 .bf16 :=
  truncf .bf16 (concatenate S4x128x512 0
    [⟨S1x128x512, broadcastInDim S1x128x512 ![1, 2] bcast_S128x512_S1x128x512_1_2 (long64 A)⟩,
     ⟨S1x128x512, broadcastInDim S1x128x512 ![1, 2] bcast_S128x512_S1x128x512_1_2 (long64 B)⟩,
     ⟨S1x128x512, broadcastInDim S1x128x512 ![1, 2] bcast_S128x512_S1x128x512_1_2 (long128 C)⟩,
     ⟨S1x128x512, broadcastInDim S1x128x512 ![1, 2] bcast_S128x512_S1x128x512_1_2 (long32 D)⟩]
    concatenates_S1x128x512_S1x128x512_S1x128x512_S1x128x512_S4x128x512_d0) bitsLt_bf16_f32

/-- The three biases, one to a row. -/
def biases (A B C : FVec Ideal S512 .f32) : FVec Ideal S3x512 .f32 :=
  concatenate S3x512 0
    [⟨S1x512, broadcastInDim S1x512 ![1] bcast_S512_S1x512_1 A⟩, ⟨S1x512, broadcastInDim S1x512 ![1] bcast_S512_S1x512_1 B⟩,
     ⟨S1x512, broadcastInDim S1x512 ![1] bcast_S512_S1x512_1 C⟩]
    concatenates_S1x512_S1x512_S1x512_S3x512_d0

/-- The first 3584 columns of the projection. -/
def front (W : FVec Ideal S1024x3592 .f32) : FVec Ideal S1024x3584 .bf16 :=
  truncf .bf16 (extractStridedSlice S1024x3584 ![0, 0] W slices_S1024x3592_S1024x3584_0_0) bitsLt_bf16_f32

/-- The last eight columns, widened to 128. -/
def tail (W : FVec Ideal S1024x3592 .f32) : FVec Ideal S1024x128 .bf16 :=
  truncf .bf16 (pad S1024x128 ![0, 0] ![0, 120] ![0, 0] (extractStridedSlice S1024x8 ![0, 3584] W slices_S1024x3592_S1024x8_0_3584) zero
    pads_S1024x8_S1024x128_000_01200 h_S_) bitsLt_bf16_f32

theorem V_down (c : Dev nD) : V m c main_v15 = down (m ((c : Thread nD τ).loc main_arg5)) (m ((c : Thread nD τ).loc main_arg8))
    (m ((c : Thread nD τ).loc main_arg10)) (m ((c : Thread nD τ).loc main_arg14)) := by
  dsimp only [V]
  after_reads_simp
  rfl

theorem V_up (c : Dev nD) : V m c main_v25 = up (m ((c : Thread nD τ).loc main_arg6)) (m ((c : Thread nD τ).loc main_arg9))
    (m ((c : Thread nD τ).loc main_arg11)) (m ((c : Thread nD τ).loc main_arg15)) := by
  dsimp only [V]
  after_reads_simp
  rfl

theorem V_biases (c : Dev nD) : V m c main_v40 = biases (m ((c : Thread nD τ).loc main_arg4)) (m ((c : Thread nD τ).loc main_arg7))
    (m ((c : Thread nD τ).loc main_arg13)) := by
  dsimp only [V]
  after_reads_simp
  rfl

theorem V_front (c : Dev nD) : V m c main_v28 = front (m ((c : Thread nD τ).loc main_arg2)) := by
  dsimp only [V]
  after_reads_simp
  rfl

theorem V_tail (c : Dev nD) : V m c main_v31 = tail (m ((c : Thread nD τ).loc main_arg2)) := by
  dsimp only [V]
  after_reads_simp
  rfl

theorem V_gain (c : Dev nD) : (V m c main_v26 : FVec Ideal S1x1024 .f32)
    = shapeCast S1x1024 (m ((c : Thread nD τ).loc main_arg1) : FVec Ideal S1024 .f32) shapeCasts_S1024_S1x1024 := by
  dsimp only [V]
  after_reads_simp
  rfl

theorem zero_at (i : S_.Idx) : zero i = 0 := word_zero

theorem shares_at (M : FVec Ideal S3x1024 .f32) (V : FVec Ideal S1024 .f32) (k : Fin 1024) :
    shares M V (ix2 0 k) = M (ix2 0 k) ∧ shares M V (ix2 1 k) = M (ix2 1 k) ∧ shares M V (ix2 2 k) = M (ix2 2 k) ∧ shares M V (ix2 3 k) = V (ix1 k) := by
  refine ⟨?_, ?_, ?_, ?_⟩ <;> pointwise [shares]

theorem biases_at (A B C : FVec Ideal S512 .f32) (l : Fin 512) :
    biases A B C (ix2 0 l) = A (ix1 l) ∧ biases A B C (ix2 1 l) = B (ix1 l) ∧ biases A B C (ix2 2 l) = C (ix1 l) := by
  refine ⟨?_, ?_, ?_⟩ <;> pointwise [biases]

theorem front_at (W : FVec Ideal S1024x3592 .f32) (k : Fin 1024) (l : Fin 3584) : front W (ix2 k l) = W (ix2 k ⟨l, by omega⟩) := by
  pointwise [front]

theorem tail_at (W : FVec Ideal S1024x3592 .f32) (k : Fin 1024) (l : Fin 128) :
    tail W (ix2 k l) = if h : l.val < 8 then W (ix2 k ⟨3584 + l, by omega⟩) else 0 := by
  pointwise [tail, zero_at]

theorem down_at (A : FVec Ideal S1024x64 .f32) (B : FVec Ideal S1024x64 .f32) (C : FVec Ideal S1024x128 .f32) (D : FVec Ideal S1024x32 .f32) (k : Fin 1024) :
    (∀ j : Fin 64, down A B C D (ix3 0 k ⟨j, by omega⟩) = A (ix2 k j)) ∧ (∀ j : Fin 64, down A B C D (ix3 1 k ⟨j, by omega⟩) = B (ix2 k j))
      ∧ (∀ j : Fin 128, down A B C D (ix3 2 k j) = C (ix2 k j)) ∧ (∀ j : Fin 32, down A B C D (ix3 3 k ⟨j, by omega⟩) = D (ix2 k j)) := by
  refine ⟨?_, ?_, ?_, ?_⟩ <;> intro j <;> pointwise [down]

theorem up_at (A : FVec Ideal S64x512 .f32) (B : FVec Ideal S64x512 .f32) (C : FVec Ideal S128x512 .f32) (D : FVec Ideal S32x512 .f32) (l : Fin 512) :
    (∀ j : Fin 64, up A B C D (ix3 0 ⟨j, by omega⟩ l) = A (ix2 j l)) ∧ (∀ j : Fin 64, up A B C D (ix3 1 ⟨j, by omega⟩ l) = B (ix2 j l))
      ∧ (∀ j : Fin 128, up A B C D (ix3 2 j l) = C (ix2 j l)) ∧ (∀ j : Fin 32, up A B C D (ix3 3 ⟨j, by omega⟩ l) = D (ix2 j l)) := by
  refine ⟨?_, ?_, ?_, ?_⟩ <;> intro j <;> pointwise [up]

theorem up_zero (A : FVec Ideal S64x512 .f32) (B : FVec Ideal S64x512 .f32) (C : FVec Ideal S128x512 .f32) (D : FVec Ideal S32x512 .f32) (l : Fin 512) :
    (∀ j : Fin 128, 64 ≤ j.val → up A B C D (ix3 0 j l) = 0) ∧ (∀ j : Fin 128, 64 ≤ j.val → up A B C D (ix3 1 j l) = 0)
      ∧ (∀ j : Fin 128, 32 ≤ j.val → up A B C D (ix3 3 j l) = 0) := by
  refine ⟨?_, ?_, ?_⟩ <;> intro j hj <;> pointwise [up, zero_at] <;> exact dif_neg (by omega)

/-- The four branches over the stacked weights are the branches over the weights themselves. -/
theorem branch_stacked (A1 : FVec Ideal S1024x64 .f32) (B1 : FVec Ideal S1024x64 .f32) (C1 : FVec Ideal S1024x128 .f32) (D1 : FVec Ideal S1024x32 .f32)
    (A2 : FVec Ideal S64x512 .f32) (B2 : FVec Ideal S64x512 .f32) (C2 : FVec Ideal S128x512 .f32) (D2 : FVec Ideal S32x512 .f32)
    (act : EReal → EReal) (h : Fin 1024 → EReal) (l : Fin 512) :
    branch act h (fun k (j : Fin 128) => down A1 B1 C1 D1 (ix3 0 k j)) (fun j (l : Fin 512) => up A2 B2 C2 D2 (ix3 0 j l)) l
        = branch act h (fun k (j : Fin 64) => A1 (ix2 k j)) (fun j (l : Fin 512) => A2 (ix2 j l)) l
      ∧ branch act h (fun k (j : Fin 128) => down A1 B1 C1 D1 (ix3 1 k j)) (fun j (l : Fin 512) => up A2 B2 C2 D2 (ix3 1 j l)) l
        = branch act h (fun k (j : Fin 64) => B1 (ix2 k j)) (fun j (l : Fin 512) => B2 (ix2 j l)) l
      ∧ branch act h (fun k (j : Fin 128) => down A1 B1 C1 D1 (ix3 2 k j)) (fun j (l : Fin 512) => up A2 B2 C2 D2 (ix3 2 j l)) l
        = branch act h (fun k (j : Fin 128) => C1 (ix2 k j)) (fun j (l : Fin 512) => C2 (ix2 j l)) l
      ∧ branch act h (fun k (j : Fin 128) => down A1 B1 C1 D1 (ix3 3 k j)) (fun j (l : Fin 512) => up A2 B2 C2 D2 (ix3 3 j l)) l
        = branch act h (fun k (j : Fin 32) => D1 (ix2 k j)) (fun j (l : Fin 512) => D2 (ix2 j l)) l := by
  refine ⟨?_, ?_, ?_, ?_⟩
  · refine (branch_pad (p := 64) (by decide) act h _ _ l (up_zero A2 B2 C2 D2 l).1).trans ?_
    congr 1
    · funext k j; exact (down_at A1 B1 C1 D1 k).1 j
    · funext j l; exact (up_at A2 B2 C2 D2 l).1 j
  · refine (branch_pad (p := 64) (by decide) act h _ _ l (up_zero A2 B2 C2 D2 l).2.1).trans ?_
    congr 1
    · funext k j; exact (down_at A1 B1 C1 D1 k).2.1 j
    · funext j l; exact (up_at A2 B2 C2 D2 l).2.1 j
  · congr 1
    · funext k j; exact (down_at A1 B1 C1 D1 k).2.2.1 j
    · funext j l; exact (up_at A2 B2 C2 D2 l).2.2.1 j
  · refine (branch_pad (p := 32) (by decide) act h _ _ l (up_zero A2 B2 C2 D2 l).2.2).trans ?_
    congr 1
    · funext k j; exact (down_at A1 B1 C1 D1 k).2.2.2 j
    · funext j l; exact (up_at A2 B2 C2 D2 l).2.2.2 j

end Cert.EvenInIdeal.Rows

end
-- ==== Proof.EvenInValue.lean ====
/-
  The entry of an even layer: the whole result arrays after the kernel's run, entry by entry.
-/
module

public import proofs.«01_k».proof.Proof.EvenIn
public import proofs.«01_k».proof.Proof.EvenInHost
public import proofs.«01_k».proof.Proof.Gen.EvenInIdeal.Value
public import Idealize.ShloMosaic.Lib.Pipeline.ValueKit
public import Idealize.ShloMosaic.Lib.Claim

@[expose] public section

set_option maxRecDepth 16384

noncomputable section

namespace Cert.EvenInIdeal.Rows

open Cert.EvenInIdeal Cert.EvenInIdeal.Gen Idealize.ShloMosaic Idealize.ShloMosaic.TcCoe Cert.Rows Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![64 * t.val - 1, 0] ∧ win0_2.index t = ![0, 0]
    ∧ win0_3.index t = ![0, 0] ∧ win0_4.index t = ![0, 0] ∧ win0_5.index t = ![0, 0] ∧ win0_6.index t = ![0, 0, 0] ∧ win0_7.index t = ![0, 0, 0]
    ∧ win0_8.index t = ![0, 0] ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0] ∧ win0_15.index t = ![t.val, 0]
    ∧ win0_16.index t = ![t.val, 0] :=
  (by decide +kernel : ∀ t : Fin grid0.N, _)

theorem bound (t : Fin cfg0.N) : t.val < 64 := lt_of_lt_of_eq t.isLt N_0

/-- The normed rows of the input, and each one's difference to the row before. -/
abbrev H (c : Dev nD) : Fin 32768 → Fin 1024 → EReal :=
  normed cnt eps (fun r k => m ((c : Thread nD τ).loc main_arg0) (ix2 r k)) (fun k => m ((c : Thread nD τ).loc main_arg1) (ix1 k))
abbrev D (c : Dev nD) : Fin 32768 → Fin 1024 → EReal :=
  step cnt eps (fun r k => m ((c : Thread nD τ).loc main_arg0) (ix2 r k)) (fun k => m ((c : Thread nD τ).loc main_arg1) (ix1 k))

/-- Row `r` of the block of grid point `t`. -/
abbrev at_ (t : Fin cfg0.N) (r : Fin 512) : Fin 32768 := ⟨t.val * 512 + r, by have := bound t; omega⟩

theorem read0 (c : Dev nD) (t : Fin cfg0.N) (r : Fin 512) (k : Fin 1024) :
    (iblk m c 0 t : FVec Ideal S512x1024 .f32) (ix2 r k) = m ((c : Thread nD τ).loc main_arg0) (ix2 (at_ t r) k) := by
  have ht := bound t
  blk_point [iblk, V, idx t]

/-- The last of the eight rows above the block, when there is one. -/
theorem read1 (c : Dev nD) (t : Fin cfg0.N) (ht0 : t.val ≠ 0) (k : Fin 1024) :
    (iblk m c 1 t : FVec Ideal S8x1024 .f32) (ix2 7 k) = m ((c : Thread nD τ).loc main_arg0) (ix2 ⟨t.val * 512 - 1, by have := bound t; omega⟩ k) := by
  have ht := bound t
  blk_point [iblk, V, idx t]

theorem read2 (c : Dev nD) (t : Fin cfg0.N) (k : Fin 1024) :
    (iblk m c 2 t : FVec Ideal S1x1024 .f32) (ix2 0 k) = m ((c : Thread nD τ).loc main_arg1) (ix1 k) := by
  have ht := bound t
  refine Eq.trans (b := (V m c main_v26 : FVec Ideal S1x1024 .f32) (ix2 0 k)) ?_ ?_
  · refine congrArg (V m c main_v26) ?_
    funext a
    refine Fin.ext ?_
    blk_simp [idx t]
    match a with
    | 0 => rfl
    | 1 => simp
  · rw [V_gain]
    pointwise

theorem read3 (c : Dev nD) (t : Fin cfg0.N) (k : Fin 1024) (l : Fin 3584) :
    (iblk m c 3 t : FVec Ideal S1024x3584 .bf16) (ix2 k l) = m ((c : Thread nD τ).loc main_arg2) (ix2 k ⟨l, by omega⟩) := by
  have ht := bound t
  refine Eq.trans (b := (V m c main_v28 : FVec Ideal S1024x3584 .bf16) (ix2 k l)) ?_ ?_
  · refine congrArg (V m c main_v28) ?_
    funext a
    refine Fin.ext ?_
    blk_simp [idx t]
    match a with
    | 0 => simp
    | 1 => simp
  · rw [V_front]
    exact front_at _ k l

/-- The test for the first block of a sequence. -/
theorem first_block : ∀ t : Fin cfg0.N, Scalar.cmpi .eq (Scalar.select (Scalar.andi
      (Scalar.xori (Scalar.cmpi .slt (Scalar.remsi (BitVec.ofNat 32 (grid0.coords t 0).val) (Scalar.select (Scalar.cmpi .eq 16#32 0#32) 1#32 16#32)) 0#32)
        (Scalar.cmpi .slt (Scalar.select (Scalar.cmpi .eq 16#32 0#32) 1#32 16#32) 0#32))
      (Scalar.cmpi .ne (Scalar.remsi (BitVec.ofNat 32 (grid0.coords t 0).val) (Scalar.select (Scalar.cmpi .eq 16#32 0#32) 1#32 16#32)) 0#32))
      (Scalar.addi (Scalar.remsi (BitVec.ofNat 32 (grid0.coords t 0).val) (Scalar.select (Scalar.cmpi .eq 16#32 0#32) 1#32 16#32))
        (Scalar.select (Scalar.cmpi .eq 16#32 0#32) 1#32 16#32))
      (Scalar.remsi (BitVec.ofNat 32 (grid0.coords t 0).val) (Scalar.select (Scalar.cmpi .eq 16#32 0#32) 1#32 16#32))) 0#32
    = if t.val % 16 = 0 then 1#1 else 0#1 :=
  (by decide +kernel : ∀ t : Fin grid0.N, _)

theorem read4 (c : Dev nD) (t : Fin cfg0.N) (k : Fin 1024) (l : Fin 128) :
    (iblk m c 4 t : FVec Ideal S1024x128 .bf16) (ix2 k l) = tail (m ((c : Thread nD τ).loc main_arg2)) (ix2 k l) := by
  rw [← V_tail]
  refine congrArg (V m c main_v31) ?_
  funext a
  refine Fin.ext ?_
  blk_simp [idx t]
  match a with
  | 0 => simp
  | 1 => simp

/-- The stacked operands come whole to every grid point. -/
theorem whole5 (c : Dev nD) (t : Fin cfg0.N) (q : Fin 4) (k : Fin 1024) : (iblk m c 5 t : FVec Ideal S4x1024 .f32) (ix2 q k)
    = shares (m ((c : Thread nD τ).loc main_arg3)) (m ((c : Thread nD τ).loc main_arg12)) (ix2 q k) := by
  rw [← V_shares]
  refine congrArg (V m c main_v36) ?_
  funext a
  refine Fin.ext ?_
  blk_simp [idx t]
  match a with
  | 0 => simp
  | 1 => simp

theorem whole6 (c : Dev nD) (t : Fin cfg0.N) (q : Fin 4) (k : Fin 1024) (j : Fin 128) : (iblk m c 6 t : FVec Ideal S4x1024x128 .bf16) (ix3 q k j)
    = down (m ((c : Thread nD τ).loc main_arg5)) (m ((c : Thread nD τ).loc main_arg8)) (m ((c : Thread nD τ).loc main_arg10))
        (m ((c : Thread nD τ).loc main_arg14)) (ix3 q k j) := by
  rw [← V_down]
  refine congrArg (V m c main_v15) ?_
  funext a
  refine Fin.ext ?_
  blk_simp [idx t]
  match a with
  | 0 => simp
  | 1 => simp
  | 2 => simp

theorem whole7 (c : Dev nD) (t : Fin cfg0.N) (q : Fin 4) (j : Fin 128) (l : Fin 512) : (iblk m c 7 t : FVec Ideal S4x128x512 .bf16) (ix3 q j l)
    = up (m ((c : Thread nD τ).loc main_arg6)) (m ((c : Thread nD τ).loc main_arg9)) (m ((c : Thread nD τ).loc main_arg11))
        (m ((c : Thread nD τ).loc main_arg15)) (ix3 q j l) := by
  rw [← V_up]
  refine congrArg (V m c main_v25) ?_
  funext a
  refine Fin.ext ?_
  blk_simp [idx t]
  match a with
  | 0 => simp
  | 1 => simp
  | 2 => simp

theorem whole8 (c : Dev nD) (t : Fin cfg0.N) (q : Fin 3) (l : Fin 512) : (iblk m c 8 t : FVec Ideal S3x512 .f32) (ix2 q l)
    = biases (m ((c : Thread nD τ).loc main_arg4)) (m ((c : Thread nD τ).loc main_arg7)) (m ((c : Thread nD τ).loc main_arg13)) (ix2 q l) := by
  rw [← V_biases]
  refine congrArg (V m c main_v40) ?_
  funext a
  refine Fin.ext ?_
  blk_simp [idx t]
  match a with
  | 0 => simp
  | 1 => simp

/-- The normed block, its row above, and the differences, as the body of grid point `t` makes them. -/
abbrev hb (c : Dev nD) (t : Fin cfg0.N) : FVec Ideal S512x1024 .f32 :=
  k0_pay22 (grid0.coords t) (iblk m c 0 t) (iblk m c 1 t) (iblk m c 2 t) (iblk m c 3 t) (iblk m c 4 t) (iblk m c 5 t) (iblk m c 6 t) (iblk m c 7 t) (iblk m c 8 t)
abbrev pb (c : Dev nD) (t : Fin cfg0.N) : FVec Ideal S1x1024 .f32 :=
  k0_pay23 (grid0.coords t) (iblk m c 0 t) (iblk m c 1 t) (iblk m c 2 t) (iblk m c 3 t) (iblk m c 4 t) (iblk m c 5 t) (iblk m c 6 t) (iblk m c 7 t) (iblk m c 8 t)
abbrev db (c : Dev nD) (t : Fin cfg0.N) : FVec Ideal S512x1024 .f32 :=
  k0_pay24 (grid0.coords t) (iblk m c 0 t) (iblk m c 1 t) (iblk m c 2 t) (iblk m c 3 t) (iblk m c 4 t) (iblk m c 5 t) (iblk m c 6 t) (iblk m c 7 t) (iblk m c 8 t)

theorem hb_at (c : Dev nD) (t : Fin cfg0.N) (r : Fin 512) (k : Fin 1024) : hb m c t (ix2 r k) = H m c (at_ t r) k := by
  unfold hb k0_pay22
  refine (pay2_at _ _ r k).trans ?_
  unfold H normed
  congr 1
  · funext k
    refine Eq.trans ?_ (read0 m c t r k)
    pointwise
  · funext k
    refine Eq.trans ?_ (read2 m c t k)
    pointwise

theorem pb_at (c : Dev nD) (t : Fin cfg0.N) (ht : t.val ≠ 0) (k : Fin 1024) :
    pb m c t (ix2 0 k) = H m c ⟨t.val * 512 - 1, by have := bound t; omega⟩ k := by
  unfold pb k0_pay23
  refine (pay3_at _ _ k).trans ?_
  unfold H normed
  congr 1
  · funext k
    refine Eq.trans ?_ (read1 m c t ht k)
    pointwise
  · funext k
    refine Eq.trans ?_ (read2 m c t k)
    pointwise

theorem db_at (c : Dev nD) (t : Fin cfg0.N) (r : Fin 512) (k : Fin 1024) : db m c t (ix2 r k) = D m c (at_ t r) k := by
  have hr := r.isLt
  have ht := bound t
  unfold db k0_pay24
  refine (pay4_at _ _ _ r k).trans ?_
  rw [first_block t]
  unfold D step
  refine congrArg₂ (· - ·) ?_ (hb_at m c t r k)
  by_cases hr0 : r.val = 0
  · rw [if_pos hr0]
    by_cases ht0 : t.val % 16 = 0
    · rw [if_pos ht0, if_pos rfl, if_pos (by simp only [at_]; omega)]
    · rw [if_neg ht0, if_neg (by decide), if_neg (by simp only [at_]; omega)]
      refine (pb_at m c t (by omega) k).trans ?_
      unfold H
      congr 2
      simp only [at_]
      omega
  · rw [if_neg hr0, if_neg (by simp only [at_]; omega)]
    refine (hb_at m c t ⟨r - 1, by omega⟩ k).trans ?_
    refine congrFun (congrArg (H m c) (Fin.ext ?_)) k
    dsimp only
    omega

end Cert.EvenInIdeal.Rows

end
-- ==== Proof.EvenInOut.lean ====
/-
  The entry of an even layer: each whole result array after the kernel's run, as a function of the arguments.
-/
module

public import proofs.«01_k».proof.Proof.EvenInValue

@[expose] public section

set_option maxRecDepth 16384

noncomputable section

namespace Cert.EvenInIdeal.Rows

open Cert.EvenInIdeal Cert.EvenInIdeal.Gen Idealize.ShloMosaic Idealize.ShloMosaic.TcCoe Cert.Rows Idealize.SL.Sem
open Idealize.ShloMosaic.Pipeline (Dat)

variable (m : (ℓ : Loc nD τ sig) → Buf (Elt Ideal) ℓ)

/-- The first result: the first 1536 columns of the projection. -/
theorem final9 (c : Dev nD) : (dats m 0 c).arrAt 9 cfg0.N = fun j : S32768x1536.Idx =>
    dotRow (H m c (j 0)) (fun k (l : Fin 1536) => m ((c : Thread nD τ).loc main_arg2) (ix2 k ⟨l, by omega⟩)) (j 1) := by
  refine (dats m 0 c).arrAt_eq_of_covers 9 _ (by decide +kernel) fun t _ y => ?_
  blk_simp
  rw [after0_9]; frame_out
  refine (congrArg _ (eq_ix2 (n0 := 512) (n1 := 1536) y)).trans ((pay6_at _ _ (y 0) (y 1)).trans ?_)
  refine congr (congrArg₂ dotRow ?_ ?_) ?_
  · funext k
    refine (hb_at m c t (y 0) k).trans (congrFun (congrArg (H m c) (Fin.ext ?_)) k)
    blk_simp [idx t]
  · funext k l
    refine Eq.trans ?_ (read3 m c t k ⟨l, by omega⟩)
    pointwise
  · refine Fin.ext ?_
    blk_simp [idx t]

/-- The second: the next 1536. -/
theorem final10 (c : Dev nD) : (dats m 0 c).arrAt 10 cfg0.N = fun j : S32768x1536.Idx =>
    dotRow (H m c (j 0)) (fun k (l : Fin 1536) => m ((c : Thread nD τ).loc main_arg2) (ix2 k ⟨1536 + l, by omega⟩)) (j 1) := by
  refine (dats m 0 c).arrAt_eq_of_covers 10 _ (by decide +kernel) fun t _ y => ?_
  blk_simp
  rw [after0_10]; frame_out
  refine (congrArg _ (eq_ix2 (n0 := 512) (n1 := 1536) y)).trans ((pay7_at _ _ (y 0) (y 1)).trans ?_)
  refine congr (congrArg₂ dotRow ?_ ?_) ?_
  · funext k
    refine (hb_at m c t (y 0) k).trans (congrFun (congrArg (H m c) (Fin.ext ?_)) k)
    blk_simp [idx t]
  · funext k l
    refine Eq.trans ?_ (read3 m c t k ⟨1536 + l, by omega⟩)
    pointwise
  · refine Fin.ext ?_
    blk_simp [idx t]

/-- The third: the next 512. -/
theorem final11 (c : Dev nD) : (dats m 0 c).arrAt 11 cfg0.N = fun j : S32768x512.Idx =>
    dotRow (H m c (j 0)) (fun k (l : Fin 512) => m ((c : Thread nD τ).loc main_arg2) (ix2 k ⟨3072 + l, by omega⟩)) (j 1) := by
  refine (dats m 0 c).arrAt_eq_of_covers 11 _ (by decide +kernel) fun t _ y => ?_
  blk_simp
  rw [after0_11]; frame_out
  refine (congrArg _ (eq_ix2 (n0 := 512) (n1 := 512) y)).trans ((pay8_at _ _ (y 0) (y 1)).trans ?_)
  refine congr (congrArg₂ dotRow ?_ ?_) ?_
  · funext k
    refine (hb_at m c t (y 0) k).trans (congrFun (congrArg (H m c) (Fin.ext ?_)) k)
    blk_simp [idx t]
  · funext k l
    refine Eq.trans ?_ (read3 m c t k ⟨3072 + l, by omega⟩)
    pointwise
  · refine Fin.ext ?_
    blk_simp [idx t]

/-- The fourth: the last eight, with zeros up to 128 columns. -/
theorem final12 (c : Dev nD) : (dats m 0 c).arrAt 12 cfg0.N = fun j : S32768x128.Idx =>
    dotRow (H m c (j 0)) (fun k (l : Fin 128) => if h : l.val < 8 then m ((c : Thread nD τ).loc main_arg2) (ix2 k ⟨3584 + l, by omega⟩) else 0) (j 1) := by
  refine (dats m 0 c).arrAt_eq_of_covers 12 _ (by decide +kernel) fun t _ y => ?_
  blk_simp
  rw [after0_12]; frame_out
  refine (congrArg _ (eq_ix2 (n0 := 512) (n1 := 128) y)).trans ((pay9_at _ _ (y 0) (y 1)).trans ?_)
  refine congr (congrArg₂ dotRow ?_ ?_) ?_
  · funext k
    refine (hb_at m c t (y 0) k).trans (congrFun (congrArg (H m c) (Fin.ext ?_)) k)
    blk_simp [idx t]
  · funext k l
    exact (read4 m c t k l).trans (tail_at _ k l)
  · refine Fin.ext ?_
    blk_simp [idx t]

/-- A mixed row and a branch depend only on what is read of their operands. -/
theorem branch_congr {act : EReal → EReal} {h h' d d' mu mu' : Fin 1024 → EReal} {w1 w1' : Fin 1024 → Fin 128 → EReal} {w2 w2' : Fin 128 → Fin 512 → EReal} {l l' : Fin 512}
    (hh : ∀ k, h k = h' k) (hd : ∀ k, d k = d' k) (hm : ∀ k, mu k = mu' k) (h1 : ∀ k j, w1 k j = w1' k j) (h2 : ∀ j l, w2 j l = w2' j l) (hl : l = l') :
    branch act (mixed h d mu) w1 w2 l = branch act (mixed h' d' mu') w1' w2' l' := by
  obtain rfl := funext hh
  obtain rfl := funext hd
  obtain rfl := funext hm
  obtain rfl := funext fun k => funext (h1 k)
  obtain rfl := funext fun k => funext (h2 k)
  rw [hl]

/-- The decays' bias at core `c`. -/
abbrev bias0 (c : Dev nD) (l : Fin 512) : EReal := m ((c : Thread nD τ).loc main_arg4) (ix1 l)
/-- The rates' bias. -/
abbrev bias1 (c : Dev nD) (l : Fin 512) : EReal := m ((c : Thread nD τ).loc main_arg7) (ix1 l)
/-- The value shares' bias. -/
abbrev bias2 (c : Dev nD) (l : Fin 512) : EReal := m ((c : Thread nD τ).loc main_arg13) (ix1 l)

/-- The four weights of the branches, stacked, at core `c`. -/
abbrev downs (c : Dev nD) : FVec Ideal S4x1024x128 .bf16 :=
  down (m ((c : Thread nD τ).loc main_arg5)) (m ((c : Thread nD τ).loc main_arg8)) (m ((c : Thread nD τ).loc main_arg10)) (m ((c : Thread nD τ).loc main_arg14))
abbrev ups (c : Dev nD) : FVec Ideal S4x128x512 .bf16 :=
  up (m ((c : Thread nD τ).loc main_arg6)) (m ((c : Thread nD τ).loc main_arg9)) (m ((c : Thread nD τ).loc main_arg11)) (m ((c : Thread nD τ).loc main_arg15))

/-- The branches over the weights at core `c`. -/
abbrev stacked (c : Dev nD) := branch_stacked (m ((c : Thread nD τ).loc main_arg5)) (m ((c : Thread nD τ).loc main_arg8)) (m ((c : Thread nD τ).loc main_arg10))
  (m ((c : Thread nD τ).loc main_arg14)) (m ((c : Thread nD τ).loc main_arg6)) (m ((c : Thread nD τ).loc main_arg9)) (m ((c : Thread nD τ).loc main_arg11))
  (m ((c : Thread nD τ).loc main_arg15))

/-- Branch `q` of row `r` of the block of grid point `t`, its operands read one slice of the stacked ones each, is branch `q` of row `R` of the array. -/
theorem branch_block (c : Dev nD) (t : Fin cfg0.N) (q : Fin 4) {act : EReal → EReal} {r : Fin 512} {R : Fin 32768} {l l' : Fin 512}
    {mu : FVec Ideal S1x1024 .f32} {w1 : FVec Ideal S1x1024x128 .bf16} {w2 : FVec Ideal S1x128x512 .bf16} {mu' : Fin 1024 → EReal}
    (hm : ∀ k, mu (ix2 0 k) = (iblk m c 5 t : FVec Ideal S4x1024 .f32) (ix2 q k))
    (h1 : ∀ k j, w1 (ix3 0 k j) = (iblk m c 6 t : FVec Ideal S4x1024x128 .bf16) (ix3 q k j))
    (h2 : ∀ j l, w2 (ix3 0 j l) = (iblk m c 7 t : FVec Ideal S4x128x512 .bf16) (ix3 q j l))
    (hmu : ∀ k, shares (m ((c : Thread nD τ).loc main_arg3)) (m ((c : Thread nD τ).loc main_arg12)) (ix2 q k) = mu' k)
    (hR : t.val * 512 + r.val = R.val) (hl : l.val = l'.val) :
    branch act (mixed (fun k => hb m c t (ix2 r k)) (fun k => db m c t (ix2 r k)) (fun k => mu (ix2 0 k)))
        (fun k (j : Fin 128) => w1 (ix3 0 k j)) (fun (j : Fin 128) l => w2 (ix3 0 j l)) l
      = branch act (mixed (H m c R) (D m c R) mu') (fun k (j : Fin 128) => downs m c (ix3 q k j)) (fun (j : Fin 128) (l : Fin 512) => ups m c (ix3 q j l)) l' := by
  obtain rfl : at_ t r = R := Fin.ext hR
  obtain rfl := Fin.ext hl
  exact branch_congr (fun k => hb_at m c t r k) (fun k => db_at m c t r k) (fun k => (hm k).trans ((whole5 m c t q k).trans (hmu k)))
    (fun k j => (h1 k j).trans (whole6 m c t q k j)) (fun j l => (h2 j l).trans (whole7 m c t q j l)) rfl

/-- The fifth: the decays. -/
theorem final13 (c : Dev nD) : (dats m 0 c).arrAt 13 cfg0.N = fun j : S32768x512.Idx =>
    decay half (bias0 m c (j 1) + branch Ideal.tanh (mixed (H m c (j 0)) (D m c (j 0)) (fun k => m ((c : Thread nD τ).loc main_arg3) (ix2 0 k)))
      (fun k (i : Fin 64) => m ((c : Thread nD τ).loc main_arg5) (ix2 k i)) (fun (i : Fin 64) l => m ((c : Thread nD τ).loc main_arg6) (ix2 i l)) (j 1)) := by
  refine (dats m 0 c).arrAt_eq_of_covers 13 _ (by decide +kernel) fun t _ y => ?_
  blk_simp
  rw [after0_13]; frame_out
  refine (congrArg _ (eq_ix2 (n0 := 512) (n1 := 512) y)).trans ((lw_at _ _ _ _ _ _ _ (y 0) (y 1)).trans ?_)
  refine congrArg (decay half) (congrArg₂ (· + ·) ?_ (Eq.trans ?_ ((stacked m c _ _ _).1)))
  · refine Eq.trans ?_ ((whole8 m c t 0 (y 1)).trans (((biases_at _ _ _ _).1).trans ?_))
    · pointwise
    · refine congrArg (fun l => m ((c : Thread nD τ).loc main_arg4) (ix1 l)) (Fin.ext ?_)
      blk_simp [idx t]
  · refine branch_block m c t 0 (fun k => ?_) (fun k i => ?_) (fun i l => ?_) (fun k => (shares_at _ _ k).1) ?_ ?_
    iterate 3 pointwise
    all_goals blk_simp [idx t]

/-- The sixth: the rates. -/
theorem final14 (c : Dev nD) : (dats m 0 c).arrAt 14 cfg0.N = fun j : S32768x512.Idx =>
    sigm (bias1 m c (j 1) + branch (fun z => z) (mixed (H m c (j 0)) (D m c (j 0)) (fun k => m ((c : Thread nD τ).loc main_arg3) (ix2 1 k)))
      (fun k (i : Fin 64) => m ((c : Thread nD τ).loc main_arg8) (ix2 k i)) (fun (i : Fin 64) l => m ((c : Thread nD τ).loc main_arg9) (ix2 i l)) (j 1)) := by
  refine (dats m 0 c).arrAt_eq_of_covers 14 _ (by decide +kernel) fun t _ y => ?_
  blk_simp
  rw [after0_14]; frame_out
  refine (congrArg _ (eq_ix2 (n0 := 512) (n1 := 512) y)).trans ((a_at _ _ _ _ _ _ (y 0) (y 1)).trans ?_)
  refine congrArg (sigm) (congrArg₂ (· + ·) ?_ (Eq.trans ?_ ((stacked m c _ _ _).2.1)))
  · refine Eq.trans ?_ ((whole8 m c t 1 (y 1)).trans (((biases_at _ _ _ _).2.1).trans ?_))
    · pointwise
    · refine congrArg (fun l => m ((c : Thread nD τ).loc main_arg7) (ix1 l)) (Fin.ext ?_)
      blk_simp [idx t]
  · refine branch_block m c t 1 (fun k => ?_) (fun k i => ?_) (fun i l => ?_) (fun k => (shares_at _ _ k).2.1) ?_ ?_
    iterate 3 pointwise
    all_goals blk_simp [idx t]

/-- The seventh: the gates. -/
theorem final15 (c : Dev nD) : (dats m 0 c).arrAt 15 cfg0.N = fun j : S32768x512.Idx =>
    branch sigm (mixed (H m c (j 0)) (D m c (j 0)) (fun k => m ((c : Thread nD τ).loc main_arg3) (ix2 2 k)))
      (fun k (i : Fin 128) => m ((c : Thread nD τ).loc main_arg10) (ix2 k i)) (fun (i : Fin 128) l => m ((c : Thread nD τ).loc main_arg11) (ix2 i l)) (j 1) := by
  refine (dats m 0 c).arrAt_eq_of_covers 15 _ (by decide +kernel) fun t _ y => ?_
  blk_simp
  rw [after0_15]; frame_out
  refine (congrArg _ (eq_ix2 (n0 := 512) (n1 := 512) y)).trans ((gg_at _ _ _ _ _ (y 0) (y 1)).trans ?_)
  refine Eq.trans ?_ ((stacked m c _ _ _).2.2.1)
  · refine branch_block m c t 2 (fun k => ?_) (fun k i => ?_) (fun i l => ?_) (fun k => (shares_at _ _ k).2.2.1) ?_ ?_
    iterate 3 pointwise
    all_goals blk_simp [idx t]

/-- The eighth: the shares of the first layer's values. -/
theorem final16 (c : Dev nD) : (dats m 0 c).arrAt 16 cfg0.N = fun j : S32768x512.Idx =>
    sigm (bias2 m c (j 1) + branch (fun z => z) (mixed (H m c (j 0)) (D m c (j 0)) (fun k => m ((c : Thread nD τ).loc main_arg12) (ix1 k)))
      (fun k (i : Fin 32) => m ((c : Thread nD τ).loc main_arg14) (ix2 k i)) (fun (i : Fin 32) l => m ((c : Thread nD τ).loc main_arg15) (ix2 i l)) (j 1)) := by
  refine (dats m 0 c).arrAt_eq_of_covers 16 _ (by decide +kernel) fun t _ y => ?_
  blk_simp
  rw [after0_16]; frame_out
  refine (congrArg _ (eq_ix2 (n0 := 512) (n1 := 512) y)).trans ((vg_at _ _ _ _ _ _ (y 0) (y 1)).trans ?_)
  refine congrArg (sigm) (congrArg₂ (· + ·) ?_ (Eq.trans ?_ ((stacked m c _ _ _).2.2.2)))
  · refine Eq.trans ?_ ((whole8 m c t 2 (y 1)).trans (((biases_at _ _ _ _).2.2).trans ?_))
    · pointwise
    · refine congrArg (fun l => m ((c : Thread nD τ).loc main_arg13) (ix1 l)) (Fin.ext ?_)
      blk_simp [idx t]
  · refine branch_block m c t 3 (fun k => ?_) (fun k i => ?_) (fun i l => ?_) (fun k => (shares_at _ _ k).2.2.2) ?_ ?_
    iterate 3 pointwise
    all_goals blk_simp [idx t]

end Cert.EvenInIdeal.Rows

end
-- ==== Proof.EvenInRef.lean ====
/-
  The reference's entry of an even layer, entry by entry: each of its eight results at row `r` of the 32768 is a row
  function of rows `r` and `r - 1` of the input; the first row of a sequence has a zero row before it.
-/
module

public import proofs.«01_k».proof.Proof.EvenRows
public import proofs.«01_k».proof.Proof.Gen.EvenInRefIdeal.Read

@[expose] public section

set_option maxRecDepth 16384

noncomputable section

namespace Cert.EvenInRefIdeal.Rows

open Cert.EvenInRefIdeal Cert.EvenInRefIdeal.Read Idealize.ShloMosaic Cert.Rows

/-- The number of columns, the norm's epsilon and the half, as both programs spell them. -/
abbrev cnt : EReal := Ideal.ofBits .f32 0x44800000#32
abbrev eps : EReal := Ideal.ofBits .f32 0x358637BD#32
abbrev half : EReal := Ideal.ofBits .f32 0x3F000000#32

variable (X : FVec Ideal S32768x1024 .f32) (G : FVec Ideal S1024 .f32) (W : FVec Ideal S1024x3592 .f32) (MU : FVec Ideal S3x1024 .f32)
    (B0 : FVec Ideal S512 .f32) (W1 : FVec Ideal S1024x64 .f32) (W2 : FVec Ideal S64x512 .f32)
    (B1 : FVec Ideal S512 .f32) (A1 : FVec Ideal S1024x64 .f32) (A2 : FVec Ideal S64x512 .f32)
    (G1 : FVec Ideal S1024x128 .f32) (G2 : FVec Ideal S128x512 .f32) (MV : FVec Ideal S1024 .f32)
    (B2 : FVec Ideal S512 .f32) (V1 : FVec Ideal S1024x32 .f32) (V2 : FVec Ideal S32x512 .f32)

theorem v12_at (r : Fin 32768) (l : Fin 1024) : val_main_v12 (F := Ideal) X G (ix2 r l)
    = rms cnt eps (fun k : Fin 1024 => X (ix2 r k)) (fun k => G (ix1 k)) l := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, rms]

theorem v13_at (b : Fin 4) (s : Fin 8192) (l : Fin 1024) : val_main_v13 (F := Ideal) X G (ix3 b s l)
    = val_main_v12 (F := Ideal) X G (ix2 ⟨b * 8192 + s, by omega⟩ l) := by
  pointwise [val_main_v13]

theorem v18_at (r : Fin 32768) (l : Fin 1024) : val_main_v18 (F := Ideal) X G (ix2 r l)
    = val_main_v12 (F := Ideal) X G (ix2 r l) := by
  pointwise [val_main_v18, val_main_v13]

/-- The rows moved down by one inside each sequence, a zero row first. -/
theorem v15_at (b : Fin 4) (s : Fin 8192) (l : Fin 1024) : val_main_v15 (F := Ideal) X G (ix3 b s l)
    = if s.val = 0 then 0 else val_main_v12 (F := Ideal) X G (ix2 ⟨b * 8192 + (s - 1), by omega⟩ l) := by
  pointwise [val_main_v15, val_main_v14, val_main_call0_v0, val_main_c]
  by_cases hs : s.val = 0
  · rw [dif_neg (by omega), if_pos hs]
    pointwise
    exact word_zero
  · rw [dif_pos (by omega), if_neg hs]
    exact v13_at X G b ⟨s - 1, by omega⟩ l

/-- The normed row `r`, and the row before it less that row. -/
abbrev hrow : Fin 32768 → Fin 1024 → EReal := normed cnt eps (fun r k => X (ix2 r k)) (fun k => G (ix1 k))
abbrev drow : Fin 32768 → Fin 1024 → EReal := step cnt eps (fun r k => X (ix2 r k)) (fun k => G (ix1 k))

theorem h_at (r : Fin 32768) (l : Fin 1024) : val_main_v18 (F := Ideal) X G (ix2 r l) = hrow X G r l :=
  (v18_at X G r l).trans (v12_at X G r l)

theorem d_at (r : Fin 32768) (l : Fin 1024) : val_main_v17 (F := Ideal) X G (ix2 r l) = drow X G r l := by
  have hr : r.val / 8192 * 8192 + r.val % 8192 = r := by omega
  pointwise [val_main_v17, val_main_v16]
  rw [v15_at, v13_at, v12_at, v12_at]
  unfold drow step
  congr 1
  · by_cases h0 : r.val % 8192 = 0
    · rw [if_pos h0, if_pos h0]
    · rw [if_neg h0, if_neg h0]
      unfold normed
      congr 1
      funext k
      refine congrArg X (congrArg (ix2 · k) (Fin.ext ?_))
      dsimp only
      omega
  · unfold normed
    congr 1
    funext k
    exact congrArg X (congrArg (ix2 · k) (Fin.ext hr))

/-- Column `l` of the wide projection. -/
theorem v19_at (r : Fin 32768) (l : Fin 3592) : val_main_v19 (F := Ideal) X G W (ix2 r l) = dotRow (hrow X G r) (fun k l => W (ix2 k l)) l := by
  pointwise [val_main_v19, dotRow]
  simp only [h_at]

theorem v25_at (r : Fin 32768) (l : Fin 1024) : val_main_v25 (F := Ideal) X G MU (ix2 r l)
    = mixed (hrow X G r) (drow X G r) (fun k => MU (ix2 0 k)) l := by
  pointwise [val_main_v25, val_main_v24, val_main_v23, val_main_v22, val_main_v21, val_main_v20, mixed]
  rw [h_at, d_at]

theorem v31_at (r : Fin 32768) (l : Fin 1024) : val_main_v31 (F := Ideal) X G MU (ix2 r l)
    = mixed (hrow X G r) (drow X G r) (fun k => MU (ix2 1 k)) l := by
  pointwise [val_main_v31, val_main_v30, val_main_v29, val_main_v28, val_main_v27, val_main_v26, mixed]
  rw [h_at, d_at]

theorem v37_at (r : Fin 32768) (l : Fin 1024) : val_main_v37 (F := Ideal) X G MU (ix2 r l)
    = mixed (hrow X G r) (drow X G r) (fun k => MU (ix2 2 k)) l := by
  pointwise [val_main_v37, val_main_v36, val_main_v35, val_main_v34, val_main_v33, val_main_v32, mixed]
  rw [h_at, d_at]

theorem v41_at (r : Fin 32768) (l : Fin 1024) : val_main_v41 (F := Ideal) X G MV (ix2 r l)
    = mixed (hrow X G r) (drow X G r) (fun k => MV (ix1 k)) l := by
  pointwise [val_main_v41, val_main_v40, val_main_v39, val_main_v38, mixed]
  rw [h_at, d_at]

/-- The raw decay: the bias plus the branch through the hyperbolic tangent. -/
theorem v47_at (r : Fin 32768) (l : Fin 512) : val_main_v47 (F := Ideal) X G MU B0 W1 W2 (ix2 r l)
    = B0 (ix1 l) + branch Ideal.tanh (mixed (hrow X G r) (drow X G r) (fun k => MU (ix2 0 k))) (fun k j => W1 (ix2 k j)) (fun j l => W2 (ix2 j l)) l := by
  pointwise [val_main_v47, val_main_v46, val_main_v45, val_main_v44, val_main_v43, val_main_v42, branch, dotRow]
  simp only [v25_at]

/-- The decays. -/
theorem v54_at (r : Fin 32768) (l : Fin 512) : val_main_v54 (F := Ideal) X G MU B0 W1 W2 (ix2 r l)
    = decay half (B0 (ix1 l) + branch Ideal.tanh (mixed (hrow X G r) (drow X G r) (fun k => MU (ix2 0 k))) (fun k j => W1 (ix2 k j)) (fun j l => W2 (ix2 j l)) l) := by
  rw [← v47_at]
  pointwise [val_main_v54, val_main_v53, val_main_v52, val_main_v51, val_main_v50, val_main_v49, val_main_v48, val_main_cst_2,
    val_main_call1_v11, val_main_call1_v10, val_main_call1_v9, val_main_call1_v8, val_main_call1_v7, val_main_call1_v6, val_main_call1_v5,
    val_main_call1_v4, val_main_call1_v3, val_main_call1_v2, val_main_call1_v1, val_main_call1_v0, val_main_call1_cst]
  exact decay_guard _ _ _

theorem v65_at (r : Fin 32768) (l : Fin 512) : val_main_v65 (F := Ideal) X G MU B1 A1 A2 (ix2 r l)
    = sigm (B1 (ix1 l) + branch (fun z => z) (mixed (hrow X G r) (drow X G r) (fun k => MU (ix2 1 k))) (fun k j => A1 (ix2 k j)) (fun j l => A2 (ix2 j l)) l) := by
  pointwise [val_main_v65, val_main_v64, val_main_v63, val_main_v62, val_main_v61, val_main_v60, val_main_v59, val_main_v58, val_main_v57, val_main_v56,
    val_main_v55, val_main_cst_3, val_main_cst_4, branch, dotRow, sigm]
  simp only [v31_at]

theorem v73_at (r : Fin 32768) (l : Fin 512) : val_main_v73 (F := Ideal) X G MU G1 G2 (ix2 r l)
    = branch sigm (mixed (hrow X G r) (drow X G r) (fun k => MU (ix2 2 k))) (fun k j => G1 (ix2 k j)) (fun j l => G2 (ix2 j l)) l := by
  pointwise [val_main_v73, val_main_v72, val_main_v71, val_main_v70, val_main_v69, val_main_v68, val_main_v67, val_main_v66,
    val_main_cst_5, val_main_cst_6, branch, dotRow, sigm]
  simp only [v37_at]

theorem v84_at (r : Fin 32768) (l : Fin 512) : val_main_v84 (F := Ideal) X G MV B2 V1 V2 (ix2 r l)
    = sigm (B2 (ix1 l) + branch (fun z => z) (mixed (hrow X G r) (drow X G r) (fun k => MV (ix1 k))) (fun k j => V1 (ix2 k j)) (fun j l => V2 (ix2 j l)) l) := by
  pointwise [val_main_v84, val_main_v83, val_main_v82, val_main_v81, val_main_v80, val_main_v79, val_main_v78, val_main_v77, val_main_v76, val_main_v75,
    val_main_v74, val_main_cst_7, val_main_cst_8, branch, dotRow, sigm]
  simp only [v41_at]

/-- The first block of columns. -/
theorem v87_at (r : Fin 32768) (l : Fin 1536) : val_main_v87 (F := Ideal) X G W (ix2 r l)
    = dotRow (hrow X G r) (fun k (l : Fin 1536) => W (ix2 k ⟨l, by omega⟩)) l := by
  pointwise [val_main_v87]
  exact v19_at X G W r ⟨l, by omega⟩

/-- The second. -/
theorem v88_at (r : Fin 32768) (l : Fin 1536) : val_main_v88 (F := Ideal) X G W (ix2 r l)
    = dotRow (hrow X G r) (fun k (l : Fin 1536) => W (ix2 k ⟨1536 + l, by omega⟩)) l := by
  pointwise [val_main_v88]
  exact v19_at X G W r ⟨1536 + l, by omega⟩

/-- The third. -/
theorem v89_at (r : Fin 32768) (l : Fin 512) : val_main_v89 (F := Ideal) X G W (ix2 r l)
    = dotRow (hrow X G r) (fun k (l : Fin 512) => W (ix2 k ⟨3072 + l, by omega⟩)) l := by
  pointwise [val_main_v89]
  exact v19_at X G W r ⟨3072 + l, by omega⟩

/-- The last eight columns, with zeros up to 128. -/
theorem v86_at (r : Fin 32768) (l : Fin 128) : val_main_v86 (F := Ideal) X G W (ix2 r l)
    = dotRow (hrow X G r) (fun k (l : Fin 128) => if h : l.val < 8 then W (ix2 k ⟨3584 + l, by omega⟩) else 0) l := by
  pointwise [val_main_v86, val_main_v85, val_main_call2_v0, val_main_c_9]
  by_cases hl : l.val < 8
  · simp only [hl, dotRow, dif_pos]
    exact v19_at X G W r ⟨3584 + l, by omega⟩
  · simp only [hl, dotRow, dif_neg, not_false_eq_true, mul_zero, Finset.sum_const_zero]
    pointwise
    exact word_zero

end Cert.EvenInRefIdeal.Rows

end
-- ==== Proof.EvenInClaim.lean ====
/-
  The entry of an even layer: each of the kernel's eight results is the reference's, over the extended reals.
-/
module

public import proofs.«01_k».proof.Defs
public import proofs.«01_k».proof.Proof.EvenInOut
public import proofs.«01_k».proof.Proof.EvenInRef
public import Idealize.ShloMosaic.Lib.Claim

@[expose] public section

set_option maxRecDepth 16384

noncomputable section

namespace Cert.Proof

open Idealize.ShloMosaic Idealize.ShloMosaic.TcCoe Idealize.SL.Sem
open Cert.EvenInRefIdeal.Rows

/-- A run of the kernel ends with the eight arrays the pipeline computes, its arguments unchanged. -/
abbrev even_in_run (m : (ℓ : Loc Cert.EvenInIdeal.nD Cert.EvenInIdeal.τ Cert.EvenInIdeal.sig) → Buf (Elt Ideal) ℓ) (g : Dev Cert.EvenInIdeal.nD → PrngReg) :=
  θ_run_and (Cert.EvenInIdeal.Gen.run_main m g) (Cert.EvenInIdeal.Gen.unchanged m g)

set_option maxHeartbeats 1000000 in
theorem algebraic_even_in : Cert.algebraic_EvenInIdeal_EvenInRefIdeal := by
  intro m g m' g' _ hagree
  refine ⟨fun c => (Cert.EvenInIdeal.Gen.dats m 0 c).arrAt 9 Cert.EvenInIdeal.cfg0.N, fun c => (Cert.EvenInIdeal.Gen.dats m 0 c).arrAt 10 Cert.EvenInIdeal.cfg0.N, fun c => (Cert.EvenInIdeal.Gen.dats m 0 c).arrAt 11 Cert.EvenInIdeal.cfg0.N, fun c => (Cert.EvenInIdeal.Gen.dats m 0 c).arrAt 12 Cert.EvenInIdeal.cfg0.N, fun c => (Cert.EvenInIdeal.Gen.dats m 0 c).arrAt 13 Cert.EvenInIdeal.cfg0.N, fun c => (Cert.EvenInIdeal.Gen.dats m 0 c).arrAt 14 Cert.EvenInIdeal.cfg0.N, fun c => (Cert.EvenInIdeal.Gen.dats m 0 c).arrAt 15 Cert.EvenInIdeal.cfg0.N, fun c => (Cert.EvenInIdeal.Gen.dats m 0 c).arrAt 16 Cert.EvenInIdeal.cfg0.N,
    θ_run_mono (even_in_run m g) fun r hr c => ⟨(hr.1 c).1 9, (hr.1 c).1 10, (hr.1 c).1 11, (hr.1 c).1 12, (hr.1 c).1 13, (hr.1 c).1 14, (hr.1 c).1 15, (hr.1 c).1 16, hr.2 c⟩,
    θ_run_mono (Cert.EvenInRefIdeal.Value.run m' g') fun r hr c => ?_⟩
  obtain ⟨h9, h10, h11, h12, h13, h14, h15, h16, hargs⟩ := hr c
  have h := hagree c
  refine ⟨h9.trans ((Cert.EvenInRefIdeal.Read.val_main_v87_eq _ _ _).trans (Eq.trans ?_ (Cert.EvenInIdeal.Rows.final9 m c).symm)), h10.trans ((Cert.EvenInRefIdeal.Read.val_main_v88_eq _ _ _).trans (Eq.trans ?_ (Cert.EvenInIdeal.Rows.final10 m c).symm)), h11.trans ((Cert.EvenInRefIdeal.Read.val_main_v89_eq _ _ _).trans (Eq.trans ?_ (Cert.EvenInIdeal.Rows.final11 m c).symm)), h12.trans ((Cert.EvenInRefIdeal.Read.val_main_v86_eq _ _ _).trans (Eq.trans ?_ (Cert.EvenInIdeal.Rows.final12 m c).symm)), h13.trans ((Cert.EvenInRefIdeal.Read.val_main_v54_eq m' c).trans (Eq.trans ?_ (Cert.EvenInIdeal.Rows.final13 m c).symm)), h14.trans ((Cert.EvenInRefIdeal.Read.val_main_v65_eq _ _ _ _ _ _).trans (Eq.trans ?_ (Cert.EvenInIdeal.Rows.final14 m c).symm)), h15.trans ((Cert.EvenInRefIdeal.Read.val_main_v73_eq _ _ _ _ _).trans (Eq.trans ?_ (Cert.EvenInIdeal.Rows.final15 m c).symm)), h16.trans ((Cert.EvenInRefIdeal.Read.val_main_v84_eq _ _ _ _ _ _).trans (Eq.trans ?_ (Cert.EvenInIdeal.Rows.final16 m c).symm)), hargs⟩ <;> simp only [h] <;> funext j
  · exact (congrArg _ (eq_ix2 (n0 := 32768) (n1 := 1536) j)).trans (v87_at _ _ _ (j 0) (j 1))
  · exact (congrArg _ (eq_ix2 (n0 := 32768) (n1 := 1536) j)).trans (v88_at _ _ _ (j 0) (j 1))
  · exact (congrArg _ (eq_ix2 (n0 := 32768) (n1 := 512) j)).trans (v89_at _ _ _ (j 0) (j 1))
  · exact (congrArg _ (eq_ix2 (n0 := 32768) (n1 := 128) j)).trans (v86_at _ _ _ (j 0) (j 1))
  · exact (congrArg _ (eq_ix2 (n0 := 32768) (n1 := 512) j)).trans (v54_at _ _ _ _ _ _ (j 0) (j 1))
  · exact (congrArg _ (eq_ix2 (n0 := 32768) (n1 := 512) j)).trans (v65_at _ _ _ _ _ _ (j 0) (j 1))
  · exact (congrArg _ (eq_ix2 (n0 := 32768) (n1 := 512) j)).trans (v73_at _ _ _ _ _ (j 0) (j 1))
  · exact (congrArg _ (eq_ix2 (n0 := 32768) (n1 := 512) j)).trans (v84_at _ _ _ _ _ _ (j 0) (j 1))

end Cert.Proof

end
-- ==== Proof.EvenFirst.lean ====
/-
  The entry of the first even layer: what the kernel's body computes from its blocks, entry by entry. The body is the
  later even layers' without the branch of the value shares, so its row forms are the ones shown for theirs.
-/
module

public import proofs.«01_k».proof.Proof.EvenIn
public import proofs.«01_k».proof.Proof.Gen.EvenFirstIdeal.Skeleton

@[expose] public section

set_option maxRecDepth 16384

noncomputable section

namespace Cert.EvenFirstIdeal.Rows

open Cert.EvenFirstIdeal Cert.EvenFirstIdeal.Gen Idealize.ShloMosaic Idealize.ShloMosaic.TcCoe Cert.Rows
open Cert.EvenInIdeal.Rows (cnt eps half)

variable (x : FVec Ideal S512x1024 .f32) (xp : FVec Ideal S8x1024 .f32) (g : FVec Ideal S1x1024 .f32) (mu : FVec Ideal S1x1024 .f32)
  (h d : FVec Ideal S512x1024 .f32) (p : FVec Ideal S1x1024 .f32) (l1 : FVec Ideal S1x1024x128 .bf16) (l2 : FVec Ideal S1x128x512 .bf16)
  (b : FVec Ideal S1x512 .f32)

/-- The normed rows. -/
theorem pay3_at (r : Fin 512) (l : Fin 1024) : k0_pay3 (F := Ideal) g x (ix2 r l)
    = rms cnt eps (fun k : Fin 1024 => x (ix2 r k)) (fun k => g (ix2 0 k)) l :=
  Cert.EvenInIdeal.Rows.pay2_at x g r l

/-- The normed last row of the eight rows above. -/
theorem pay4_at (l : Fin 1024) : k0_pay4 (F := Ideal) g xp (ix2 0 l)
    = rms cnt eps (fun k : Fin 1024 => xp (ix2 7 k)) (fun k => g (ix2 0 k)) l :=
  Cert.EvenInIdeal.Rows.pay3_at xp g l

/-- The rows moved down by one, less the rows. -/
theorem pay5_at (w : BitVec 1) (r : Fin 512) (l : Fin 1024) : k0_pay5 (F := Ideal) h p w (ix2 r l)
    = (if r.val = 0 then (if w = 1#1 then 0 else p (ix2 0 l)) else h (ix2 ⟨r - 1, by omega⟩ l)) - h (ix2 r l) :=
  Cert.EvenInIdeal.Rows.pay4_at h p w r l

/-- The four blocks of the projection's columns. -/
theorem pay7_at (w : FVec Ideal S1024x1536 .bf16) (r : Fin 512) (l : Fin 1536) : k0_pay7 (F := Ideal) h w (ix2 r l)
    = dotRow (fun k : Fin 1024 => h (ix2 r k)) (fun k l => w (ix2 k l)) l :=
  Cert.EvenInIdeal.Rows.pay6_at h w r l

theorem pay8_at (w : FVec Ideal S1024x1536 .bf16) (r : Fin 512) (l : Fin 1536) : k0_pay8 (F := Ideal) h w (ix2 r l)
    = dotRow (fun k : Fin 1024 => h (ix2 r k)) (fun k l => w (ix2 k l)) l :=
  Cert.EvenInIdeal.Rows.pay7_at h w r l

theorem pay9_at (w : FVec Ideal S1024x512 .bf16) (r : Fin 512) (l : Fin 512) : k0_pay9 (F := Ideal) h w (ix2 r l)
    = dotRow (fun k : Fin 1024 => h (ix2 r k)) (fun k l => w (ix2 k l)) l :=
  Cert.EvenInIdeal.Rows.pay8_at h w r l

theorem pay10_at (w : FVec Ideal S1024x128 .bf16) (r : Fin 512) (l : Fin 128) : k0_pay10 (F := Ideal) h w (ix2 r l)
    = dotRow (fun k : Fin 1024 => h (ix2 r k)) (fun k l => w (ix2 k l)) l :=
  Cert.EvenInIdeal.Rows.pay9_at h w r l

/-- The decay. -/
theorem lw_at (w : BitVec 1) (r : Fin 512) (l : Fin 512) :
    k0_pay16 (F := Ideal) (k0_pay14 h (k0_pay11 h p w mu) l1 l2) b (ix2 r l)
    = decay half (b (ix2 0 l) + branch Ideal.tanh (mixed (fun k : Fin 1024 => h (ix2 r k)) (fun k => k0_pay5 (F := Ideal) h p w (ix2 r k)) (fun k => mu (ix2 0 k)))
        (fun k (j : Fin 128) => l1 (ix3 0 k j)) (fun (j : Fin 128) l => l2 (ix3 0 j l)) l) :=
  Cert.EvenInIdeal.Rows.lw_at mu h p l1 l2 b w r l

/-- The rate. -/
theorem a_at (r : Fin 512) (l : Fin 512) : k0_pay1 (F := Ideal) (k0_pay17 (k0_pay12 h d mu l1) l2 b) (ix2 r l)
    = sigm (b (ix2 0 l) + branch (fun z => z) (mixed (fun k : Fin 1024 => h (ix2 r k)) (fun k => d (ix2 r k)) (fun k => mu (ix2 0 k)))
        (fun k (j : Fin 128) => l1 (ix3 0 k j)) (fun (j : Fin 128) l => l2 (ix3 0 j l)) l) :=
  Cert.EvenInIdeal.Rows.a_at mu h d l1 l2 b r l

/-- The gate. -/
theorem gg_at (r : Fin 512) (l : Fin 512) : k0_pay15 (F := Ideal) (k0_pay13 h d mu l1) l2 (ix2 r l)
    = branch sigm (mixed (fun k : Fin 1024 => h (ix2 r k)) (fun k => d (ix2 r k)) (fun k => mu (ix2 0 k)))
        (fun k (j : Fin 128) => l1 (ix3 0 k j)) (fun (j : Fin 128) l => l2 (ix3 0 j l)) l :=
  Cert.EvenInIdeal.Rows.gg_at mu h d l1 l2 r l

end Cert.EvenFirstIdeal.Rows

end
-- ==== Proof.EvenFirstHost.lean ====
/-
  The entry of the first even layer: the operands the program lays out before the kernel runs (weights cut and padded,
  the shares, the branches and the biases stacked), as the kernel finds them.
-/
module

public import proofs.«01_k».proof.Proof.EvenInHost
public import proofs.«01_k».proof.Proof.Gen.EvenFirstIdeal.Frame

@[expose] public section

set_option maxRecDepth 16384

noncomputable section

namespace Cert.EvenFirstIdeal.Rows

open Cert.EvenFirstIdeal Cert.EvenFirstIdeal.Gen Idealize.ShloMosaic Idealize.ShloMosaic.TcCoe Cert.Rows
open Cert.EvenInIdeal.Rows (zero zero_at wide64 wide128 long64 long128 front tail)

variable (m : (ℓ : Loc nD τ sig) → Buf (Elt Ideal) ℓ)

/-- The three shares, one to a row. -/
def shares (M : FVec Ideal S3x1024 .f32) : FVec Ideal S3x1024 .f32 :=
  concatenate S3x1024 0
    [⟨S1x1024, broadcastInDim S1x1024 ![1] bcast_S1024_S1x1024_1 (shapeCast S1024 (extractStridedSlice S1x1024 ![0, 0] M slices_S3x1024_S1x1024_0_0) shapeCasts_S1x1024_S1024)⟩,
     ⟨S1x1024, broadcastInDim S1x1024 ![1] bcast_S1024_S1x1024_1 (shapeCast S1024 (extractStridedSlice S1x1024 ![1, 0] M slices_S3x1024_S1x1024_1_0) shapeCasts_S1x1024_S1024)⟩,
     ⟨S1x1024, broadcastInDim S1x1024 ![1] bcast_S1024_S1x1024_1 (shapeCast S1024 (extractStridedSlice S1x1024 ![2, 0] M slices_S3x1024_S1x1024_2_0) shapeCasts_S1x1024_S1024)⟩]
    concatenates_S1x1024_S1x1024_S1x1024_S3x1024_d0

/-- The three weights going down, stacked. -/
def down (A B : FVec Ideal S1024x64 .f32) (C : FVec Ideal S1024x128 .f32) : FVec Ideal S3x1024x128 .bf16 :=
  truncf .bf16 (concatenate S3x1024x128 0
    [⟨S1x1024x128, broadcastInDim S1x1024x128 ![1, 2] bcast_S1024x128_S1x1024x128_1_2 (wide64 A)⟩,
     ⟨S1x1024x128, broadcastInDim S1x1024x128 ![1, 2] bcast_S1024x128_S1x1024x128_1_2 (wide64 B)⟩,
     ⟨S1x1024x128, broadcastInDim S1x1024x128 ![1, 2] bcast_S1024x128_S1x1024x128_1_2 (wide128 C)⟩]
    concatenates_S1x1024x128_S1x1024x128_S1x1024x128_S3x1024x128_d0) bitsLt_bf16_f32

/-- The three weights going up, stacked. -/
def up (A B : FVec Ideal S64x512 .f32) (C : FVec Ideal S128x512 .f32) : FVec Ideal S3x128x512 .bf16 :=
  truncf .bf16 (concatenate S3x128x512 0
    [⟨S1x128x512, broadcastInDim S1x128x512 ![1, 2] bcast_S128x512_S1x128x512_1_2 (long64 A)⟩,
     ⟨S1x128x512, broadcastInDim S1x128x512 ![1, 2] bcast_S128x512_S1x128x512_1_2 (long64 B)⟩,
     ⟨S1x128x512, broadcastInDim S1x128x512 ![1, 2] bcast_S128x512_S1x128x512_1_2 (long128 C)⟩]
    concatenates_S1x128x512_S1x128x512_S1x128x512_S3x128x512_d0) bitsLt_bf16_f32

/-- The two biases, one to a row. -/
def biases (A B : FVec Ideal S512 .f32) : FVec Ideal S2x512 .f32 :=
  concatenate S2x512 0
    [⟨S1x512, broadcastInDim S1x512 ![1] bcast_S512_S1x512_1 A⟩, ⟨S1x512, broadcastInDim S1x512 ![1] bcast_S512_S1x512_1 B⟩]
    concatenates_S1x512_S1x512_S2x512_d0

theorem V_shares (c : Dev nD) : V m c main_v31 = shares (m ((c : Thread nD τ).loc main_arg3)) := by
  dsimp only [V]
  after_reads_simp
  rfl

theorem V_down (c : Dev nD) : V m c main_v7 = down (m ((c : Thread nD τ).loc main_arg5)) (m ((c : Thread nD τ).loc main_arg8))
    (m ((c : Thread nD τ).loc main_arg10)) := by
  dsimp only [V]
  after_reads_simp
  rfl

theorem V_up (c : Dev nD) : V m c main_v15 = up (m ((c : Thread nD τ).loc main_arg6)) (m ((c : Thread nD τ).loc main_arg9))
    (m ((c : Thread nD τ).loc main_arg11)) := by
  dsimp only [V]
  after_reads_simp
  rfl

theorem V_biases (c : Dev nD) : V m c main_v34 = biases (m ((c : Thread nD τ).loc main_arg4)) (m ((c : Thread nD τ).loc main_arg7)) := by
  dsimp only [V]
  after_reads_simp
  rfl

theorem V_front (c : Dev nD) : V m c main_v18 = front (m ((c : Thread nD τ).loc main_arg2)) := by
  dsimp only [V]
  after_reads_simp
  rfl

theorem V_tail (c : Dev nD) : V m c main_v21 = tail (m ((c : Thread nD τ).loc main_arg2)) := by
  dsimp only [V]
  after_reads_simp
  rfl

theorem V_gain (c : Dev nD) : (V m c main_v16 : FVec Ideal S1x1024 .f32)
    = shapeCast S1x1024 (m ((c : Thread nD τ).loc main_arg1) : FVec Ideal S1024 .f32) shapeCasts_S1024_S1x1024 := by
  dsimp only [V]
  after_reads_simp
  rfl

theorem shares_at (M : FVec Ideal S3x1024 .f32) (k : Fin 1024) :
    shares M (ix2 0 k) = M (ix2 0 k) ∧ shares M (ix2 1 k) = M (ix2 1 k) ∧ shares M (ix2 2 k) = M (ix2 2 k) := by
  refine ⟨?_, ?_, ?_⟩ <;> pointwise [shares]

theorem biases_at (A B : FVec Ideal S512 .f32) (l : Fin 512) :
    biases A B (ix2 0 l) = A (ix1 l) ∧ biases A B (ix2 1 l) = B (ix1 l) := by
  refine ⟨?_, ?_⟩ <;> pointwise [biases]

theorem down_at (A B : FVec Ideal S1024x64 .f32) (C : FVec Ideal S1024x128 .f32) (k : Fin 1024) :
    (∀ j : Fin 64, down A B C (ix3 0 k ⟨j, by omega⟩) = A (ix2 k j)) ∧ (∀ j : Fin 64, down A B C (ix3 1 k ⟨j, by omega⟩) = B (ix2 k j))
      ∧ (∀ j : Fin 128, down A B C (ix3 2 k j) = C (ix2 k j)) := by
  refine ⟨?_, ?_, ?_⟩ <;> intro j <;> pointwise [down]

theorem up_at (A B : FVec Ideal S64x512 .f32) (C : FVec Ideal S128x512 .f32) (l : Fin 512) :
    (∀ j : Fin 64, up A B C (ix3 0 ⟨j, by omega⟩ l) = A (ix2 j l)) ∧ (∀ j : Fin 64, up A B C (ix3 1 ⟨j, by omega⟩ l) = B (ix2 j l))
      ∧ (∀ j : Fin 128, up A B C (ix3 2 j l) = C (ix2 j l)) := by
  refine ⟨?_, ?_, ?_⟩ <;> intro j <;> pointwise [up]

theorem up_zero (A B : FVec Ideal S64x512 .f32) (C : FVec Ideal S128x512 .f32) (l : Fin 512) :
    (∀ j : Fin 128, 64 ≤ j.val → up A B C (ix3 0 j l) = 0) ∧ (∀ j : Fin 128, 64 ≤ j.val → up A B C (ix3 1 j l) = 0) := by
  refine ⟨?_, ?_⟩ <;> intro j hj <;> pointwise [up, zero_at] <;> exact dif_neg (by omega)

/-- The three branches over the stacked weights are the branches over the weights themselves. -/
theorem branch_stacked (A1 B1 : FVec Ideal S1024x64 .f32) (C1 : FVec Ideal S1024x128 .f32) (A2 B2 : FVec Ideal S64x512 .f32)
    (C2 : FVec Ideal S128x512 .f32) (act : EReal → EReal) (h : Fin 1024 → EReal) (l : Fin 512) :
    branch act h (fun k (j : Fin 128) => down A1 B1 C1 (ix3 0 k j)) (fun j (l : Fin 512) => up A2 B2 C2 (ix3 0 j l)) l
        = branch act h (fun k (j : Fin 64) => A1 (ix2 k j)) (fun j (l : Fin 512) => A2 (ix2 j l)) l
      ∧ branch act h (fun k (j : Fin 128) => down A1 B1 C1 (ix3 1 k j)) (fun j (l : Fin 512) => up A2 B2 C2 (ix3 1 j l)) l
        = branch act h (fun k (j : Fin 64) => B1 (ix2 k j)) (fun j (l : Fin 512) => B2 (ix2 j l)) l
      ∧ branch act h (fun k (j : Fin 128) => down A1 B1 C1 (ix3 2 k j)) (fun j (l : Fin 512) => up A2 B2 C2 (ix3 2 j l)) l
        = branch act h (fun k (j : Fin 128) => C1 (ix2 k j)) (fun j (l : Fin 512) => C2 (ix2 j l)) l := by
  refine ⟨?_, ?_, ?_⟩
  · refine (branch_pad (p := 64) (by decide) act h _ _ l (up_zero A2 B2 C2 l).1).trans ?_
    congr 1
    · funext k j; exact (down_at A1 B1 C1 k).1 j
    · funext j l; exact (up_at A2 B2 C2 l).1 j
  · refine (branch_pad (p := 64) (by decide) act h _ _ l (up_zero A2 B2 C2 l).2).trans ?_
    congr 1
    · funext k j; exact (down_at A1 B1 C1 k).2.1 j
    · funext j l; exact (up_at A2 B2 C2 l).2.1 j
  · congr 1
    · funext k j; exact (down_at A1 B1 C1 k).2.2 j
    · funext j l; exact (up_at A2 B2 C2 l).2.2 j

end Cert.EvenFirstIdeal.Rows

end
-- ==== Proof.EvenFirstValue.lean ====
/-
  The entry of the first even layer: the whole result arrays after the kernel's run, entry by entry.
-/
module

public import proofs.«01_k».proof.Proof.EvenFirst
public import proofs.«01_k».proof.Proof.EvenFirstHost
public import proofs.«01_k».proof.Proof.EvenInOut
public import proofs.«01_k».proof.Proof.Gen.EvenFirstIdeal.Value
public import Idealize.ShloMosaic.Lib.Pipeline.ValueKit
public import Idealize.ShloMosaic.Lib.Claim

@[expose] public section

set_option maxRecDepth 16384

noncomputable section

namespace Cert.EvenFirstIdeal.Rows

open Cert.EvenFirstIdeal Cert.EvenFirstIdeal.Gen Idealize.ShloMosaic Idealize.ShloMosaic.TcCoe Cert.Rows Idealize.SL.Sem
open Idealize.ShloMosaic.Pipeline (Dat)
open Cert.EvenInIdeal.Rows (cnt eps half tail front_at tail_at branch_congr)

variable (m : (ℓ : Loc nD τ sig) → Buf (Elt Ideal) ℓ)

theorem idx : ∀ t : Fin cfg0.N, win0_0.index t = ![t.val, 0] ∧ win0_1.index t = ![64 * t.val - 1, 0] ∧ win0_2.index t = ![0, 0]
    ∧ win0_3.index t = ![0, 0] ∧ win0_4.index t = ![0, 0] ∧ win0_5.index t = ![0, 0] ∧ win0_6.index t = ![0, 0, 0] ∧ win0_7.index t = ![0, 0, 0]
    ∧ win0_8.index t = ![0, 0] ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0] ∧ win0_15.index t = ![t.val, 0] :=
  (by decide +kernel : ∀ t : Fin grid0.N, _)

theorem bound (t : Fin cfg0.N) : t.val < 64 := lt_of_lt_of_eq t.isLt N_0

/-- The normed rows of the input, and each one's difference to the row before. -/
abbrev H (c : Dev nD) : Fin 32768 → Fin 1024 → EReal :=
  normed cnt eps (fun r k => m ((c : Thread nD τ).loc main_arg0) (ix2 r k)) (fun k => m ((c : Thread nD τ).loc main_arg1) (ix1 k))
abbrev D (c : Dev nD) : Fin 32768 → Fin 1024 → EReal :=
  step cnt eps (fun r k => m ((c : Thread nD τ).loc main_arg0) (ix2 r k)) (fun k => m ((c : Thread nD τ).loc main_arg1) (ix1 k))

/-- Row `r` of the block of grid point `t`. -/
abbrev at_ (t : Fin cfg0.N) (r : Fin 512) : Fin 32768 := ⟨t.val * 512 + r, by have := bound t; omega⟩

theorem read0 (c : Dev nD) (t : Fin cfg0.N) (r : Fin 512) (k : Fin 1024) :
    (iblk m c 0 t : FVec Ideal S512x1024 .f32) (ix2 r k) = m ((c : Thread nD τ).loc main_arg0) (ix2 (at_ t r) k) := by
  have ht := bound t
  blk_point [iblk, V, idx t]

/-- The last of the eight rows above the block, when there is one. -/
theorem read1 (c : Dev nD) (t : Fin cfg0.N) (ht0 : t.val ≠ 0) (k : Fin 1024) :
    (iblk m c 1 t : FVec Ideal S8x1024 .f32) (ix2 7 k) = m ((c : Thread nD τ).loc main_arg0) (ix2 ⟨t.val * 512 - 1, by have := bound t; omega⟩ k) := by
  have ht := bound t
  blk_point [iblk, V, idx t]

theorem read2 (c : Dev nD) (t : Fin cfg0.N) (k : Fin 1024) :
    (iblk m c 2 t : FVec Ideal S1x1024 .f32) (ix2 0 k) = m ((c : Thread nD τ).loc main_arg1) (ix1 k) := by
  have ht := bound t
  refine Eq.trans (b := (V m c main_v16 : FVec Ideal S1x1024 .f32) (ix2 0 k)) ?_ ?_
  · refine congrArg (V m c main_v16) ?_
    funext a
    refine Fin.ext ?_
    blk_simp [idx t]
    match a with
    | 0 => rfl
    | 1 => simp
  · rw [V_gain]
    pointwise

theorem read3 (c : Dev nD) (t : Fin cfg0.N) (k : Fin 1024) (l : Fin 3584) :
    (iblk m c 3 t : FVec Ideal S1024x3584 .bf16) (ix2 k l) = m ((c : Thread nD τ).loc main_arg2) (ix2 k ⟨l, by omega⟩) := by
  have ht := bound t
  refine Eq.trans (b := (V m c main_v18 : FVec Ideal S1024x3584 .bf16) (ix2 k l)) ?_ ?_
  · refine congrArg (V m c main_v18) ?_
    funext a
    refine Fin.ext ?_
    blk_simp [idx t]
    match a with
    | 0 => simp
    | 1 => simp
  · rw [V_front]
    exact front_at _ k l

/-- The test for the first block of a sequence. -/
theorem first_block : ∀ t : Fin cfg0.N, Scalar.cmpi .eq (Scalar.select (Scalar.andi
      (Scalar.xori (Scalar.cmpi .slt (Scalar.remsi (BitVec.ofNat 32 (grid0.coords t 0).val) (Scalar.select (Scalar.cmpi .eq 16#32 0#32) 1#32 16#32)) 0#32)
        (Scalar.cmpi .slt (Scalar.select (Scalar.cmpi .eq 16#32 0#32) 1#32 16#32) 0#32))
      (Scalar.cmpi .ne (Scalar.remsi (BitVec.ofNat 32 (grid0.coords t 0).val) (Scalar.select (Scalar.cmpi .eq 16#32 0#32) 1#32 16#32)) 0#32))
      (Scalar.addi (Scalar.remsi (BitVec.ofNat 32 (grid0.coords t 0).val) (Scalar.select (Scalar.cmpi .eq 16#32 0#32) 1#32 16#32))
        (Scalar.select (Scalar.cmpi .eq 16#32 0#32) 1#32 16#32))
      (Scalar.remsi (BitVec.ofNat 32 (grid0.coords t 0).val) (Scalar.select (Scalar.cmpi .eq 16#32 0#32) 1#32 16#32))) 0#32
    = if t.val % 16 = 0 then 1#1 else 0#1 :=
  (by decide +kernel : ∀ t : Fin grid0.N, _)

theorem read4 (c : Dev nD) (t : Fin cfg0.N) (k : Fin 1024) (l : Fin 128) :
    (iblk m c 4 t : FVec Ideal S1024x128 .bf16) (ix2 k l) = tail (m ((c : Thread nD τ).loc main_arg2)) (ix2 k l) := by
  rw [← V_tail]
  refine congrArg (V m c main_v21) ?_
  funext a
  refine Fin.ext ?_
  blk_simp [idx t]
  match a with
  | 0 => simp
  | 1 => simp

/-- The stacked operands come whole to every grid point. -/
theorem whole5 (c : Dev nD) (t : Fin cfg0.N) (q : Fin 3) (k : Fin 1024) : (iblk m c 5 t : FVec Ideal S3x1024 .f32) (ix2 q k)
    = shares (m ((c : Thread nD τ).loc main_arg3)) (ix2 q k) := by
  rw [← V_shares]
  refine congrArg (V m c main_v31) ?_
  funext a
  refine Fin.ext ?_
  blk_simp [idx t]
  match a with
  | 0 => simp
  | 1 => simp

theorem whole6 (c : Dev nD) (t : Fin cfg0.N) (q : Fin 3) (k : Fin 1024) (j : Fin 128) : (iblk m c 6 t : FVec Ideal S3x1024x128 .bf16) (ix3 q k j)
    = down (m ((c : Thread nD τ).loc main_arg5)) (m ((c : Thread nD τ).loc main_arg8)) (m ((c : Thread nD τ).loc main_arg10)) (ix3 q k j) := by
  rw [← V_down]
  refine congrArg (V m c main_v7) ?_
  funext a
  refine Fin.ext ?_
  blk_simp [idx t]
  match a with
  | 0 => simp
  | 1 => simp
  | 2 => simp

theorem whole7 (c : Dev nD) (t : Fin cfg0.N) (q : Fin 3) (j : Fin 128) (l : Fin 512) : (iblk m c 7 t : FVec Ideal S3x128x512 .bf16) (ix3 q j l)
    = up (m ((c : Thread nD τ).loc main_arg6)) (m ((c : Thread nD τ).loc main_arg9)) (m ((c : Thread nD τ).loc main_arg11)) (ix3 q j l) := by
  rw [← V_up]
  refine congrArg (V m c main_v15) ?_
  funext a
  refine Fin.ext ?_
  blk_simp [idx t]
  match a with
  | 0 => simp
  | 1 => simp
  | 2 => simp

theorem whole8 (c : Dev nD) (t : Fin cfg0.N) (q : Fin 2) (l : Fin 512) : (iblk m c 8 t : FVec Ideal S2x512 .f32) (ix2 q l)
    = biases (m ((c : Thread nD τ).loc main_arg4)) (m ((c : Thread nD τ).loc main_arg7)) (ix2 q l) := by
  rw [← V_biases]
  refine congrArg (V m c main_v34) ?_
  funext a
  refine Fin.ext ?_
  blk_simp [idx t]
  match a with
  | 0 => simp
  | 1 => simp

/-- The normed block, its row above, and the differences, as the body of grid point `t` makes them. -/
abbrev hb (c : Dev nD) (t : Fin cfg0.N) : FVec Ideal S512x1024 .f32 :=
  k0_pay18 (grid0.coords t) (iblk m c 0 t) (iblk m c 1 t) (iblk m c 2 t) (iblk m c 3 t) (iblk m c 4 t) (iblk m c 5 t) (iblk m c 6 t) (iblk m c 7 t) (iblk m c 8 t)
abbrev pb (c : Dev nD) (t : Fin cfg0.N) : FVec Ideal S1x1024 .f32 :=
  k0_pay19 (grid0.coords t) (iblk m c 0 t) (iblk m c 1 t) (iblk m c 2 t) (iblk m c 3 t) (iblk m c 4 t) (iblk m c 5 t) (iblk m c 6 t) (iblk m c 7 t) (iblk m c 8 t)
abbrev db (c : Dev nD) (t : Fin cfg0.N) : FVec Ideal S512x1024 .f32 :=
  k0_pay20 (grid0.coords t) (iblk m c 0 t) (iblk m c 1 t) (iblk m c 2 t) (iblk m c 3 t) (iblk m c 4 t) (iblk m c 5 t) (iblk m c 6 t) (iblk m c 7 t) (iblk m c 8 t)

theorem hb_at (c : Dev nD) (t : Fin cfg0.N) (r : Fin 512) (k : Fin 1024) : hb m c t (ix2 r k) = H m c (at_ t r) k := by
  unfold hb k0_pay18
  refine (pay3_at _ _ r k).trans ?_
  unfold H normed
  congr 1
  · funext k
    refine Eq.trans ?_ (read0 m c t r k)
    pointwise
  · funext k
    refine Eq.trans ?_ (read2 m c t k)
    pointwise

theorem pb_at (c : Dev nD) (t : Fin cfg0.N) (ht : t.val ≠ 0) (k : Fin 1024) :
    pb m c t (ix2 0 k) = H m c ⟨t.val * 512 - 1, by have := bound t; omega⟩ k := by
  unfold pb k0_pay19
  refine (pay4_at _ _ k).trans ?_
  unfold H normed
  congr 1
  · funext k
    refine Eq.trans ?_ (read1 m c t ht k)
    pointwise
  · funext k
    refine Eq.trans ?_ (read2 m c t k)
    pointwise

theorem db_at (c : Dev nD) (t : Fin cfg0.N) (r : Fin 512) (k : Fin 1024) : db m c t (ix2 r k) = D m c (at_ t r) k := by
  have hr := r.isLt
  have ht := bound t
  unfold db k0_pay20
  refine (pay5_at _ _ _ r k).trans ?_
  rw [first_block t]
  unfold D step
  refine congrArg₂ (· - ·) ?_ (hb_at m c t r k)
  by_cases hr0 : r.val = 0
  · rw [if_pos hr0]
    by_cases ht0 : t.val % 16 = 0
    · rw [if_pos ht0, if_pos rfl, if_pos (by simp only [at_]; omega)]
    · rw [if_neg ht0, if_neg (by decide), if_neg (by simp only [at_]; omega)]
      refine (pb_at m c t (by omega) k).trans ?_
      unfold H
      congr 2
      simp only [at_]
      omega
  · rw [if_neg hr0, if_neg (by simp only [at_]; omega)]
    refine (hb_at m c t ⟨r - 1, by omega⟩ k).trans ?_
    refine congrFun (congrArg (H m c) (Fin.ext ?_)) k
    dsimp only
    omega

end Cert.EvenFirstIdeal.Rows

end
-- ==== Proof.EvenFirstOut.lean ====
/-
  The entry of the first even layer: each whole result array after the kernel's run, as a function of the arguments.
-/
module

public import proofs.«01_k».proof.Proof.EvenFirstValue

@[expose] public section

set_option maxRecDepth 16384

noncomputable section

namespace Cert.EvenFirstIdeal.Rows

open Cert.EvenFirstIdeal Cert.EvenFirstIdeal.Gen Idealize.ShloMosaic Idealize.ShloMosaic.TcCoe Cert.Rows Idealize.SL.Sem
open Idealize.ShloMosaic.Pipeline (Dat)
open Cert.EvenInIdeal.Rows (cnt eps half tail_at branch_congr)

variable (m : (ℓ : Loc nD τ sig) → Buf (Elt Ideal) ℓ)

/-- The first result: the first 1536 columns of the projection. -/
theorem final9 (c : Dev nD) : (dats m 0 c).arrAt 9 cfg0.N = fun j : S32768x1536.Idx =>
    dotRow (H m c (j 0)) (fun k (l : Fin 1536) => m ((c : Thread nD τ).loc main_arg2) (ix2 k ⟨l, by omega⟩)) (j 1) := by
  refine (dats m 0 c).arrAt_eq_of_covers 9 _ (by decide +kernel) fun t _ y => ?_
  blk_simp
  rw [after0_9]; frame_out
  refine (congrArg _ (eq_ix2 (n0 := 512) (n1 := 1536) y)).trans ((pay7_at _ _ (y 0) (y 1)).trans ?_)
  refine congr (congrArg₂ dotRow ?_ ?_) ?_
  · funext k
    refine (hb_at m c t (y 0) k).trans (congrFun (congrArg (H m c) (Fin.ext ?_)) k)
    blk_simp [idx t]
  · funext k l
    refine Eq.trans ?_ (read3 m c t k ⟨l, by omega⟩)
    pointwise
  · refine Fin.ext ?_
    blk_simp [idx t]

/-- The second: the next 1536. -/
theorem final10 (c : Dev nD) : (dats m 0 c).arrAt 10 cfg0.N = fun j : S32768x1536.Idx =>
    dotRow (H m c (j 0)) (fun k (l : Fin 1536) => m ((c : Thread nD τ).loc main_arg2) (ix2 k ⟨1536 + l, by omega⟩)) (j 1) := by
  refine (dats m 0 c).arrAt_eq_of_covers 10 _ (by decide +kernel) fun t _ y => ?_
  blk_simp
  rw [after0_10]; frame_out
  refine (congrArg _ (eq_ix2 (n0 := 512) (n1 := 1536) y)).trans ((pay8_at _ _ (y 0) (y 1)).trans ?_)
  refine congr (congrArg₂ dotRow ?_ ?_) ?_
  · funext k
    refine (hb_at m c t (y 0) k).trans (congrFun (congrArg (H m c) (Fin.ext ?_)) k)
    blk_simp [idx t]
  · funext k l
    refine Eq.trans ?_ (read3 m c t k ⟨1536 + l, by omega⟩)
    pointwise
  · refine Fin.ext ?_
    blk_simp [idx t]

/-- The third: the next 512. -/
theorem final11 (c : Dev nD) : (dats m 0 c).arrAt 11 cfg0.N = fun j : S32768x512.Idx =>
    dotRow (H m c (j 0)) (fun k (l : Fin 512) => m ((c : Thread nD τ).loc main_arg2) (ix2 k ⟨3072 + l, by omega⟩)) (j 1) := by
  refine (dats m 0 c).arrAt_eq_of_covers 11 _ (by decide +kernel) fun t _ y => ?_
  blk_simp
  rw [after0_11]; frame_out
  refine (congrArg _ (eq_ix2 (n0 := 512) (n1 := 512) y)).trans ((pay9_at _ _ (y 0) (y 1)).trans ?_)
  refine congr (congrArg₂ dotRow ?_ ?_) ?_
  · funext k
    refine (hb_at m c t (y 0) k).trans (congrFun (congrArg (H m c) (Fin.ext ?_)) k)
    blk_simp [idx t]
  · funext k l
    refine Eq.trans ?_ (read3 m c t k ⟨3072 + l, by omega⟩)
    pointwise
  · refine Fin.ext ?_
    blk_simp [idx t]

/-- The fourth: the last eight, with zeros up to 128 columns. -/
theorem final12 (c : Dev nD) : (dats m 0 c).arrAt 12 cfg0.N = fun j : S32768x128.Idx =>
    dotRow (H m c (j 0)) (fun k (l : Fin 128) => if h : l.val < 8 then m ((c : Thread nD τ).loc main_arg2) (ix2 k ⟨3584 + l, by omega⟩) else 0) (j 1) := by
  refine (dats m 0 c).arrAt_eq_of_covers 12 _ (by decide +kernel) fun t _ y => ?_
  blk_simp
  rw [after0_12]; frame_out
  refine (congrArg _ (eq_ix2 (n0 := 512) (n1 := 128) y)).trans ((pay10_at _ _ (y 0) (y 1)).trans ?_)
  refine congr (congrArg₂ dotRow ?_ ?_) ?_
  · funext k
    refine (hb_at m c t (y 0) k).trans (congrFun (congrArg (H m c) (Fin.ext ?_)) k)
    blk_simp [idx t]
  · funext k l
    exact (read4 m c t k l).trans (tail_at _ k l)
  · refine Fin.ext ?_
    blk_simp [idx t]

/-- The decays' bias at core `c`. -/
abbrev bias0 (c : Dev nD) (l : Fin 512) : EReal := m ((c : Thread nD τ).loc main_arg4) (ix1 l)
/-- The rates' bias. -/
abbrev bias1 (c : Dev nD) (l : Fin 512) : EReal := m ((c : Thread nD τ).loc main_arg7) (ix1 l)

/-- The weights of the branches, stacked, at core `c`. -/
abbrev downs (c : Dev nD) : FVec Ideal S3x1024x128 .bf16 :=
  down (m ((c : Thread nD τ).loc main_arg5)) (m ((c : Thread nD τ).loc main_arg8)) (m ((c : Thread nD τ).loc main_arg10))
abbrev ups (c : Dev nD) : FVec Ideal S3x128x512 .bf16 :=
  up (m ((c : Thread nD τ).loc main_arg6)) (m ((c : Thread nD τ).loc main_arg9)) (m ((c : Thread nD τ).loc main_arg11))

/-- The branches over the weights at core `c`. -/
abbrev stacked (c : Dev nD) := branch_stacked (m ((c : Thread nD τ).loc main_arg5)) (m ((c : Thread nD τ).loc main_arg8)) (m ((c : Thread nD τ).loc main_arg10)) (m ((c : Thread nD τ).loc main_arg6)) (m ((c : Thread nD τ).loc main_arg9)) (m ((c : Thread nD τ).loc main_arg11))

/-- Branch `q` of row `r` of the block of grid point `t`, its operands read one slice of the stacked ones each, is branch `q` of row `R` of the array. -/
theorem branch_block (c : Dev nD) (t : Fin cfg0.N) (q : Fin 3) {act : EReal → EReal} {r : Fin 512} {R : Fin 32768} {l l' : Fin 512}
    {mu : FVec Ideal S1x1024 .f32} {w1 : FVec Ideal S1x1024x128 .bf16} {w2 : FVec Ideal S1x128x512 .bf16} {mu' : Fin 1024 → EReal}
    (hm : ∀ k, mu (ix2 0 k) = (iblk m c 5 t : FVec Ideal S3x1024 .f32) (ix2 q k))
    (h1 : ∀ k j, w1 (ix3 0 k j) = (iblk m c 6 t : FVec Ideal S3x1024x128 .bf16) (ix3 q k j))
    (h2 : ∀ j l, w2 (ix3 0 j l) = (iblk m c 7 t : FVec Ideal S3x128x512 .bf16) (ix3 q j l))
    (hmu : ∀ k, shares (m ((c : Thread nD τ).loc main_arg3)) (ix2 q k) = mu' k)
    (hR : t.val * 512 + r.val = R.val) (hl : l.val = l'.val) :
    branch act (mixed (fun k => hb m c t (ix2 r k)) (fun k => db m c t (ix2 r k)) (fun k => mu (ix2 0 k)))
        (fun k (j : Fin 128) => w1 (ix3 0 k j)) (fun (j : Fin 128) l => w2 (ix3 0 j l)) l
      = branch act (mixed (H m c R) (D m c R) mu') (fun k (j : Fin 128) => downs m c (ix3 q k j)) (fun (j : Fin 128) (l : Fin 512) => ups m c (ix3 q j l)) l' := by
  obtain rfl : at_ t r = R := Fin.ext hR
  obtain rfl := Fin.ext hl
  exact branch_congr (fun k => hb_at m c t r k) (fun k => db_at m c t r k) (fun k => (hm k).trans ((whole5 m c t q k).trans (hmu k)))
    (fun k j => (h1 k j).trans (whole6 m c t q k j)) (fun j l => (h2 j l).trans (whole7 m c t q j l)) rfl

/-- The fifth: the decays. -/
theorem final13 (c : Dev nD) : (dats m 0 c).arrAt 13 cfg0.N = fun j : S32768x512.Idx =>
    decay half (bias0 m c (j 1) + branch Ideal.tanh (mixed (H m c (j 0)) (D m c (j 0)) (fun k => m ((c : Thread nD τ).loc main_arg3) (ix2 0 k)))
      (fun k (i : Fin 64) => m ((c : Thread nD τ).loc main_arg5) (ix2 k i)) (fun (i : Fin 64) l => m ((c : Thread nD τ).loc main_arg6) (ix2 i l)) (j 1)) := by
  refine (dats m 0 c).arrAt_eq_of_covers 13 _ (by decide +kernel) fun t _ y => ?_
  blk_simp
  rw [after0_13]; frame_out
  refine (congrArg _ (eq_ix2 (n0 := 512) (n1 := 512) y)).trans ((lw_at _ _ _ _ _ _ _ (y 0) (y 1)).trans ?_)
  refine congrArg (decay half) (congrArg₂ (· + ·) ?_ (Eq.trans ?_ ((stacked m c _ _ _).1)))
  · refine Eq.trans ?_ ((whole8 m c t 0 (y 1)).trans (((biases_at _ _ _).1).trans ?_))
    · pointwise
    · refine congrArg (fun l => m ((c : Thread nD τ).loc main_arg4) (ix1 l)) (Fin.ext ?_)
      blk_simp [idx t]
  · refine branch_block m c t 0 (fun k => ?_) (fun k i => ?_) (fun i l => ?_) (fun k => (shares_at _ k).1) ?_ ?_
    iterate 3 pointwise
    all_goals blk_simp [idx t]

/-- The sixth: the rates. -/
theorem final14 (c : Dev nD) : (dats m 0 c).arrAt 14 cfg0.N = fun j : S32768x512.Idx =>
    sigm (bias1 m c (j 1) + branch (fun z => z) (mixed (H m c (j 0)) (D m c (j 0)) (fun k => m ((c : Thread nD τ).loc main_arg3) (ix2 1 k)))
      (fun k (i : Fin 64) => m ((c : Thread nD τ).loc main_arg8) (ix2 k i)) (fun (i : Fin 64) l => m ((c : Thread nD τ).loc main_arg9) (ix2 i l)) (j 1)) := by
  refine (dats m 0 c).arrAt_eq_of_covers 14 _ (by decide +kernel) fun t _ y => ?_
  blk_simp
  rw [after0_14]; frame_out
  refine (congrArg _ (eq_ix2 (n0 := 512) (n1 := 512) y)).trans ((a_at _ _ _ _ _ _ (y 0) (y 1)).trans ?_)
  refine congrArg (sigm) (congrArg₂ (· + ·) ?_ (Eq.trans ?_ ((stacked m c _ _ _).2.1)))
  · refine Eq.trans ?_ ((whole8 m c t 1 (y 1)).trans (((biases_at _ _ _).2).trans ?_))
    · pointwise
    · refine congrArg (fun l => m ((c : Thread nD τ).loc main_arg7) (ix1 l)) (Fin.ext ?_)
      blk_simp [idx t]
  · refine branch_block m c t 1 (fun k => ?_) (fun k i => ?_) (fun i l => ?_) (fun k => (shares_at _ k).2.1) ?_ ?_
    iterate 3 pointwise
    all_goals blk_simp [idx t]

/-- The seventh: the gates. -/
theorem final15 (c : Dev nD) : (dats m 0 c).arrAt 15 cfg0.N = fun j : S32768x512.Idx =>
    branch sigm (mixed (H m c (j 0)) (D m c (j 0)) (fun k => m ((c : Thread nD τ).loc main_arg3) (ix2 2 k)))
      (fun k (i : Fin 128) => m ((c : Thread nD τ).loc main_arg10) (ix2 k i)) (fun (i : Fin 128) l => m ((c : Thread nD τ).loc main_arg11) (ix2 i l)) (j 1) := by
  refine (dats m 0 c).arrAt_eq_of_covers 15 _ (by decide +kernel) fun t _ y => ?_
  blk_simp
  rw [after0_15]; frame_out
  refine (congrArg _ (eq_ix2 (n0 := 512) (n1 := 512) y)).trans ((gg_at _ _ _ _ _ (y 0) (y 1)).trans ?_)
  refine Eq.trans ?_ ((stacked m c _ _ _).2.2)
  · refine branch_block m c t 2 (fun k => ?_) (fun k i => ?_) (fun i l => ?_) (fun k => (shares_at _ k).2.2) ?_ ?_
    iterate 3 pointwise
    all_goals blk_simp [idx t]

end Cert.EvenFirstIdeal.Rows

end
-- ==== Proof.EvenFirstRef.lean ====
/-
  The reference's entry of the first even layer, entry by entry. It computes what the entry of the later even layers
  computes apart from their eighth result, so its seven results have the row forms already shown for theirs.
-/
module

public import proofs.«01_k».proof.Proof.EvenInRef
public import proofs.«01_k».proof.Proof.Gen.EvenFirstRefIdeal.Read

@[expose] public section

set_option maxRecDepth 16384

noncomputable section

namespace Cert.EvenFirstRefIdeal.Rows

open Cert.EvenFirstRefIdeal Cert.EvenFirstRefIdeal.Read Idealize.ShloMosaic Cert.Rows
open Cert.EvenInRefIdeal.Rows (half hrow drow)

variable (X : FVec Ideal S32768x1024 .f32) (G : FVec Ideal S1024 .f32) (W : FVec Ideal S1024x3592 .f32) (MU : FVec Ideal S3x1024 .f32)
    (B0 : FVec Ideal S512 .f32) (W1 : FVec Ideal S1024x64 .f32) (W2 : FVec Ideal S64x512 .f32)
    (B1 : FVec Ideal S512 .f32) (A1 : FVec Ideal S1024x64 .f32) (A2 : FVec Ideal S64x512 .f32)
    (G1 : FVec Ideal S1024x128 .f32) (G2 : FVec Ideal S128x512 .f32)

/-- The first block of columns of the projection. -/
theorem v72_at (r : Fin 32768) (l : Fin 1536) : val_main_v72 (F := Ideal) X G W (ix2 r l)
    = dotRow (hrow X G r) (fun k (l : Fin 1536) => W (ix2 k ⟨l, by omega⟩)) l :=
  Cert.EvenInRefIdeal.Rows.v87_at X G W r l

/-- The second. -/
theorem v73_at (r : Fin 32768) (l : Fin 1536) : val_main_v73 (F := Ideal) X G W (ix2 r l)
    = dotRow (hrow X G r) (fun k (l : Fin 1536) => W (ix2 k ⟨1536 + l, by omega⟩)) l :=
  Cert.EvenInRefIdeal.Rows.v88_at X G W r l

/-- The third. -/
theorem v74_at (r : Fin 32768) (l : Fin 512) : val_main_v74 (F := Ideal) X G W (ix2 r l)
    = dotRow (hrow X G r) (fun k (l : Fin 512) => W (ix2 k ⟨3072 + l, by omega⟩)) l :=
  Cert.EvenInRefIdeal.Rows.v89_at X G W r l

/-- The last eight columns, with zeros up to 128. -/
theorem v71_at (r : Fin 32768) (l : Fin 128) : val_main_v71 (F := Ideal) X G W (ix2 r l)
    = dotRow (hrow X G r) (fun k (l : Fin 128) => if h : l.val < 8 then W (ix2 k ⟨3584 + l, by omega⟩) else 0) l :=
  Cert.EvenInRefIdeal.Rows.v86_at X G W r l

/-- The decays. -/
theorem v50_at (r : Fin 32768) (l : Fin 512) : val_main_v50 (F := Ideal) X G MU B0 W1 W2 (ix2 r l)
    = decay half (B0 (ix1 l) + branch Ideal.tanh (mixed (hrow X G r) (drow X G r) (fun k => MU (ix2 0 k))) (fun k j => W1 (ix2 k j)) (fun j l => W2 (ix2 j l)) l) :=
  Cert.EvenInRefIdeal.Rows.v54_at X G MU B0 W1 W2 r l

/-- The rates. -/
theorem v61_at (r : Fin 32768) (l : Fin 512) : val_main_v61 (F := Ideal) X G MU B1 A1 A2 (ix2 r l)
    = sigm (B1 (ix1 l) + branch (fun z => z) (mixed (hrow X G r) (drow X G r) (fun k => MU (ix2 1 k))) (fun k j => A1 (ix2 k j)) (fun j l => A2 (ix2 j l)) l) :=
  Cert.EvenInRefIdeal.Rows.v65_at X G MU B1 A1 A2 r l

/-- The gates. -/
theorem v69_at (r : Fin 32768) (l : Fin 512) : val_main_v69 (F := Ideal) X G MU G1 G2 (ix2 r l)
    = branch sigm (mixed (hrow X G r) (drow X G r) (fun k => MU (ix2 2 k))) (fun k j => G1 (ix2 k j)) (fun j l => G2 (ix2 j l)) l :=
  Cert.EvenInRefIdeal.Rows.v73_at X G MU G1 G2 r l

end Cert.EvenFirstRefIdeal.Rows

end
-- ==== Proof.EvenFirstClaim.lean ====
/-
  The entry of the first even layer: each of the kernel's seven results is the reference's, over the extended reals.
-/
module

public import proofs.«01_k».proof.Defs
public import proofs.«01_k».proof.Proof.EvenFirstOut
public import proofs.«01_k».proof.Proof.EvenFirstRef
public import Idealize.ShloMosaic.Lib.Claim

@[expose] public section

set_option maxRecDepth 16384

noncomputable section

namespace Cert.Proof

open Idealize.ShloMosaic Idealize.ShloMosaic.TcCoe Idealize.SL.Sem
open Cert.EvenFirstRefIdeal.Rows

/-- A run of the kernel ends with the seven arrays the pipeline computes, its arguments unchanged. -/
abbrev even_first_run (m : (ℓ : Loc Cert.EvenFirstIdeal.nD Cert.EvenFirstIdeal.τ Cert.EvenFirstIdeal.sig) → Buf (Elt Ideal) ℓ) (g : Dev Cert.EvenFirstIdeal.nD → PrngReg) :=
  θ_run_and (Cert.EvenFirstIdeal.Gen.run_main m g) (Cert.EvenFirstIdeal.Gen.unchanged m g)

set_option maxHeartbeats 1000000 in
theorem algebraic_even_first : Cert.algebraic_EvenFirstIdeal_EvenFirstRefIdeal := by
  intro m g m' g' _ hagree
  refine ⟨fun c => (Cert.EvenFirstIdeal.Gen.dats m 0 c).arrAt 9 Cert.EvenFirstIdeal.cfg0.N, fun c => (Cert.EvenFirstIdeal.Gen.dats m 0 c).arrAt 10 Cert.EvenFirstIdeal.cfg0.N, fun c => (Cert.EvenFirstIdeal.Gen.dats m 0 c).arrAt 11 Cert.EvenFirstIdeal.cfg0.N, fun c => (Cert.EvenFirstIdeal.Gen.dats m 0 c).arrAt 12 Cert.EvenFirstIdeal.cfg0.N, fun c => (Cert.EvenFirstIdeal.Gen.dats m 0 c).arrAt 13 Cert.EvenFirstIdeal.cfg0.N, fun c => (Cert.EvenFirstIdeal.Gen.dats m 0 c).arrAt 14 Cert.EvenFirstIdeal.cfg0.N, fun c => (Cert.EvenFirstIdeal.Gen.dats m 0 c).arrAt 15 Cert.EvenFirstIdeal.cfg0.N,
    θ_run_mono (even_first_run m g) fun r hr c => ⟨(hr.1 c).1 9, (hr.1 c).1 10, (hr.1 c).1 11, (hr.1 c).1 12, (hr.1 c).1 13, (hr.1 c).1 14, (hr.1 c).1 15, hr.2 c⟩,
    θ_run_mono (Cert.EvenFirstRefIdeal.Value.run m' g') fun r hr c => ?_⟩
  obtain ⟨h9, h10, h11, h12, h13, h14, h15, hargs⟩ := hr c
  have h := hagree c
  refine ⟨h9.trans ((Cert.EvenFirstRefIdeal.Read.val_main_v72_eq _ _ _).trans (Eq.trans ?_ (Cert.EvenFirstIdeal.Rows.final9 m c).symm)), h10.trans ((Cert.EvenFirstRefIdeal.Read.val_main_v73_eq _ _ _).trans (Eq.trans ?_ (Cert.EvenFirstIdeal.Rows.final10 m c).symm)), h11.trans ((Cert.EvenFirstRefIdeal.Read.val_main_v74_eq _ _ _).trans (Eq.trans ?_ (Cert.EvenFirstIdeal.Rows.final11 m c).symm)), h12.trans ((Cert.EvenFirstRefIdeal.Read.val_main_v71_eq _ _ _).trans (Eq.trans ?_ (Cert.EvenFirstIdeal.Rows.final12 m c).symm)), h13.trans ((Cert.EvenFirstRefIdeal.Read.val_main_v50_eq m' c).trans (Eq.trans ?_ (Cert.EvenFirstIdeal.Rows.final13 m c).symm)), h14.trans ((Cert.EvenFirstRefIdeal.Read.val_main_v61_eq _ _ _ _ _ _).trans (Eq.trans ?_ (Cert.EvenFirstIdeal.Rows.final14 m c).symm)), h15.trans ((Cert.EvenFirstRefIdeal.Read.val_main_v69_eq _ _ _ _ _).trans (Eq.trans ?_ (Cert.EvenFirstIdeal.Rows.final15 m c).symm)), hargs⟩ <;> simp only [h] <;> funext j
  · exact (congrArg _ (eq_ix2 (n0 := 32768) (n1 := 1536) j)).trans (v72_at _ _ _ (j 0) (j 1))
  · exact (congrArg _ (eq_ix2 (n0 := 32768) (n1 := 1536) j)).trans (v73_at _ _ _ (j 0) (j 1))
  · exact (congrArg _ (eq_ix2 (n0 := 32768) (n1 := 512) j)).trans (v74_at _ _ _ (j 0) (j 1))
  · exact (congrArg _ (eq_ix2 (n0 := 32768) (n1 := 128) j)).trans (v71_at _ _ _ (j 0) (j 1))
  · exact (congrArg _ (eq_ix2 (n0 := 32768) (n1 := 512) j)).trans (v50_at _ _ _ _ _ _ (j 0) (j 1))
  · exact (congrArg _ (eq_ix2 (n0 := 32768) (n1 := 512) j)).trans (v61_at _ _ _ _ _ _ (j 0) (j 1))
  · exact (congrArg _ (eq_ix2 (n0 := 32768) (n1 := 512) j)).trans (v69_at _ _ _ _ _ (j 0) (j 1))

end Cert.Proof

end
-- ==== Proof.RwkvValues.lean ====
/-
  The first even layer's values, as its scan returns them: the mixed values of a block, and the last rows of the block
  kept for the next one.
-/
module

public import proofs.«01_k».proof.Proof.EvenInOut
public import proofs.«01_k».proof.Proof.Gen.RwkvValuesIdeal.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.RwkvValuesIdeal.Rows

open Cert.RwkvValuesIdeal Cert.RwkvValuesIdeal.Gen Idealize.ShloMosaic Idealize.ShloMosaic.TcCoe Cert.Rows Idealize.SL.Sem
open Idealize.ShloMosaic.Pipeline (Dat)
open Cert.EvenInIdeal.Rows (first_row)

/-- Rows `x` moved to the share `s` towards the rows `p` before them. -/
abbrev toward (x p s : EReal) : EReal := x + (p - x) * s

/-- A block's mixed values over its rows, the row kept from the block before, and the shares. -/
theorem pay7_at (x : FVec Ideal S512x1536 .f32) (p mu : FVec Ideal S1x1536 .f32) (r l : Fin 512) : k0_pay7 (F := Ideal) x p mu (ix2 r l)
    = toward (x (ix2 r ⟨1024 + l, by omega⟩))
        (if r.val = 0 then p (ix2 0 ⟨1024 + l, by omega⟩) else x (ix2 ⟨r - 1, by omega⟩ ⟨1024 + l, by omega⟩))
        (mu (ix2 0 ⟨1024 + l, by omega⟩)) := by
  pointwise [k0_pay7, k0_pay4]
  rw [first_row]
  by_cases h0 : r.val = 0
  · rw [if_pos h0, if_pos h0]
    rfl
  · rw [if_neg h0, if_neg h0]
    refine congrArg (toward _ · _) (congrArg x (congrArg (ix2 · _) (Fin.ext ?_)))
    dsimp only
    omega

/-- The last eight rows of a block. -/
theorem pay3_at (x : FVec Ideal S512x1536 .f32) (r : Fin 8) (l : Fin 1536) : k0_pay3 (F := Ideal) x (ix2 r l) = x (ix2 ⟨504 + r, by omega⟩ l) := by
  pointwise [k0_pay3]

/-- The rows kept before a sequence's first block are zero. -/
theorem pay2_at (r : Fin 8) (l : Fin 1536) : k0_pay2 (F := Ideal) (ix2 r l) = 0 := by
  pointwise [k0_pay2]

variable (m : (ℓ : Loc nD τ sig) → Buf (Elt Ideal) ℓ)

/-- After any grid point the kept rows are the last rows of its block. -/
theorem kept (c : Dev nD) (t : Fin cfg0.N) : (outsAt0 m c t.val t.isLt).2.2.2 = k0_pay3 (F := Ideal) (iblk m c 0 t) := by
  by_cases h0 : t.val % 16 = 0
  · rw [outsAt0_A m c t h0]; frame_out
  · rw [outsAt0_B m c t h0]; frame_out

/-- The second result's block at a grid point: the mixed values, the row before the first being zero at the start of a
    sequence. -/
theorem first (c : Dev nD) (t : Fin cfg0.N) (h0 : t.val % 16 = 0) : ∃ p : FVec Ideal S1x1536 .f32, (∀ l, p (ix2 0 l) = 0) ∧
    (outsAt0 m c t.val t.isLt).2.1 = k0_pay7 (F := Ideal) (iblk m c 0 t) p (iblk m c 5 t) := by
  rw [outsAt0_A m c t h0]; frame_out
  refine ⟨_, fun l => ?_, rfl⟩
  rw [View.readCov_fill (h := by decide), View.ld_unit_apply_of (i := ix2 7 l)]
  · exact pay2_at 7 l
  · intro a
    match a with
    | 0 => rfl
    | 1 => exact (Nat.zero_add _).symm

/-- At a later grid point the row before the first is the last row of the block before. -/
theorem later (c : Dev nD) (t : Fin cfg0.N) (h0 : ¬ t.val % 16 = 0) : ∃ p : FVec Ideal S1x1536 .f32,
    (∀ l, p (ix2 0 l) = (iblk m c 0 ⟨t.val - 1, by have := t.isLt; omega⟩ : FVec Ideal S512x1536 .f32) (ix2 511 l)) ∧
    (outsAt0 m c t.val t.isLt).2.1 = k0_pay7 (F := Ideal) (iblk m c 0 t) p (iblk m c 5 t) := by
  have hk := kept m c ⟨t.val - 1, by have := t.isLt; omega⟩
  rw [outsAt0_B m c t h0]; frame_out
  refine ⟨_, fun l => ?_, rfl⟩
  rw [read_unread_whole, View.ld_unit_apply_of (i := ix2 7 l)]
  · exact (congrFun hk (ix2 7 l)).trans (pay3_at _ 7 l)
  · intro a
    match a with
    | 0 => rfl
    | 1 => exact (Nat.zero_add _).symm

theorem idx : ∀ t : Fin cfg0.N, win0_0.index t = ![t.val, 0] ∧ win0_5.index t = ![0, 0] ∧ win0_7.index t = ![t.val, 0] :=
  (by decide +kernel : ∀ t : Fin grid0.N, _)

theorem bound (t : Fin cfg0.N) : t.val < 64 := lt_of_lt_of_eq t.isLt N_0

/-- Row `r` of the block of grid point `t`. -/
abbrev at_ (t : Fin cfg0.N) (r : Fin 512) : Fin 32768 := ⟨t.val * 512 + r, by have := bound t; omega⟩

theorem read0 (c : Dev nD) (t : Fin cfg0.N) (r : Fin 512) (k : Fin 1536) :
    (iblk m c 0 t : FVec Ideal S512x1536 .f32) (ix2 r k) = m ((c : Thread nD τ).loc main_arg0) (ix2 (at_ t r) k) := by
  have ht := bound t
  blk_point [iblk, V, idx t]

theorem V_shares (c : Dev nD) : V m c main_v7 = shapeCast S1x1536 (m ((c : Thread nD τ).loc main_arg9) : FVec Ideal S3x512 .f32) shapeCasts_S3x512_S1x1536 := by
  dsimp only [V]
  after_reads_simp
  rfl

theorem read5 (c : Dev nD) (t : Fin cfg0.N) (l : Fin 512) :
    (iblk m c 5 t : FVec Ideal S1x1536 .f32) (ix2 0 ⟨1024 + l, by omega⟩) = m ((c : Thread nD τ).loc main_arg9) (ix2 2 l) := by
  refine Eq.trans (b := (V m c main_v7 : FVec Ideal S1x1536 .f32) (ix2 0 ⟨1024 + l, by omega⟩)) ?_ ?_
  · refine congrArg (V m c main_v7) ?_
    funext a
    refine Fin.ext ?_
    blk_simp [idx t]
    match a with
    | 0 => rfl
    | 1 => simp
  · rw [V_shares]
    exact shapeCast_apply _ _ _ (ix2 2 l) (by
      rewrite [Shape.rowMajor_val_two, Shape.rowMajor_val_two]
      show 2 * 512 + l.val = 0 * 1536 + (1024 + l.val)
      omega)

/-- The mixed values of every token: column `l` of the third part of the input, moved to the share towards the token
    before in its sequence. -/
abbrev mixedValues (X : FVec Ideal S32768x1536 .f32) (MU : FVec Ideal S3x512 .f32) (r : Fin 32768) (l : Fin 512) : EReal :=
  toward (X (ix2 r ⟨1024 + l, by omega⟩)) (if r.val % 8192 = 0 then 0 else X (ix2 ⟨r - 1, by omega⟩ ⟨1024 + l, by omega⟩)) (MU (ix2 2 l))

theorem block (c : Dev nD) (t : Fin cfg0.N) (r l : Fin 512) : (outsAt0 m c t.val t.isLt).2.1 (ix2 r l)
    = mixedValues (m ((c : Thread nD τ).loc main_arg0)) (m ((c : Thread nD τ).loc main_arg9)) (at_ t r) l := by
  have ht := bound t
  unfold mixedValues
  by_cases h0 : t.val % 16 = 0
  · obtain ⟨p, hp, h⟩ := first m c t h0
    rw [h, pay7_at, read0, read5, hp]
    by_cases hr : r.val = 0
    · rw [if_pos hr, if_pos (by dsimp only; omega)]
    · rw [if_neg hr, if_neg (by dsimp only; omega), read0]
      refine congrArg (toward _ · _) (congrArg (m _) (congrArg (ix2 · _) (Fin.ext ?_)))
      dsimp only
      omega
  · obtain ⟨p, hp, h⟩ := later m c t h0
    rw [h, pay7_at, read0, read5, hp, if_neg (c := _ % 8192 = 0) (by dsimp only; omega)]
    refine congrArg (toward _ · _) ?_
    by_cases hr : r.val = 0
    · rw [if_pos hr, read0]
      refine congrArg (m _) (congrArg (ix2 · _) (Fin.ext ?_))
      dsimp only
      omega
    · rw [if_neg hr, read0]
      refine congrArg (m _) (congrArg (ix2 · _) (Fin.ext ?_))
      dsimp only
      omega

/-- The whole second result. -/
theorem final7 (c : Dev nD) : (dats m 0 c).arrAt 7 cfg0.N = fun j : S32768x512.Idx =>
    mixedValues (m ((c : Thread nD τ).loc main_arg0)) (m ((c : Thread nD τ).loc main_arg9)) (j 0) (j 1) := by
  refine (dats m 0 c).arrAt_eq_of_covers 7 _ (by decide +kernel) fun t _ y => ?_
  blk_simp
  rw [after0_7]
  refine (congrArg _ (eq_ix2 (n0 := 512) (n1 := 512) y)).trans ((block m c t (y 0) (y 1)).trans ?_)
  refine congrArg₂ (mixedValues _ _) (Fin.ext ?_) (Fin.ext ?_)
  all_goals blk_simp [idx t]

end Cert.RwkvValuesIdeal.Rows

end
-- ==== Proof.RwkvValuesRef.lean ====
/-
  The reference's values of the first even layer, entry by entry.
-/
module

public import proofs.«01_k».proof.Proof.RwkvValues
public import proofs.«01_k».proof.Proof.Gen.RwkvValuesRefIdeal.Read

@[expose] public section

set_option maxRecDepth 16384

noncomputable section

namespace Cert.RwkvValuesRefIdeal.Rows

open Cert.RwkvValuesRefIdeal Cert.RwkvValuesRefIdeal.Gen Cert.RwkvValuesRefIdeal.Read Idealize.ShloMosaic Idealize.ShloMosaic.TcCoe Cert.Rows
open Cert.RwkvValuesIdeal.Rows (toward mixedValues)

variable (X : FVec Ideal S32768x1536 .f32) (MU : FVec Ideal S3x512 .f32)

/-- The third part of the columns, by sequence and token. -/
theorem v1_at (b : Fin 4) (s : Fin 8192) (l : Fin 512) : val_main_v1 (F := Ideal) X (ix3 b s l)
    = X (ix2 ⟨b * 8192 + s, by omega⟩ ⟨1024 + l, by omega⟩) := by
  pointwise [val_main_v1, val_main_v0]

/-- The same, moved down by one inside each sequence, a zero row first. -/
theorem v3_at (b : Fin 4) (s : Fin 8192) (l : Fin 512) : val_main_v3 (F := Ideal) X (ix3 b s l)
    = if s.val = 0 then 0 else X (ix2 ⟨b * 8192 + (s - 1), by omega⟩ ⟨1024 + l, by omega⟩) := by
  pointwise [val_main_v3, val_main_v2, val_main_call0_v0, val_main_c]
  by_cases hs : s.val = 0
  · rw [dif_neg (by omega), if_pos hs]
    pointwise
    exact word_zero
  · rw [dif_pos (by omega), if_neg hs]
    exact v1_at X b ⟨s - 1, by omega⟩ l

/-- The result at token `r`. -/
theorem v11_at (r : Fin 32768) (l : Fin 512) : val_main_v11 (F := Ideal) X MU (ix2 r l) = mixedValues X MU r l := by
  have hr : r.val / 8192 * 8192 + r.val % 8192 = r := by omega
  pointwise [val_main_v11, val_main_v10, val_main_v9, val_main_v8, val_main_v7, val_main_v6, val_main_v5, val_main_v4]
  rw [v3_at, v1_at]
  unfold mixedValues
  have h1 : X (ix2 ⟨r.val / 8192 * 8192 + r.val % 8192, by omega⟩ ⟨1024 + l, by omega⟩) = X (ix2 r ⟨1024 + l, by omega⟩) :=
    congrArg X (congrArg (ix2 · _) (Fin.ext hr))
  have h2 : (if r.val % 8192 = 0 then (0 : EReal) else X (ix2 ⟨r.val / 8192 * 8192 + (r.val % 8192 - 1), by omega⟩ ⟨1024 + l, by omega⟩))
      = if r.val % 8192 = 0 then 0 else X (ix2 ⟨r - 1, by omega⟩ ⟨1024 + l, by omega⟩) := by
    by_cases h0 : r.val % 8192 = 0
    · rw [if_pos h0, if_pos h0]
    · rw [if_neg h0, if_neg h0]
      refine congrArg X (congrArg (ix2 · _) (Fin.ext ?_))
      dsimp only
      omega
  dsimp only
  rw [h1, h2]

end Cert.RwkvValuesRefIdeal.Rows

end
-- ==== Proof.RwkvValuesClaim.lean ====
/-
  The first even layer's values out of its scan: the kernel's second result is the reference's, over the extended reals.
-/
module

public import proofs.«01_k».proof.Defs
public import proofs.«01_k».proof.Proof.RwkvValues
public import proofs.«01_k».proof.Proof.RwkvValuesRef
public import Idealize.ShloMosaic.Lib.Claim

@[expose] public section

set_option maxRecDepth 16384

noncomputable section

namespace Cert.Proof

open Idealize.ShloMosaic Idealize.ShloMosaic.TcCoe Idealize.SL.Sem

theorem algebraic_rwkv_values : Cert.algebraic_RwkvValuesIdeal_RwkvValuesRefIdeal := by
  intro m g m' g' _ hagree
  refine ⟨fun c => (Cert.RwkvValuesIdeal.Gen.dats m 0 c).arrAt 7 Cert.RwkvValuesIdeal.cfg0.N,
    θ_run_mono (θ_run_and (Cert.RwkvValuesIdeal.Gen.run_main m g) (Cert.RwkvValuesIdeal.Gen.unchanged m g)) fun r hr c => ⟨(hr.1 c).1 7, hr.2 c⟩,
    θ_run_mono (Cert.RwkvValuesRefIdeal.Value.run m' g') fun r hr c => ?_⟩
  obtain ⟨h11, hargs⟩ := hr c
  have h := hagree c
  refine ⟨h11.trans ((Cert.RwkvValuesRefIdeal.Read.val_main_v11_eq _ _).trans (Eq.trans ?_ (Cert.RwkvValuesIdeal.Rows.final7 m c).symm)), hargs⟩
  simp only [h]
  funext j
  exact (congrArg _ (eq_ix2 (n0 := 32768) (n1 := 512) j)).trans (Cert.RwkvValuesRefIdeal.Rows.v11_at _ _ (j 0) (j 1))

end Cert.Proof

end
-- ==== Proof.lean ====
/-
  The certificate: for every program its runs end, keep their arguments and leave every counter at zero; each
  idealized kernel is its kernel's text with the listed constants read as what they stand for; and the kernel's
  result is the reference's over the extended reals. The parts are proved in the modules imported here.
-/
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.AttnRefIdeal
public import proofs.«01_k».proof.Proof.Gen.PostOdd.Frame
public import proofs.«01_k».proof.Proof.Gen.PostOddIdeal.Value
public import proofs.«01_k».proof.Proof.Gen.PostOddRefIdeal.Run
public import proofs.«01_k».proof.Proof.Gen.PostOddRefIdeal.Read
public import proofs.«01_k».proof.Proof.Gen.PostEven.Frame
public import proofs.«01_k».proof.Proof.Gen.PostEvenIdeal.Value
public import proofs.«01_k».proof.Proof.Gen.PostEvenRefIdeal.Run
public import proofs.«01_k».proof.Proof.Gen.PostEvenRefIdeal.Read
public import proofs.«01_k».proof.Proof.Gen.Qkv.Frame
public import proofs.«01_k».proof.Proof.Gen.QkvIdeal.Value
public import proofs.«01_k».proof.Proof.Gen.QkvRefIdeal.Run
public import proofs.«01_k».proof.Proof.Gen.QkvRefIdeal.Read
public import proofs.«01_k».proof.Proof.Gen.EvenIn.Frame
public import proofs.«01_k».proof.Proof.Gen.EvenInIdeal.Value
public import proofs.«01_k».proof.Proof.Gen.EvenInRefIdeal.Run
public import proofs.«01_k».proof.Proof.Gen.EvenInRefIdeal.Read
public import proofs.«01_k».proof.Proof.Gen.EvenFirst.Frame
public import proofs.«01_k».proof.Proof.Gen.EvenFirstIdeal.Value
public import proofs.«01_k».proof.Proof.Gen.EvenFirstRefIdeal.Run
public import proofs.«01_k».proof.Proof.Gen.EvenFirstRefIdeal.Read
public import proofs.«01_k».proof.Proof.Gen.Gdn.Frame
public import proofs.«01_k».proof.Proof.Gen.GdnIdeal.Frame
public import proofs.«01_k».proof.Proof.Gen.Rwkv.Frame
public import proofs.«01_k».proof.Proof.Gen.RwkvIdeal.Frame
public import proofs.«01_k».proof.Proof.Gen.RwkvFirst.Frame
public import proofs.«01_k».proof.Proof.Gen.RwkvFirstIdeal.Frame
public import proofs.«01_k».proof.Proof.Gen.RwkvValues.Frame
public import proofs.«01_k».proof.Proof.Gen.RwkvValuesIdeal.Frame
public import proofs.«01_k».proof.Proof.Gen.RwkvValuesIdeal.Value
public import proofs.«01_k».proof.Proof.Gen.RwkvValuesRefIdeal.Read
public import proofs.«01_k».proof.Proof.AttnClaim
public import proofs.«01_k».proof.Proof.PostOddClaim
public import proofs.«01_k».proof.Proof.PostEvenClaim
public import proofs.«01_k».proof.Proof.QkvClaim
public import proofs.«01_k».proof.Proof.EvenInClaim
public import proofs.«01_k».proof.Proof.EvenFirstClaim
public import proofs.«01_k».proof.Proof.RwkvValuesClaim
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

theorem quiet_Attn : Cert.quiescent_Attn := fun m g _ => Cert.Attn.Gen.frame m g
theorem quiet_AttnIdeal : Cert.quiescent_AttnIdeal := fun m g _ => Cert.AttnIdeal.Gen.frame m g
theorem quiet_AttnRefIdeal : Cert.quiescent_AttnRefIdeal := fun m g _ =>
  θ_run_mono (Cert.AttnRefIdeal.Value.run (F := Ideal) m g) fun r hr =>
    ⟨fun c => (hr c).2, sem_eq_zero_of_no_sems (by decide) r.2⟩

/-- The two attention runs again, under the precondition, which they do not need. -/
theorem quiet_AttnIdeal_finite [Cert.Pre_finite.Facts] : Cert.quiescent_AttnIdeal_pre_finite := fun m g _ => Cert.AttnIdeal.Gen.frame m g
theorem quiet_AttnRefIdeal_finite [Cert.Pre_finite.Facts] : Cert.quiescent_AttnRefIdeal_pre_finite := fun m g _ =>
  quiet_AttnRefIdeal m g trivial

theorem quiet_PostOdd : Cert.quiescent_PostOdd := fun m g _ => Cert.PostOdd.Gen.frame m g
theorem quiet_PostOddIdeal : Cert.quiescent_PostOddIdeal := fun m g _ => Cert.PostOddIdeal.Gen.frame m g
theorem quiet_PostOddRefIdeal : Cert.quiescent_PostOddRefIdeal := fun m g _ =>
  θ_run_mono (Cert.PostOddRefIdeal.Value.run (F := Ideal) m g) fun r hr =>
    ⟨fun c => (hr c).2, sem_eq_zero_of_no_sems (by decide) r.2⟩

theorem quiet_PostEven : Cert.quiescent_PostEven := fun m g _ => Cert.PostEven.Gen.frame m g
theorem quiet_PostEvenIdeal : Cert.quiescent_PostEvenIdeal := fun m g _ => Cert.PostEvenIdeal.Gen.frame m g
theorem quiet_PostEvenRefIdeal : Cert.quiescent_PostEvenRefIdeal := fun m g _ =>
  θ_run_mono (Cert.PostEvenRefIdeal.Value.run (F := Ideal) m g) fun r hr =>
    ⟨fun c => (hr c).2, sem_eq_zero_of_no_sems (by decide) r.2⟩

theorem quiet_Qkv : Cert.quiescent_Qkv := fun m g _ => Cert.Qkv.Gen.frame m g
theorem quiet_QkvIdeal : Cert.quiescent_QkvIdeal := fun m g _ => Cert.QkvIdeal.Gen.frame m g
theorem quiet_QkvRefIdeal : Cert.quiescent_QkvRefIdeal := fun m g _ =>
  θ_run_mono (Cert.QkvRefIdeal.Value.run (F := Ideal) m g) fun r hr =>
    ⟨fun c => (hr c).2, sem_eq_zero_of_no_sems (by decide) r.2⟩

/-- The two runs of the packing again, under the precondition, which they do not need. -/
theorem quiet_QkvIdeal_finite [Cert.Pre_finite_qkv.Facts] : Cert.quiescent_QkvIdeal_pre_finite_qkv := fun m g _ => Cert.QkvIdeal.Gen.frame m g
theorem quiet_QkvRefIdeal_finite [Cert.Pre_finite_qkv.Facts] : Cert.quiescent_QkvRefIdeal_pre_finite_qkv := fun m g _ =>
  quiet_QkvRefIdeal m g trivial

theorem quiet_EvenIn : Cert.quiescent_EvenIn := fun m g _ => Cert.EvenIn.Gen.frame m g
theorem quiet_EvenInIdeal : Cert.quiescent_EvenInIdeal := fun m g _ => Cert.EvenInIdeal.Gen.frame m g
theorem quiet_EvenInRefIdeal : Cert.quiescent_EvenInRefIdeal := fun m g _ =>
  θ_run_mono (Cert.EvenInRefIdeal.Value.run (F := Ideal) m g) fun r hr =>
    ⟨fun c => (hr c).2.2.2.2.2.2.2.2, sem_eq_zero_of_no_sems (by decide) r.2⟩

theorem quiet_EvenFirst : Cert.quiescent_EvenFirst := fun m g _ => Cert.EvenFirst.Gen.frame m g
theorem quiet_EvenFirstIdeal : Cert.quiescent_EvenFirstIdeal := fun m g _ => Cert.EvenFirstIdeal.Gen.frame m g
theorem quiet_EvenFirstRefIdeal : Cert.quiescent_EvenFirstRefIdeal := fun m g _ =>
  θ_run_mono (Cert.EvenFirstRefIdeal.Value.run (F := Ideal) m g) fun r hr =>
    ⟨fun c => (hr c).2.2.2.2.2.2.2, sem_eq_zero_of_no_sems (by decide) r.2⟩

/-! The three scans: their runs, as they are called and on the reals. -/

theorem quiet_Gdn : Cert.quiescent_Gdn := fun m g _ => Cert.Gdn.Gen.frame m g
theorem quiet_GdnIdeal : Cert.quiescent_GdnIdeal := fun m g _ => Cert.GdnIdeal.Gen.frame m g

theorem quiet_Rwkv : Cert.quiescent_Rwkv := fun m g _ => Cert.Rwkv.Gen.frame m g
theorem quiet_RwkvIdeal : Cert.quiescent_RwkvIdeal := fun m g _ => Cert.RwkvIdeal.Gen.frame m g

theorem quiet_RwkvFirst : Cert.quiescent_RwkvFirst := fun m g _ => Cert.RwkvFirst.Gen.frame m g
theorem quiet_RwkvFirstIdeal : Cert.quiescent_RwkvFirstIdeal := fun m g _ => Cert.RwkvFirstIdeal.Gen.frame m g

/-! The first layer's scan again, for the values it returns. -/

theorem quiet_RwkvValues : Cert.quiescent_RwkvValues := fun m g _ => Cert.RwkvValues.Gen.frame m g
theorem quiet_RwkvValuesIdeal : Cert.quiescent_RwkvValuesIdeal := fun m g _ => Cert.RwkvValuesIdeal.Gen.frame m g
theorem quiet_RwkvValuesRefIdeal : Cert.quiescent_RwkvValuesRefIdeal := fun m g _ =>
  θ_run_mono (Cert.RwkvValuesRefIdeal.Value.run (F := Ideal) m g) fun r hr =>
    ⟨fun c => (hr c).2, sem_eq_zero_of_no_sems (by decide) r.2⟩

/-- The mask constant, printed as a large negative number, stands for minus infinity. -/
theorem preserves_Attn : Cert.preserves_Attn_AttnIdeal :=
  IdealRules.named_const.statement Cert.AttnIdeal.κ "mask" .f32 0xF149F2CA#32 ⊥ rfl

theorem claim : Cert.Claim := ⟨Cert.Attn.Gen.facts, Cert.AttnIdeal.Gen.facts, Cert.AttnRefIdeal.Gen.facts, Cert.PostOdd.Gen.facts, Cert.PostOddIdeal.Gen.facts, Cert.PostOddRefIdeal.Gen.facts, Cert.PostEven.Gen.facts, Cert.PostEvenIdeal.Gen.facts, Cert.PostEvenRefIdeal.Gen.facts, Cert.Qkv.Gen.facts, Cert.QkvIdeal.Gen.facts, Cert.QkvRefIdeal.Gen.facts, Cert.EvenIn.Gen.facts, Cert.EvenInIdeal.Gen.facts, Cert.EvenInRefIdeal.Gen.facts, Cert.EvenFirst.Gen.facts, Cert.EvenFirstIdeal.Gen.facts, Cert.EvenFirstRefIdeal.Gen.facts, Cert.Gdn.Gen.facts, Cert.GdnIdeal.Gen.facts, Cert.Rwkv.Gen.facts, Cert.RwkvIdeal.Gen.facts, Cert.RwkvFirst.Gen.facts, Cert.RwkvFirstIdeal.Gen.facts, Cert.RwkvValues.Gen.facts, Cert.RwkvValuesIdeal.Gen.facts, Cert.RwkvValuesRefIdeal.Gen.facts, finite_facts, finite_qkv_facts,
  quiet_Attn, quiet_AttnIdeal, @quiet_AttnIdeal_finite finite_facts, quiet_AttnRefIdeal, @quiet_AttnRefIdeal_finite finite_facts, quiet_PostOdd, quiet_PostOddIdeal, quiet_PostOddRefIdeal, quiet_PostEven, quiet_PostEvenIdeal, quiet_PostEvenRefIdeal, quiet_Qkv, quiet_QkvIdeal, @quiet_QkvIdeal_finite finite_qkv_facts, quiet_QkvRefIdeal, @quiet_QkvRefIdeal_finite finite_qkv_facts, quiet_EvenIn, quiet_EvenInIdeal, quiet_EvenInRefIdeal, quiet_EvenFirst, quiet_EvenFirstIdeal, quiet_EvenFirstRefIdeal, quiet_Gdn, quiet_GdnIdeal, quiet_Rwkv, quiet_RwkvIdeal, quiet_RwkvFirst, quiet_RwkvFirstIdeal, quiet_RwkvValues, quiet_RwkvValuesIdeal, quiet_RwkvValuesRefIdeal,
  preserves_Attn, @algebraic_attn finite_facts, trivial, algebraic_post_odd, trivial, algebraic_post_even, trivial, @algebraic_qkv finite_qkv_facts, trivial, algebraic_even_in, trivial, algebraic_even_first, trivial, trivial, trivial, trivial, algebraic_rwkv_values⟩

end Cert.Proof

end
